-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)) (v4 : (c : Dev Cert.Kernel3Ideal.nD) → Buf (Elt Ideal) ((c.tc : Thread Cert.Kernel3Ideal.nD Cert.Kernel3Ideal.τ).loc Cert.Kernel3Ideal.main_v7_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_v7_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_v35) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)) (v2 : (c : Dev Cert.Kernel4Ideal.nD) → Buf (Elt Ideal) ((c.tc : Thread Cert.Kernel4Ideal.nD Cert.Kernel4Ideal.τ).loc Cert.Kernel4Ideal.main_v23_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_v23_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_v59) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)) (v4 : (c : Dev Cert.Kernel6Ideal.nD) → Buf (Elt Ideal) ((c.tc : Thread Cert.Kernel6Ideal.nD Cert.Kernel6Ideal.τ).loc Cert.Kernel6Ideal.main_v1_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_v1_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v64) = v0 c
          ∧ r.2.mem ((c.tc : Thread Cert.Reference6Ideal.nD Cert.Reference6Ideal.τ).loc Cert.Reference6Ideal.main_v132) = v1 c
          ∧ r.2.mem ((c.tc : Thread Cert.Reference6Ideal.nD Cert.Reference6Ideal.τ).loc Cert.Reference6Ideal.main_v141) = v2 c
          ∧ r.2.mem ((c.tc : Thread Cert.Reference6Ideal.nD Cert.Reference6Ideal.τ).loc Cert.Reference6Ideal.main_v48) = v3 c
          ∧ r.2.mem ((c.tc : Thread Cert.Reference6Ideal.nD Cert.Reference6Ideal.τ).loc Cert.Reference6Ideal.main_v143) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v40_0)) (v1 : (c : Dev Cert.Kernel8Ideal.nD) → Buf (Elt Ideal) ((c.tc : Thread Cert.Kernel8Ideal.nD Cert.Kernel8Ideal.τ).loc Cert.Kernel8Ideal.main_v40_1)) (v2 : (c : Dev Cert.Kernel8Ideal.nD) → Buf (Elt Ideal) ((c.tc : Thread Cert.Kernel8Ideal.nD Cert.Kernel8Ideal.τ).loc Cert.Kernel8Ideal.main_v40_2)) (v3 : (c : Dev Cert.Kernel8Ideal.nD) → Buf (Elt Ideal) ((c.tc : Thread Cert.Kernel8Ideal.nD Cert.Kernel8Ideal.τ).loc Cert.Kernel8Ideal.main_v40_4)) (v4 : (c : Dev Cert.Kernel8Ideal.nD) → Buf (Elt Ideal) ((c.tc : Thread Cert.Kernel8Ideal.nD Cert.Kernel8Ideal.τ).loc Cert.Kernel8Ideal.main_v40_5)) (v5 : (c : Dev Cert.Kernel8Ideal.nD) → Buf (Elt Ideal) ((c.tc : Thread Cert.Kernel8Ideal.nD Cert.Kernel8Ideal.τ).loc Cert.Kernel8Ideal.main_v40_6)) (v6 : (c : Dev Cert.Kernel8Ideal.nD) → Buf (Elt Ideal) ((c.tc : Thread Cert.Kernel8Ideal.nD Cert.Kernel8Ideal.τ).loc Cert.Kernel8Ideal.main_v40_7)) (v7 : (c : Dev Cert.Kernel8Ideal.nD) → Buf (Elt Ideal) ((c.tc : Thread Cert.Kernel8Ideal.nD Cert.Kernel8Ideal.τ).loc Cert.Kernel8Ideal.main_v40_8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v40_0) = v0 c
          ∧ r.2.mem ((c.tc : Thread Cert.Kernel8Ideal.nD Cert.Kernel8Ideal.τ).loc Cert.Kernel8Ideal.main_v40_1) = v1 c
          ∧ r.2.mem ((c.tc : Thread Cert.Kernel8Ideal.nD Cert.Kernel8Ideal.τ).loc Cert.Kernel8Ideal.main_v40_2) = v2 c
          ∧ r.2.mem ((c.tc : Thread Cert.Kernel8Ideal.nD Cert.Kernel8Ideal.τ).loc Cert.Kernel8Ideal.main_v40_4) = v3 c
          ∧ r.2.mem ((c.tc : Thread Cert.Kernel8Ideal.nD Cert.Kernel8Ideal.τ).loc Cert.Kernel8Ideal.main_v40_5) = v4 c
          ∧ r.2.mem ((c.tc : Thread Cert.Kernel8Ideal.nD Cert.Kernel8Ideal.τ).loc Cert.Kernel8Ideal.main_v40_6) = v5 c
          ∧ r.2.mem ((c.tc : Thread Cert.Kernel8Ideal.nD Cert.Kernel8Ideal.τ).loc Cert.Kernel8Ideal.main_v40_7) = v6 c
          ∧ r.2.mem ((c.tc : Thread Cert.Kernel8Ideal.nD Cert.Kernel8Ideal.τ).loc Cert.Kernel8Ideal.main_v40_8) = v7 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v76) = v0 c
          ∧ r.2.mem ((c.tc : Thread Cert.Reference8Ideal.nD Cert.Reference8Ideal.τ).loc Cert.Reference8Ideal.main_v77) = v1 c
          ∧ r.2.mem ((c.tc : Thread Cert.Reference8Ideal.nD Cert.Reference8Ideal.τ).loc Cert.Reference8Ideal.main_v78) = v2 c
          ∧ r.2.mem ((c.tc : Thread Cert.Reference8Ideal.nD Cert.Reference8Ideal.τ).loc Cert.Reference8Ideal.main_v51) = v3 c
          ∧ r.2.mem ((c.tc : Thread Cert.Reference8Ideal.nD Cert.Reference8Ideal.τ).loc Cert.Reference8Ideal.main_v57) = v4 c
          ∧ r.2.mem ((c.tc : Thread Cert.Reference8Ideal.nD Cert.Reference8Ideal.τ).loc Cert.Reference8Ideal.main_v86) = v5 c
          ∧ r.2.mem ((c.tc : Thread Cert.Reference8Ideal.nD Cert.Reference8Ideal.τ).loc Cert.Reference8Ideal.main_v85) = v6 c
          ∧ r.2.mem ((c.tc : Thread Cert.Reference8Ideal.nD Cert.Reference8Ideal.τ).loc Cert.Reference8Ideal.main_v83) = v7 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S2048x1024 .f32) (main_arg1 : FVec F S1x1024 .f32) (main_arg2 : FVec F S2048x1024 .f32) (main_arg3 : FVec F S1024x5632 .f32) (main_arg4 : FVec F S2816x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_v13 main_v16
-- ==== Kernel.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S2x1024x2816 : Shape := ⟨3, ![2, 1024, 2816]⟩
abbrev S2048x256 : Shape := ⟨2, ![2048, 256]⟩
abbrev S256x1024 : Shape := ⟨2, ![256, 1024]⟩
abbrev S2x1024x256 : Shape := ⟨3, ![2, 1024, 256]⟩
abbrev S1024 : Shape := ⟨1, ![1024]⟩
abbrev S1024x256 : Shape := ⟨2, ![1024, 256]⟩
abbrev S1x1024x256 : Shape := ⟨3, ![1, 1024, 256]⟩

abbrev nBuf : Space → Nat
  | .hbm => 29
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1024x5632, .f32⟩
  | .hbm, ⟨4, _⟩ => ⟨S2816x1024, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S2048x1024, .bf16⟩
  | .hbm, ⟨20, _⟩ => ⟨S2048x1024, .bf16⟩
  | .hbm, ⟨21, _⟩ => ⟨S2048x2816, .bf16⟩
  | .hbm, ⟨22, _⟩ => ⟨S2048x2816, .bf16⟩
  | .hbm, ⟨23, _⟩ => ⟨S2816x1024, .bf16⟩
  | .hbm, ⟨24, _⟩ => ⟨S2048x2816, .bf16⟩
  | .hbm, ⟨25, _⟩ => ⟨S2048x2816, .bf16⟩
  | .hbm, ⟨26, _⟩ => ⟨S2x1024x2816, .bf16⟩
  | .hbm, ⟨27, _⟩ => ⟨S2816x1024, .bf16⟩
  | .hbm, ⟨28, _⟩ => ⟨S1x1024, .f32⟩
  | .local _ .vmem, ⟨0, _⟩ => ⟨S2048x1024, .f32⟩
  | .local _ .vmem, ⟨1, _⟩ => ⟨S2048x1024, .bf16⟩
  | .local _ .vmem, ⟨2, _⟩ => ⟨S1x1024, .f32⟩
  | .local _ .vmem, ⟨3, _⟩ => ⟨S2048x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S256x1024, .bf16⟩
  | .local _ .vmem, ⟨9, _⟩ => ⟨S256x1024, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2x1024x256, .bf16⟩
  | .local _ .vmem, ⟨15, _⟩ => ⟨S2x1024x256, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S1024 : Shape := ⟨1, ![1024]⟩
abbrev S1024x2816 : Shape := ⟨2, ![1024, 2816]⟩
abbrev S5632x1024 : Shape := ⟨2, ![5632, 1024]⟩
abbrev S1x1024x2816 : Shape := ⟨3, ![1, 1024, 2816]⟩
abbrev S2x1024x2816 : Shape := ⟨3, ![2, 1024, 2816]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1024x5632, .f32⟩
  | .hbm, ⟨4, _⟩ => ⟨S2816x1024, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S1024x2816, .f32⟩
  | .hbm, ⟨35, _⟩ => ⟨S2816x1024, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S2048x5632, .f32⟩
  | .hbm, ⟨47, _⟩ => ⟨S5632x1024, .f32⟩
  | .hbm, ⟨48, _⟩ => ⟨S1024x5632, .f32⟩
  | .hbm, ⟨49, _⟩ => ⟨S2048x1024, .f32⟩
  | .hbm, ⟨50, _⟩ => ⟨S1024x2816, .f32⟩
  | .hbm, ⟨51, _⟩ => ⟨S1024x2816, .f32⟩
  | .hbm, ⟨52, _⟩ => ⟨S1x1024x2816, .f32⟩
  | .hbm, ⟨53, _⟩ => ⟨S1x1024x2816, .f32⟩
  | .hbm, ⟨54, _⟩ => ⟨S2x1024x2816, .f32⟩
  | .hbm, ⟨55, _⟩ => ⟨S2048x2816, .bf16⟩
  | .hbm, ⟨56, _⟩ => ⟨S2048x2816, .bf16⟩
  | .hbm, ⟨57, _⟩ => ⟨S2x1024x2816, .bf16⟩
  | .hbm, ⟨58, _⟩ => ⟨S2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v5_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v5_1 : Ref sig .tc := ⟨.hbm, 22, rfl⟩
abbrev main_v5_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Kernel2.lean ====
abbrev S2048x2816 : Shape := ⟨2, ![2048, 2816]⟩
abbrev S1024x5632 : Shape := ⟨2, ![1024, 5632]⟩
abbrev S2048x1024 : Shape := ⟨2, ![2048, 1024]⟩
abbrev S3x1024 : Shape := ⟨2, ![3, 1024]⟩
abbrev S1x1024 : Shape := ⟨2, ![1, 1024]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S8x1024 : Shape := ⟨2, ![8, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 17
  | .vmem => 18
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x5632, .f32⟩
  | .hbm, ⟨3, _⟩ => ⟨S2048x1024, .f32⟩
  | .hbm, ⟨4, _⟩ => ⟨S2048x1024, .f32⟩
  | .hbm, ⟨5, _⟩ => ⟨S3x1024, .f32⟩
  | .hbm, ⟨6, _⟩ => ⟨S1x1024, .f32⟩
  | .hbm, ⟨7, _⟩ => ⟨S2048x2816, .bf16⟩
  | .hbm, ⟨8, _⟩ => ⟨S2048x2816, .bf16⟩
  | .hbm, ⟨9, _⟩ => ⟨S1024x2816, .f32⟩
  | .hbm, ⟨10, _⟩ => ⟨S1024x2816, .f32⟩
  | .hbm, ⟨11, _⟩ => ⟨S1x1024x2816, .f32⟩
  | .hbm, ⟨12, _⟩ => ⟨S1x1024x2816, .f32⟩
  | .hbm, ⟨13, _⟩ => ⟨S2x1024x2816, .f32⟩
  | .hbm, ⟨14, _⟩ => ⟨S2x1024x2816, .bf16⟩
  | .hbm, ⟨15, _⟩ => ⟨S2048x1024, .f32⟩
  | .hbm, ⟨16, _⟩ => ⟨S8x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S3x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S2048x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg0 : BitVec 32 := BitVec.ofNat 32 (i 0).val
  let c0_i32_12 : BitVec 32 := 0#32
  let v18 : BitVec 1 := Scalar.cmpi .eq arg0 c0_i32_12
  let v19 : BitVec 32 := Scalar.extui v18
  let c0_i32_13 : BitVec 32 := 0#32
  let v20 : BitVec 1 := Scalar.cmpi .ne v19 c0_i32_13
  v20

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0_18 : Index := 0#32
  ![v29.toNat, 0]
def k0_cond3 (i : grid0.Coords) : BitVec 1 :=
  let arg0 : BitVec 32 := BitVec.ofNat 32 (i 0).val
  let c0_i32_14 : BitVec 32 := 0#32
  let v21 : BitVec 1 := Scalar.cmpi .sgt arg0 c0_i32_14
  let c1_i32 : BitVec 32 := 1#32
  let v22 : BitVec 1 := Scalar.cmpi .slt arg0 c1_i32
  let v23 : BitVec 1 := Scalar.andi v21 v22
  let v24 : BitVec 32 := Scalar.extui v23
  let c0_i32_15 : BitVec 32 := 0#32
  let v25 : BitVec 1 := Scalar.cmpi .ne v24 c0_i32_15
  v25

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0_18 : Index := 0#32
  ![v29.toNat, 0]
def k0_cond4 (i : grid0.Coords) : BitVec 1 :=
  let arg0 : BitVec 32 := BitVec.ofNat 32 (i 0).val
  let c1_i32_16 : BitVec 32 := 1#32
  let v26 : BitVec 1 := Scalar.cmpi .eq arg0 c1_i32_16
  let v27 : BitVec 32 := Scalar.extui v26
  let c0_i32_17 : BitVec 32 := 0#32
  let v28 : BitVec 1 := Scalar.cmpi .ne v27 c0_i32_17
  v28

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0_18 : Index := 0#32
  ![v29.toNat, 0]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg0 : BitVec 32 := BitVec.ofNat 32 (i 0).val
  let c0_i32_0 : BitVec 32 := 0#32
  let v3 : BitVec 1 := Scalar.cmpi .eq arg0 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference2Ideal.lean ====
abbrev S2048x2816 : Shape := ⟨2, ![2048, 2816]⟩
abbrev S1024x5632 : Shape := ⟨2, ![1024, 5632]⟩
abbrev S2048x1024 : Shape := ⟨2, ![2048, 1024]⟩
abbrev S3x1024 : Shape := ⟨2, ![3, 1024]⟩
abbrev S1x1024 : Shape := ⟨2, ![1, 1024]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x5632, .f32⟩
  | .hbm, ⟨3, _⟩ => ⟨S2048x1024, .f32⟩
  | .hbm, ⟨4, _⟩ => ⟨S2048x1024, .f32⟩
  | .hbm, ⟨5, _⟩ => ⟨S3x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2048x5632, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x5632, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S5x1024, .f32⟩
  | .hbm, ⟨74, _⟩ => ⟨S8x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel3.lean ====
abbrev S2048x1024 : Shape := ⟨2, ![2048, 1024]⟩
abbrev S3x1024 : Shape := ⟨2, ![3, 1024]⟩
abbrev S1x1024 : Shape := ⟨2, ![1, 1024]⟩
abbrev S1024x5632 : Shape := ⟨2, ![1024, 5632]⟩
abbrev S2816x1024 : Shape := ⟨2, ![2816, 1024]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S2048x2816 : Shape := ⟨2, ![2048, 2816]⟩
abbrev S512x1024 : Shape := ⟨2, ![512, 1024]⟩
abbrev S1x1024x1408 : Shape := ⟨3, ![1, 1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩

abbrev nBuf : Space → Nat
  | .hbm => 17
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S3x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1024x2816, .f32⟩
  | .hbm, ⟨6, _⟩ => ⟨S1024x2816, .f32⟩
  | .hbm, ⟨7, _⟩ => ⟨S1x1024x2816, .f32⟩
  | .hbm, ⟨8, _⟩ => ⟨S1x1024x2816, .f32⟩
  | .hbm, ⟨9, _⟩ => ⟨S2x1024x2816, .f32⟩
  | .hbm, ⟨10, _⟩ => ⟨S2x1024x2816, .bf16⟩
  | .hbm, ⟨11, _⟩ => ⟨S2816x1024, .bf16⟩
  | .hbm, ⟨12, _⟩ => ⟨S2048x1024, .f32⟩
  | .hbm, ⟨13, _⟩ => ⟨S2048x1024, .bf16⟩
  | .hbm, ⟨14, _⟩ => ⟨S2048x2816, .bf16⟩
  | .hbm, ⟨15, _⟩ => ⟨S2048x2816, .bf16⟩
  | .hbm, ⟨16, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_20 : BitVec 32 := 0#32
  let v29 : BitVec 1 := Scalar.cmpi .ne v28 c0_i32_20
  v29

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S2048x1024 : Shape := ⟨2, ![2048, 1024]⟩
abbrev S3x1024 : Shape := ⟨2, ![3, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x5632, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | .hbm, ⟨51, _⟩ => ⟨S2048x2816, .bf16⟩
  | .hbm, ⟨52, _⟩ => ⟨S2048x2816, .bf16⟩
  | .hbm, ⟨53, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Kernel4.lean ====
abbrev S2048x512 : Shape := ⟨2, ![2048, 512]⟩
abbrev S2048x256 : Shape := ⟨2, ![2048, 256]⟩
abbrev S2048x768 : Shape := ⟨2, ![2048, 768]⟩
abbrev S1024x1792 : Shape := ⟨2, ![1024, 1792]⟩
abbrev S2048x1024 : Shape := ⟨2, ![2048, 1024]⟩
abbrev S3x1024 : Shape := ⟨2, ![3, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1792x1024 : Shape := ⟨2, ![1792, 1024]⟩
abbrev S8x1024 : Shape := ⟨2, ![8, 1024]⟩
abbrev S512x512 : Shape := ⟨2, ![512, 512]⟩
abbrev S512x256 : Shape := ⟨2, ![512, 256]⟩
abbrev S512x768 : Shape := ⟨2, ![512, 768]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩
abbrev S1024 : Shape := ⟨1, ![1024]⟩

abbrev nBuf : Space → Nat
  | .hbm => 39
  | .vmem => 22
  | .smem => 0
  | _ => 0

abbrev bufTy : (tb : Table) → Fin (tcTables nBuf tb) → BufTy
  | .hbm, ⟨0, _⟩ => ⟨S2048x512, .f32⟩
  | .hbm, ⟨1, _⟩ => ⟨S2048x256, .f32⟩
  | .hbm, ⟨2, _⟩ => ⟨S2048x768, .f32⟩
  | .hbm, ⟨3, _⟩ => ⟨S2048x256, .f32⟩
  | .hbm, ⟨4, _⟩ => ⟨S1024x1792, .f32⟩
  | .hbm, ⟨5, _⟩ => ⟨S2048x1024, .f32⟩
  | .hbm, ⟨6, _⟩ => ⟨S2048x1024, .f32⟩
  | .hbm, ⟨7, _⟩ => ⟨S3x1024, .f32⟩
  | .hbm, ⟨8, _⟩ => ⟨S1x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | .hbm, ⟨34, _⟩ => ⟨S1792x1024, .f32⟩
  | .hbm, ⟨35, _⟩ => ⟨S1792x1024, .bf16⟩
  | .hbm, ⟨36, _⟩ => ⟨S2048x1024, .f32⟩
  | .hbm, ⟨37, _⟩ => ⟨S8x1024, .f32⟩
  | .hbm, ⟨38, _⟩ => ⟨S1792x1024, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x768, .f32⟩
  | .local _ .vmem, ⟨5, _⟩ => ⟨S512x768, .f32⟩
  | .local _ .vmem, ⟨6, _⟩ => ⟨S512x256, .f32⟩
  | .local _ .vmem, ⟨7, _⟩ => ⟨S512x256, .f32⟩
  | .local _ .vmem, ⟨8, _⟩ => ⟨S512x1024, .bf16⟩
  | .local _ .vmem, ⟨9, _⟩ => ⟨S512x1024, .bf16⟩
  | .local _ .vmem, ⟨10, _⟩ => ⟨S1792x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S3x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S8x1024, .f32⟩
  | .local _ .vmem, ⟨20, _⟩ => ⟨S1792x1024, .bf16⟩
  | .local _ .vmem, ⟨21, _⟩ => ⟨S1792x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v74 : BitVec 1 := Scalar.cmpi .eq arg0 c3_i32
  let v75 : BitVec 32 := Scalar.extui v74
  let c0_i32_46 : BitVec 32 := 0#32
  let v76 : BitVec 1 := Scalar.cmpi .ne v75 c0_i32_46
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1792x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1792x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S2048x512 : Shape := ⟨2, ![2048, 512]⟩
abbrev S2048x256 : Shape := ⟨2, ![2048, 256]⟩
abbrev S2048x768 : Shape := ⟨2, ![2048, 768]⟩
abbrev S1024x1792 : Shape := ⟨2, ![1024, 1792]⟩
abbrev S2048x1024 : Shape := ⟨2, ![2048, 1024]⟩
abbrev S3x1024 : Shape := ⟨2, ![3, 1024]⟩
abbrev S1x1024 : Shape := ⟨2, ![1, 1024]⟩
abbrev S2048x1792 : Shape := ⟨2, ![2048, 1792]⟩
abbrev S_ : Shape := ⟨0, ![]⟩
abbrev S2048 : Shape := ⟨1, ![2048]⟩
abbrev S2048x1 : Shape := ⟨2, ![2048, 1]⟩
abbrev S1792x1024 : Shape := ⟨2, ![1792, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x256, .f32⟩
  | .hbm, ⟨2, _⟩ => ⟨S2048x768, .f32⟩
  | .hbm, ⟨3, _⟩ => ⟨S2048x256, .f32⟩
  | .hbm, ⟨4, _⟩ => ⟨S1024x1792, .f32⟩
  | .hbm, ⟨5, _⟩ => ⟨S2048x1024, .f32⟩
  | .hbm, ⟨6, _⟩ => ⟨S2048x1024, .f32⟩
  | .hbm, ⟨7, _⟩ => ⟨S3x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2048x1792, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1792, .f32⟩
  | .hbm, ⟨40, _⟩ => ⟨S1792x1024, .f32⟩
  | .hbm, ⟨41, _⟩ => ⟨S1024x1792, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S5x1024, .f32⟩
  | .hbm, ⟨78, _⟩ => ⟨S8x1024, .f32⟩
  | .hbm, ⟨79, _⟩ => ⟨S1792x1024, .f32⟩
  | .hbm, ⟨80, _⟩ => ⟨S1792x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel5.lean ====
abbrev S2048x1024 : Shape := ⟨2, ![2048, 1024]⟩
abbrev S3x1024 : Shape := ⟨2, ![3, 1024]⟩
abbrev S1x1024 : Shape := ⟨2, ![1, 1024]⟩
abbrev S1024x1792 : Shape := ⟨2, ![1024, 1792]⟩
abbrev S1792x1024 : Shape := ⟨2, ![1792, 1024]⟩
abbrev S2048x1792 : Shape := ⟨2, ![2048, 1792]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S3x1024, .f32⟩
  | .hbm, ⟨2, _⟩ => ⟨S1x1024, .f32⟩
  | .hbm, ⟨3, _⟩ => ⟨S1024x1792, .f32⟩
  | .hbm, ⟨4, _⟩ => ⟨S1792x1024, .f32⟩
  | .hbm, ⟨5, _⟩ => ⟨S1792x1024, .bf16⟩
  | .hbm, ⟨6, _⟩ => ⟨S2048x1792, .f32⟩
  | .hbm, ⟨7, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S3x1024, .f32⟩
  | .local _ .vmem, ⟨3, _⟩ => ⟨S1x1024, .f32⟩
  | .local _ .vmem, ⟨4, _⟩ => ⟨S1792x1024, .bf16⟩
  | .local _ .vmem, ⟨5, _⟩ => ⟨S1024x1792, .f32⟩
  | .local _ .vmem, ⟨6, _⟩ => ⟨S1024x1792, .f32⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2048x1024 : Shape := ⟨2, ![2048, 1024]⟩
abbrev S3x1024 : Shape := ⟨2, ![3, 1024]⟩
abbrev S1x1024 : Shape := ⟨2, ![1, 1024]⟩
abbrev S1024x1792 : Shape := ⟨2, ![1024, 1792]⟩
abbrev S_ : Shape := ⟨0, ![]⟩
abbrev S2048 : Shape := ⟨1, ![2048]⟩
abbrev S2048x1 : Shape := ⟨2, ![2048, 1]⟩
abbrev S2048x1792 : Shape := ⟨2, ![2048, 1792]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3x1024, .f32⟩
  | .hbm, ⟨2, _⟩ => ⟨S1x1024, .f32⟩
  | .hbm, ⟨3, _⟩ => ⟨S1024x1792, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1792, .f32⟩
  | .hbm, ⟨30, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel6.lean ====
abbrev S2048x1792 : Shape := ⟨2, ![2048, 1792]⟩
abbrev S2048x256 : Shape := ⟨2, ![2048, 256]⟩
abbrev S4x64x64 : Shape := ⟨3, ![4, 64, 64]⟩
abbrev S1x256 : Shape := ⟨2, ![1, 256]⟩
abbrev S3x256 : Shape := ⟨2, ![3, 256]⟩
abbrev S256x64 : Shape := ⟨2, ![256, 64]⟩
abbrev S2048x768 : Shape := ⟨2, ![2048, 768]⟩
abbrev S256x256 : Shape := ⟨2, ![256, 256]⟩
abbrev S8x256 : Shape := ⟨2, ![8, 256]⟩
abbrev S256 : Shape := ⟨1, ![256]⟩

abbrev nBuf : Space → Nat
  | .hbm => 12
  | .vmem => 12
  | .smem => 0
  | _ => 0

abbrev bufTy : (tb : Table) → Fin (tcTables nBuf tb) → BufTy
  | .hbm, ⟨0, _⟩ => ⟨S2048x1792, .f32⟩
  | .hbm, ⟨1, _⟩ => ⟨S2048x256, .f32⟩
  | .hbm, ⟨2, _⟩ => ⟨S2048x256, .f32⟩
  | .hbm, ⟨3, _⟩ => ⟨S4x64x64, .f32⟩
  | .hbm, ⟨4, _⟩ => ⟨S1x256, .f32⟩
  | .hbm, ⟨5, _⟩ => ⟨S3x256, .f32⟩
  | .hbm, ⟨6, _⟩ => ⟨S256x64, .f32⟩
  | .hbm, ⟨7, _⟩ => ⟨S2048x256, .f32⟩
  | .hbm, ⟨8, _⟩ => ⟨S2048x768, .f32⟩
  | .hbm, ⟨9, _⟩ => ⟨S256x256, .f32⟩
  | .hbm, ⟨10, _⟩ => ⟨S1x256, .f32⟩
  | .hbm, ⟨11, _⟩ => ⟨S8x256, .f32⟩
  | .local _ .vmem, ⟨0, _⟩ => ⟨S2048x256, .f32⟩
  | .local _ .vmem, ⟨1, _⟩ => ⟨S2048x768, .f32⟩
  | .local _ .vmem, ⟨2, _⟩ => ⟨S2048x256, .f32⟩
  | .local _ .vmem, ⟨3, _⟩ => ⟨S2048x256, .f32⟩
  | .local _ .vmem, ⟨4, _⟩ => ⟨S256x64, .f32⟩
  | .local _ .vmem, ⟨5, _⟩ => ⟨S1x256, .f32⟩
  | .local _ .vmem, ⟨6, _⟩ => ⟨S3x256, .f32⟩
  | .local _ .vmem, ⟨7, _⟩ => ⟨S2048x256, .f32⟩
  | .local _ .vmem, ⟨8, _⟩ => ⟨S2048x768, .f32⟩
  | .local _ .vmem, ⟨9, _⟩ => ⟨S256x256, .f32⟩
  | .local _ .vmem, ⟨10, _⟩ => ⟨S1x256, .f32⟩
  | .local _ .vmem, ⟨11, _⟩ => ⟨S8x256, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S2048x1792 : Shape := ⟨2, ![2048, 1792]⟩
abbrev S2048x256 : Shape := ⟨2, ![2048, 256]⟩
abbrev S4x64x64 : Shape := ⟨3, ![4, 64, 64]⟩
abbrev S1x256 : Shape := ⟨2, ![1, 256]⟩
abbrev S3x256 : Shape := ⟨2, ![3, 256]⟩
abbrev S2048x4x64 : Shape := ⟨3, ![2048, 4, 64]⟩
abbrev S2048 : Shape := ⟨1, ![2048]⟩
abbrev S4 : Shape := ⟨1, ![4]⟩
abbrev S_ : Shape := ⟨0, ![]⟩
abbrev S2048x1 : Shape := ⟨2, ![2048, 1]⟩
abbrev S1x4 : Shape := ⟨2, ![1, 4]⟩
abbrev S2048x4 : Shape := ⟨2, ![2048, 4]⟩
abbrev S1x1x2048 : Shape := ⟨3, ![1, 1, 2048]⟩
abbrev S4x2048 : Shape := ⟨2, ![4, 2048]⟩
abbrev S4x2048x1 : Shape := ⟨3, ![4, 2048, 1]⟩
abbrev S4x2048x2048 : Shape := ⟨3, ![4, 2048, 2048]⟩
abbrev S1x2048x1 : Shape := ⟨3, ![1, 2048, 1]⟩
abbrev S1x2048x2048 : Shape := ⟨3, ![1, 2048, 2048]⟩
abbrev S4x64x2048 : Shape := ⟨3, ![4, 64, 2048]⟩
abbrev S2048x4x1 : Shape := ⟨3, ![2048, 4, 1]⟩
abbrev S256 : Shape := ⟨1, ![256]⟩
abbrev S4x2048x64 : Shape := ⟨3, ![4, 2048, 64]⟩
abbrev S2048x768 : Shape := ⟨2, ![2048, 768]⟩
abbrev S2x256 : Shape := ⟨2, ![2, 256]⟩
abbrev S2050x256 : Shape := ⟨2, ![2050, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S5x256 : Shape := ⟨2, ![5, 256]⟩
abbrev S8x256 : Shape := ⟨2, ![8, 256]⟩

abbrev nBuf : Space → Nat
  | .hbm => 176
  | .vmem => 0
  | .smem => 0
  | _ => 0

abbrev hbmTy0_0 (i : Nat) : BufTy := match i % 128 with
  | 0 => ⟨S2048x1792, .f32⟩
  | 1 => ⟨S2048x256, .f32⟩
  | 2 => ⟨S2048x256, .f32⟩
  | 3 => ⟨S4x64x64, .f32⟩
  | 4 => ⟨S1x256, .f32⟩
  | 5 => ⟨S3x256, .f32⟩
  | 6 => ⟨S2048x256, .f32⟩
  | 7 => ⟨S2048x4x64, .f32⟩
  | 8 => ⟨S2048, .i32⟩
  | 9 => ⟨S4, .i32⟩
  | 10 => ⟨S_, .i32⟩
  | 11 => ⟨S4, .i32⟩
  | 12 => ⟨S4, .i32⟩
  | 13 => ⟨S2048x1, .i32⟩
  | 14 => ⟨S_, .i32⟩
  | 15 => ⟨S2048x1, .i32⟩
  | 16 => ⟨S2048x1, .i32⟩
  | 17 => ⟨S1x4, .i32⟩
  | 18 => ⟨S2048x4, .i32⟩
  | 19 => ⟨S2048x4, .i32⟩
  | 20 => ⟨S2048x4, .i32⟩
  | 21 => ⟨S_, .i32⟩
  | 22 => ⟨S2048x4, .i32⟩
  | 23 => ⟨S2048x4, .i32⟩
  | 24 => ⟨S2048x1, .i32⟩
  | 25 => ⟨S_, .i32⟩
  | 26 => ⟨S2048x1, .i32⟩
  | 27 => ⟨S2048x1, .i32⟩
  | 28 => ⟨S2048x4, .i32⟩
  | 29 => ⟨S2048x4, .i32⟩
  | 30 => ⟨S2048x4, .f32⟩
  | 31 => ⟨S1x1x2048, .i32⟩
  | 32 => ⟨S4x2048, .i32⟩
  | 33 => ⟨S4x2048x1, .i32⟩
  | 34 => ⟨S4x2048x2048, .i32⟩
  | 35 => ⟨S4x2048x2048, .i32⟩
  | 36 => ⟨S4x2048x2048, .i1⟩
  | 37 => ⟨S1x1x2048, .i32⟩
  | 38 => ⟨S1x2048x1, .i32⟩
  | 39 => ⟨S1x2048x2048, .i32⟩
  | 40 => ⟨S1x2048x2048, .i32⟩
  | 41 => ⟨S1x2048x2048, .i1⟩
  | 42 => ⟨S4x2048x2048, .i1⟩
  | 43 => ⟨S4x2048x2048, .i1⟩
  | 44 => ⟨S4x2048x2048, .f32⟩
  | 45 => ⟨S4x64x2048, .f32⟩
  | 46 => ⟨S2048x4x64, .f32⟩
  | 47 => ⟨S2048x4x1, .f32⟩
  | 48 => ⟨S2048x4x64, .f32⟩
  | 49 => ⟨S2048x4x64, .f32⟩
  | 50 => ⟨S2048x4x64, .f32⟩
  | 51 => ⟨S4x64x2048, .f32⟩
  | 52 => ⟨S2048x4x64, .f32⟩
  | 53 => ⟨S2048x256, .f32⟩
  | 54 => ⟨S2048x256, .f32⟩
  | 55 => ⟨S2048x256, .f32⟩
  | 56 => ⟨S2048x256, .f32⟩
  | 57 => ⟨S_, .f32⟩
  | 58 => ⟨S256, .f32⟩
  | 59 => ⟨S1x256, .f32⟩
  | 60 => ⟨S2048x256, .f32⟩
  | 61 => ⟨S2048x256, .f32⟩
  | 62 => ⟨S2048x4x64, .f32⟩
  | 63 => ⟨S4x64x2048, .f32⟩
  | 64 => ⟨S4x2048x64, .f32⟩
  | 65 => ⟨S2048x4x64, .f32⟩
  | 66 => ⟨S4x64x64, .f32⟩
  | 67 => ⟨S4x64x64, .f32⟩
  | 68 => ⟨S2048x4x64, .f32⟩
  | 69 => ⟨S2048x4x64, .f32⟩
  | 70 => ⟨S2048x4x64, .f32⟩
  | 71 => ⟨S4x64x2048, .f32⟩
  | 72 => ⟨S4x64x2048, .f32⟩
  | 73 => ⟨S2048x4x64, .f32⟩
  | 74 => ⟨S2048x4x64, .f32⟩
  | 75 => ⟨S2048x256, .f32⟩
  | 76 => ⟨S2048x768, .f32⟩
  | 77 => ⟨S2048x256, .f32⟩
  | 78 => ⟨S2048x256, .f32⟩
  | 79 => ⟨S2048x256, .f32⟩
  | 80 => ⟨S2048x256, .f32⟩
  | 81 => ⟨S2x256, .f32⟩
  | 82 => ⟨S_, .f32⟩
  | 83 => ⟨S2x256, .f32⟩
  | 84 => ⟨S2050x256, .f32⟩
  | 85 => ⟨S_, .f32⟩
  | 86 => ⟨S2x256, .f32⟩
  | 87 => ⟨S1x256, .f32⟩
  | 88 => ⟨S256, .f32⟩
  | 89 => ⟨S2048x256, .f32⟩
  | 90 => ⟨S1x256, .f32⟩
  | 91 => ⟨S2048x256, .f32⟩
  | 92 => ⟨S2048x256, .f32⟩
  | 93 => ⟨S1x256, .f32⟩
  | 94 => ⟨S256, .f32⟩
  | 95 => ⟨S2048x256, .f32⟩
  | 96 => ⟨S1x256, .f32⟩
  | 97 => ⟨S2048x256, .f32⟩
  | 98 => ⟨S2048x256, .f32⟩
  | 99 => ⟨S2048x256, .f32⟩
  | 100 => ⟨S1x256, .f32⟩
  | 101 => ⟨S256, .f32⟩
  | 102 => ⟨S2048x256, .f32⟩
  | 103 => ⟨S1x256, .f32⟩
  | 104 => ⟨S2048x256, .f32⟩
  | 105 => ⟨S2048x256, .f32⟩
  | 106 => ⟨S2048x256, .f32⟩
  | 107 => ⟨S2048x256, .f32⟩
  | 108 => ⟨S2048x256, .f32⟩
  | 109 => ⟨S2048x256, .f32⟩
  | 110 => ⟨S2048x256, .f32⟩
  | 111 => ⟨S2048x256, .f32⟩
  | 112 => ⟨S2048x256, .f32⟩
  | 113 => ⟨S_, .f32⟩
  | 114 => ⟨S256, .f32⟩
  | 115 => ⟨S1x256, .f32⟩
  | 116 => ⟨S_, .f32⟩
  | 117 => ⟨S256, .f32⟩
  | 118 => ⟨S_, .f32⟩
  | 119 => ⟨S2050x256, .f32⟩
  | 120 => ⟨S1x256, .f32⟩
  | 121 => ⟨S_, .f32⟩
  | 122 => ⟨S3x256, .f32⟩
  | 123 => ⟨S2048x256, .f32⟩
  | 124 => ⟨S2048x256, .f32⟩
  | 125 => ⟨S2048x256, .f32⟩
  | 126 => ⟨S_, .f32⟩
  | 127 => ⟨S256, .f32⟩
  | _ => ⟨S2048x1792, .f32⟩

abbrev hbmTy0_1 (i : Nat) : BufTy := match i % 128 with
  | 0 => ⟨S1x256, .f32⟩
  | 1 => ⟨S_, .f32⟩
  | 2 => ⟨S256, .f32⟩
  | 3 => ⟨S_, .f32⟩
  | 4 => ⟨S2050x256, .f32⟩
  | 5 => ⟨S2050x256, .f32⟩
  | 6 => ⟨S1x256, .f32⟩
  | 7 => ⟨S_, .f32⟩
  | 8 => ⟨S3x256, .f32⟩
  | 9 => ⟨S3x256, .f32⟩
  | 10 => ⟨S2048x256, .f32⟩
  | 11 => ⟨S2048x256, .f32⟩
  | 12 => ⟨S2048x256, .f32⟩
  | 13 => ⟨S_, .f32⟩
  | 14 => ⟨S256, .f32⟩
  | 15 => ⟨S1x256, .f32⟩
  | 16 => ⟨S_, .f32⟩
  | 17 => ⟨S256, .f32⟩
  | 18 => ⟨S_, .f32⟩
  | 19 => ⟨S2050x256, .f32⟩
  | 20 => ⟨S2050x256, .f32⟩
  | 21 => ⟨S1x256, .f32⟩
  | 22 => ⟨S_, .f32⟩
  | 23 => ⟨S3x256, .f32⟩
  | 24 => ⟨S3x256, .f32⟩
  | 25 => ⟨S2x256, .f32⟩
  | 26 => ⟨S2048x256, .f32⟩
  | 27 => ⟨S2048x256, .f32⟩
  | 28 => ⟨S2048x256, .f32⟩
  | 29 => ⟨S2048x768, .f32⟩
  | 30 => ⟨S4x4, .i32⟩
  | 31 => ⟨S4x4, .i32⟩
  | 32 => ⟨S_, .i32⟩
  | 33 => ⟨S4x4, .i32⟩
  | 34 => ⟨S4x4, .i32⟩
  | 35 => ⟨S4x4, .i1⟩
  | 36 => ⟨S4x1x4x1, .i1⟩
  | 37 => ⟨S4x64x1x64, .f32⟩
  | 38 => ⟨S_, .f32⟩
  | 39 => ⟨S_, .f32⟩
  | 40 => ⟨S4x64x4x64, .i1⟩
  | 41 => ⟨S4x64x4x64, .f32⟩
  | 42 => ⟨S4x64x4x64, .f32⟩
  | 43 => ⟨S4x64x4x64, .f32⟩
  | 44 => ⟨S256x256, .f32⟩
  | 45 => ⟨S_, .f32⟩
  | 46 => ⟨S5x256, .f32⟩
  | 47 => ⟨S8x256, .f32⟩
  | _ => ⟨S2048x1792, .f32⟩

abbrev hbmTy (i : Nat) : BufTy := match i / 128 with
  | 0 => hbmTy0_0 i
  | 1 => hbmTy0_1 i
  | _ => ⟨S2048x1792, .f32⟩

abbrev bufTy : (tb : Table) → Fin (tcTables nBuf tb) → BufTy
  | .hbm, ⟨i, _⟩ => hbmTy i
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_3 : Ref sig .tc := ⟨.hbm, 82, rfl⟩
abbrev main_v71 : Ref sig .tc := ⟨.hbm, 83, rfl⟩
abbrev main_v72 : Ref sig .tc := ⟨.hbm, 84, rfl⟩
abbrev main_cst_4 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_cst_5 : Ref sig .tc := ⟨.hbm, 113, rfl⟩
abbrev main_v100 : Ref sig .tc := ⟨.hbm, 114, rfl⟩
abbrev main_v101 : Ref sig .tc := ⟨.hbm, 115, rfl⟩
abbrev main_cst_6 : Ref sig .tc := ⟨.hbm, 116, rfl⟩
abbrev main_v102 : Ref sig .tc := ⟨.hbm, 117, rfl⟩
abbrev main_cst_7 : Ref sig .tc := ⟨.hbm, 118, rfl⟩
abbrev main_v103 : Ref sig .tc := ⟨.hbm, 119, rfl⟩
abbrev main_v104 : Ref sig .tc := ⟨.hbm, 120, rfl⟩
abbrev main_cst_8 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_9 : Ref sig .tc := ⟨.hbm, 126, rfl⟩
abbrev main_v109 : Ref sig .tc := ⟨.hbm, 127, rfl⟩
abbrev main_v110 : Ref sig .tc := ⟨.hbm, 128, rfl⟩
abbrev main_cst_10 : Ref sig .tc := ⟨.hbm, 129, rfl⟩
abbrev main_v111 : Ref sig .tc := ⟨.hbm, 130, rfl⟩
abbrev main_cst_11 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_12 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_13 : Ref sig .tc := ⟨.hbm, 141, rfl⟩
abbrev main_v120 : Ref sig .tc := ⟨.hbm, 142, rfl⟩
abbrev main_v121 : Ref sig .tc := ⟨.hbm, 143, rfl⟩
abbrev main_cst_14 : Ref sig .tc := ⟨.hbm, 144, rfl⟩
abbrev main_v122 : Ref sig .tc := ⟨.hbm, 145, rfl⟩
abbrev main_cst_15 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_16 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_c_17 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_cst_18 : Ref sig .tc := ⟨.hbm, 166, rfl⟩
abbrev main_call0_v0 : Ref sig .tc := ⟨.hbm, 167, rfl⟩
abbrev main_call0_v1 : Ref sig .tc := ⟨.hbm, 168, rfl⟩
abbrev main_call0_v2 : Ref sig .tc := ⟨.hbm, 169, rfl⟩
abbrev main_call0_v3 : Ref sig .tc := ⟨.hbm, 170, rfl⟩
abbrev main_v140 : Ref sig .tc := ⟨.hbm, 171, rfl⟩
abbrev main_v141 : Ref sig .tc := ⟨.hbm, 172, rfl⟩
abbrev main_cst_19 : Ref sig .tc := ⟨.hbm, 173, rfl⟩
abbrev main_v142 : Ref sig .tc := ⟨.hbm, 174, rfl⟩
abbrev main_v143 : Ref sig .tc := ⟨.hbm, 175, rfl⟩

abbrev nD : Nat := 1
abbrev τ : Topo := Topo.v7x

variable {F : FTy → Type} [FloatOps F]
-- ==== Kernel7.lean ====
abbrev S2048x256 : Shape := ⟨2, ![2048, 256]⟩
abbrev S256x256 : Shape := ⟨2, ![256, 256]⟩
abbrev S1x256 : Shape := ⟨2, ![1, 256]⟩
abbrev S1x1024 : Shape := ⟨2, ![1, 1024]⟩
abbrev S1024x1024 : Shape := ⟨2, ![1024, 1024]⟩
abbrev S2048x1024 : Shape := ⟨2, ![2048, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 13
  | .vmem => 19
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S256x256, .f32⟩
  | .hbm, ⟨5, _⟩ => ⟨S1x256, .f32⟩
  | .hbm, ⟨6, _⟩ => ⟨S1x1024, .f32⟩
  | .hbm, ⟨7, _⟩ => ⟨S1024x1024, .f32⟩
  | .hbm, ⟨8, _⟩ => ⟨S2048x1024, .f32⟩
  | .hbm, ⟨9, _⟩ => ⟨S1x1024, .f32⟩
  | .hbm, ⟨10, _⟩ => ⟨S1024x1024, .bf16⟩
  | .hbm, ⟨11, _⟩ => ⟨S2048x1024, .f32⟩
  | .hbm, ⟨12, _⟩ => ⟨S2048x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x256, .f32⟩
  | .local _ .vmem, ⟨9, _⟩ => ⟨S1x256, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S2048x256 : Shape := ⟨2, ![2048, 256]⟩
abbrev S256x256 : Shape := ⟨2, ![256, 256]⟩
abbrev S1x256 : Shape := ⟨2, ![1, 256]⟩
abbrev S1x1024 : Shape := ⟨2, ![1, 1024]⟩
abbrev S1024x1024 : Shape := ⟨2, ![1024, 1024]⟩
abbrev S2048x1024 : Shape := ⟨2, ![2048, 1024]⟩
abbrev S_ : Shape := ⟨0, ![]⟩
abbrev S2048x4x256 : Shape := ⟨3, ![2048, 4, 256]⟩
abbrev S2048x4 : Shape := ⟨2, ![2048, 4]⟩
abbrev S2048x4x1 : Shape := ⟨3, ![2048, 4, 1]⟩

abbrev nBuf : Space → Nat
  | .hbm => 61
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S256x256, .f32⟩
  | .hbm, ⟨5, _⟩ => ⟨S1x256, .f32⟩
  | .hbm, ⟨6, _⟩ => ⟨S1x1024, .f32⟩
  | .hbm, ⟨7, _⟩ => ⟨S1024x1024, .f32⟩
  | .hbm, ⟨8, _⟩ => ⟨S2048x1024, .f32⟩
  | .hbm, ⟨9, _⟩ => ⟨S1x1024, .f32⟩
  | .hbm, ⟨10, _⟩ => ⟨S2048x256, .f32⟩
  | .hbm, ⟨11, _⟩ => ⟨S2048x256, .f32⟩
  | .hbm, ⟨12, _⟩ => ⟨S_, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S_, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048x256, .f32⟩
  | .hbm, ⟨22, _⟩ => ⟨S2048x256, .f32⟩
  | .hbm, ⟨23, _⟩ => ⟨S_, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S_, .f32⟩
  | .hbm, ⟨33, _⟩ => ⟨S2048x256, .f32⟩
  | .hbm, ⟨34, _⟩ => ⟨S2048x256, .f32⟩
  | .hbm, ⟨35, _⟩ => ⟨S_, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S2048x1024, .f32⟩
  | .hbm, ⟨40, _⟩ => ⟨S2048x4x256, .f32⟩
  | .hbm, ⟨41, _⟩ => ⟨S2048x4x256, .f32⟩
  | .hbm, ⟨42, _⟩ => ⟨S_, .f32⟩
  | .hbm, ⟨43, _⟩ => ⟨S2048x4, .f32⟩
  | .hbm, ⟨44, _⟩ => ⟨S2048x4x1, .f32⟩
  | .hbm, ⟨45, _⟩ => ⟨S_, .f32⟩
  | .hbm, ⟨46, _⟩ => ⟨S2048x4x1, .f32⟩
  | .hbm, ⟨47, _⟩ => ⟨S2048x4x1, .f32⟩
  | .hbm, ⟨48, _⟩ => ⟨S_, .f32⟩
  | .hbm, ⟨49, _⟩ => ⟨S2048x4x1, .f32⟩
  | .hbm, ⟨50, _⟩ => ⟨S2048x4x1, .f32⟩
  | .hbm, ⟨51, _⟩ => ⟨S2048x4x1, .f32⟩
  | .hbm, ⟨52, _⟩ => ⟨S2048x4x256, .f32⟩
  | .hbm, ⟨53, _⟩ => ⟨S2048x4x256, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Kernel8.lean ====
abbrev S2048x1024 : Shape := ⟨2, ![2048, 1024]⟩
abbrev S1x1024 : Shape := ⟨2, ![1, 1024]⟩
abbrev S2048x256 : Shape := ⟨2, ![2048, 256]⟩
abbrev S256x256 : Shape := ⟨2, ![256, 256]⟩
abbrev S1x256 : Shape := ⟨2, ![1, 256]⟩
abbrev S1024x1024 : Shape := ⟨2, ![1024, 1024]⟩
abbrev S_ : Shape := ⟨0, ![]⟩
abbrev S2048x4x256 : Shape := ⟨3, ![2048, 4, 256]⟩
abbrev S2048x4 : Shape := ⟨2, ![2048, 4]⟩
abbrev S2048x4x1 : Shape := ⟨3, ![2048, 4, 1]⟩
abbrev S512x1024 : Shape := ⟨2, ![512, 1024]⟩
abbrev S512x256 : Shape := ⟨2, ![512, 256]⟩
abbrev S1024 : Shape := ⟨1, ![1024]⟩
abbrev S512 : Shape := ⟨1, ![512]⟩
abbrev S512x1 : Shape := ⟨2, ![512, 1]⟩
abbrev S256 : Shape := ⟨1, ![256]⟩

abbrev nBuf : Space → Nat
  | .hbm => 68
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S256x256, .f32⟩
  | .hbm, ⟨7, _⟩ => ⟨S1x256, .f32⟩
  | .hbm, ⟨8, _⟩ => ⟨S1x1024, .f32⟩
  | .hbm, ⟨9, _⟩ => ⟨S1024x1024, .f32⟩
  | .hbm, ⟨10, _⟩ => ⟨S2048x256, .f32⟩
  | .hbm, ⟨11, _⟩ => ⟨S2048x256, .f32⟩
  | .hbm, ⟨12, _⟩ => ⟨S_, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S_, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048x256, .f32⟩
  | .hbm, ⟨22, _⟩ => ⟨S2048x256, .f32⟩
  | .hbm, ⟨23, _⟩ => ⟨S_, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S_, .f32⟩
  | .hbm, ⟨33, _⟩ => ⟨S2048x256, .f32⟩
  | .hbm, ⟨34, _⟩ => ⟨S2048x256, .f32⟩
  | .hbm, ⟨35, _⟩ => ⟨S_, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S2048x1024, .f32⟩
  | .hbm, ⟨40, _⟩ => ⟨S2048x4x256, .f32⟩
  | .hbm, ⟨41, _⟩ => ⟨S2048x4x256, .f32⟩
  | .hbm, ⟨42, _⟩ => ⟨S_, .f32⟩
  | .hbm, ⟨43, _⟩ => ⟨S2048x4, .f32⟩
  | .hbm, ⟨44, _⟩ => ⟨S2048x4x1, .f32⟩
  | .hbm, ⟨45, _⟩ => ⟨S_, .f32⟩
  | .hbm, ⟨46, _⟩ => ⟨S2048x4x1, .f32⟩
  | .hbm, ⟨47, _⟩ => ⟨S2048x4x1, .f32⟩
  | .hbm, ⟨48, _⟩ => ⟨S_, .f32⟩
  | .hbm, ⟨49, _⟩ => ⟨S2048x4x1, .f32⟩
  | .hbm, ⟨50, _⟩ => ⟨S2048x4x1, .f32⟩
  | .hbm, ⟨51, _⟩ => ⟨S2048x4x1, .f32⟩
  | .hbm, ⟨52, _⟩ => ⟨S2048x4x256, .f32⟩
  | .hbm, ⟨53, _⟩ => ⟨S2048x4x256, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S1024x1024, .bf16⟩
  | .hbm, ⟨59, _⟩ => ⟨S2048x256, .f32⟩
  | .hbm, ⟨60, _⟩ => ⟨S2048x256, .f32⟩
  | .hbm, ⟨61, _⟩ => ⟨S2048x256, .f32⟩
  | .hbm, ⟨62, _⟩ => ⟨S2048x256, .f32⟩
  | .hbm, ⟨63, _⟩ => ⟨S1x1024, .f32⟩
  | .hbm, ⟨64, _⟩ => ⟨S1x1024, .f32⟩
  | .hbm, ⟨65, _⟩ => ⟨S1024x1024, .bf16⟩
  | .hbm, ⟨66, _⟩ => ⟨S256x256, .f32⟩
  | .hbm, ⟨67, _⟩ => ⟨S1x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S256x256, .f32⟩
  | .local _ .vmem, ⟨14, _⟩ => ⟨S1x256, .f32⟩
  | .local _ .vmem, ⟨15, _⟩ => ⟨S1x1024, .f32⟩
  | .local _ .vmem, ⟨16, _⟩ => ⟨S1024x1024, .bf16⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S1x1024, .f32⟩
  | .local _ .vmem, ⟨26, _⟩ => ⟨S1x1024, .f32⟩
  | .local _ .vmem, ⟨27, _⟩ => ⟨S1024x1024, .bf16⟩
  | .local _ .vmem, ⟨28, _⟩ => ⟨S256x256, .f32⟩
  | .local _ .vmem, ⟨29, _⟩ => ⟨S1x256, .f32⟩
  | .local _ .vmem, ⟨30, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v40_2 : Ref sig .tc := ⟨.hbm, 61, rfl⟩
abbrev main_v40_3 : Ref sig .tc := ⟨.hbm, 62, rfl⟩
abbrev main_v40_4 : Ref sig .tc := ⟨.hbm, 63, rfl⟩
abbrev main_v40_5 : Ref sig .tc := ⟨.hbm, 64, rfl⟩
abbrev main_v40_6 : Ref sig .tc := ⟨.hbm, 65, rfl⟩
abbrev main_v40_7 : Ref sig .tc := ⟨.hbm, 66, rfl⟩
abbrev main_v40_8 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v227 : BitVec 1 := Scalar.cmpi .eq arg0 c3_i32
  let v228 : BitVec 32 := Scalar.extui v227
  let c0_i32_92 : BitVec 32 := 0#32
  let v229 : BitVec 1 := Scalar.cmpi .ne v228 c0_i32_92
  v229

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference8Ideal.lean ====
abbrev S2048x1024 : Shape := ⟨2, ![2048, 1024]⟩
abbrev S1x1024 : Shape := ⟨2, ![1, 1024]⟩
abbrev S2048x256 : Shape := ⟨2, ![2048, 256]⟩
abbrev S256x256 : Shape := ⟨2, ![256, 256]⟩
abbrev S1x256 : Shape := ⟨2, ![1, 256]⟩
abbrev S1024x1024 : Shape := ⟨2, ![1024, 1024]⟩
abbrev S_ : Shape := ⟨0, ![]⟩
abbrev S2048x4x256 : Shape := ⟨3, ![2048, 4, 256]⟩
abbrev S2048x4 : Shape := ⟨2, ![2048, 4]⟩
abbrev S2048x4x1 : Shape := ⟨3, ![2048, 4, 1]⟩
abbrev S1024 : Shape := ⟨1, ![1024]⟩
abbrev S256 : Shape := ⟨1, ![256]⟩

abbrev nBuf : Space → Nat
  | .hbm => 114
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S256x256, .f32⟩
  | .hbm, ⟨7, _⟩ => ⟨S1x256, .f32⟩
  | .hbm, ⟨8, _⟩ => ⟨S1x1024, .f32⟩
  | .hbm, ⟨9, _⟩ => ⟨S1024x1024, .f32⟩
  | .hbm, ⟨10, _⟩ => ⟨S2048x256, .f32⟩
  | .hbm, ⟨11, _⟩ => ⟨S2048x256, .f32⟩
  | .hbm, ⟨12, _⟩ => ⟨S_, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S_, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048x256, .f32⟩
  | .hbm, ⟨22, _⟩ => ⟨S2048x256, .f32⟩
  | .hbm, ⟨23, _⟩ => ⟨S_, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S_, .f32⟩
  | .hbm, ⟨33, _⟩ => ⟨S2048x256, .f32⟩
  | .hbm, ⟨34, _⟩ => ⟨S2048x256, .f32⟩
  | .hbm, ⟨35, _⟩ => ⟨S_, .f32⟩
  | .hbm, ⟨36, _⟩ => ⟨S2048x256, .f32⟩
  | .hbm, ⟨37, _⟩ => ⟨S2048x256, .f32⟩
  | .hbm, ⟨38, _⟩ => ⟨S_, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S2048x256, .f32⟩
  | .hbm, ⟨43, _⟩ => ⟨S2048x1024, .f32⟩
  | .hbm, ⟨44, _⟩ => ⟨S2048x4x256, .f32⟩
  | .hbm, ⟨45, _⟩ => ⟨S2048x4x256, .f32⟩
  | .hbm, ⟨46, _⟩ => ⟨S_, .f32⟩
  | .hbm, ⟨47, _⟩ => ⟨S2048x4, .f32⟩
  | .hbm, ⟨48, _⟩ => ⟨S2048x4x1, .f32⟩
  | .hbm, ⟨49, _⟩ => ⟨S_, .f32⟩
  | .hbm, ⟨50, _⟩ => ⟨S2048x4x1, .f32⟩
  | .hbm, ⟨51, _⟩ => ⟨S2048x4x1, .f32⟩
  | .hbm, ⟨52, _⟩ => ⟨S_, .f32⟩
  | .hbm, ⟨53, _⟩ => ⟨S2048x4x1, .f32⟩
  | .hbm, ⟨54, _⟩ => ⟨S2048x4x1, .f32⟩
  | .hbm, ⟨55, _⟩ => ⟨S2048x4x1, .f32⟩
  | .hbm, ⟨56, _⟩ => ⟨S2048x4x1, .f32⟩
  | .hbm, ⟨57, _⟩ => ⟨S_, .f32⟩
  | .hbm, ⟨58, _⟩ => ⟨S2048x4x1, .f32⟩
  | .hbm, ⟨59, _⟩ => ⟨S2048x4x1, .f32⟩
  | .hbm, ⟨60, _⟩ => ⟨S2048x4x256, .f32⟩
  | .hbm, ⟨61, _⟩ => ⟨S2048x4x256, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S1024x1024, .f32⟩
  | .hbm, ⟨75, _⟩ => ⟨S1024x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2048x1024, .f32⟩
  | .hbm, ⟨82, _⟩ => ⟨S2048x1024, .f32⟩
  | .hbm, ⟨83, _⟩ => ⟨S2048x4x256, .f32⟩
  | .hbm, ⟨84, _⟩ => ⟨S2048x4x256, .f32⟩
  | .hbm, ⟨85, _⟩ => ⟨S_, .f32⟩
  | .hbm, ⟨86, _⟩ => ⟨S2048x4, .f32⟩
  | .hbm, ⟨87, _⟩ => ⟨S2048x4x1, .f32⟩
  | .hbm, ⟨88, _⟩ => ⟨S2048x4x256, .f32⟩
  | .hbm, ⟨89, _⟩ => ⟨S2048x4x256, .f32⟩
  | .hbm, ⟨90, _⟩ => ⟨S2048x4x1, .f32⟩
  | .hbm, ⟨91, _⟩ => ⟨S_, .f32⟩
  | .hbm, ⟨92, _⟩ => ⟨S2048x4x1, .f32⟩
  | .hbm, ⟨93, _⟩ => ⟨S2048x4x1, .f32⟩
  | .hbm, ⟨94, _⟩ => ⟨S_, .f32⟩
  | .hbm, ⟨95, _⟩ => ⟨S2048x4, .f32⟩
  | .hbm, ⟨96, _⟩ => ⟨S2048x4x256, .f32⟩
  | .hbm, ⟨97, _⟩ => ⟨S2048x4x256, .f32⟩
  | .hbm, ⟨98, _⟩ => ⟨S2048x4x256, .f32⟩
  | .hbm, ⟨99, _⟩ => ⟨S2048x4x256, .f32⟩
  | .hbm, ⟨100, _⟩ => ⟨S2048x4x256, .f32⟩
  | .hbm, ⟨101, _⟩ => ⟨S2048x1024, .f32⟩
  | .hbm, ⟨102, _⟩ => ⟨S2048x256, .f32⟩
  | .hbm, ⟨103, _⟩ => ⟨S2048x256, .f32⟩
  | .hbm, ⟨104, _⟩ => ⟨S2048x256, .f32⟩
  | .hbm, ⟨105, _⟩ => ⟨S2048x256, .f32⟩
  | .hbm, ⟨106, _⟩ => ⟨S2048x256, .f32⟩
  | .hbm, ⟨107, _⟩ => ⟨S2048x256, .f32⟩
  | .hbm, ⟨108, _⟩ => ⟨S_, .f32⟩
  | .hbm, ⟨109, _⟩ => ⟨S256, .f32⟩
  | .hbm, ⟨110, _⟩ => ⟨S1x256, .f32⟩
  | .hbm, ⟨111, _⟩ => ⟨S256x256, .f32⟩
  | .hbm, ⟨112, _⟩ => ⟨S256x256, .f32⟩
  | .hbm, ⟨113, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]
-- ==== Proof.FfnRun.lean ====
/- The feed-forward backward kernel's body, run once per case: what each buffer holds after the body, in terms of
   what its operands hold. -/
module

public import proofs.«01_k».proof.Proof.Gen.KernelIdeal.Frame
public import proofs.«01_k».proof.Proof.Gen.KernelIdeal.Skeleton
public import Idealize.ShloMosaic.Lib.Claim
public import Idealize.ShloMosaic.Lib.Pipeline.Value

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → ℕ) = fun _ => 0 := by decide

/-- A buffer whose whole extent was stored once reads as what was stored. -/
theorem stored_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, by
    subst hz; show y ∈ (Rect.whole S).set; rw [Rect.set_whole]; exact Finset.mem_univ y⟩)).trans
    (View.canon_unit_zero hz inb w)

/-- A load of a whole buffer reads its contents. -/
theorem load_whole {κ : Kind} {sp : Space} {S : Shape} {e : EltTy} {r : Memref sig κ sp S e} (h : r.IsWhole)
    {off : Fin S.rank → ℕ} (hz : off = fun _ => 0) (inb : ∀ a, off a + S.size a ≤ S.size a) (X : S.Idx → Elt F e) :
    View.readAt (Elt F) r.view (Rect.unit off S.size inb).toLoadRect (h.unread X) = X := by
  refine (View.readAt_eq_ld r.view _ _).trans ?_
  rw [h.read_unread, View.ld_unit_zero hz]

/-- The same of a buffer with two axes, stored, loaded, and loaded after a store, at the offsets `[0, 0]`. -/
theorem stored2 {κ : Kind} {sp : Space} {a b : ℕ} {e : EltTy} (v : View sig κ sp ⟨2, ![a, b]⟩ e) (f : v.ty.Contents (Elt F))
    (inb : ∀ x, (![0, 0] : Fin 2 → ℕ) x + (![a, b] : Fin 2 → ℕ) x ≤ (![a, b] : Fin 2 → ℕ) x) (w : (⟨2, ![a, b]⟩ : Shape).Idx → Elt F e) :
    v.read (Elt F) (v.writes (Elt F) f [⟨Rect.unit (s := ⟨2, ![a, b]⟩) ![0, 0] ![a, b] inb, w⟩]) = w :=
  stored_whole v f zero2 inb w

theorem load2 {κ : Kind} {sp : Space} {a b : ℕ} {e : EltTy} {r : Memref sig κ sp ⟨2, ![a, b]⟩ e} (h : r.IsWhole)
    (inb : ∀ x, (![0, 0] : Fin 2 → ℕ) x + (![a, b] : Fin 2 → ℕ) x ≤ (![a, b] : Fin 2 → ℕ) x) (X : (⟨2, ![a, b]⟩ : Shape).Idx → Elt F e) :
    View.readAt (Elt F) r.view (Rect.unit (s := ⟨2, ![a, b]⟩) ![0, 0] ![a, b] inb).toLoadRect (h.unread X) = X :=
  load_whole h zero2 inb X

theorem reload2 {κ : Kind} {sp : Space} {a b : ℕ} {e : EltTy} (v : View sig κ sp ⟨2, ![a, b]⟩ e)
    (inb : ∀ x, (![0, 0] : Fin 2 → ℕ) x + (![a, b] : Fin 2 → ℕ) x ≤ (![a, b] : Fin 2 → ℕ) x) (w : (⟨2, ![a, b]⟩ : Shape).Idx → Elt F e) :
    v.readCov [(⟨Rect.unit (s := ⟨2, ![a, b]⟩) ![0, 0] ![a, b] inb, w⟩ : View.Piece (Elt F) ⟨2, ![a, b]⟩ e)]
      (Rect.unit (s := ⟨2, ![a, b]⟩) ![0, 0] ![a, b] inb).toLoadRect = w :=
  View.readCov_unit_zero v zero2 inb w

/-- The two products of a point, one above the other: the block of the input weight's gradient. -/
def dwiBlk (h : Vec F S2048x1024 .bf16) (za zb : FVec F S2048x256 .bf16) : Vec F S2x1024x256 .bf16 :=
  View.canon [⟨Rect.unit (s := S2x1024x256) ![1, 0, 0] S1x1024x256.size inb_S2x1024x256_S1x1024x256_1_0_0, k0_pay2 (k0_pay5 h) zb⟩,
    ⟨Rect.unit (s := S2x1024x256) ![0, 0, 0] S1x1024x256.size inb_S2x1024x256_S1x1024x256_0_0_0, k0_pay1 (k0_pay5 h) za⟩]

set_option maxHeartbeats 1000000 in
/-- The body at the first point: it forms the scaled cotangent in the scratch buffer, the gate's gradient,
    and the first block of the four other results. -/
theorem run_first (c : Dev nD) (i : grid0.Coords) (arg1 : Memref sig .tc .vmem S2048x1024 .f32) (harg1 : arg1.IsWhole) (arg2 : Memref sig .tc .vmem S2048x1024 .bf16) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S256x1024 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2x1024x256 .bf16) (harg10 : arg10.IsWhole) (arg11 : Memref sig .tc .vmem S256x1024 .bf16) (harg11 : arg11.IsWhole) (arg12 : Memref sig .tc .vmem S1x1024 .f32) (harg12 : arg12.IsWhole) (arg13 : Memref sig .tc .vmem S2048x1024 .bf16) (harg13 : arg13.IsWhole)
    (hc0 : k0_cond1 i = 1#1) (x1 : Vec F S2048x1024 .f32) (x2 : Vec F S2048x1024 .bf16) (x3 : Vec F S1x1024 .f32) (x4 : Vec F S2048x1024 .bf16) (x5 : Vec F S2048x256 .bf16) (x6 : Vec F S2048x256 .bf16) (x7 : Vec F S256x1024 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay11 (k0_pay3 x1 x3) x7 x5 x6) ∗ owns (c : Thread nD τ) arg9 fullShare (k0_pay12 (k0_pay3 x1 x3) x7 x5) ∗ owns (c : Thread nD τ) arg10 fullShare (dwiBlk x4 (k0_pay11 (k0_pay3 x1 x3) x7 x5 x6) (k0_pay12 (k0_pay3 x1 x3) x7 x5)) ∗ owns (c : Thread nD τ) arg11 fullShare (k0_pay13 (k0_pay3 x1 x3) x5 x6) ∗ owns (c : Thread nD τ) arg12 fullShare (k0_pay4 x1 x2) ∗ owns (c : Thread nD τ) arg13 fullShare (k0_pay3 x1 x3)) -∗ K ⟨⟩))
      ⊢ wp frame (wpE (defs₀ (F := F)) Variants.none c none) E (cc0_ffn_bwd_main i arg1 harg1 arg2 harg2 arg3 harg3 arg4 harg4 arg5 harg5 arg6 harg6 arg7 harg7 arg8 harg8 arg9 harg9 arg10 harg10 arg11 harg11 arg12 harg12 arg13 harg13) K := by
  simp only [cc0_ffn_bwd_main_eq_skeleton]; unfold cc0_ffn_bwd_main_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro; refine (stored2 _ _ _ _).trans ?_; sl_unfold_words; simp only [load2, reload2]
  isplitl [H9]
  · iexists _; isplitr; swap; · iexact H9
    ipureintro; refine (stored2 _ _ _ _).trans ?_; sl_unfold_words; simp only [load2, reload2]
  isplitl [H10]
  · iexists _; isplitr; swap; · iexact H10
    ipureintro; refine (View.read_writes_eq_canon (Val := Elt F) _ _ _ ?hc).trans ?_
    case hc => exact View.cover_of_tiledL _ S1x1024x256.size (by sl_kernel_rfl)
    unfold dwiBlk; sl_unfold_words; simp only [load2, reload2]; first | done | rfl
  isplitl [H11]
  · iexists _; isplitr; swap; · iexact H11
    ipureintro; refine (stored2 _ _ _ _).trans ?_; sl_unfold_words; simp only [load2, reload2]
  isplitl [H12]
  · iexists _; isplitr; swap; · iexact H12
    ipureintro; refine (stored2 _ _ _ _).trans ?_; sl_unfold_words; simp only [load2, reload2]
  iexists _; isplitr; swap; · iexact H13
  ipureintro; refine (stored2 _ _ _ _).trans ?_; sl_unfold_words; simp only [load2, reload2]

set_option maxHeartbeats 1000000 in
/-- The body at a later point: the scratch buffer holds the scaled cotangent `x13`, and the body forms the point's
    blocks of four results. It touches neither the gate's gradient nor the operands of the first point. -/
theorem run_later (c : Dev nD) (i : grid0.Coords) (arg1 : Memref sig .tc .vmem S2048x1024 .f32) (harg1 : arg1.IsWhole) (arg2 : Memref sig .tc .vmem S2048x1024 .bf16) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S256x1024 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2x1024x256 .bf16) (harg10 : arg10.IsWhole) (arg11 : Memref sig .tc .vmem S256x1024 .bf16) (harg11 : arg11.IsWhole) (arg12 : Memref sig .tc .vmem S1x1024 .f32) (harg12 : arg12.IsWhole) (arg13 : Memref sig .tc .vmem S2048x1024 .bf16) (harg13 : arg13.IsWhole)
    (hc0 : ¬ (k0_cond1 i = 1#1)) (x4 : Vec F S2048x1024 .bf16) (x5 : Vec F S2048x256 .bf16) (x6 : Vec F S2048x256 .bf16) (x7 : Vec F S256x1024 .bf16) (x13 : Vec F S2048x1024 .bf16) (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg13 fullShare x13 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg13 fullShare x13 ∗ owns (c : Thread nD τ) arg8 fullShare (k0_pay11 x13 x7 x5 x6) ∗ owns (c : Thread nD τ) arg9 fullShare (k0_pay12 x13 x7 x5) ∗ owns (c : Thread nD τ) arg10 fullShare (dwiBlk x4 (k0_pay11 x13 x7 x5 x6) (k0_pay12 x13 x7 x5)) ∗ owns (c : Thread nD τ) arg11 fullShare (k0_pay13 x13 x5 x6)) -∗ K ⟨⟩))
      ⊢ wp frame (wpE (defs₀ (F := F)) Variants.none c none) E (cc0_ffn_bwd_main i arg1 harg1 arg2 harg2 arg3 harg3 arg4 harg4 arg5 harg5 arg6 harg6 arg7 harg7 arg8 harg8 arg9 harg9 arg10 harg10 arg11 harg11 arg12 harg12 arg13 harg13) K := by
  simp only [cc0_ffn_bwd_main_eq_skeleton]; unfold cc0_ffn_bwd_main_skel
  simp only [k0_part1_eq_skeleton]
  unfold owns
  iintro ⟨⟨%f4, %hf4, H4⟩, ⟨%f5, %hf5, H5⟩, ⟨%f6, %hf6, H6⟩, ⟨%f7, %hf7, H7⟩, ⟨%f13, %hf13, H13⟩, ⟨%d8, %f8, -, H8⟩, ⟨%d9, %f9, -, H9⟩, ⟨%d10, %f10, -, H10⟩, ⟨%d11, %f11, -, H11⟩, Hk⟩
  obtain rfl := harg4.eq_unread hf4; obtain rfl := harg5.eq_unread hf5; obtain rfl := harg6.eq_unread hf6; obtain rfl := harg7.eq_unread hf7; obtain rfl := harg13.eq_unread hf13
  sl_exec (disch := first | sl_exact hc0)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H13]
  · iexists _; isplitr; · ipureintro; exact harg13.read_unread _
    iexact H13
  isplitl [H8]
  · iexists _; isplitr; swap; · iexact H8
    ipureintro; refine (stored2 _ _ _ _).trans ?_; sl_unfold_words; simp only [load2, reload2]
  isplitl [H9]
  · iexists _; isplitr; swap; · iexact H9
    ipureintro; refine (stored2 _ _ _ _).trans ?_; sl_unfold_words; simp only [load2, reload2]
  isplitl [H10]
  · iexists _; isplitr; swap; · iexact H10
    ipureintro; refine (View.read_writes_eq_canon (Val := Elt F) _ _ _ ?hc).trans ?_
    case hc => exact View.cover_of_tiledL _ S1x1024x256.size (by sl_kernel_rfl)
    unfold dwiBlk; sl_unfold_words; simp only [load2, reload2]; first | done | rfl
  iexists _; isplitr; swap; · iexact H11
  ipureintro; refine (stored2 _ _ _ _).trans ?_; sl_unfold_words; simp only [load2, reload2]

end Cert.FfnBwd

end
-- ==== Proof.FfnFrame.lean ====
/- The feed-forward backward kernel's launch: what each buffer holds at each point, the body's obligation, and the
   run of the whole program with the five result arrays named. The gate's gradient is stored at the first point only
   and written back at the last: its buffer keeps what the first point left. -/
module

public import proofs.«01_k».proof.Proof.FfnRun
public import Idealize.ShloMosaic.Lib.Claim
public import Idealize.ShloMosaic.Lib.Pipeline.Value

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)
abbrev scratch : Memref sig .tc .vmem S2048x1024 .bf16 := Memref.whole cc0_scratch0

/-- The branch is taken at the first point only. -/
theorem cond_iff : ∀ t : Fin cfg0.N, k0_cond1 (grid0.coords t) = 1#1 ↔ t.val = 0 :=
  (fun t => by
    have ht : t.val < 11 := Nat.lt_of_lt_of_eq t.isLt N_0
    have e0 : (grid0.coords t 0).val = t.val / 1 % 11 := Pipeline.Grid.coords_val t 0 (by decide) rfl
    have : k0_cond1 (grid0.coords t) = 1#1 ↔ t.val % 11 = 0 := by
      simp only [k0_cond1, e0]
      word_cmp
    rw [this]; omega
   : ∀ t : Fin grid0.N, k0_cond1 (grid0.coords t) = 1#1 ↔ t.val = 0)

theorem idle_first (t : Fin cfg0.N) (h : t.val = 0) : cfg0.idle 11 (cfg0.grid.coords t) = false := by
  have := (cond_iff t).mpr h
  show (!decide (k0_cond1 (grid0.coords t) = 1#1)) = false
  simp [this]

theorem idle_later (t : Fin cfg0.N) (h : t.val ≠ 0) : cfg0.idle 11 (cfg0.grid.coords t) = true := by
  have := mt (cond_iff t).mp h
  show (!decide (k0_cond1 (grid0.coords t) = 1#1)) = true
  simp [this]

/-- The first point. -/
def p0 : Fin cfg0.N := ⟨0, by decide⟩

/-- The scaled cotangent that the first point leaves in the scratch buffer. -/
def doV (c : Dev nD) : Vec F S2048x1024 .bf16 := k0_pay3 (iblk m c 0 p0) (iblk m c 2 p0)

/-- The gate's gradient, which the first point leaves. -/
def dgV (c : Dev nD) : Vec F S1x1024 .f32 := k0_pay4 (iblk m c 0 p0) (iblk m c 1 p0)

/-- The block of each of the four other results at a point. -/
def daV (c : Dev nD) (t : Fin cfg0.N) : Vec F S2048x256 .bf16 := k0_pay11 (doV m c) (iblk m c 6 t) (iblk m c 4 t) (iblk m c 5 t)
def dbV (c : Dev nD) (t : Fin cfg0.N) : Vec F S2048x256 .bf16 := k0_pay12 (doV m c) (iblk m c 6 t) (iblk m c 4 t)
def dwiV (c : Dev nD) (t : Fin cfg0.N) : Vec F S2x1024x256 .bf16 := dwiBlk (iblk m c 3 t) (daV m c t) (dbV m c t)
def dwoV (c : Dev nD) (t : Fin cfg0.N) : Vec F S256x1024 .bf16 := k0_pay13 (doV m c) (iblk m c 4 t) (iblk m c 5 t)

/-- What the scratch buffer holds before a point: anything before the first, the scaled cotangent after it. -/
def scratchAt (c : Dev nD) (n : ℕ) : sProp 𝕄 :=
  match n with
  | 0 => iprop(∃ d, owns (c : Thread nD τ) scratch fullShare d)
  | _ + 1 => owns (c : Thread nD τ) scratch fullShare (doV m c)

/-- The proof data: the arrays as the region finds them, what each buffer holds after each point, the scratch buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => daV m c t
    | ⟨8, _⟩ => dbV m c t
    | ⟨9, _⟩ => dwiV m c t
    | ⟨10, _⟩ => dwoV m c t
    | ⟨11, _⟩ => dgV m c
  Φ t := iprop(scratchAt m c t.val ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = daV m c t := by dsimp only [dats]
theorem after_8 (c : Dev nD) (t : Fin cfg0.N) : (dats m 0 c).after 8 t = dbV m c t := by dsimp only [dats]
theorem after_9 (c : Dev nD) (t : Fin cfg0.N) : (dats m 0 c).after 9 t = dwiV m c t := by dsimp only [dats]
theorem after_10 (c : Dev nD) (t : Fin cfg0.N) : (dats m 0 c).after 10 t = dwoV m c t := by dsimp only [dats]
theorem after_11 (c : Dev nD) (t : Fin cfg0.N) : (dats m 0 c).after 11 t = dgV m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- After the first point the gate's buffer holds the gate's gradient until it is written back. -/
theorem before_11 (c : Dev nD) (d) : ∀ (n : ℕ) (hn : n + 1 < cfg0.N), (dats m 0 c).before 11 ⟨n + 1, hn⟩ d = dgV m c := by
  have hN : cfg0.N = 11 := N_0
  intro n
  induction n with
  | zero =>
    intro hn
    rw [Dat.before_of_pos _ _ _ (by simp) rfl]
    rw [if_neg (by
      intro h; have h' := (flush0_11 _).mp h; simp at h')]
    unfold Dat.left
    rw [idle_first _ (by simp)]
    dsimp only
    unfold Dat.kept
    exact after_11 m c _
  | succ k ih =>
    intro hn
    rw [Dat.before_of_pos _ _ _ (by simp) rfl]
    rw [if_neg (by
      intro h; have h' := (flush0_11 _).mp h; simp at h'; omega)]
    unfold Dat.left
    rw [idle_later _ (by simp)]
    exact ih (by omega)

/-- What the body is handed at a point, and what it returns. -/
def bodyPre (c : Dev nD) (t : Fin cfg0.N) : sProp 𝕄 :=
  iprop((dats m 0 c).Φ t.castSucc
    ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ
    ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ (dats m 0 c).leavesExact 11 t)

set_option maxHeartbeats 2000000 in
theorem sound_first (c : Dev nD) (t : Fin cfg0.N) (h0 : t.val = 0) :
    bodyPre m c t ⊢ wp frame (wpE (defs₀ (F := F)) Variants.none c none) Set.univ (bodyAt0 t) (fun _ => bodyPost m c t) := by
  obtain rfl : t = p0 := Fin.ext h0
  unfold bodyPre bodyPost bodyAt0
  simp only [before_0, before_1, before_2, before_3, before_4, before_5, before_6]
  rw [show (dats m 0 c).Φ p0.succ = iprop(owns (c : Thread nD τ) scratch fullShare (doV m c) ∗ (∃ r, prngReg c r)) from rfl,
    show (dats m 0 c).Φ p0.castSucc = iprop((∃ d, owns (c : Thread nD τ) scratch fullShare d) ∗ (∃ r, prngReg c r)) from rfl,
    show (dats m 0 c).owesAt () p0.succ = (dats m 0 c).owesAt () p0.castSucc from rfl,
    after_0, after_1, after_2, after_3, after_4, after_5, after_6, after_7, after_8, after_9, after_10,
    show (dats m 0 c).leavesExact 11 p0 = owns (c : Thread nD τ) (ms11 p0) fullShare ((dats m 0 c).after 11 p0) from by
      unfold Dat.leavesExact; rw [idle_first p0 rfl], after_11]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_first c (grid0.coords p0) _ _ _ _ _ _ _ _ _ _ _ _ _ _ _ _ _ _ _ _ _ _ _ _ _ _ ((cond_iff p0).mpr rfl) (iblk m c 0 p0) (iblk m c 1 p0) (iblk m c 2 p0) (iblk m c 3 p0) (iblk m c 4 p0) (iblk m c 5 p0) (iblk m c 6 p0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- At a later point the gate's buffer passes through. -/
theorem gate_leaves (c : Dev nD) (t : Fin cfg0.N) (h0 : t.val ≠ 0) (d) :
    owns (c : Thread nD τ) (ms11 t) fullShare ((dats m 0 c).before 11 t d) ⊢ ((dats m 0 c).leavesExact 11 t : sProp 𝕄) := by
  by_cases hf : (cfg0.win 11).flush t = true
  · unfold Dat.leavesExact; rw [idle_later t h0, hf]; dsimp only
    rw [after_11]
    obtain ⟨n, hn⟩ : ∃ n, t.val = n + 1 := ⟨t.val - 1, by omega⟩
    have ht : t = ⟨n + 1, hn ▸ t.isLt⟩ := Fin.ext hn
    rw [show (dats m 0 c).before 11 t d = dgV m c from by rw [ht]; exact before_11 m c d n _]
  · rw [Dat.leavesExact_idle _ 11 t (idle_later t h0) (by simpa using hf)]
    iintro H; iexists _; iexact H

set_option maxHeartbeats 2000000 in
theorem sound_later (c : Dev nD) (t : Fin cfg0.N) (h0 : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  have hs : scratchAt m c t.val = owns (c : Thread nD τ) scratch fullShare (doV m c) := by
    obtain ⟨n, hn⟩ : ∃ n, t.val = n + 1 := ⟨t.val - 1, by omega⟩
    rw [hn]; rfl
  rw [show (dats m 0 c).Φ t.succ = iprop(owns (c : Thread nD τ) scratch fullShare (doV m c) ∗ (∃ r, prngReg c r)) from rfl,
    show (dats m 0 c).Φ t.castSucc = iprop(scratchAt m c t.val ∗ (∃ r, prngReg c r)) from rfl, hs,
    show (dats m 0 c).owesAt () t.succ = (dats m 0 c).owesAt () t.castSucc from rfl,
    after_0, after_1, after_2, after_3, after_4, after_5, after_6, after_7, after_8, after_9, after_10]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave Hgate := (gate_leaves m c t h0 d11) $$ H11
  iapply (run_later c (grid0.coords t) _ _ _ _ _ _ _ _ _ _ _ _ _ _ _ _ _ _ _ _ _ _ _ _ _ _ (fun h => h0 ((cond_iff t).mp h)) (iblk m c 3 t) (iblk m c 4 t) (iblk m c 5 t) (iblk m c 6 t) (doV m c) Set.univ _)
  isplitl [H3]; · iexact H3
  isplitl [H4]; · iexact H4
  isplitl [H5]; · iexact H5
  isplitl [H6]; · iexact H6
  isplitl [HS]; · iexact HS
  isplitl [H7]; · iexists _; iexact H7
  isplitl [H8]; · iexists _; iexact H8
  isplitl [H9]; · iexists _; iexact H9
  isplitl [H10]; · iexists _; iexact H10
  iintro ⟨H3, H4, H5, H6, HS, H7, H8, H9, H10⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Hgate

/-- The body's obligation at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  by_cases h0 : t.val = 0
  · exact triple_restated (sound_first m c t h0) rfl .rfl fun _ => .rfl
  · exact triple_restated (sound_later m c t h0) rfl .rfl fun _ => .rfl

/-- The scratch buffer and the generator's register, as the launch hands them over. -/
theorem launch_rest (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

set_option backward.isDefEq.respectTransparency.types false in
/-- The run: every execution ends, with the windows' arrays at what the proof data says and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [launch_rest]; exact .rfl)
    (hout := fun c => by
      rw [launch_rest, show (dats m 0 c).Φ (Fin.last cfg0.N) = iprop(owns (c : Thread nD τ) scratch fullShare (doV m c) ∗ (∃ r, prngReg c r)) from rfl]
      iintro ⟨HS, Hg⟩
      isplitl [HS]
      · iexists _; iexact HS
      iexact Hg)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the argument arrays unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FfnBwd

end
-- ==== Proof.FfnPay.lean ====
/- What one grid point of the feed-forward backward kernel computes, element by element, over the extended reals. -/
module

public import proofs.«01_k».proof.Proof.Gen.KernelIdeal.Skeleton
public import Idealize.ShloMosaic.Lib.Pointwise

@[expose] public section

set_option maxRecDepth 16384

noncomputable section

namespace Cert.FfnBwd

open Cert.KernelIdeal Cert.KernelIdeal.Gen
open Idealize.ShloMosaic

/-- The scaled cotangent. -/
theorem pay3_apply (x : Vec Ideal S2048x1024 .f32) (g : Vec Ideal S1x1024 .f32) (r : Fin 2048) (k : Fin 1024) :
    k0_pay3 x g (ix2 r k) = Ideal.ofBits .f32 0x3F000000#32 * g (ix2 0 k) * x (ix2 r k) := by
  unfold k0_pay3; pointwise

/-- The gate's gradient. -/
theorem pay4_apply (x : Vec Ideal S2048x1024 .f32) (o : Vec Ideal S2048x1024 .bf16) (k : Fin 1024) :
    k0_pay4 x o (ix2 0 k) = Ideal.ofBits .f32 0x3F000000#32 * ∑ r : Fin 2048, o (ix2 r k) * x (ix2 r k) := by
  unfold k0_pay4; pointwise

/-- The cotangent of the product. -/
theorem pay6_apply (d : Vec Ideal S2048x1024 .bf16) (w : Vec Ideal S256x1024 .bf16) (r : Fin 2048) (j : Fin 256) :
    k0_pay6 d w (ix2 r j) = ∑ k : Fin 1024, d (ix2 r k) * w (ix2 j k) := by
  unfold k0_pay6; pointwise

/-- The cotangent of the half under the SiLU. -/
theorem pay11_apply (d : Vec Ideal S2048x1024 .bf16) (w : Vec Ideal S256x1024 .bf16) (a b : Vec Ideal S2048x256 .bf16) (r : Fin 2048) (j : Fin 256) :
    k0_pay11 d w a b (ix2 r j) = (∑ k : Fin 1024, d (ix2 r k) * w (ix2 j k)) * b (ix2 r j)
      * (Ideal.logistic (a (ix2 r j)) * (Ideal.ofBits .f32 0x3F800000#32 + a (ix2 r j) * (Ideal.ofBits .f32 0x3F800000#32 - Ideal.logistic (a (ix2 r j))))) := by
  unfold k0_pay11 k0_pay6 k0_pay9 k0_pay8 k0_pay7; pointwise

/-- The cotangent of the other half. -/
theorem pay12_apply (d : Vec Ideal S2048x1024 .bf16) (w : Vec Ideal S256x1024 .bf16) (a : Vec Ideal S2048x256 .bf16) (r : Fin 2048) (j : Fin 256) :
    k0_pay12 d w a (ix2 r j) = (∑ k : Fin 1024, d (ix2 r k) * w (ix2 j k)) * (a (ix2 r j) * Ideal.logistic (a (ix2 r j))) := by
  unfold k0_pay12 k0_pay6 k0_pay10 k0_pay9 k0_pay7; pointwise

/-- The gradient of the output weights. -/
theorem pay13_apply (d : Vec Ideal S2048x1024 .bf16) (a b : Vec Ideal S2048x256 .bf16) (j : Fin 256) (k : Fin 1024) :
    k0_pay13 d a b (ix2 j k) = ∑ r : Fin 2048, a (ix2 r j) * Ideal.logistic (a (ix2 r j)) * b (ix2 r j) * d (ix2 r k) := by
  unfold k0_pay13 k0_pay10 k0_pay9 k0_pay8 k0_pay7; pointwise

/-- The two pieces of the gradient of the input weights. -/
theorem pay1_apply (h : Vec Ideal S2048x1024 .bf16) (z : Vec Ideal S2048x256 .bf16) (k : Fin 1024) (j : Fin 256) :
    k0_pay1 (k0_pay5 h) z (ix3 0 k j) = ∑ r : Fin 2048, h (ix2 r k) * z (ix2 r j) := by
  unfold k0_pay1 k0_pay5; pointwise

theorem pay2_apply (h : Vec Ideal S2048x1024 .bf16) (z : Vec Ideal S2048x256 .bf16) (k : Fin 1024) (j : Fin 256) :
    k0_pay2 (k0_pay5 h) z (ix3 0 k j) = ∑ r : Fin 2048, h (ix2 r k) * z (ix2 r j) := by
  unfold k0_pay2 k0_pay5; pointwise

end Cert.FfnBwd

end
-- ==== Proof.FfnSpec.lean ====
/- The mathematics of the feed-forward block's backward pass, over the extended reals: each gradient at an index. -/
module

public import Idealize.ShloMosaic.Lib.Pointwise

@[expose] public section

noncomputable section

namespace Cert.FfnBwd

open Idealize.ShloMosaic

/-- A matrix of extended reals. -/
abbrev Mat (n k : ℕ) : Type := (⟨2, ![n, k]⟩ : Shape).Idx → EReal

/-- The literals 1/2 and 1 of the programs. -/
abbrev halfE : EReal := Ideal.ofBits .f32 0x3F000000#32
abbrev oneE : EReal := Ideal.ofBits .f32 0x3F800000#32

theorem half_lit : halfE = (((1 / 2 : ℝ)) : EReal) := by
  simp [halfE, Ideal.ofBits, Ideal.ieee, -EReal.coe_mul]; norm_num

theorem one_lit : oneE = (1 : EReal) := by
  simp [oneE, Ideal.ofBits, Ideal.ieee, -EReal.coe_mul]; norm_num

/-- The cotangent of the block's product: the incoming one scaled by half the gate. -/
def ctS (x : Mat 2048 1024) (g : Mat 1 1024) : Mat 2048 1024 := fun i => halfE * g (ix2 0 (i 1)) * x i

/-- The cotangent of the product's left factor. -/
def duS (d : Mat 2048 1024) (wo : Mat 2816 1024) : Mat 2048 2816 := fun i => ∑ k : Fin 1024, d (ix2 (i 0) k) * wo (ix2 (i 1) k)

/-- The cotangent of the half under the SiLU, as the kernel multiplies it out. -/
def daS (du a b : Mat 2048 2816) : Mat 2048 2816 := fun i =>
  du i * b i * (Ideal.logistic (a i) * (oneE + a i * (oneE - Ideal.logistic (a i))))

/-- The cotangent of the other half. -/
def dbS (du a : Mat 2048 2816) : Mat 2048 2816 := fun i => du i * (a i * Ideal.logistic (a i))

/-- The product of a transposed matrix with a matrix of cotangents: one half of the gradient of the input weights. -/
def dwS (h : Mat 2048 1024) (z : Mat 2048 2816) : Mat 1024 2816 := fun i => ∑ r : Fin 2048, h (ix2 r (i 0)) * z (ix2 r (i 1))

/-- The two halves of the gradient of the input weights, stacked. -/
def dwiS (h : Mat 2048 1024) (za zb : Mat 2048 2816) : (⟨3, ![2, 1024, 2816]⟩ : Shape).Idx → EReal := fun i =>
  if (i 0).val = 0 then dwS h za (ix2 (i 1) (i 2)) else dwS h zb (ix2 (i 1) (i 2))

/-- The gradient of the output weights. -/
def dwoS (d : Mat 2048 1024) (a b : Mat 2048 2816) : Mat 2816 1024 := fun i =>
  ∑ r : Fin 2048, a (ix2 r (i 0)) * Ideal.logistic (a (ix2 r (i 0))) * b (ix2 r (i 0)) * d (ix2 r (i 1))

/-- The gate's gradient. -/
def dgS (x o : Mat 2048 1024) : Mat 1 1024 := fun i => halfE * ∑ r : Fin 2048, o (ix2 r (i 1)) * x (ix2 r (i 1))

end Cert.FfnBwd

end
-- ==== Proof.FfnHost.lean ====
/- The arrays that the host code prepares for the feed-forward backward kernel: the forward pass's saved values. -/
module

public import proofs.«01_k».proof.Proof.Gen.KernelIdeal.Frame
public import Idealize.ShloMosaic.Lib.Claim

@[expose] public section

set_option maxRecDepth 16384

noncomputable section

namespace Cert.FfnBwd

open Cert.KernelIdeal Cert.KernelIdeal.Gen
open Idealize.ShloMosaic Idealize.ShloMosaic.TcCoe Idealize.ShloMosaic.StableHlo
open Idealize.SL.Sem

variable {F : FTy → Type} [FloatOps F]

/-- The product of the block's input and the input weights, and its two halves. -/
def zH (h : Vec F S2048x1024 .f32) (w : Vec F S1024x5632 .f32) : Vec F S2048x5632 .f32 :=
  Host.dotGeneral dot_S2048x1024_S1024x5632_S2048x5632_1_0_0_1_n_n none h w
def aH (h : Vec F S2048x1024 .f32) (w : Vec F S1024x5632 .f32) : Vec F S2048x2816 .f32 :=
  extractStridedSlice S2048x2816 ![0, 0] (zH h w) slices_S2048x5632_S2048x2816_0_0
def bH (h : Vec F S2048x1024 .f32) (w : Vec F S1024x5632 .f32) : Vec F S2048x2816 .f32 :=
  extractStridedSlice S2048x2816 ![0, 2816] (zH h w) slices_S2048x5632_S2048x2816_0_2816
/-- The SiLU of the first half times the second. -/
def uH (h : Vec F S2048x1024 .f32) (w : Vec F S1024x5632 .f32) : Vec F S2048x2816 .f32 :=
  mulf (mulf (aH h w) (Host.divf (broadcastInDim S2048x2816 ![] bcast_S_S2048x2816 (constant S_ .f32 0x3F800000#32))
    (addf (broadcastInDim S2048x2816 ![] bcast_S_S2048x2816 (constant S_ .f32 0x3F800000#32)) (Host.exp (Host.negf (aH h w)))))) (bH h w)
/-- The feed-forward block's output. -/
def oH (h : Vec F S2048x1024 .f32) (w : Vec F S1024x5632 .f32) (wo : Vec F S2816x1024 .f32) : Vec F S2048x1024 .f32 :=
  Host.dotGeneral dot_S2048x2816_S2816x1024_S2048x1024_1_0_0_1_n_n none (uH h w) wo

variable (m : (ℓ : Loc nD τ sig) → Buf (Elt F) ℓ) (c : Dev nD)

theorem V_v6 : V m c main_v6 = truncf .bf16 (oH (m ((c : Thread nD τ).loc main_arg2)) (m ((c : Thread nD τ).loc main_arg3)) (m ((c : Thread nD τ).loc main_arg4))) bitsLt_bf16_f32 := by
  unfold oH uH bH aH zH
  simp only [V, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

theorem V_v7 : V m c main_v7 = truncf .bf16 (m ((c : Thread nD τ).loc main_arg2)) bitsLt_bf16_f32 := by
  simp only [V, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

theorem V_v8 : V m c main_v8 = truncf .bf16 (aH (m ((c : Thread nD τ).loc main_arg2)) (m ((c : Thread nD τ).loc main_arg3))) bitsLt_bf16_f32 := by
  unfold aH zH
  simp only [V, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

theorem V_v9 : V m c main_v9 = truncf .bf16 (bH (m ((c : Thread nD τ).loc main_arg2)) (m ((c : Thread nD τ).loc main_arg3))) bitsLt_bf16_f32 := by
  unfold bH zH
  simp only [V, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

theorem V_v10 : V m c main_v10 = truncf .bf16 (m ((c : Thread nD τ).loc main_arg4)) bitsLt_bf16_f32 := by
  simp only [V, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

end Cert.FfnBwd

end
-- ==== Proof.FfnArrays.lean ====
/- The five result arrays of the feed-forward backward kernel after its run, as functions of the arrays that it reads:
   each block written back is the block of that function, and the blocks cover the array. -/
module

public import proofs.«01_k».proof.Proof.FfnFrame
public import proofs.«01_k».proof.Proof.FfnPay
public import proofs.«01_k».proof.Proof.FfnSpec
public import proofs.«01_k».proof.Proof.FfnHost

@[expose] public section

set_option maxRecDepth 16384

noncomputable section

namespace Cert.FfnBwd

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-- Column `j` of block `t` in an array of 2816 columns. -/
def col (t : Fin cfg0.N) (j : Fin 256) : Fin 2816 :=
  ⟨t.val * 256 + j.val, by have : t.val < 11 := Nat.lt_of_lt_of_eq t.isLt N_0; have := j.isLt; omega⟩

/-- Row `j` of block `t` in an array of 2816 rows is the same number. -/
theorem col_surj (n : Fin 2816) : ∃ t j, col t j = n :=
  ⟨⟨n.val / 256, by have := n.isLt; have : cfg0.N = 11 := N_0; omega⟩, ⟨n.val % 256, Nat.mod_lt _ (by decide)⟩,
    Fin.ext (by show n.val / 256 * 256 + n.val % 256 = n.val; omega)⟩

/-! ### Where an element of a block lies in its array -/

theorem emb_0 (t : Fin cfg0.N) (r : Fin 2048) (k : Fin 1024) : ((cfg0.win 0).blk t).view.emb (ix2 r k) = (ix2 r k : S2048x1024.Idx) := by
  funext a; apply Fin.ext
  match a with
  | ⟨0, _⟩ => exact win0_0.rect_emb_val_of_index_zero t 0 ((by decide +kernel : ∀ t : Fin grid0.N, win0_0.index t 0 = 0) t) (ix2 r k)
  | ⟨1, _⟩ => exact win0_0.rect_emb_val_of_index_zero t 1 ((by decide +kernel : ∀ t : Fin grid0.N, win0_0.index t 1 = 0) t) (ix2 r k)

theorem emb_1 (t : Fin cfg0.N) (r : Fin 2048) (k : Fin 1024) : ((cfg0.win 1).blk t).view.emb (ix2 r k) = (ix2 r k : S2048x1024.Idx) := by
  funext a; apply Fin.ext
  match a with
  | ⟨0, _⟩ => exact win0_1.rect_emb_val_of_index_zero t 0 ((by decide +kernel : ∀ t : Fin grid0.N, win0_1.index t 0 = 0) t) (ix2 r k)
  | ⟨1, _⟩ => exact win0_1.rect_emb_val_of_index_zero t 1 ((by decide +kernel : ∀ t : Fin grid0.N, win0_1.index t 1 = 0) t) (ix2 r k)

theorem emb_3 (t : Fin cfg0.N) (r : Fin 2048) (k : Fin 1024) : ((cfg0.win 3).blk t).view.emb (ix2 r k) = (ix2 r k : S2048x1024.Idx) := by
  funext a; apply Fin.ext
  match a with
  | ⟨0, _⟩ => exact win0_3.rect_emb_val_of_index_zero t 0 ((by decide +kernel : ∀ t : Fin grid0.N, win0_3.index t 0 = 0) t) (ix2 r k)
  | ⟨1, _⟩ => exact win0_3.rect_emb_val_of_index_zero t 1 ((by decide +kernel : ∀ t : Fin grid0.N, win0_3.index t 1 = 0) t) (ix2 r k)

theorem emb_2 (t : Fin cfg0.N) (r : Fin 1) (k : Fin 1024) : ((cfg0.win 2).blk t).view.emb (ix2 r k) = (ix2 r k : S1x1024.Idx) := by
  funext a; apply Fin.ext
  match a with
  | ⟨0, _⟩ => exact win0_2.rect_emb_val_of_index_zero t 0 ((by decide +kernel : ∀ t : Fin grid0.N, win0_2.index t 0 = 0) t) (ix2 r k)
  | ⟨1, _⟩ => exact win0_2.rect_emb_val_of_index_zero t 1 ((by decide +kernel : ∀ t : Fin grid0.N, win0_2.index t 1 = 0) t) (ix2 r k)

theorem emb_11 (t : Fin cfg0.N) (r : Fin 1) (k : Fin 1024) : ((cfg0.win 11).blk t).view.emb (ix2 r k) = (ix2 r k : S1x1024.Idx) := by
  funext a; apply Fin.ext
  match a with
  | ⟨0, _⟩ => exact win0_11.rect_emb_val_of_index_zero t 0 ((by decide +kernel : ∀ t : Fin grid0.N, win0_11.index t 0 = 0) t) (ix2 r k)
  | ⟨1, _⟩ => exact win0_11.rect_emb_val_of_index_zero t 1 ((by decide +kernel : ∀ t : Fin grid0.N, win0_11.index t 1 = 0) t) (ix2 r k)

theorem emb_4 (t : Fin cfg0.N) (r : Fin 2048) (j : Fin 256) : ((cfg0.win 4).blk t).view.emb (ix2 r j) = (ix2 r (col t j) : S2048x2816.Idx) := by
  funext a; apply Fin.ext
  match a with
  | ⟨0, _⟩ => exact win0_4.rect_emb_val_of_index_zero t 0 ((by decide +kernel : ∀ t : Fin grid0.N, win0_4.index t 0 = 0) t) (ix2 r j)
  | ⟨1, _⟩ =>
    refine (win0_4.rect_emb_val t (ix2 r j) 1).trans ?_
    rw [(by decide +kernel : ∀ t : Fin grid0.N, win0_4.index t 1 * win0_4.size 1 = t.val * 256) t]; rfl

theorem emb_5 (t : Fin cfg0.N) (r : Fin 2048) (j : Fin 256) : ((cfg0.win 5).blk t).view.emb (ix2 r j) = (ix2 r (col t j) : S2048x2816.Idx) := by
  funext a; apply Fin.ext
  match a with
  | ⟨0, _⟩ => exact win0_5.rect_emb_val_of_index_zero t 0 ((by decide +kernel : ∀ t : Fin grid0.N, win0_5.index t 0 = 0) t) (ix2 r j)
  | ⟨1, _⟩ =>
    refine (win0_5.rect_emb_val t (ix2 r j) 1).trans ?_
    rw [(by decide +kernel : ∀ t : Fin grid0.N, win0_5.index t 1 * win0_5.size 1 = t.val * 256) t]; rfl

theorem emb_7 (t : Fin cfg0.N) (r : Fin 2048) (j : Fin 256) : ((cfg0.win 7).blk t).view.emb (ix2 r j) = (ix2 r (col t j) : S2048x2816.Idx) := by
  funext a; apply Fin.ext
  match a with
  | ⟨0, _⟩ => exact win0_7.rect_emb_val_of_index_zero t 0 ((by decide +kernel : ∀ t : Fin grid0.N, win0_7.index t 0 = 0) t) (ix2 r j)
  | ⟨1, _⟩ =>
    refine (win0_7.rect_emb_val t (ix2 r j) 1).trans ?_
    rw [(by decide +kernel : ∀ t : Fin grid0.N, win0_7.index t 1 * win0_7.size 1 = t.val * 256) t]; rfl

theorem emb_8 (t : Fin cfg0.N) (r : Fin 2048) (j : Fin 256) : ((cfg0.win 8).blk t).view.emb (ix2 r j) = (ix2 r (col t j) : S2048x2816.Idx) := by
  funext a; apply Fin.ext
  match a with
  | ⟨0, _⟩ => exact win0_8.rect_emb_val_of_index_zero t 0 ((by decide +kernel : ∀ t : Fin grid0.N, win0_8.index t 0 = 0) t) (ix2 r j)
  | ⟨1, _⟩ =>
    refine (win0_8.rect_emb_val t (ix2 r j) 1).trans ?_
    rw [(by decide +kernel : ∀ t : Fin grid0.N, win0_8.index t 1 * win0_8.size 1 = t.val * 256) t]; rfl

theorem emb_6 (t : Fin cfg0.N) (j : Fin 256) (k : Fin 1024) : ((cfg0.win 6).blk t).view.emb (ix2 j k) = (ix2 (col t j) k : S2816x1024.Idx) := by
  funext a; apply Fin.ext
  match a with
  | ⟨0, _⟩ =>
    refine (win0_6.rect_emb_val t (ix2 j k) 0).trans ?_
    rw [(by decide +kernel : ∀ t : Fin grid0.N, win0_6.index t 0 * win0_6.size 0 = t.val * 256) t]; rfl
  | ⟨1, _⟩ => exact win0_6.rect_emb_val_of_index_zero t 1 ((by decide +kernel : ∀ t : Fin grid0.N, win0_6.index t 1 = 0) t) (ix2 j k)

theorem emb_10 (t : Fin cfg0.N) (j : Fin 256) (k : Fin 1024) : ((cfg0.win 10).blk t).view.emb (ix2 j k) = (ix2 (col t j) k : S2816x1024.Idx) := by
  funext a; apply Fin.ext
  match a with
  | ⟨0, _⟩ =>
    refine (win0_10.rect_emb_val t (ix2 j k) 0).trans ?_
    rw [(by decide +kernel : ∀ t : Fin grid0.N, win0_10.index t 0 * win0_10.size 0 = t.val * 256) t]; rfl
  | ⟨1, _⟩ => exact win0_10.rect_emb_val_of_index_zero t 1 ((by decide +kernel : ∀ t : Fin grid0.N, win0_10.index t 1 = 0) t) (ix2 j k)

theorem emb_9 (t : Fin cfg0.N) (p : Fin 2) (k : Fin 1024) (j : Fin 256) : ((cfg0.win 9).blk t).view.emb (ix3 p k j) = (ix3 p k (col t j) : S2x1024x2816.Idx) := by
  funext a; apply Fin.ext
  match a with
  | ⟨0, _⟩ => exact win0_9.rect_emb_val_of_index_zero t 0 ((by decide +kernel : ∀ t : Fin grid0.N, win0_9.index t 0 = 0) t) (ix3 p k j)
  | ⟨1, _⟩ => exact win0_9.rect_emb_val_of_index_zero t 1 ((by decide +kernel : ∀ t : Fin grid0.N, win0_9.index t 1 = 0) t) (ix3 p k j)
  | ⟨2, _⟩ =>
    refine (win0_9.rect_emb_val t (ix3 p k j) 2).trans ?_
    rw [(by decide +kernel : ∀ t : Fin grid0.N, win0_9.index t 2 * win0_9.size 2 = t.val * 256) t]; rfl

/-! ### The input blocks -/

theorem iblk_0 (t : Fin cfg0.N) (r : Fin 2048) (k : Fin 1024) : iblk m c 0 t (ix2 r k) = V m c main_arg0 (ix2 r k) := by
  show V m c main_arg0 (((cfg0.win 0).blk t).view.emb (ix2 r k)) = _
  rw [emb_0]

theorem iblk_1 (t : Fin cfg0.N) (r : Fin 2048) (k : Fin 1024) : iblk m c 1 t (ix2 r k) = V m c main_v6 (ix2 r k) := by
  show V m c main_v6 (((cfg0.win 1).blk t).view.emb (ix2 r k)) = _
  rw [emb_1]

theorem iblk_3 (t : Fin cfg0.N) (r : Fin 2048) (k : Fin 1024) : iblk m c 3 t (ix2 r k) = V m c main_v7 (ix2 r k) := by
  show V m c main_v7 (((cfg0.win 3).blk t).view.emb (ix2 r k)) = _
  rw [emb_3]

theorem iblk_2 (t : Fin cfg0.N) (r : Fin 1) (k : Fin 1024) : iblk m c 2 t (ix2 r k) = V m c main_arg1 (ix2 r k) := by
  show V m c main_arg1 (((cfg0.win 2).blk t).view.emb (ix2 r k)) = _
  rw [emb_2]

theorem iblk_4 (t : Fin cfg0.N) (r : Fin 2048) (j : Fin 256) : iblk m c 4 t (ix2 r j) = V m c main_v8 (ix2 r (col t j)) := by
  show V m c main_v8 (((cfg0.win 4).blk t).view.emb (ix2 r j)) = _
  rw [emb_4]

theorem iblk_5 (t : Fin cfg0.N) (r : Fin 2048) (j : Fin 256) : iblk m c 5 t (ix2 r j) = V m c main_v9 (ix2 r (col t j)) := by
  show V m c main_v9 (((cfg0.win 5).blk t).view.emb (ix2 r j)) = _
  rw [emb_5]

theorem iblk_6 (t : Fin cfg0.N) (j : Fin 256) (k : Fin 1024) : iblk m c 6 t (ix2 j k) = V m c main_v10 (ix2 (col t j) k) := by
  show V m c main_v10 (((cfg0.win 6).blk t).view.emb (ix2 j k)) = _
  rw [emb_6]

/-! ### The functions that the result arrays hold -/

/-- The scaled cotangent, and the cotangent of the product's left factor. -/
abbrev ctV : Mat 2048 1024 := ctS (V m c main_arg0) (V m c main_arg1)
abbrev duV : Mat 2048 2816 := duS (ctV m c) (V m c main_v10)
/-- The five results. -/
abbrev daG : Mat 2048 2816 := daS (duV m c) (V m c main_v8) (V m c main_v9)
abbrev dbG : Mat 2048 2816 := dbS (duV m c) (V m c main_v8)
abbrev dwiG : (⟨3, ![2, 1024, 2816]⟩ : Shape).Idx → EReal := dwiS (V m c main_v7) (daG m c) (dbG m c)
abbrev dwoG : Mat 2816 1024 := dwoS (ctV m c) (V m c main_v8) (V m c main_v9)
abbrev dgG : Mat 1 1024 := dgS (V m c main_arg0) (V m c main_v6)

/-! ### One block -/

theorem doV_apply (r : Fin 2048) (k : Fin 1024) : doV m c (ix2 r k) = ctV m c (ix2 r k) := by
  unfold doV
  rw [pay3_apply, iblk_0, iblk_2]; rfl

theorem daV_apply (t : Fin cfg0.N) (r : Fin 2048) (j : Fin 256) : daV m c t (ix2 r j) = daG m c (ix2 r (col t j)) := by
  unfold daV
  rw [pay11_apply, iblk_4, iblk_5]
  simp only [doV_apply, iblk_6]
  rfl

theorem dbV_apply (t : Fin cfg0.N) (r : Fin 2048) (j : Fin 256) : dbV m c t (ix2 r j) = dbG m c (ix2 r (col t j)) := by
  unfold dbV
  rw [pay12_apply, iblk_4]
  simp only [doV_apply, iblk_6]
  rfl

theorem dwoV_apply (t : Fin cfg0.N) (j : Fin 256) (k : Fin 1024) : dwoV m c t (ix2 j k) = dwoG m c (ix2 (col t j) k) := by
  unfold dwoV
  rw [pay13_apply]
  simp only [doV_apply, iblk_4, iblk_5]
  rfl

theorem dgV_apply (k : Fin 1024) : dgV m c (ix2 0 k) = dgG m c (ix2 0 k) := by
  unfold dgV
  rw [pay4_apply]
  simp only [iblk_0, iblk_1]
  rfl

/-- The two pieces of the block of the input weights' gradient. -/
theorem dwiBlk_zero (h : Vec Ideal S2048x1024 .bf16) (za zb : Vec Ideal S2048x256 .bf16) (k : Fin 1024) (j : Fin 256) :
    dwiBlk h za zb (ix3 0 k j) = ∑ r : Fin 2048, h (ix2 r k) * za (ix2 r j) := by
  unfold dwiBlk
  have e : (Rect.unit (s := S2x1024x256) ![0, 0, 0] S1x1024x256.size inb_S2x1024x256_S1x1024x256_0_0_0).emb (ix3 0 k j) = ix3 0 k j := by
    funext a; apply Fin.ext
    match a with
    | ⟨0, _⟩ => rfl
    | ⟨1, _⟩ => show 0 + 1 * k.val = k.val; omega
    | ⟨2, _⟩ => show 0 + 1 * j.val = j.val; omega
  rw [View.canon_cons_of_not_mem]
  · refine (congrArg _ e.symm).trans ?_
    rw [View.canon_cons_emb]
    exact pay1_apply h za k j
  · rw [Rect.mem_set_unit]
    intro hh
    have := (hh 0).1
    exact absurd this (by show ¬ (1 ≤ 0); omega)

theorem dwiBlk_one (h : Vec Ideal S2048x1024 .bf16) (za zb : Vec Ideal S2048x256 .bf16) (k : Fin 1024) (j : Fin 256) :
    dwiBlk h za zb (ix3 1 k j) = ∑ r : Fin 2048, h (ix2 r k) * zb (ix2 r j) := by
  unfold dwiBlk
  have e : (Rect.unit (s := S2x1024x256) ![1, 0, 0] S1x1024x256.size inb_S2x1024x256_S1x1024x256_1_0_0).emb (ix3 0 k j) = ix3 1 k j := by
    funext a; apply Fin.ext
    match a with
    | ⟨0, _⟩ => rfl
    | ⟨1, _⟩ => show 0 + 1 * k.val = k.val; omega
    | ⟨2, _⟩ => show 0 + 1 * j.val = j.val; omega
  refine (congrArg _ e.symm).trans ?_
  rw [View.canon_cons_emb]
  exact pay2_apply h zb k j

theorem dwiV_apply (t : Fin cfg0.N) (p : Fin 2) (k : Fin 1024) (j : Fin 256) : dwiV m c t (ix3 p k j) = dwiG m c (ix3 p k (col t j)) := by
  unfold dwiV
  match p with
  | ⟨0, _⟩ =>
    refine (dwiBlk_zero _ _ _ k j).trans ?_
    simp only [iblk_3, daV_apply]
    rfl
  | ⟨1, _⟩ =>
    refine (dwiBlk_one _ _ _ k j).trans ?_
    simp only [iblk_3, dbV_apply]
    rfl

/-! ### The arrays -/

theorem flushed_7 (t : Fin cfg0.N) : (dats m 0 c).flushed 7 t = ((cfg0.win 7).blk t).view.read (Elt Ideal) (daG m c) := by
  show (cfg0.win 7).cut (grid0.coords t) ((dats m 0 c).after 7 t) = _
  rw [after_7]
  refine funext fun (y : S2048x256.Idx) => ?_
  show daV m c t y = daG m c (((cfg0.win 7).blk t).view.emb y)
  obtain ⟨p, q, rfl⟩ : ∃ (p : Fin 2048) (q : Fin 256), y = ix2 p q := ⟨y 0, y 1, eq_ix2 y⟩
  rw [emb_7]
  exact daV_apply m c t _ _

theorem arr_7 : (dats m 0 c).arrAt 7 cfg0.N = daG m c :=
  (dats m 0 c).arrAt_eq_of_cover 7 (daG m c) (fun t _ => flushed_7 m c t) fun (i : S2048x2816.Idx) => by
    obtain ⟨t, j, h⟩ := col_surj (i 1)
    refine ⟨t, flush0_7 t, ?_⟩
    have e : ((cfg0.win 7).blk t).view.emb (ix2 (i 0) j) = i := (emb_7 t (i 0) j).trans (by rw [h]; exact (eq_ix2 i).symm)
    exact e ▸ View.emb_mem_set _ _

theorem flushed_8 (t : Fin cfg0.N) : (dats m 0 c).flushed 8 t = ((cfg0.win 8).blk t).view.read (Elt Ideal) (dbG m c) := by
  show (cfg0.win 8).cut (grid0.coords t) ((dats m 0 c).after 8 t) = _
  rw [after_8]
  refine funext fun (y : S2048x256.Idx) => ?_
  show dbV m c t y = dbG m c (((cfg0.win 8).blk t).view.emb y)
  obtain ⟨p, q, rfl⟩ : ∃ (p : Fin 2048) (q : Fin 256), y = ix2 p q := ⟨y 0, y 1, eq_ix2 y⟩
  rw [emb_8]
  exact dbV_apply m c t _ _

theorem arr_8 : (dats m 0 c).arrAt 8 cfg0.N = dbG m c :=
  (dats m 0 c).arrAt_eq_of_cover 8 (dbG m c) (fun t _ => flushed_8 m c t) fun (i : S2048x2816.Idx) => by
    obtain ⟨t, j, h⟩ := col_surj (i 1)
    refine ⟨t, flush0_8 t, ?_⟩
    have e : ((cfg0.win 8).blk t).view.emb (ix2 (i 0) j) = i := (emb_8 t (i 0) j).trans (by rw [h]; exact (eq_ix2 i).symm)
    exact e ▸ View.emb_mem_set _ _

theorem flushed_9 (t : Fin cfg0.N) : (dats m 0 c).flushed 9 t = ((cfg0.win 9).blk t).view.read (Elt Ideal) (dwiG m c) := by
  show (cfg0.win 9).cut (grid0.coords t) ((dats m 0 c).after 9 t) = _
  rw [after_9]
  refine funext fun (y : S2x1024x256.Idx) => ?_
  show dwiV m c t y = dwiG m c (((cfg0.win 9).blk t).view.emb y)
  obtain ⟨p, q, s, rfl⟩ : ∃ (p : Fin 2) (q : Fin 1024) (s : Fin 256), y = ix3 p q s := ⟨y 0, y 1, y 2, eq_ix3 y⟩
  rw [emb_9]
  exact dwiV_apply m c t _ _ _

theorem arr_9 : (dats m 0 c).arrAt 9 cfg0.N = dwiG m c :=
  (dats m 0 c).arrAt_eq_of_cover 9 (dwiG m c) (fun t _ => flushed_9 m c t) fun (i : S2x1024x2816.Idx) => by
    obtain ⟨t, j, h⟩ := col_surj (i 2)
    refine ⟨t, flush0_9 t, ?_⟩
    have e : ((cfg0.win 9).blk t).view.emb (ix3 (i 0) (i 1) j) = i := (emb_9 t (i 0) (i 1) j).trans (by rw [h]; exact (eq_ix3 i).symm)
    exact e ▸ View.emb_mem_set _ _

theorem flushed_10 (t : Fin cfg0.N) : (dats m 0 c).flushed 10 t = ((cfg0.win 10).blk t).view.read (Elt Ideal) (dwoG m c) := by
  show (cfg0.win 10).cut (grid0.coords t) ((dats m 0 c).after 10 t) = _
  rw [after_10]
  refine funext fun (y : S256x1024.Idx) => ?_
  show dwoV m c t y = dwoG m c (((cfg0.win 10).blk t).view.emb y)
  obtain ⟨p, q, rfl⟩ : ∃ (p : Fin 256) (q : Fin 1024), y = ix2 p q := ⟨y 0, y 1, eq_ix2 y⟩
  rw [emb_10]
  exact dwoV_apply m c t _ _

theorem arr_10 : (dats m 0 c).arrAt 10 cfg0.N = dwoG m c :=
  (dats m 0 c).arrAt_eq_of_cover 10 (dwoG m c) (fun t _ => flushed_10 m c t) fun (i : S2816x1024.Idx) => by
    obtain ⟨t, j, h⟩ := col_surj (i 0)
    refine ⟨t, flush0_10 t, ?_⟩
    have e : ((cfg0.win 10).blk t).view.emb (ix2 j (i 1)) = i := (emb_10 t j (i 1)).trans (by rw [h]; exact (eq_ix2 i).symm)
    exact e ▸ View.emb_mem_set _ _

theorem flushed_11 (t : Fin cfg0.N) : (dats m 0 c).flushed 11 t = ((cfg0.win 11).blk t).view.read (Elt Ideal) (dgG m c) := by
  show (cfg0.win 11).cut (grid0.coords t) ((dats m 0 c).after 11 t) = _
  rw [after_11]
  refine funext fun (y : S1x1024.Idx) => ?_
  show dgV m c y = dgG m c (((cfg0.win 11).blk t).view.emb y)
  obtain ⟨p, q, rfl⟩ : ∃ (p : Fin 1) (q : Fin 1024), y = ix2 p q := ⟨y 0, y 1, eq_ix2 y⟩
  rw [emb_11]
  exact (by rw [show p = 0 from Subsingleton.elim _ _]; exact dgV_apply m c _)

theorem arr_11 : (dats m 0 c).arrAt 11 cfg0.N = dgG m c :=
  (dats m 0 c).arrAt_eq_of_cover 11 (dgG m c) (fun t _ => flushed_11 m c t) fun (i : S1x1024.Idx) => by
    refine ⟨⟨10, by have : cfg0.N = 11 := N_0; omega⟩, (flush0_11 _).mpr rfl, ?_⟩
    have e := (emb_11 ⟨10, by have : cfg0.N = 11 := N_0; omega⟩ (i 0) (i 1)).trans (eq_ix2 i).symm
    exact e ▸ View.emb_mem_set _ _

/-- The run with the five results read: each array is the mathematics of the arrays that the host code prepared. -/
theorem run (ρ : Dev nD → PrngReg) : θ_run defs (onTc (τ := τ) (main (F := Ideal))) ⟨m, fun _ => 0, ρ⟩ fun r => ∀ c : Dev nD,
      r.2.mem ((c.tc : Thread nD τ).loc main_v11_0) = daG m c
      ∧ r.2.mem ((c.tc : Thread nD τ).loc main_v11_1) = dbG m c
      ∧ r.2.mem ((c.tc : Thread nD τ).loc main_v11_2) = dwiG m c
      ∧ r.2.mem ((c.tc : Thread nD τ).loc main_v11_3) = dwoG m c
      ∧ r.2.mem ((c.tc : Thread nD τ).loc main_v11_4) = dgG m c :=
  (θ_run defs _ _).mono (fun _ h c => ⟨((h c).1 7).trans (arr_7 m c), ((h c).1 8).trans (arr_8 m c), ((h c).1 9).trans (arr_9 m c),
    ((h c).1 10).trans (arr_10 m c), ((h c).1 11).trans (arr_11 m c)⟩) (run_main m ρ)

end Cert.FfnBwd

end
-- ==== Proof.FfnRef.lean ====
/- The five gradients of the reference, element by element: the same mathematics as the kernel's arrays. -/
module

public import proofs.«01_k».proof.Proof.Gen.ReferenceIdeal.Read
public import proofs.«01_k».proof.Proof.FfnSpec

@[expose] public section

set_option maxRecDepth 16384

noncomputable section

namespace Cert.FfnBwd.Ref

open Cert.ReferenceIdeal Cert.ReferenceIdeal.Gen Cert.ReferenceIdeal.Read
open Idealize.ShloMosaic

variable (x0 : Mat 2048 1024) (x1 : Mat 1 1024) (x2 : Mat 2048 1024) (x3 : Mat 1024 5632) (x4 : Mat 2816 1024)

/-- The scaled cotangent. -/
theorem ct : val_main_v11 (F := Ideal) x0 x1 = ctS x0 x1 := by
  funext i
  obtain ⟨r, k, rfl⟩ : ∃ (r : Fin 2048) (k : Fin 1024), i = ix2 r k := ⟨i 0, i 1, eq_ix2 i⟩
  unfold val_main_v11 val_main_v10 val_main_v4 val_main_v3 val_main_cst
  pointwise
  rfl

/-- The logistic function, which the reference writes as a quotient. -/
theorem lg (i : S2048x2816.Idx) : val_main_v5_2 (F := Ideal) x2 x3 i = Ideal.logistic (val_main_v1 (F := Ideal) x2 x3 i) := by
  unfold val_main_v5_2 val_main_call0_v4 val_main_call0_v3 val_main_call0_v2 val_main_call0_v1 val_main_call0_v0 val_main_call0_cst val_main_call0_cst_0
  generalize val_main_v1 (F := Ideal) x2 x3 = a
  obtain ⟨r, k, rfl⟩ : ∃ (r : Fin 2048) (k : Fin 2816), i = ix2 r k := ⟨i 0, i 1, eq_ix2 i⟩
  pointwise
  rfl

theorem du : val_main_v17 (F := Ideal) x0 x1 x4 = duS (ctS x0 x1) x4 := by
  funext i
  rw [val_main_v17_apply, ct]
  unfold duS
  refine Finset.sum_congr rfl fun k _ => ?_
  congr 2 <;> (funext a; match a with | ⟨0, _⟩ => rfl | ⟨1, _⟩ => rfl)

theorem db : val_main_v18 (F := Ideal) x0 x1 x2 x3 x4 = dbS (duS (ctS x0 x1) x4) (val_main_v1 (F := Ideal) x2 x3) := by
  funext i
  rw [val_main_v18_apply, val_main_v5_0_apply, lg, du]
  exact mul_comm _ _

/-- The cotangent of the half under the SiLU: the reference adds the two products of the product rule. -/
theorem da_sum (i : S2048x2816.Idx) : val_main_v20 (F := Ideal) x0 x1 x2 x3 x4 i
    = duS (ctS x0 x1) x4 i * val_main_v2 (F := Ideal) x2 x3 i * Ideal.logistic (val_main_v1 (F := Ideal) x2 x3 i)
      + val_main_v1 (F := Ideal) x2 x3 i * (duS (ctS x0 x1) x4 i * val_main_v2 (F := Ideal) x2 x3 i)
        * (Ideal.logistic (val_main_v1 (F := Ideal) x2 x3 i) * (oneE - Ideal.logistic (val_main_v1 (F := Ideal) x2 x3 i))) := by
  have h6 : val_main_call0_v6 (F := Ideal) i = oneE := by
    rw [val_main_call0_v6_apply, val_main_call0_cst_1_apply]; rfl
  rw [val_main_v20_apply, val_main_call1_v1_apply, val_main_call1_v2_apply, val_main_call1_v0_apply, val_main_v19_apply, val_main_v5_1_apply,
    val_main_call0_v7_apply, lg, du, h6]
  rfl

theorem dwo : val_main_v35 (F := Ideal) x0 x1 x2 x3 = dwoS (ctS x0 x1) (val_main_v1 (F := Ideal) x2 x3) (val_main_v2 (F := Ideal) x2 x3) := by
  funext i
  rw [val_main_v35_apply, val_main_v16_apply, val_main_v15_apply, ct]
  unfold dwoS
  refine Finset.sum_congr rfl fun k _ => ?_
  rw [val_main_v6_apply, val_main_v5_0_apply, lg]
  have e1 : lidx_main_v15 (idx_main_v16 i) k = ix2 k (i 1) := by funext a; match a with | ⟨0, _⟩ => rfl | ⟨1, _⟩ => rfl
  have e2 : ridx_main_v15 (idx_main_v16 i) k = ix2 k (i 0) := by funext a; match a with | ⟨0, _⟩ => rfl | ⟨1, _⟩ => rfl
  rw [e1, e2]
  exact mul_comm _ _

theorem dg : val_main_v22 (F := Ideal) x0 x2 x3 x4 = dgS x0 (val_main_v7 (F := Ideal) x2 x3 x4) := by
  funext i
  rw [val_main_v22_apply, val_main_v14_apply, val_main_v13_apply]
  unfold dgS
  rw [show val_main_v21 (F := Ideal) i = halfE by rw [val_main_v21_apply, val_main_cst_1_apply]; rfl]
  refine congrArg (halfE * ·) ?_
  refine (congrArg (· + _) (Ideal.ofBits_zero_f32 : val_main_cst_0 (F := Ideal) _ = 0)).trans ((zero_add _).trans ?_)
  refine Finset.sum_congr rfl fun r _ => ?_
  rw [val_main_v12_apply]
  have e : idx_main_v13 (idx_main_v14 i) r = ix2 r (i 1) := by
    funext a
    match a with
    | ⟨0, _⟩ => rfl
    | ⟨1, _⟩ =>
      have h0 : (i 0).val < 1 := (i 0).isLt
      exact Fin.ext (by show (i 0).val * 1024 + (i 1).val = (i 1).val; omega)
  rw [e]
  exact mul_comm (G := EReal) _ _

theorem dwi : val_main_v34 (F := Ideal) x0 x1 x2 x3 x4
    = dwiS x2 (val_main_v20 (F := Ideal) x0 x1 x2 x3 x4) (val_main_v18 (F := Ideal) x0 x1 x2 x3 x4) := by
  funext i
  obtain ⟨p, k, j, rfl⟩ : ∃ (p : Fin 2) (k : Fin 1024) (j : Fin 2816), i = ix3 p k j := ⟨i 0, i 1, i 2, eq_ix3 i⟩
  have hz : ∀ (n : Fin 5632) (r : Fin 2048), val_main_v23 (F := Ideal) x0 x1 x2 x3 x4 (ix2 r n)
      = if h : n.val < 2816 then val_main_v20 (F := Ideal) x0 x1 x2 x3 x4 (ix2 r ⟨n.val, h⟩)
        else val_main_v18 (F := Ideal) x0 x1 x2 x3 x4 (ix2 r ⟨n.val - 2816, by have := n.isLt; omega⟩) := by
    intro n r
    unfold val_main_v23
    generalize val_main_v20 (F := Ideal) x0 x1 x2 x3 x4 = A
    generalize val_main_v18 (F := Ideal) x0 x1 x2 x3 x4 = B
    pointwise
  have ht : ∀ (n : Fin 5632) (k : Fin 1024), val_main_v25 (F := Ideal) x0 x1 x2 x3 x4 (ix2 k n)
      = ∑ r : Fin 2048, x2 (ix2 r k) * val_main_v23 (F := Ideal) x0 x1 x2 x3 x4 (ix2 r n) := by
    intro n k
    rw [val_main_v25_apply, val_main_v24_apply]
    refine Finset.sum_congr rfl fun r _ => ?_
    have e1 : lidx_main_v24 (idx_main_v25 (ix2 k n)) r = ix2 r n := by funext a; match a with | ⟨0, _⟩ => rfl | ⟨1, _⟩ => rfl
    have e2 : ridx_main_v24 (idx_main_v25 (ix2 k n)) r = ix2 r k := by funext a; match a with | ⟨0, _⟩ => rfl | ⟨1, _⟩ => rfl
    rw [e1, e2]
    exact mul_comm _ _
  have hs : val_main_v34 (F := Ideal) x0 x1 x2 x3 x4 (ix3 p k j)
      = if p.val = 0 then val_main_v25 (F := Ideal) x0 x1 x2 x3 x4 (ix2 k ⟨j.val, by have := j.isLt; omega⟩)
        else val_main_v25 (F := Ideal) x0 x1 x2 x3 x4 (ix2 k ⟨2816 + j.val, by have := j.isLt; omega⟩) := by
    unfold val_main_v34 val_main_v31 val_main_v29 val_main_v30 val_main_v27 val_main_v28
    generalize val_main_v25 (F := Ideal) x0 x1 x2 x3 x4 = T
    pointwise
    by_cases h : p.val = 0
    · rw [dif_pos (by omega), if_pos h]
    · rw [dif_neg (by omega), if_neg h]
  rw [hs, ht, ht]
  unfold dwiS
  show _ = if p.val = 0 then dwS x2 _ (ix2 k j) else dwS x2 _ (ix2 k j)
  by_cases h : p.val = 0
  · rw [if_pos h, if_pos h]
    refine Finset.sum_congr rfl fun r _ => ?_
    rw [hz, dif_pos j.isLt]
    rfl
  · rw [if_neg h, if_neg h]
    refine Finset.sum_congr rfl fun r _ => ?_
    rw [hz, dif_neg (by show ¬ (2816 + j.val < 2816); omega)]
    congr 3
    exact Fin.ext (by show 2816 + j.val - 2816 = j.val; omega)

end Cert.FfnBwd.Ref

end
-- ==== Proof.FfnReal.lean ====
/- Extended reals that are real numbers, and the one identity of the feed-forward backward pass that needs them. -/
module

public import proofs.«01_k».proof.Proof.FfnSpec

@[expose] public section

noncomputable section

namespace Cert.FfnBwd

open Idealize.ShloMosaic

/-- The extended real is a real number. -/
def IsR (x : EReal) : Prop := ∃ r : ℝ, x = (r : EReal)

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.add {x y : EReal} (hx : IsR x) (hy : IsR y) : IsR (x + y) := by
  obtain ⟨a, rfl⟩ := hx
  obtain ⟨b, rfl⟩ := hy
  exact ⟨a + b, (EReal.coe_add a b).symm⟩

/-- A finite sum of real numbers is a real number. -/
theorem IsR.sum {ι : Type} (s : Finset ι) (f : ι → EReal) (h : ∀ i, IsR (f i)) : IsR (∑ i ∈ s, f i) :=
  Finset.sum_induction f IsR (fun _ _ => IsR.add) ⟨0, rfl⟩ fun i _ => h i

/-- An extended real whose absolute value is below infinity is a real number. -/
theorem IsR.of_abs {x : EReal} (h : max x (-x) < ⊤) : IsR x := by
  refine ⟨x.toReal, (EReal.coe_toReal (fun e => ?_) (fun e => ?_)).symm⟩
  · rw [e] at h; simp at h
  · rw [e] at h; simp at h

/-- The derivative of SiLU times a cotangent: one product, or the sum of the product rule's two. On real numbers they agree. -/
theorem silu_rule {u b a : EReal} (hu : IsR u) (hb : IsR b) (ha : IsR a) :
    u * b * (Ideal.logistic a * (oneE + a * (oneE - Ideal.logistic a)))
      = u * b * Ideal.logistic a + a * (u * b) * (Ideal.logistic a * (oneE - Ideal.logistic a)) := by
  obtain ⟨u, rfl⟩ := hu
  obtain ⟨b, rfl⟩ := hb
  obtain ⟨a, rfl⟩ := ha
  rw [Ideal.logistic_coe, one_lit, ← EReal.coe_one]
  norm_cast
  ring

end Cert.FfnBwd

end
-- ==== Proof.FfnEq.lean ====
/- The equation: the arrays that the kernel ends with are the reference's values, where the arguments are real numbers. -/
module

public import proofs.«01_k».proof.Proof.FfnArrays
public import proofs.«01_k».proof.Proof.FfnRef
public import proofs.«01_k».proof.Proof.FfnReal

@[expose] public section

set_option maxRecDepth 16384

noncomputable section

namespace Cert.FfnBwd

open Idealize.ShloMosaic Idealize.ShloMosaic.TcCoe
open Idealize.SL.Sem
open Cert.ReferenceIdeal.Read

section Args

variable {x0 : Mat 2048 1024} {x1 : Mat 1 1024} {x2 : Mat 2048 1024} {x3 : Mat 1024 5632} {x4 : Mat 2816 1024}

/-- The forward product's halves are real numbers. -/
theorem isR_z (h2 : ∀ i, IsR (x2 i)) (h3 : ∀ i, IsR (x3 i)) (i : Cert.ReferenceIdeal.S2048x5632.Idx) : IsR (val_main_v0 (F := Ideal) x2 x3 i) := by
  rw [val_main_v0_apply]
  exact IsR.sum _ _ fun k => (h2 _).mul (h3 _)

theorem isR_du (h0 : ∀ i, IsR (x0 i)) (h1 : ∀ i, IsR (x1 i)) (h4 : ∀ i, IsR (x4 i)) (i : (⟨2, ![2048, 2816]⟩ : Shape).Idx) :
    IsR (duS (ctS x0 x1) x4 i) :=
  IsR.sum _ _ fun k => (((show IsR halfE from ⟨_, half_lit⟩).mul (h1 _)).mul (h0 _)).mul (h4 _)

/-- The cotangent of the half under the SiLU. -/
theorem da_eq (h0 : ∀ i, IsR (x0 i)) (h1 : ∀ i, IsR (x1 i)) (h2 : ∀ i, IsR (x2 i)) (h3 : ∀ i, IsR (x3 i)) (h4 : ∀ i, IsR (x4 i)) :
    daS (duS (ctS x0 x1) x4) (val_main_v1 (F := Ideal) x2 x3) (val_main_v2 (F := Ideal) x2 x3) = val_main_v20 (F := Ideal) x0 x1 x2 x3 x4 := by
  funext i
  rw [Ref.da_sum]
  refine silu_rule (isR_du h0 h1 h4 i) ?_ ?_
  · rw [val_main_v2_apply]; exact isR_z h2 h3 _
  · rw [val_main_v1_apply]; exact isR_z h2 h3 _

end Args

open Cert.KernelIdeal Cert.KernelIdeal.Gen

variable (m : (ℓ : Loc nD τ sig) → Buf (Elt Ideal) ℓ) (c : Dev nD)

/-- The five arguments of a device. -/
abbrev x0 : Mat 2048 1024 := m ((c.tc : Thread nD τ).loc main_arg0)
abbrev x1 : Mat 1 1024 := m ((c.tc : Thread nD τ).loc main_arg1)
abbrev x2 : Mat 2048 1024 := m ((c.tc : Thread nD τ).loc main_arg2)
abbrev x3 : Mat 1024 5632 := m ((c.tc : Thread nD τ).loc main_arg3)
abbrev x4 : Mat 2816 1024 := m ((c.tc : Thread nD τ).loc main_arg4)

/-- The arrays that the host code prepares are the reference's forward values. -/
theorem V_a : V m c main_v8 = val_main_v1 (F := Ideal) (x2 m c) (x3 m c) := (V_v8 m c).trans rfl
theorem V_b : V m c main_v9 = val_main_v2 (F := Ideal) (x2 m c) (x3 m c) := (V_v9 m c).trans rfl
theorem V_o : V m c main_v6 = val_main_v7 (F := Ideal) (x2 m c) (x3 m c) (x4 m c) := (V_v6 m c).trans rfl
theorem V_h : V m c main_v7 = x2 m c := (V_v7 m c).trans rfl
theorem V_wo : V m c main_v10 = x4 m c := (V_v10 m c).trans rfl

theorem ctV_eq : ctV m c = ctS (x0 m c) (x1 m c) := by
  unfold ctV; rw [V_main_arg0, V_main_arg1]

theorem duV_eq : duV m c = duS (ctS (x0 m c) (x1 m c)) (x4 m c) := by
  unfold duV; rw [ctV_eq, V_wo]

theorem dbG_eq : dbG m c = val_main_v33 (F := Ideal) (x0 m c) (x1 m c) (x2 m c) (x3 m c) (x4 m c) := by
  refine Eq.trans ?_ (Ref.db _ _ _ _ _).symm
  unfold dbG; rw [duV_eq, V_a]

theorem dwoG_eq : dwoG m c = val_main_v35 (F := Ideal) (x0 m c) (x1 m c) (x2 m c) (x3 m c) := by
  rw [Ref.dwo]; unfold dwoG; rw [ctV_eq, V_a, V_b]

theorem dgG_eq : dgG m c = val_main_v22 (F := Ideal) (x0 m c) (x2 m c) (x3 m c) (x4 m c) := by
  rw [Ref.dg]; unfold dgG; rw [V_main_arg0, V_o]

variable (h0 : ∀ i, IsR (x0 m c i)) (h1 : ∀ i, IsR (x1 m c i)) (h2 : ∀ i, IsR (x2 m c i)) (h3 : ∀ i, IsR (x3 m c i)) (h4 : ∀ i, IsR (x4 m c i))
include h0 h1 h2 h3 h4

theorem daG_eq : daG m c = val_main_v32 (F := Ideal) (x0 m c) (x1 m c) (x2 m c) (x3 m c) (x4 m c) := by
  refine Eq.trans ?_ (da_eq h0 h1 h2 h3 h4)
  unfold daG; rw [duV_eq, V_a, V_b]

theorem dwiG_eq : dwiG m c = val_main_v34 (F := Ideal) (x0 m c) (x1 m c) (x2 m c) (x3 m c) (x4 m c) := by
  rw [Ref.dwi]
  unfold dwiG
  rw [daG_eq m c h0 h1 h2 h3 h4, dbG_eq, V_h]
  rfl

end Cert.FfnBwd

end
-- ==== Proof.FfnKernel.lean ====
/- The kernel's frame on words. The run is proved once, over any float values, and the two programs have the same text. -/
module

public import proofs.«01_k».proof.Defs
public import proofs.«01_k».proof.Proof.FfnFrame
public import proofs.«01_k».proof.Proof.Gen.Kernel

@[expose] public section

noncomputable section

namespace Cert.FfnBwd

open Idealize.ShloMosaic Idealize.SL.Sem

attribute [local instance] Cert.Kernel.Gen.facts

theorem body_text : @Cert.Kernel.cc0_ffn_bwd_main Bits _ _ = @Cert.KernelIdeal.cc0_ffn_bwd_main Bits _ _ := rfl

theorem bodies_text : Cert.Kernel.defs₀ (F := Bits) = Cert.KernelIdeal.defs₀ (F := Bits) := by
  refine congrArg Defs.onTc ?_
  funext l x
  match l, x with
  | ⟨0, _⟩, (t, s) => rfl

theorem defs_text : Cert.Kernel.defs (F := Bits) = Cert.KernelIdeal.defs (F := Bits) := congrArg (Pipeline.defs _) bodies_text

theorem frame_kernel : Cert.quiescent_Kernel := by
  intro m ρ _
  rw [defs_text]
  exact (θ_run Cert.KernelIdeal.defs _ _).mono (fun _ h => h) (frame (F := Bits) m ρ)

end Cert.FfnBwd

end
-- ==== Proof.FfnPre.lean ====
/- The precondition read: every element of the five arguments is a real number. -/
module

public import proofs.«01_k».proof.Pre_finite
public import proofs.«01_k».proof.Proof.FfnReal
public import Idealize.ShloMosaic.Lib.ReduceAll
public import Idealize.ShloMosaic.Lib.Affine

@[expose] public section

set_option maxRecDepth 16384

noncomputable section

namespace Cert.FfnBwd

open Cert.Pre_finite
open Idealize.ShloMosaic

/-- The shape relations of the precondition. -/
theorem preFacts : Cert.Pre_finite.Facts := by
  constructor <;> decide

theorem inf_lit : Ideal.ofBits .f32 0x7F800000#32 = (⊤ : EReal) := by
  simp [Ideal.ofBits, Ideal.ieee]

/-- A comparison with infinity that is 1 says that the element is a real number. -/
theorem isR_of_cmp {s : Shape} {x : FVec Ideal s .f32} {hb : (⟨0, ![]⟩ : Shape).BroadcastsInDim s (![] : Fin 0 → Fin s.rank)} {i : s.Idx}
    (h : cmpf .olt (Host.absf x) (broadcastInDim s ![] hb (constant (F := Ideal) ⟨0, ![]⟩ .f32 0x7F800000#32)) i = 1#1) : IsR (x i) := by
  have h' : Ideal.cmp .olt (max (x i) (-(x i))) (Ideal.ofBits .f32 0x7F800000#32) = 1#1 := h
  rw [inf_lit] at h'
  refine IsR.of_abs ?_
  by_contra hc
  simp [Ideal.cmp, hc] at h'

theorem finite_args [Facts] {x0 : FVec Ideal S2048x1024 .f32} {x1 : FVec Ideal S1x1024 .f32} {x2 : FVec Ideal S2048x1024 .f32}
    {x3 : FVec Ideal S1024x5632 .f32} {x4 : FVec Ideal S2816x1024 .f32} {j : S_.Idx} (h : fn (F := Ideal) x0 x1 x2 x3 x4 j = 1#1) :
    (∀ i, IsR (x0 i)) ∧ (∀ i, IsR (x1 i)) ∧ (∀ i, IsR (x2 i)) ∧ (∀ i, IsR (x3 i)) ∧ (∀ i, IsR (x4 i)) := by
  unfold fn fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton S_.Idx := ⟨fun a b => funext fun k => k.elim0⟩
  exact ⟨fun i => isR_of_cmp (Host.reduce_andi_all _ _ _ _ j h0 i), fun i => isR_of_cmp (Host.reduce_andi_all _ _ _ _ j h1 i),
    fun i => isR_of_cmp (Host.reduce_andi_all _ _ _ _ j h2 i), fun i => isR_of_cmp (Host.reduce_andi_all _ _ _ _ j h3 i),
    fun i => isR_of_cmp (Host.reduce_andi_all _ _ _ _ j h4 i)⟩

end Cert.FfnBwd

end
-- ==== Proof.Whole.lean ====
/- Buffers that are stored and loaded whole, and rows of a buffer with two axes: what is read back. -/
module

public import Idealize.ShloMosaic.Lib.Claim
public import Idealize.ShloMosaic.Lib.Pointwise
public import Idealize.ShloMosaic.Lib.VecWindow
public import Idealize.ShloMosaic.Lib.Pipeline.Value

@[expose] public section

noncomputable section

namespace Cert.Whole

open Idealize.ShloMosaic Idealize.SL.Sem

theorem zero2 : (![0, 0] : Fin 2 → ℕ) = fun _ => 0 := by decide
theorem zero3 : (![0, 0, 0] : Fin 3 → ℕ) = fun _ => 0 := by decide

variable {F : FTy → Type} [FloatOps F] {sig : RefSig} {κ : Kind} {sp : Space} {a b n : ℕ} {e : EltTy}

/-- A buffer with two axes whose last store was of its whole extent reads as what was stored. -/
theorem stored2 (v : View sig κ sp ⟨2, ![a, b]⟩ e) (f : v.ty.Contents (Elt F))
    (inb : ∀ x, (![0, 0] : Fin 2 → ℕ) x + (![a, b] : Fin 2 → ℕ) x ≤ (![a, b] : Fin 2 → ℕ) x) (w : (⟨2, ![a, b]⟩ : Shape).Idx → Elt F e)
    (L : List (View.Piece (Elt F) ⟨2, ![a, b]⟩ e)) :
    v.read (Elt F) (v.writes (Elt F) f (⟨Rect.unit (s := ⟨2, ![a, b]⟩) ![0, 0] ![a, b] inb, w⟩ :: L)) = w :=
  View.read_writes_full v f inb w L

/-- A load of it, whole, reads its contents. -/
theorem load2 {r : Memref sig κ sp ⟨2, ![a, b]⟩ e} (h : r.IsWhole)
    (inb : ∀ x, (![0, 0] : Fin 2 → ℕ) x + (![a, b] : Fin 2 → ℕ) x ≤ (![a, b] : Fin 2 → ℕ) x) (X : (⟨2, ![a, b]⟩ : Shape).Idx → Elt F e) :
    View.readAt (Elt F) r.view (Rect.unit (s := ⟨2, ![a, b]⟩) ![0, 0] ![a, b] inb).toLoadRect (h.unread X) = X := by
  refine (View.readAt_eq_ld r.view _ _).trans ?_
  rw [h.read_unread]
  exact View.ld_unit_zero zero2 inb X

/-- A load of it after it was stored, whole. -/
theorem reload2 (v : View sig κ sp ⟨2, ![a, b]⟩ e)
    (inb : ∀ x, (![0, 0] : Fin 2 → ℕ) x + (![a, b] : Fin 2 → ℕ) x ≤ (![a, b] : Fin 2 → ℕ) x) (w : (⟨2, ![a, b]⟩ : Shape).Idx → Elt F e)
    (L : List (View.Piece (Elt F) ⟨2, ![a, b]⟩ e)) :
    v.readCov ((⟨Rect.unit (s := ⟨2, ![a, b]⟩) ![0, 0] ![a, b] inb, w⟩ : View.Piece (Elt F) ⟨2, ![a, b]⟩ e) :: L)
      (Rect.unit (s := ⟨2, ![a, b]⟩) ![0, 0] ![a, b] inb).toLoadRect = w :=
  View.readCov_full v inb inb w L

/-- A load of the whole of a buffer with three axes. -/
theorem load3 {r : Memref sig κ sp ⟨3, ![n, a, b]⟩ e} (h : r.IsWhole)
    (inb : ∀ x, (![0, 0, 0] : Fin 3 → ℕ) x + (![n, a, b] : Fin 3 → ℕ) x ≤ (![n, a, b] : Fin 3 → ℕ) x) (X : (⟨3, ![n, a, b]⟩ : Shape).Idx → Elt F e) :
    View.readAt (Elt F) r.view (Rect.unit (s := ⟨3, ![n, a, b]⟩) ![0, 0, 0] ![n, a, b] inb).toLoadRect (h.unread X) = X := by
  refine (View.readAt_eq_ld r.view _ _).trans ?_
  rw [h.read_unread]
  exact View.ld_unit_zero zero3 inb X

/-- Rows `o` to `o + n - 1` of an array with two axes. -/
def rows {Val : Type} (X : (⟨2, ![a, b]⟩ : Shape).Idx → Val) (o n : ℕ) (h : o + n ≤ a) : (⟨2, ![n, b]⟩ : Shape).Idx → Val :=
  fun y => X (ix2 ⟨o + (y 0).val, by have : (y 0).val < n := (y 0).isLt; omega⟩ (y 1))

theorem rows_apply {Val : Type} (X : (⟨2, ![a, b]⟩ : Shape).Idx → Val) (o n : ℕ) (h : o + n ≤ a) (i : Fin n) (j : Fin b) :
    rows X o n h (ix2 i j) = X (ix2 ⟨o + i.val, by omega⟩ j) := rfl

/-- A load of one row reads that row. -/
theorem load_row {o : ℕ} (ho : o + 1 ≤ a) {r : Memref sig κ sp ⟨2, ![a, b]⟩ e} (h : r.IsWhole)
    (inb : ∀ x, (![o, 0] : Fin 2 → ℕ) x + (![1, b] : Fin 2 → ℕ) x ≤ (![a, b] : Fin 2 → ℕ) x) (X : (⟨2, ![a, b]⟩ : Shape).Idx → Elt F e) :
    View.readAt (Elt F) r.view (Rect.unit (s := ⟨2, ![a, b]⟩) ![o, 0] ![1, b] inb).toLoadRect (h.unread X) = rows X o 1 ho := by
  refine (View.readAt_eq_ld r.view _ _).trans ?_
  rw [h.read_unread]
  funext y
  show X _ = X _
  congr 1
  funext x; apply Fin.ext
  match x with
  | ⟨0, _⟩ => show o + 1 * (y 0).val = o + (y 0).val; omega
  | ⟨1, _⟩ => show 0 + 1 * (y 1).val = (y 1).val; omega

end Cert.Whole

end
-- ==== Proof.InRun.lean ====
/- The input gradient kernel's body, run once per case: what each buffer holds after the body, in terms of what its
   operands hold. -/
module

public import proofs.«01_k».proof.Proof.Gen.Kernel2Ideal.Frame
public import proofs.«01_k».proof.Proof.Gen.Kernel2Ideal.Skeleton
public import proofs.«01_k».proof.Proof.Whole
public import Idealize.ShloMosaic.Lib.Claim
public import Idealize.ShloMosaic.Lib.Pipeline.Value

@[expose] public section

set_option maxRecDepth 16384

noncomputable section

namespace Cert.FfnIn

open Cert.Kernel2Ideal Cert.Kernel2Ideal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three rows that a block of rows adds to the result of rows, put over what it held. -/
def addRows (X : Vec F S8x1024 .f32) (a b d : FVec F S1x1024 .f32) : Vec F S8x1024 .f32 :=
  VecWindow.put (VecWindow.put (VecWindow.put X ![0, 0] ![1, 1024] (k0_pay6 a (rows X 0 1 (by decide))))
    ![1, 0] ![1, 1024] (k0_pay7 b (rows X 1 1 (by decide))))
    ![2, 0] ![1, 1024] (k0_pay8 d (rows X 2 1 (by decide)))

/-- The rows that the second pass reads of the sums kept from the first. -/
def kept (i : grid0.Coords) (hc4 : k0_cond4 i = 1#1) (X : Vec F S2048x1024 .f32) : Vec F S512x1024 .f32 :=
  VecWindow.window X (k0_off3 i) S512x1024.size (k0_off3_inb i hc4)

/-- A window of one row is that row. -/
theorem window_row (X : Vec F S8x1024 .f32) (o : ℕ) (ho : o + 1 ≤ 8)
    (inb : ∀ x, (![o, 0] : Fin 2 → ℕ) x + (![1, 1024] : Fin 2 → ℕ) x ≤ S8x1024.size x) :
    VecWindow.window X ![o, 0] ![1, 1024] inb = rows X o 1 ho := by
  funext y
  refine congrArg X (funext fun x => Fin.ext ?_)
  match x with
  | ⟨0, _⟩ => show o + 1 * (y 0).val = o + (y 0).val; omega
  | ⟨1, _⟩ => show 0 + 1 * (y 1).val = (y 1).val; omega

set_option maxHeartbeats 2000000 in
/-- The body at the first point: it clears the rows and keeps the first block's sum. -/
theorem run_first (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S3x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S8x1024 .f32) (harg11 : arg11.IsWhole) (arg12 : Memref sig .tc .vmem S2048x1024 .f32) (harg12 : arg12.IsWhole)
    (hc1 : k0_cond1 i = 1#1) (hc2 : k0_cond2 i = 1#1) (hc3 : ¬ (k0_cond3 i = 1#1)) (hc4 : ¬ (k0_cond4 i = 1#1)) (x2 : Vec F S512x1408 .bf16) (x3 : Vec F S512x1408 .bf16) (x4 : Vec F S1x1024x1408 .bf16) (x5 : Vec F S1x1024x1408 .bf16) (x12 : Vec F S2048x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg12 fullShare x12 ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg12 fullShare (VecWindow.put x12 (k0_off1 i) S512x1024.size (k0_pay3 x2 x4 x3 x5)) ∗ owns (c : Thread nD τ) arg11 fullShare (k0_pay1 (F := F))) -∗ K ⟨⟩))
      ⊢ wp frame (wpE (defs₀ (F := F)) Variants.none c none) E (cc0_ffn_bwd_in i arg2 harg2 arg3 harg3 arg4 harg4 arg5 harg5 arg6 harg6 arg7 harg7 arg8 harg8 arg9 harg9 arg10 harg10 arg11 harg11 arg12 harg12) K := by
  simp only [cc0_ffn_bwd_in_eq_skeleton]; unfold cc0_ffn_bwd_in_skel
  simp only [k0_part1_eq_skeleton]
  unfold owns
  iintro ⟨⟨%f2, %hf2, H2⟩, ⟨%f3, %hf3, H3⟩, ⟨%f4, %hf4, H4⟩, ⟨%f5, %hf5, H5⟩, ⟨%f12, %hf12, H12⟩, ⟨%d11, %f11, -, H11⟩, Hk⟩
  obtain rfl := harg2.eq_unread hf2; obtain rfl := harg3.eq_unread hf3; obtain rfl := harg4.eq_unread hf4; obtain rfl := harg5.eq_unread hf5; obtain rfl := harg12.eq_unread hf12
  sl_exec (disch := first | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H12]
  · iexists _; isplitr; swap; · iexact H12
    ipureintro; refine (View.read_writes_cons_put _ _ _ _ _ rfl).trans ?_; sl_unfold_words; simp only [View.writes_nil, harg12.read_unread, load2, load3]; try rfl
  iexists _; isplitr; swap; · iexact H11
  ipureintro; first | (refine (stored2 _ _ _ _ _).trans ?_; try (sl_unfold_words; simp only [load2, load3, load_row (by decide : 0 + 1 ≤ 3), load_row (by decide : 1 + 1 ≤ 3), load_row (by decide : 2 + 1 ≤ 3), reload2]; try rfl)) | skip

set_option maxHeartbeats 2000000 in
/-- The body at a later point of the first pass: it keeps the block's sum. -/
theorem run_early (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S3x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S8x1024 .f32) (harg11 : arg11.IsWhole) (arg12 : Memref sig .tc .vmem S2048x1024 .f32) (harg12 : arg12.IsWhole)
    (hc1 : ¬ (k0_cond1 i = 1#1)) (hc2 : k0_cond2 i = 1#1) (hc3 : ¬ (k0_cond3 i = 1#1)) (hc4 : ¬ (k0_cond4 i = 1#1)) (x2 : Vec F S512x1408 .bf16) (x3 : Vec F S512x1408 .bf16) (x4 : Vec F S1x1024x1408 .bf16) (x5 : Vec F S1x1024x1408 .bf16) (x12 : Vec F S2048x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg12 fullShare x12
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg12 fullShare (VecWindow.put x12 (k0_off1 i) S512x1024.size (k0_pay3 x2 x4 x3 x5))) -∗ K ⟨⟩))
      ⊢ wp frame (wpE (defs₀ (F := F)) Variants.none c none) E (cc0_ffn_bwd_in i arg2 harg2 arg3 harg3 arg4 harg4 arg5 harg5 arg6 harg6 arg7 harg7 arg8 harg8 arg9 harg9 arg10 harg10 arg11 harg11 arg12 harg12) K := by
  simp only [cc0_ffn_bwd_in_eq_skeleton]; unfold cc0_ffn_bwd_in_skel
  simp only [k0_part1_eq_skeleton]
  unfold owns
  iintro ⟨⟨%f2, %hf2, H2⟩, ⟨%f3, %hf3, H3⟩, ⟨%f4, %hf4, H4⟩, ⟨%f5, %hf5, H5⟩, ⟨%f12, %hf12, H12⟩, Hk⟩
  obtain rfl := harg2.eq_unread hf2; obtain rfl := harg3.eq_unread hf3; obtain rfl := harg4.eq_unread hf4; obtain rfl := harg5.eq_unread hf5; obtain rfl := harg12.eq_unread hf12
  sl_exec (disch := first | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; · iexact H12
  ipureintro; refine (View.read_writes_cons_put _ _ _ _ _ rfl).trans ?_; sl_unfold_words; simp only [View.writes_nil, harg12.read_unread, load2, load3]; try rfl

set_option maxHeartbeats 2000000 in
/-- The body at a point of the second pass: it ends the block's sum, forms the gradient of the block of the input, and
    adds the block's part to each of the three rows. -/
theorem run_late (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S3x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S8x1024 .f32) (harg11 : arg11.IsWhole) (arg12 : Memref sig .tc .vmem S2048x1024 .f32) (harg12 : arg12.IsWhole)
    (hc1 : ¬ (k0_cond1 i = 1#1)) (hc2 : ¬ (k0_cond2 i = 1#1)) (hc3 : ¬ (k0_cond3 i = 1#1)) (hc4 : k0_cond4 i = 1#1) (x2 : Vec F S512x1408 .bf16) (x3 : Vec F S512x1408 .bf16) (x4 : Vec F S1x1024x1408 .bf16) (x5 : Vec F S1x1024x1408 .bf16) (x6 : Vec F S512x1024 .f32) (x7 : Vec F S512x1024 .f32) (x8 : Vec F S3x1024 .f32) (x9 : Vec F S1x1024 .f32) (x12 : Vec F S2048x1024 .f32) (x11 : Vec F S8x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg12 fullShare x12 ∗ owns (c : Thread nD τ) arg11 fullShare x11 ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg12 fullShare x12 ∗ owns (c : Thread nD τ) arg11 fullShare (addRows x11 (k0_pay12 (k0_pay2 x2 x4 x3 x5) (kept i hc4 x12)) (k0_pay13 (k0_pay2 x2 x4 x3 x5) (kept i hc4 x12) x6 x9) (k0_pay15 (k0_pay2 x2 x4 x3 x5) (kept i hc4 x12) x6 (rows x8 1 1 (by decide)))) ∗ owns (c : Thread nD τ) arg10 fullShare (k0_pay5 (k0_pay16 (k0_pay2 x2 x4 x3 x5) (kept i hc4 x12) x6 x9 (rows x8 1 1 (by decide))) x7)) -∗ K ⟨⟩))
      ⊢ wp frame (wpE (defs₀ (F := F)) Variants.none c none) E (cc0_ffn_bwd_in i arg2 harg2 arg3 harg3 arg4 harg4 arg5 harg5 arg6 harg6 arg7 harg7 arg8 harg8 arg9 harg9 arg10 harg10 arg11 harg11 arg12 harg12) K := by
  simp only [cc0_ffn_bwd_in_eq_skeleton]; unfold cc0_ffn_bwd_in_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f12, %hf12, H12⟩, ⟨%f11, %hf11, H11⟩, ⟨%d10, %f10, -, H10⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg11.eq_unread hf11
  sl_exec (disch := first | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H12]
  · iexists _; isplitr; · ipureintro; exact harg12.read_unread _
    iexact H12
  isplitl [H11]
  · iexists _; isplitr; swap; · iexact H11
    ipureintro; refine (View.read_writes_cons_put _ _ _ _ _ rfl).trans ?_; refine (congrArg (fun z => VecWindow.put z _ _ _) ((View.read_writes_cons_put _ _ _ _ _ rfl).trans (congrArg (fun z => VecWindow.put z _ _ _) (View.read_writes_cons_put _ _ _ _ _ rfl)))).trans ?_; sl_unfold_words; simp only [load2, load3, load_row (by decide : 1 + 1 ≤ 3), load_row (by decide : 0 + 1 ≤ 8), load_row (by decide : 1 + 1 ≤ 8), load_row (by decide : 2 + 1 ≤ 8)]; simp only [View.writes_nil, harg11.read_unread]; unfold kept; (conv_rhs => rw [← harg12.read_unread x12]); rfl
  iexists _; isplitr; swap; · iexact H10
  ipureintro; refine (stored2 _ _ _ _ _).trans ?_; sl_unfold_words; simp only [load2, load3, load_row (by decide : 1 + 1 ≤ 3), load_row (by decide : 0 + 1 ≤ 8), load_row (by decide : 1 + 1 ≤ 8), load_row (by decide : 2 + 1 ≤ 8)]; unfold kept; (conv_rhs => rw [← harg12.read_unread x12]); rfl

end Cert.FfnIn

end
-- ==== Proof.InFrame.lean ====
/- The input gradient kernel's launch: what each buffer holds at each point, the body's obligation, and the run of the
   whole program. The grid makes two passes over the four blocks of rows. The first pass keeps each block's part of the
   sum in the scratch buffer; the second ends each block's sum, stores the block of the gradient, and adds the block's
   part to the result of rows, whose buffer stays in place and is written back at the last point. -/
module

public import proofs.«01_k».proof.Proof.InRun
public import Idealize.ShloMosaic.Lib.Claim
public import Idealize.ShloMosaic.Lib.Pipeline.Value

@[expose] public section

set_option maxRecDepth 16384

noncomputable section

namespace Cert.FfnIn

open Cert.Kernel2Ideal Cert.Kernel2Ideal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev scratch : Memref sig .tc .vmem S2048x1024 .f32 := Memref.whole cc0_scratch0

/-- The rows are cleared at the first point. -/
theorem cond1_iff : ∀ t : Fin cfg0.N, k0_cond1 (grid0.coords t) = 1#1 ↔ t.val = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [k0_cond1, e0, e1]; word_cmp
   : ∀ t : Fin grid0.N, k0_cond1 (grid0.coords t) = 1#1 ↔ t.val = 0)

/-- The first pass. -/
theorem cond2_iff : ∀ t : Fin cfg0.N, k0_cond2 (grid0.coords t) = 1#1 ↔ t.val < 4 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [k0_cond2, e0]; word_cmp
   : ∀ t : Fin grid0.N, k0_cond2 (grid0.coords t) = 1#1 ↔ t.val < 4)

/-- There is no pass between the first and the last. -/
theorem cond3_iff : ∀ t : Fin cfg0.N, k0_cond3 (grid0.coords t) = 1#1 ↔ False :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    have h2 : t.val / 4 % 2 < 2 := Nat.mod_lt _ (by decide)
    simp only [k0_cond3, e0]
    generalize t.val / 4 % 2 = k at h2
    interval_cases k <;> decide
   : ∀ t : Fin grid0.N, k0_cond3 (grid0.coords t) = 1#1 ↔ False)

/-- The second pass. -/
theorem cond4_iff : ∀ t : Fin cfg0.N, k0_cond4 (grid0.coords t) = 1#1 ↔ 4 ≤ t.val :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [k0_cond4, e0]; word_cmp
   : ∀ t : Fin grid0.N, k0_cond4 (grid0.coords t) = 1#1 ↔ 4 ≤ t.val)

/-- Where a point's block of rows starts. -/
theorem off1_eq : ∀ t : Fin cfg0.N, k0_off1 (grid0.coords t) = ![512 * (t.val % 4), 0] :=
  (fun t => by
    have e1 : (grid0.coords t 1).val = t.val / 1 % 4 := Pipeline.Grid.coords_val t 1 (by decide) rfl
    have h4 : t.val % 4 < 4 := Nat.mod_lt _ (by decide)
    simp only [k0_off1, e1, Nat.div_one]
    generalize t.val % 4 = k at h4
    interval_cases k <;> rfl
   : ∀ t : Fin grid0.N, k0_off1 (grid0.coords t) = ![512 * (t.val % 4), 0])

/-- Where a point's block of rows starts. -/
theorem off3_eq : ∀ t : Fin cfg0.N, k0_off3 (grid0.coords t) = ![512 * (t.val % 4), 0] :=
  (fun t => by
    have e1 : (grid0.coords t 1).val = t.val / 1 % 4 := Pipeline.Grid.coords_val t 1 (by decide) rfl
    have h4 : t.val % 4 < 4 := Nat.mod_lt _ (by decide)
    simp only [k0_off3, e1, Nat.div_one]
    generalize t.val % 4 = k at h4
    interval_cases k <;> rfl
   : ∀ t : Fin grid0.N, k0_off3 (grid0.coords t) = ![512 * (t.val % 4), 0])

theorem busy_8 (t : Fin cfg0.N) (h : 4 ≤ t.val) : cfg0.idle 8 (cfg0.grid.coords t) = false := by
  have := (cond4_iff t).mpr h
  show (!decide (k0_cond4 (grid0.coords t) = 1#1)) = false
  simp [this]

theorem idle_8 (t : Fin cfg0.N) (h : t.val < 4) : cfg0.idle 8 (cfg0.grid.coords t) = true := by
  have := mt (cond4_iff t).mp (by omega)
  show (!decide (k0_cond4 (grid0.coords t) = 1#1)) = true
  simp [this]

theorem busy_9 (t : Fin cfg0.N) (h : t.val = 0 ∨ 4 ≤ t.val) : cfg0.idle 9 (cfg0.grid.coords t) = false := by
  have h1 := cond1_iff t
  have h4 := cond4_iff t
  show (!(k0_cond1 (grid0.coords t) == 1#1) && !(k0_cond4 (grid0.coords t) == 1#1)) = false
  rcases h with h | h
  · have := h1.mpr h; simp [this]
  · have := h4.mpr h; simp [this]

theorem idle_9 (t : Fin cfg0.N) (h : t.val ≠ 0 ∧ t.val < 4) : cfg0.idle 9 (cfg0.grid.coords t) = true := by
  have h1 := mt (cond1_iff t).mp h.1
  have h4 := mt (cond4_iff t).mp (by omega)
  show (!(k0_cond1 (grid0.coords t) == 1#1) && !(k0_cond4 (grid0.coords t) == 1#1)) = true
  simp [h1, h4]

/-- The gradient's buffer is not written back in the first pass. -/
theorem noflush_8 : ∀ t : Fin cfg0.N, t.val < 4 → (cfg0.win 8).flush t = false :=
  (by decide : ∀ t : Fin grid0.N, t.val < 4 → win0_8.flush t = false)

/-- The point of the first pass on the same block of rows. -/
def early (t : Fin cfg0.N) : Fin cfg0.N := ⟨t.val - 4, Nat.lt_of_le_of_lt (Nat.sub_le _ _) t.isLt⟩

/-- The part of a block's sum that a point forms, and what the first pass keeps of it. -/
def partV (c : Dev nD) (t : Fin cfg0.N) : FVec F S512x1024 .f32 := k0_pay2 (iblk m c 0 t) (iblk m c 2 t) (iblk m c 1 t) (iblk m c 3 t)
def accV (c : Dev nD) (t : Fin cfg0.N) : Vec F S512x1024 .f32 := k0_pay3 (iblk m c 0 t) (iblk m c 2 t) (iblk m c 1 t) (iblk m c 3 t)

/-- What a point of the second pass adds to the three rows, and the block of the gradient that it stores. -/
def shV (c : Dev nD) (t : Fin cfg0.N) : FVec F S1x1024 .f32 := k0_pay12 (partV m c t) (accV m c (early t))
def scV (c : Dev nD) (t : Fin cfg0.N) : FVec F S1x1024 .f32 := k0_pay13 (partV m c t) (accV m c (early t)) (iblk m c 4 t) (iblk m c 7 t)
def gnV (c : Dev nD) (t : Fin cfg0.N) : FVec F S1x1024 .f32 := k0_pay15 (partV m c t) (accV m c (early t)) (iblk m c 4 t) (rows (iblk m c 6 t) 1 1 (by decide))
def dxV (c : Dev nD) (t : Fin cfg0.N) : Vec F S512x1024 .f32 :=
  k0_pay5 (k0_pay16 (partV m c t) (accV m c (early t)) (iblk m c 4 t) (iblk m c 7 t) (rows (iblk m c 6 t) 1 1 (by decide))) (iblk m c 5 t)

/-- The result of rows after so many points of the second pass. -/
def rowsV (c : Dev nD) : ℕ → Vec F S8x1024 .f32
  | 0 => k0_pay1
  | k + 1 => if h : 4 + k < cfg0.N then addRows (rowsV c k) (shV m c ⟨4 + k, h⟩) (scV m c ⟨4 + k, h⟩) (gnV m c ⟨4 + k, h⟩) else rowsV c k

theorem rowsV_late (c : Dev nD) (t : Fin cfg0.N) (h : 4 ≤ t.val) :
    rowsV m c (t.val - 3) = addRows (rowsV m c (t.val - 4)) (shV m c t) (scV m c t) (gnV m c t) := by
  obtain ⟨k, hk⟩ : ∃ k, t.val = 4 + k := ⟨t.val - 4, by omega⟩
  have hlt : 4 + k < cfg0.N := hk ▸ t.isLt
  obtain rfl : t = ⟨4 + k, hlt⟩ := Fin.ext hk
  have e3 : 4 + k - 3 = k + 1 := by omega
  have e4 : 4 + k - 4 = k := by omega
  dsimp only
  rw [e3, e4]
  exact dif_pos hlt

/-- The scratch buffer holds the kept sums of the first blocks of rows. -/
def Holds (c : Dev nD) (n : ℕ) (d : Vec F S2048x1024 .f32) : Prop :=
  ∀ (k : Fin cfg0.N) (inb : ∀ a, (![512 * (k.val % 4), 0] : Fin 2 → ℕ) a + S512x1024.size a ≤ S2048x1024.size a), k.val < n → k.val < 4 →
    VecWindow.window d ![512 * (k.val % 4), 0] S512x1024.size inb = accV m c k

theorem holds_put (c : Dev nD) (t : Fin cfg0.N) (h : t.val < 4) (d : Vec F S2048x1024 .f32) (hd : Holds m c t.val d) :
    Holds m c (t.val + 1) (VecWindow.put d (k0_off1 (grid0.coords t)) S512x1024.size (accV m c t)) := by
  intro k inb hk h4
  rw [off1_eq]
  by_cases e : k = t
  · subst e
    exact VecWindow.window_put_same _ _ _ _ _
  · have hne : k.val ≠ t.val := fun h' => e (Fin.ext h')
    refine (VecWindow.window_put_of_disjoint _ _ _ _ _ _ _ 0 ?_).trans (hd k inb (by omega) h4)
    show 512 * (k.val % 4) + 512 ≤ 512 * (t.val % 4) ∨ 512 * (t.val % 4) + 512 ≤ 512 * (k.val % 4)
    omega

theorem window_congr (d : Vec F S2048x1024 .f32) {o o' : Fin 2 → ℕ} (e : o = o') (h : ∀ a, o a + S512x1024.size a ≤ S2048x1024.size a)
    (h' : ∀ a, o' a + S512x1024.size a ≤ S2048x1024.size a) :
    (VecWindow.window d o S512x1024.size h : Vec F S512x1024 .f32) = VecWindow.window d o' S512x1024.size h' := by
  subst e; rfl

theorem holds_kept (c : Dev nD) (t : Fin cfg0.N) (h : 4 ≤ t.val) (hc : k0_cond4 (grid0.coords t) = 1#1) (d : Vec F S2048x1024 .f32) (hd : Holds m c t.val d) :
    kept (grid0.coords t) hc d = accV m c (early t) := by
  have hN : t.val < 8 := Nat.lt_of_lt_of_eq t.isLt N_0
  have e : (t.val - 4) % 4 = t.val % 4 := by omega
  have eo : k0_off3 (grid0.coords t) = ![512 * ((early t).val % 4), 0] := by rw [off3_eq]; show _ = ![512 * ((t.val - 4) % 4), 0]; rw [e]
  have hi := k0_off3_inb (grid0.coords t) hc
  refine Eq.trans ?_ (hd (early t) (eo ▸ hi) (by show t.val - 4 < t.val; omega) (by show t.val - 4 < 4; omega))
  exact window_congr d eo _ _

/-- What the scratch buffer holds before a point. -/
def scratchAt (c : Dev nD) (n : ℕ) : sProp 𝕄 :=
  iprop(∃ d, ⌜Holds m c n d⌝ ∗ owns (c : Thread nD τ) scratch fullShare d)

/-- The proof data: the arrays as the region finds them, what each buffer holds after each point, the scratch buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dxV m c t
    | ⟨9, _⟩ => rowsV m c (t.val - 3)
  Φ t := iprop(scratchAt m c t.val ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = dxV m c t := by dsimp only [dats]
theorem after_9 (c : Dev nD) (t : Fin cfg0.N) : (dats m 0 c).after 9 t = rowsV m c (t.val - 3) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- After the first point the buffer of rows holds what the points so far have added. -/
theorem before_9 (c : Dev nD) (d) : ∀ (n : ℕ) (hn : n + 1 < cfg0.N), (dats m 0 c).before 9 ⟨n + 1, hn⟩ d = rowsV m c (n + 1 - 4) := by
  have hN : cfg0.N = 8 := N_0
  intro n
  induction n with
  | zero =>
    intro hn
    rw [Dat.before_of_pos _ _ _ (by simp) rfl]
    rw [if_neg (by
      intro h; have h' := (flush0_9 _).mp h; simp at h')]
    unfold Dat.left
    rw [busy_9 _ (Or.inl (by simp))]
    dsimp only
    unfold Dat.kept
    exact after_9 m c _
  | succ k ih =>
    intro hn
    rw [Dat.before_of_pos _ _ _ (by simp) rfl]
    rw [if_neg (by
      intro h; have h' := (flush0_9 _).mp h; simp at h'; omega)]
    unfold Dat.left
    by_cases hk : k + 1 < 4
    · rw [idle_9 _ ⟨by simp, by simpa using hk⟩]
      refine (ih (by omega)).trans ?_
      congr 1; omega
    · rw [busy_9 _ (Or.inr (by show 4 ≤ k + 1; omega))]
      dsimp only
      unfold Dat.kept
      refine (after_9 m c _).trans ?_
      congr 1

theorem before_9_pos (c : Dev nD) (t : Fin cfg0.N) (h : t.val ≠ 0) (d) : (dats m 0 c).before 9 t d = rowsV m c (t.val - 4) := by
  obtain ⟨n, hn⟩ : ∃ n, t.val = n + 1 := ⟨t.val - 1, by omega⟩
  have hlt : n + 1 < cfg0.N := hn ▸ t.isLt
  obtain rfl : t = ⟨n + 1, hlt⟩ := Fin.ext hn
  exact before_9 m c d n hlt

/-- What the body is handed at a point, and what it returns. -/
def bodyPre (c : Dev nD) (t : Fin cfg0.N) : sProp 𝕄 :=
  iprop((dats m 0 c).Φ t.castSucc
    ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ
    ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (dats m 0 c).leavesExact 8 t
    ∗ (dats m 0 c).leavesExact 9 t)

theorem leaves_8 (c : Dev nD) (t : Fin cfg0.N) (h : 4 ≤ t.val) :
    (dats m 0 c).leavesExact 8 t = (owns (c : Thread nD τ) (ms8 t) fullShare (dxV m c t) : sProp 𝕄) := by
  unfold Dat.leavesExact; rw [busy_8 t h]; dsimp only; rw [after_8]

theorem leaves_9 (c : Dev nD) (t : Fin cfg0.N) (h : t.val = 0 ∨ 4 ≤ t.val) :
    (dats m 0 c).leavesExact 9 t = (owns (c : Thread nD τ) (ms9 t) fullShare (rowsV m c (t.val - 3)) : sProp 𝕄) := by
  unfold Dat.leavesExact; rw [busy_9 t h]; dsimp only; rw [after_9]

theorem keeps_8 (c : Dev nD) (t : Fin cfg0.N) (h : t.val < 4) (d) :
    owns (c : Thread nD τ) (ms8 t) fullShare ((dats m 0 c).before 8 t d) ⊢ ((dats m 0 c).leavesExact 8 t : sProp 𝕄) := by
  rw [Dat.leavesExact_idle _ 8 t (idle_8 t h) (noflush_8 t h)]
  iintro H; iexists _; iexact H

theorem keeps_9 (c : Dev nD) (t : Fin cfg0.N) (h : t.val ≠ 0 ∧ t.val < 4) (d) :
    owns (c : Thread nD τ) (ms9 t) fullShare ((dats m 0 c).before 9 t d) ⊢ ((dats m 0 c).leavesExact 9 t : sProp 𝕄) := by
  have hf : ¬ (cfg0.win 9).flush t = true := fun hf => by have := (flush0_9 t).mp hf; omega
  rw [Dat.leavesExact_idle _ 9 t (idle_9 t h) (by simpa using hf)]
  iintro H; iexists _; iexact H

set_option maxHeartbeats 2000000 in
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.castSucc = iprop(scratchAt m c t.val ∗ (∃ r, prngReg c r)) from rfl,
    show (dats m 0 c).Φ t.succ = iprop(scratchAt m c (t.val + 1) ∗ (∃ r, prngReg c r)) from rfl,
    show (dats m 0 c).owesAt () t.succ = (dats m 0 c).owesAt () t.castSucc from rfl,
    after_0, after_1, after_2, after_3, after_4, after_5, after_6, after_7, leaves_9 m c t (Or.inl h0), show rowsV m c (t.val - 3) = k0_pay1 from by rw [h0]; rfl]
  unfold scratchAt
  iintro ⟨⟨⟨%ds, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H8 := (keeps_8 m c t (by omega) d8) $$ H8
  iapply (run_first c (grid0.coords t) _ _ _ _ _ _ _ _ _ _ _ _ _ _ _ _ _ _ _ _ _ _ ((cond1_iff t).mpr h0) ((cond2_iff t).mpr (by omega)) (fun h => (cond3_iff t).mp h) (fun h => by have := (cond4_iff t).mp h; omega) (iblk m c 0 t) (iblk m c 1 t) (iblk m c 2 t) (iblk m c 3 t) ds Set.univ _)
  isplitl [H0]; · iexact H0
  isplitl [H1]; · iexact H1
  isplitl [H2]; · iexact H2
  isplitl [H3]; · iexact H3
  isplitl [HS]; · iexact HS
  isplitl [H9]; · iexists _; iexact H9
  iintro ⟨H0, H1, H2, H3, HS, H9⟩
  isplitl [HS Hg]
  · isplitl [HS]
    · iexists _; isplitr; swap; · iexact HS
      ipureintro; exact holds_put m c t (by omega) ds hd
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
theorem sound_early (c : Dev nD) (t : Fin cfg0.N) (h0 : t.val ≠ 0 ∧ t.val < 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.castSucc = iprop(scratchAt m c t.val ∗ (∃ r, prngReg c r)) from rfl,
    show (dats m 0 c).Φ t.succ = iprop(scratchAt m c (t.val + 1) ∗ (∃ r, prngReg c r)) from rfl,
    show (dats m 0 c).owesAt () t.succ = (dats m 0 c).owesAt () t.castSucc from rfl,
    after_0, after_1, after_2, after_3, after_4, after_5, after_6, after_7]
  unfold scratchAt
  iintro ⟨⟨⟨%ds, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H8 := (keeps_8 m c t h0.2 d8) $$ H8
  ihave H9 := (keeps_9 m c t h0 d9) $$ H9
  iapply (run_early c (grid0.coords t) _ _ _ _ _ _ _ _ _ _ _ _ _ _ _ _ _ _ _ _ _ _ (fun h => h0.1 ((cond1_iff t).mp h)) ((cond2_iff t).mpr h0.2) (fun h => (cond3_iff t).mp h) (fun h => by have := (cond4_iff t).mp h; omega) (iblk m c 0 t) (iblk m c 1 t) (iblk m c 2 t) (iblk m c 3 t) ds Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS Hg]
  · isplitl [HS]
    · iexists _; isplitr; swap; · iexact HS
      ipureintro; exact holds_put m c t h0.2 ds hd
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
theorem sound_late (c : Dev nD) (t : Fin cfg0.N) (h0 : 4 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.castSucc = iprop(scratchAt m c t.val ∗ (∃ r, prngReg c r)) from rfl,
    show (dats m 0 c).Φ t.succ = iprop(scratchAt m c (t.val + 1) ∗ (∃ r, prngReg c r)) from rfl,
    show (dats m 0 c).owesAt () t.succ = (dats m 0 c).owesAt () t.castSucc from rfl,
    after_0, after_1, after_2, after_3, after_4, after_5, after_6, after_7, leaves_8 m c t h0, leaves_9 m c t (Or.inr h0), rowsV_late m c t h0]
  unfold scratchAt
  iintro ⟨⟨⟨%ds, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc := (cond4_iff t).mpr h0
  have ek := holds_kept m c t h0 hc ds hd
  rw [before_9_pos m c t (by omega)]
  unfold dxV shV scV gnV
  rw [← ek]
  unfold partV
  iapply (run_late c (grid0.coords t) _ _ _ _ _ _ _ _ _ _ _ _ _ _ _ _ _ _ _ _ _ _ (fun h => by have := (cond1_iff t).mp h; omega) (fun h => by have := (cond2_iff t).mp h; omega) (fun h => (cond3_iff t).mp h) hc (iblk m c 0 t) (iblk m c 1 t) (iblk m c 2 t) (iblk m c 3 t) (iblk m c 4 t) (iblk m c 5 t) (iblk m c 6 t) (iblk m c 7 t) ds (rowsV m c (t.val - 4)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [H9]; · iexact H9
  isplitl [H8]; · iexists _; iexact H8
  iintro ⟨H0, H1, H2, H3, H4, H5, H6, H7, HS, H9, H8⟩
  isplitl [HS Hg]
  · isplitl [HS]
    · iexists _; isplitr; swap; · iexact HS
      ipureintro; exact fun k inb _ h4 => hd k inb (by omega) h4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's obligation at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  by_cases h4 : 4 ≤ t.val
  · exact triple_restated (sound_late m c t h4) rfl .rfl fun _ => .rfl
  · by_cases h0 : t.val = 0
    · exact triple_restated (sound_first m c t h0) rfl .rfl fun _ => .rfl
    · exact triple_restated (sound_early m c t ⟨h0, by omega⟩) rfl .rfl fun _ => .rfl

/-- The scratch buffer and the generator's register, as the launch hands them over. -/
theorem launch_rest (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

set_option backward.isDefEq.respectTransparency.types false in
/-- The run: every execution ends, with the windows' arrays at what the proof data says and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by
      rw [launch_rest, show (dats m 0 c).Φ 0 = iprop(scratchAt m c 0 ∗ (∃ r, prngReg c r)) from rfl]
      unfold scratchAt
      iintro ⟨⟨%d, HS⟩, Hg⟩
      isplitl [HS]
      · iexists d; isplitr; swap; · iexact HS
        ipureintro; exact fun k _ h => absurd h (Nat.not_lt_zero _)
      iexact Hg)
    (hout := fun c => by
      rw [launch_rest, show (dats m 0 c).Φ (Fin.last cfg0.N) = iprop(scratchAt m c cfg0.N ∗ (∃ r, prngReg c r)) from rfl]
      unfold scratchAt
      iintro ⟨⟨%d, -, HS⟩, Hg⟩
      isplitl [HS]
      · iexists _; iexact HS
      iexact Hg)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the argument arrays unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnIn

end
-- ==== Proof.NormSpec.lean ====
/- The mathematics of the feed-forward block's forward pass, over the extended reals: each value at an index. -/
module

public import proofs.«01_k».proof.Proof.FfnSpec

@[expose] public section

noncomputable section

namespace Cert.FfnFwd

open Idealize.ShloMosaic Cert.FfnBwd

/-- The literals 1024, the row's length, and 10⁻⁶ as the programs hold it. -/
abbrev dimE : EReal := Ideal.ofBits .f32 0x44800000#32
abbrev epsE : EReal := Ideal.ofBits .f32 0x358637BD#32

/-- The reciprocal of a row's root mean square. -/
def rS {n : ℕ} (x : Mat n 1024) (r : Fin n) : EReal := Ideal.rsqrt (Ideal.div (∑ k : Fin 1024, x (ix2 r k) * x (ix2 r k)) dimE + epsE)

/-- The normed row, scaled by the gain, and modulated. -/
def hS {n : ℕ} (x : Mat n 1024) (md : Mat 3 1024) (g : Mat 1 1024) : Mat n 1024 := fun i =>
  x i * rS x (i 0) * g (ix2 0 (i 1)) * (1 + md (ix2 1 (i 1))) + md (ix2 0 (i 1))

/-- A normed row depends on that row alone. -/
theorem hS_row {n n' : ℕ} {x : Mat n 1024} {x' : Mat n' 1024} {r : Fin n} {r' : Fin n'} (h : ∀ k, x (ix2 r k) = x' (ix2 r' k))
    (md : Mat 3 1024) (g : Mat 1 1024) (k : Fin 1024) : hS x md g (ix2 r k) = hS x' md g (ix2 r' k) := by
  show x (ix2 r k) * Ideal.rsqrt (Ideal.div (∑ l : Fin 1024, x (ix2 r l) * x (ix2 r l)) dimE + epsE) * _ * _ + _
    = x' (ix2 r' k) * Ideal.rsqrt (Ideal.div (∑ l : Fin 1024, x' (ix2 r' l) * x' (ix2 r' l)) dimE + epsE) * _ * _ + _
  simp only [h]
  rfl

/-- The two halves of the product with the input weights. -/
def aS (h : Mat 2048 1024) (w : Mat 1024 5632) : Mat 2048 2816 := fun i =>
  ∑ k : Fin 1024, h (ix2 (i 0) k) * w (ix2 k ⟨(i 1).val, by have h : (i 1).val < 2816 := (i 1).isLt; omega⟩)
def bS (h : Mat 2048 1024) (w : Mat 1024 5632) : Mat 2048 2816 := fun i =>
  ∑ k : Fin 1024, h (ix2 (i 0) k) * w (ix2 k ⟨2816 + (i 1).val, by have h : (i 1).val < 2816 := (i 1).isLt; omega⟩)

/-- The SiLU of the first half times the second. -/
def uS (a b : Mat 2048 2816) : Mat 2048 2816 := fun i => a i * Ideal.logistic (a i) * b i

/-- The product with the output weights. -/
def oS (u : Mat 2048 2816) (wo : Mat 2816 1024) : Mat 2048 1024 := fun i => ∑ j : Fin 2816, u (ix2 (i 0) j) * wo (ix2 j (i 1))

/-- The block's result: the input plus half the gate times that product. -/
def xnS (x : Mat 2048 1024) (md : Mat 3 1024) (o : Mat 2048 1024) : Mat 2048 1024 := fun i => x i + halfE * md (ix2 2 (i 1)) * o i

/-- A sum over 2816 columns is the sum over the two blocks of 1408. -/
theorem sum_halves (f : Fin 2816 → EReal) :
    ∑ j : Fin 2816, f j = (∑ j : Fin 1408, f ⟨j.val, by omega⟩) + ∑ j : Fin 1408, f ⟨1408 + j.val, by omega⟩ :=
  Fin.sum_univ_add (a := 1408) (b := 1408) f

end Cert.FfnFwd

end
-- ==== Proof.InPay.lean ====
/- The input gradient kernel's arithmetic, element by element, over the extended reals. -/
module

public import proofs.«01_k».proof.Proof.InRun
public import proofs.«01_k».proof.Proof.NormSpec
public import Idealize.ShloMosaic.Lib.Pointwise

@[expose] public section

set_option maxRecDepth 16384

noncomputable section

namespace Cert.FfnIn

open Cert.Kernel2Ideal Cert.Kernel2Ideal.Gen Cert.Whole Cert.FfnBwd Cert.FfnFwd
open Idealize.ShloMosaic

theorem pay1_apply (p : Fin 8) (k : Fin 1024) : (k0_pay1 (F := Ideal)) (ix2 p k) = 0 := by
  unfold k0_pay1; pointwise

/-- A block's part of the product with the transposed weights. -/
theorem pay2_apply (da db : Vec Ideal S512x1408 .bf16) (wa wb : Vec Ideal S1x1024x1408 .bf16) (r : Fin 512) (k : Fin 1024) :
    k0_pay2 da wa db wb (ix2 r k) = (∑ j : Fin 1408, da (ix2 r j) * wa (ix3 0 k j)) + ∑ j : Fin 1408, db (ix2 r j) * wb (ix3 0 k j) := by
  unfold k0_pay2; pointwise

theorem pay3_apply (da db : Vec Ideal S512x1408 .bf16) (wa wb : Vec Ideal S1x1024x1408 .bf16) (r : Fin 512) (k : Fin 1024) :
    k0_pay3 da wa db wb (ix2 r k) = (∑ j : Fin 1408, da (ix2 r j) * wa (ix3 0 k j)) + ∑ j : Fin 1408, db (ix2 r j) * wb (ix3 0 k j) := by
  unfold k0_pay3 k0_pay2; pointwise

/-- The gradient of the shift, from one block of rows. -/
theorem pay12_apply (d a : Vec Ideal S512x1024 .f32) (k : Fin 1024) :
    k0_pay12 d a (ix2 0 k) = ∑ r : Fin 512, (d (ix2 r k) + a (ix2 r k)) := by
  unfold k0_pay12 k0_pay9; pointwise

/-- The gradient of the scale, from one block of rows. -/
theorem pay13_apply (d a x : Vec Ideal S512x1024 .f32) (g : Vec Ideal S1x1024 .f32) (k : Fin 1024) :
    k0_pay13 d a x g (ix2 0 k) = ∑ r : Fin 512, (d (ix2 r k) + a (ix2 r k)) * (x (ix2 r k) * rS x r * g (ix2 0 k)) := by
  unfold k0_pay13 k0_pay11 k0_pay10 k0_pay9; pointwise; rfl

/-- The gradient of the gain, from one block of rows. -/
theorem pay15_apply (d a x : Vec Ideal S512x1024 .f32) (s : Vec Ideal S1x1024 .f32) (k : Fin 1024) :
    k0_pay15 d a x s (ix2 0 k) = ∑ r : Fin 512, (d (ix2 r k) + a (ix2 r k)) * (1 + s (ix2 0 k)) * (x (ix2 r k) * rS x r) := by
  unfold k0_pay15 k0_pay14 k0_pay11 k0_pay10 k0_pay9; pointwise; rfl

/-- The gradient of a block of the input. -/
theorem pay5_apply (d a x : Vec Ideal S512x1024 .f32) (g s : Vec Ideal S1x1024 .f32) (e : Vec Ideal S512x1024 .f32) (r : Fin 512) (k : Fin 1024) :
    k0_pay5 (k0_pay16 d a x g s) e (ix2 r k)
      = rS x r * ((d (ix2 r k) + a (ix2 r k)) * (1 + s (ix2 0 k)) * g (ix2 0 k)
          - x (ix2 r k) * rS x r * Ideal.div (∑ l : Fin 1024, (d (ix2 r l) + a (ix2 r l)) * (1 + s (ix2 0 l)) * g (ix2 0 l) * (x (ix2 r l) * rS x r)) dimE)
        + e (ix2 r k) := by
  unfold k0_pay5 k0_pay16 k0_pay14 k0_pay11 k0_pay10 k0_pay9; pointwise; rfl

theorem pay6_apply (a v : Vec Ideal S1x1024 .f32) (k : Fin 1024) : k0_pay6 a v (ix2 0 k) = v (ix2 0 k) + a (ix2 0 k) := by
  unfold k0_pay6; pointwise
theorem pay7_apply (a v : Vec Ideal S1x1024 .f32) (k : Fin 1024) : k0_pay7 a v (ix2 0 k) = v (ix2 0 k) + a (ix2 0 k) := by
  unfold k0_pay7; pointwise
theorem pay8_apply (a v : Vec Ideal S1x1024 .f32) (k : Fin 1024) : k0_pay8 a v (ix2 0 k) = v (ix2 0 k) + a (ix2 0 k) := by
  unfold k0_pay8; pointwise

/-- Three rows added to an array of eight: each of the first three takes its own, the others stay. -/
theorem addRows_apply (X : Vec Ideal S8x1024 .f32) (a b d : Vec Ideal S1x1024 .f32) (p : Fin 8) (k : Fin 1024) :
    addRows X a b d (ix2 p k) = if p.val = 0 then X (ix2 p k) + a (ix2 0 k) else if p.val = 1 then X (ix2 p k) + b (ix2 0 k)
      else if p.val = 2 then X (ix2 p k) + d (ix2 0 k) else X (ix2 p k) := by
  have hit : ∀ (Y : Vec Ideal S8x1024 .f32) (o : Fin 8) (w : Vec Ideal S1x1024 .f32),
      VecWindow.put Y ![o.val, 0] ![1, 1024] w (ix2 o k) = w (ix2 0 k) := fun Y o w => by
    refine (dif_pos (fun x => ?_)).trans (congrArg w (funext fun x => Fin.ext ?_))
    · match x with
      | ⟨0, _⟩ => exact ⟨le_rfl, Nat.lt_succ_self _⟩
      | ⟨1, _⟩ => exact ⟨Nat.zero_le _, by show k.val < 0 + 1024; omega⟩
    · match x with
      | ⟨0, _⟩ => exact Nat.sub_self _
      | ⟨1, _⟩ => exact Nat.sub_zero _
  have miss : ∀ (Y : Vec Ideal S8x1024 .f32) (o : ℕ) (w : Vec Ideal S1x1024 .f32), p.val ≠ o →
      VecWindow.put Y ![o, 0] ![1, 1024] w (ix2 p k) = Y (ix2 p k) := fun Y o w h => by
    refine dif_neg (fun hall => h ?_)
    have h0 := hall 0
    have l1 : o ≤ p.val := h0.1
    have l2 : p.val < o + 1 := h0.2
    omega
  unfold addRows
  by_cases h0 : p.val = 0
  · obtain rfl : p = 0 := Fin.ext h0
    rw [miss _ 2 _ (by decide), miss _ 1 _ (by decide), if_pos h0]
    exact (hit _ 0 _).trans (pay6_apply _ _ _)
  by_cases h1 : p.val = 1
  · obtain rfl : p = 1 := Fin.ext h1
    rw [miss _ 2 _ (by decide), if_neg h0, if_pos h1]
    exact (hit _ 1 _).trans (pay7_apply _ _ _)
  by_cases h2 : p.val = 2
  · obtain rfl : p = 2 := Fin.ext h2
    rw [if_neg h0, if_neg h1, if_pos h2]
    exact (hit _ 2 _).trans (pay8_apply _ _ _)
  rw [miss _ 2 _ h2, miss _ 1 _ h1, miss _ 0 _ h0, if_neg h0, if_neg h1, if_neg h2]

end Cert.FfnIn

end
-- ==== Proof.InHost.lean ====
/- The arrays as the host code prepares them for the input gradient kernel: the two cotangents, and the two halves of the
   input weights stacked. -/
module

public import proofs.«01_k».proof.Proof.Gen.Kernel2Ideal.Frame
public import proofs.«01_k».proof.Proof.FfnSpec
public import Idealize.ShloMosaic.Lib.Claim
public import Idealize.ShloMosaic.Lib.Pointwise

@[expose] public section

set_option maxRecDepth 16384

noncomputable section

namespace Cert.FfnIn

open Cert.Kernel2Ideal Cert.Kernel2Ideal.Gen Cert.FfnBwd
open Idealize.ShloMosaic Idealize.ShloMosaic.TcCoe Idealize.ShloMosaic.StableHlo
open Idealize.SL.Sem

/-- The two halves of the columns, stacked. -/
def stackH {F : FTy → Type} [FloatOps F] (w : Vec F S1024x5632 .f32) : Vec F S2x1024x2816 .f32 :=
  concatenate S2x1024x2816 0
    [⟨S1x1024x2816, broadcastInDim S1x1024x2816 ![1, 2] bcast_S1024x2816_S1x1024x2816_1_2 (extractStridedSlice S1024x2816 ![0, 0] w slices_S1024x5632_S1024x2816_0_0)⟩,
     ⟨S1x1024x2816, broadcastInDim S1x1024x2816 ![1, 2] bcast_S1024x2816_S1x1024x2816_1_2 (extractStridedSlice S1024x2816 ![0, 2816] w slices_S1024x5632_S1024x2816_0_2816)⟩]
    concatenates_S1x1024x2816_S1x1024x2816_S2x1024x2816_d0

theorem stackH_zero (w : Vec Ideal S1024x5632 .f32) (k : Fin 1024) (j : Fin 2816) :
    stackH w (ix3 0 k j) = w (ix2 k ⟨j.val, by omega⟩) := by
  unfold stackH; pointwise

theorem stackH_one (w : Vec Ideal S1024x5632 .f32) (k : Fin 1024) (j : Fin 2816) :
    stackH w (ix3 1 k j) = w (ix2 k ⟨2816 + j.val, by omega⟩) := by
  unfold stackH; pointwise

section
variable {F : FTy → Type} [FloatOps F] (m : (ℓ : Loc nD τ sig) → Buf (Elt F) ℓ) (c : Dev nD)

theorem V_v0 : V m c main_v0 = truncf .bf16 (m ((c : Thread nD τ).loc main_arg0)) bitsLt_bf16_f32 := by
  simp only [V, hostOps0, List.flatten_cons, List.flatten_nil, List.append_nil, List.cons_append, List.nil_append,
    TRef.binary, TRef.nullary, TRef.unary, TRef.toBuf, TRef.ofBuf, cast_eq]
  after_results_simp <;> rfl

theorem V_v1 : V m c main_v1 = truncf .bf16 (m ((c : Thread nD τ).loc main_arg1)) bitsLt_bf16_f32 := by
  simp only [V, hostOps0, List.flatten_cons, List.flatten_nil, List.append_nil, List.cons_append, List.nil_append,
    TRef.binary, TRef.nullary, TRef.unary, TRef.toBuf, TRef.ofBuf, cast_eq]
  after_results_simp <;> rfl

theorem V_v7 : V m c main_v7 = truncf .bf16 (stackH (m ((c : Thread nD τ).loc main_arg2))) bitsLt_bf16_f32 := by
  unfold stackH
  simp only [V, hostOps0, List.flatten_cons, List.flatten_nil, List.append_nil, List.cons_append, List.nil_append,
    TRef.binary, TRef.nullary, TRef.unary, TRef.toBuf, TRef.ofBuf, cast_eq]
  after_results_simp <;> rfl
end

variable (m : (ℓ : Loc nD τ sig) → Buf (Elt Ideal) ℓ) (c : Dev nD)

/-- The seven arguments of a device. -/
abbrev x0 : Mat 2048 2816 := m ((c.tc : Thread nD τ).loc main_arg0)
abbrev x1 : Mat 2048 2816 := m ((c.tc : Thread nD τ).loc main_arg1)
abbrev x2 : Mat 1024 5632 := m ((c.tc : Thread nD τ).loc main_arg2)
abbrev x3 : Mat 2048 1024 := m ((c.tc : Thread nD τ).loc main_arg3)
abbrev x4 : Mat 2048 1024 := m ((c.tc : Thread nD τ).loc main_arg4)
abbrev x5 : Mat 3 1024 := m ((c.tc : Thread nD τ).loc main_arg5)
abbrev x6 : Mat 1 1024 := m ((c.tc : Thread nD τ).loc main_arg6)

theorem V_da : V m c main_v0 = x0 m c := (V_v0 m c).trans rfl
theorem V_db : V m c main_v1 = x1 m c := (V_v1 m c).trans rfl
theorem V_w_zero (k : Fin 1024) (j : Fin 2816) : V m c main_v7 (ix3 0 k j) = x2 m c (ix2 k ⟨j.val, by omega⟩) :=
  (congrFun ((V_v7 m c).trans (show _ = stackH (F := Ideal) (x2 m c) from rfl)) _).trans (stackH_zero _ k j)
theorem V_w_one (k : Fin 1024) (j : Fin 2816) : V m c main_v7 (ix3 1 k j) = x2 m c (ix2 k ⟨2816 + j.val, by omega⟩) :=
  (congrFun ((V_v7 m c).trans (show _ = stackH (F := Ideal) (x2 m c) from rfl)) _).trans (stackH_one _ k j)

end Cert.FfnIn

end
-- ==== Proof.InSpec.lean ====
/- The mathematics of the gradient through the product with the input weights, the modulation and the norm, over the
   extended reals: each value at an index. -/
module

public import proofs.«01_k».proof.Proof.NormSpec

@[expose] public section

noncomputable section

namespace Cert.FfnIn

open Idealize.ShloMosaic Cert.FfnBwd Cert.FfnFwd

/-- The gradient of the modulated rows: the two halves' cotangents times the transposed weights. -/
def dhS (da db : Mat 2048 2816) (w : Mat 1024 5632) : Mat 2048 1024 := fun i =>
  (∑ j : Fin 2816, da (ix2 (i 0) j) * w (ix2 (i 1) ⟨j.val, by omega⟩)) + ∑ j : Fin 2816, db (ix2 (i 0) j) * w (ix2 (i 1) ⟨2816 + j.val, by omega⟩)

/-- The gradient of the normed rows before the gain: scaled by one plus the scale, and by the gain. -/
def dnS (d : Mat 2048 1024) (md : Mat 3 1024) (g : Mat 1 1024) : Mat 2048 1024 := fun i =>
  d i * (1 + md (ix2 1 (i 1))) * g (ix2 0 (i 1))

/-- The gradient of the input through the norm, added to the cotangent that passes by. -/
def dxS (d x e : Mat 2048 1024) (md : Mat 3 1024) (g : Mat 1 1024) : Mat 2048 1024 := fun i =>
  rS x (i 0) * (dnS d md g i - x i * rS x (i 0) * Ideal.div (∑ l : Fin 1024, dnS d md g (ix2 (i 0) l) * (x (ix2 (i 0) l) * rS x (i 0))) dimE) + e i

/-- The gradients of the shift, the scale and the gain. -/
def dshS (d : Mat 2048 1024) (k : Fin 1024) : EReal := ∑ r : Fin 2048, d (ix2 r k)
def dscS (d x : Mat 2048 1024) (g : Mat 1 1024) (k : Fin 1024) : EReal := ∑ r : Fin 2048, d (ix2 r k) * (x (ix2 r k) * rS x r * g (ix2 0 k))
def dgnS (d x : Mat 2048 1024) (md : Mat 3 1024) (k : Fin 1024) : EReal :=
  ∑ r : Fin 2048, d (ix2 r k) * (1 + md (ix2 1 k)) * (x (ix2 r k) * rS x r)

/-- The result of rows: those three, and five rows of zeros. -/
def rowsS (d x : Mat 2048 1024) (md : Mat 3 1024) (g : Mat 1 1024) : Mat 8 1024 := fun i =>
  if (i 0).val = 0 then dshS d (i 1) else if (i 0).val = 1 then dscS d x g (i 1) else if (i 0).val = 2 then dgnS d x md (i 1) else 0

/-- A sum over 5632 columns is the sum over the two halves. -/
theorem sum_two (f : Fin 5632 → EReal) :
    ∑ j : Fin 5632, f j = (∑ j : Fin 2816, f ⟨j.val, by omega⟩) + ∑ j : Fin 2816, f ⟨2816 + j.val, by omega⟩ :=
  Fin.sum_univ_add (a := 2816) (b := 2816) f

/-- A sum over 2048 rows is the sum over the four blocks of 512. -/
theorem sum_blocks (f : Fin 2048 → EReal) :
    ∑ r : Fin 2048, f r = (((∑ r : Fin 512, f ⟨r.val, by omega⟩) + ∑ r : Fin 512, f ⟨512 + r.val, by omega⟩)
      + ∑ r : Fin 512, f ⟨1024 + r.val, by omega⟩) + ∑ r : Fin 512, f ⟨1536 + r.val, by omega⟩ := by
  have e1 := Fin.sum_univ_add (a := 1536) (b := 512) f
  have e2 := Fin.sum_univ_add (a := 1024) (b := 512) (fun r : Fin 1536 => f ⟨r.val, by omega⟩)
  have e3 := Fin.sum_univ_add (a := 512) (b := 512) (fun r : Fin 1024 => f ⟨r.val, by omega⟩)
  refine e1.trans ?_
  refine congrArg₂ (· + ·) (e2.trans (congrArg₂ (· + ·) (e3.trans ?_) rfl)) rfl
  rfl

end Cert.FfnIn

end
-- ==== Proof.InArrays.lean ====
/- The two result arrays of the input gradient kernel after its run, as functions of its arguments: each block written
   back is the block of that function, and the blocks cover the array. -/
module

public import proofs.«01_k».proof.Proof.InFrame
public import proofs.«01_k».proof.Proof.InPay
public import proofs.«01_k».proof.Proof.InHost
public import proofs.«01_k».proof.Proof.InSpec

@[expose] public section

set_option maxRecDepth 16384

noncomputable section

namespace Cert.FfnIn

open Cert.Kernel2Ideal Cert.Kernel2Ideal.Gen Cert.Whole Cert.FfnBwd Cert.FfnFwd
open Idealize.ShloMosaic Idealize.ShloMosaic.TcCoe
open Idealize.SL.Sem

variable (m : (ℓ : Loc nD τ sig) → Buf (Elt Ideal) ℓ) (c : Dev nD)

/-- Row `r` of the block of rows of point `t`, and column `j` of its block of columns. -/
def row (t : Fin cfg0.N) (r : Fin 512) : Fin 2048 := ⟨t.val % 4 * 512 + r.val, by have := r.isLt; omega⟩
def col (t : Fin cfg0.N) (j : Fin 1408) : Fin 2816 :=
  ⟨t.val / 4 * 1408 + j.val, by have : t.val < 8 := Nat.lt_of_lt_of_eq t.isLt N_0; have := j.isLt; omega⟩

/-- The points of the second pass. -/
def late (i : Fin 4) : Fin cfg0.N := ⟨4 + i.val, by have : cfg0.N = 8 := N_0; have := i.isLt; omega⟩

theorem row_early (t : Fin cfg0.N) (h : 4 ≤ t.val) (r : Fin 512) : row (early t) r = row t r :=
  Fin.ext (by
    have : t.val < 8 := Nat.lt_of_lt_of_eq t.isLt N_0
    show (t.val - 4) % 4 * 512 + r.val = t.val % 4 * 512 + r.val; omega)

theorem row_surj (n : Fin 2048) : ∃ i r, row (late i) r = n :=
  ⟨⟨n.val / 512, by have := n.isLt; omega⟩, ⟨n.val % 512, Nat.mod_lt _ (by decide)⟩,
    Fin.ext (by show (4 + n.val / 512) % 4 * 512 + n.val % 512 = n.val; have := n.isLt; omega)⟩

/-! ### Where an element of a block lies in its array -/

theorem emb_0 (t : Fin cfg0.N) (p : Fin 512) (q : Fin 1408) : ((cfg0.win 0).blk t).view.emb (ix2 p q) = (ix2 (row t p) (col t q) : S2048x2816.Idx) := by
  funext a; apply Fin.ext
  match a with
  | ⟨0, _⟩ =>
    refine (win0_0.rect_emb_val t (ix2 p q) 0).trans ?_
    rw [(by decide +kernel : ∀ t : Fin grid0.N, win0_0.index t 0 * win0_0.size 0 = t.val % 4 * 512) t]; rfl
  | ⟨1, _⟩ =>
    refine (win0_0.rect_emb_val t (ix2 p q) 1).trans ?_
    rw [(by decide +kernel : ∀ t : Fin grid0.N, win0_0.index t 1 * win0_0.size 1 = t.val / 4 * 1408) t]; rfl

theorem emb_1 (t : Fin cfg0.N) (p : Fin 512) (q : Fin 1408) : ((cfg0.win 1).blk t).view.emb (ix2 p q) = (ix2 (row t p) (col t q) : S2048x2816.Idx) := by
  funext a; apply Fin.ext
  match a with
  | ⟨0, _⟩ =>
    refine (win0_1.rect_emb_val t (ix2 p q) 0).trans ?_
    rw [(by decide +kernel : ∀ t : Fin grid0.N, win0_1.index t 0 * win0_1.size 0 = t.val % 4 * 512) t]; rfl
  | ⟨1, _⟩ =>
    refine (win0_1.rect_emb_val t (ix2 p q) 1).trans ?_
    rw [(by decide +kernel : ∀ t : Fin grid0.N, win0_1.index t 1 * win0_1.size 1 = t.val / 4 * 1408) t]; rfl

theorem emb_2 (t : Fin cfg0.N) (p : Fin 1) (q : Fin 1024) (s : Fin 1408) : ((cfg0.win 2).blk t).view.emb (ix3 p q s) = (ix3 0 q (col t s) : S2x1024x2816.Idx) := by
  funext a; apply Fin.ext
  match a with
  | ⟨0, _⟩ =>
    refine (win0_2.rect_emb_val t (ix3 p q s) 0).trans ?_
    rw [(by decide +kernel : ∀ t : Fin grid0.N, win0_2.index t 0 * win0_2.size 0 = 0) t]; have : p.val < 1 := p.isLt; show 0 + p.val = 0; omega
  | ⟨1, _⟩ => exact win0_2.rect_emb_val_of_index_zero t 1 ((by decide +kernel : ∀ t : Fin grid0.N, win0_2.index t 1 = 0) t) (ix3 p q s)
  | ⟨2, _⟩ =>
    refine (win0_2.rect_emb_val t (ix3 p q s) 2).trans ?_
    rw [(by decide +kernel : ∀ t : Fin grid0.N, win0_2.index t 2 * win0_2.size 2 = t.val / 4 * 1408) t]; rfl

theorem emb_3 (t : Fin cfg0.N) (p : Fin 1) (q : Fin 1024) (s : Fin 1408) : ((cfg0.win 3).blk t).view.emb (ix3 p q s) = (ix3 1 q (col t s) : S2x1024x2816.Idx) := by
  funext a; apply Fin.ext
  match a with
  | ⟨0, _⟩ =>
    refine (win0_3.rect_emb_val t (ix3 p q s) 0).trans ?_
    rw [(by decide +kernel : ∀ t : Fin grid0.N, win0_3.index t 0 * win0_3.size 0 = 1) t]; have : p.val < 1 := p.isLt; show 1 + p.val = 1; omega
  | ⟨1, _⟩ => exact win0_3.rect_emb_val_of_index_zero t 1 ((by decide +kernel : ∀ t : Fin grid0.N, win0_3.index t 1 = 0) t) (ix3 p q s)
  | ⟨2, _⟩ =>
    refine (win0_3.rect_emb_val t (ix3 p q s) 2).trans ?_
    rw [(by decide +kernel : ∀ t : Fin grid0.N, win0_3.index t 2 * win0_3.size 2 = t.val / 4 * 1408) t]; rfl

theorem emb_4 (t : Fin cfg0.N) (h : 4 ≤ t.val) (p : Fin 512) (q : Fin 1024) : ((cfg0.win 4).blk t).view.emb (ix2 p q) = (ix2 (row t p) q : S2048x1024.Idx) := by
  funext a; apply Fin.ext
  match a with
  | ⟨0, _⟩ =>
    refine (win0_4.rect_emb_val t (ix2 p q) 0).trans ?_
    rw [(by decide +kernel : ∀ t : Fin grid0.N, 4 ≤ t.val → win0_4.index t 0 * win0_4.size 0 = t.val % 4 * 512) t h]; rfl
  | ⟨1, _⟩ => exact win0_4.rect_emb_val_of_index_zero t 1 ((by decide +kernel : ∀ t : Fin grid0.N, win0_4.index t 1 = 0) t) (ix2 p q)

theorem emb_5 (t : Fin cfg0.N) (h : 4 ≤ t.val) (p : Fin 512) (q : Fin 1024) : ((cfg0.win 5).blk t).view.emb (ix2 p q) = (ix2 (row t p) q : S2048x1024.Idx) := by
  funext a; apply Fin.ext
  match a with
  | ⟨0, _⟩ =>
    refine (win0_5.rect_emb_val t (ix2 p q) 0).trans ?_
    rw [(by decide +kernel : ∀ t : Fin grid0.N, 4 ≤ t.val → win0_5.index t 0 * win0_5.size 0 = t.val % 4 * 512) t h]; rfl
  | ⟨1, _⟩ => exact win0_5.rect_emb_val_of_index_zero t 1 ((by decide +kernel : ∀ t : Fin grid0.N, win0_5.index t 1 = 0) t) (ix2 p q)

theorem emb_6 (t : Fin cfg0.N) (p : Fin 3) (q : Fin 1024) : ((cfg0.win 6).blk t).view.emb (ix2 p q) = (ix2 p q : S3x1024.Idx) := by
  funext a; apply Fin.ext
  match a with
  | ⟨0, _⟩ => exact win0_6.rect_emb_val_of_index_zero t 0 ((by decide +kernel : ∀ t : Fin grid0.N, win0_6.index t 0 = 0) t) (ix2 p q)
  | ⟨1, _⟩ => exact win0_6.rect_emb_val_of_index_zero t 1 ((by decide +kernel : ∀ t : Fin grid0.N, win0_6.index t 1 = 0) t) (ix2 p q)

theorem emb_7 (t : Fin cfg0.N) (p : Fin 1) (q : Fin 1024) : ((cfg0.win 7).blk t).view.emb (ix2 p q) = (ix2 p q : S1x1024.Idx) := by
  funext a; apply Fin.ext
  match a with
  | ⟨0, _⟩ => exact win0_7.rect_emb_val_of_index_zero t 0 ((by decide +kernel : ∀ t : Fin grid0.N, win0_7.index t 0 = 0) t) (ix2 p q)
  | ⟨1, _⟩ => exact win0_7.rect_emb_val_of_index_zero t 1 ((by decide +kernel : ∀ t : Fin grid0.N, win0_7.index t 1 = 0) t) (ix2 p q)

theorem emb_8 (t : Fin cfg0.N) (h : 4 ≤ t.val) (p : Fin 512) (q : Fin 1024) : ((cfg0.win 8).blk t).view.emb (ix2 p q) = (ix2 (row t p) q : S2048x1024.Idx) := by
  funext a; apply Fin.ext
  match a with
  | ⟨0, _⟩ =>
    refine (win0_8.rect_emb_val t (ix2 p q) 0).trans ?_
    rw [(by decide +kernel : ∀ t : Fin grid0.N, 4 ≤ t.val → win0_8.index t 0 * win0_8.size 0 = t.val % 4 * 512) t h]; rfl
  | ⟨1, _⟩ => exact win0_8.rect_emb_val_of_index_zero t 1 ((by decide +kernel : ∀ t : Fin grid0.N, win0_8.index t 1 = 0) t) (ix2 p q)

theorem emb_9 (t : Fin cfg0.N) (p : Fin 8) (q : Fin 1024) : ((cfg0.win 9).blk t).view.emb (ix2 p q) = (ix2 p q : S8x1024.Idx) := by
  funext a; apply Fin.ext
  match a with
  | ⟨0, _⟩ => exact win0_9.rect_emb_val_of_index_zero t 0 ((by decide +kernel : ∀ t : Fin grid0.N, win0_9.index t 0 = 0) t) (ix2 p q)
  | ⟨1, _⟩ => exact win0_9.rect_emb_val_of_index_zero t 1 ((by decide +kernel : ∀ t : Fin grid0.N, win0_9.index t 1 = 0) t) (ix2 p q)

/-! ### The input blocks -/

theorem iblk_0 (t : Fin cfg0.N) (r : Fin 512) (j : Fin 1408) : iblk m c 0 t (ix2 r j) = x0 m c (ix2 (row t r) (col t j)) := by
  show V m c main_v0 (((cfg0.win 0).blk t).view.emb (ix2 r j)) = _
  rw [emb_0, V_da]

theorem iblk_1 (t : Fin cfg0.N) (r : Fin 512) (j : Fin 1408) : iblk m c 1 t (ix2 r j) = x1 m c (ix2 (row t r) (col t j)) := by
  show V m c main_v1 (((cfg0.win 1).blk t).view.emb (ix2 r j)) = _
  rw [emb_1, V_db]

theorem iblk_2 (t : Fin cfg0.N) (k : Fin 1024) (j : Fin 1408) :
    iblk m c 2 t (ix3 0 k j) = x2 m c (ix2 k ⟨(col t j).val, by have := (col t j).isLt; omega⟩) := by
  show V m c main_v7 (((cfg0.win 2).blk t).view.emb (ix3 0 k j)) = _
  rw [emb_2]
  exact V_w_zero m c k (col t j)

theorem iblk_3 (t : Fin cfg0.N) (k : Fin 1024) (j : Fin 1408) :
    iblk m c 3 t (ix3 0 k j) = x2 m c (ix2 k ⟨2816 + (col t j).val, by have := (col t j).isLt; omega⟩) := by
  show V m c main_v7 (((cfg0.win 3).blk t).view.emb (ix3 0 k j)) = _
  rw [emb_3]
  exact V_w_one m c k (col t j)

theorem iblk_4 (t : Fin cfg0.N) (h : 4 ≤ t.val) (r : Fin 512) (k : Fin 1024) : iblk m c 4 t (ix2 r k) = x3 m c (ix2 (row t r) k) := by
  show V m c main_arg3 (((cfg0.win 4).blk t).view.emb (ix2 r k)) = _
  rw [emb_4 t h, V_main_arg3]

theorem iblk_5 (t : Fin cfg0.N) (h : 4 ≤ t.val) (r : Fin 512) (k : Fin 1024) : iblk m c 5 t (ix2 r k) = x4 m c (ix2 (row t r) k) := by
  show V m c main_arg4 (((cfg0.win 5).blk t).view.emb (ix2 r k)) = _
  rw [emb_5 t h, V_main_arg4]

theorem iblk_6 (t : Fin cfg0.N) : iblk m c 6 t = x5 m c := by
  refine funext fun (y : S3x1024.Idx) => ?_
  obtain ⟨p, q, rfl⟩ : ∃ (p : Fin 3) (q : Fin 1024), y = ix2 p q := ⟨y 0, y 1, eq_ix2 y⟩
  show V m c main_arg5 (((cfg0.win 6).blk t).view.emb (ix2 p q)) = _
  rw [emb_6, V_main_arg5]

theorem iblk_7 (t : Fin cfg0.N) : iblk m c 7 t = x6 m c := by
  refine funext fun (y : S1x1024.Idx) => ?_
  obtain ⟨p, q, rfl⟩ : ∃ (p : Fin 1) (q : Fin 1024), y = ix2 p q := ⟨y 0, y 1, eq_ix2 y⟩
  show V m c main_arg6 (((cfg0.win 7).blk t).view.emb (ix2 p q)) = _
  rw [emb_7, V_main_arg6]

/-- The reciprocal root of a row of a block is that of the array's row. -/
theorem root_row {n n' : ℕ} {x : Mat n 1024} {x' : Mat n' 1024} {r : Fin n} {r' : Fin n'} (h : ∀ k, x (ix2 r k) = x' (ix2 r' k)) :
    rS x r = rS x' r' := by
  unfold rS; simp only [h]

theorem root_blk (t : Fin cfg0.N) (h : 4 ≤ t.val) (r : Fin 512) : rS (iblk m c 4 t) r = rS (x3 m c) (row t r) :=
  root_row fun k => iblk_4 m c t h r k

/-! ### The functions that the result arrays hold -/

abbrev dG : Mat 2048 1024 := dhS (x0 m c) (x1 m c) (x2 m c)
abbrev dxG : Mat 2048 1024 := dxS (dG m c) (x3 m c) (x4 m c) (x5 m c) (x6 m c)
abbrev rowsG : Mat 8 1024 := rowsS (dG m c) (x3 m c) (x5 m c) (x6 m c)

/-! ### One block -/

/-- What the two passes over a block of rows add up to. -/
theorem sum_apply (t : Fin cfg0.N) (h : 4 ≤ t.val) (r : Fin 512) (k : Fin 1024) :
    partV m c t (ix2 r k) + accV m c (early t) (ix2 r k) = dG m c (ix2 (row t r) k) := by
  have hN : t.val < 8 := Nat.lt_of_lt_of_eq t.isLt N_0
  have e0 : ∀ j : Fin 1408, col (early t) j = ⟨j.val, by omega⟩ := fun j =>
    Fin.ext (by show (t.val - 4) / 4 * 1408 + j.val = j.val; omega)
  have e1 : ∀ j : Fin 1408, col t j = ⟨1408 + j.val, by omega⟩ := fun j =>
    Fin.ext (by show t.val / 4 * 1408 + j.val = 1408 + j.val; omega)
  have ep := pay2_apply (iblk m c 0 t) (iblk m c 1 t) (iblk m c 2 t) (iblk m c 3 t) r k
  have ea := pay3_apply (iblk m c 0 (early t)) (iblk m c 1 (early t)) (iblk m c 2 (early t)) (iblk m c 3 (early t)) r k
  simp only [iblk_0, iblk_1, iblk_2, iblk_3, row_early t h, e0, e1] at ep ea
  refine (congrArg₂ (· + ·) ep ea).trans ?_
  show _ = (∑ j : Fin 2816, x0 m c (ix2 (row t r) j) * x2 m c (ix2 k ⟨j.val, by omega⟩))
    + ∑ j : Fin 2816, x1 m c (ix2 (row t r) j) * x2 m c (ix2 k ⟨2816 + j.val, by omega⟩)
  rw [sum_halves, sum_halves]
  refine (add_comm (G := EReal) _ _).trans ?_
  exact add_add_add_comm (G := EReal) _ _ _ _

theorem shV_apply (t : Fin cfg0.N) (h : 4 ≤ t.val) (k : Fin 1024) : shV m c t (ix2 0 k) = ∑ r : Fin 512, dG m c (ix2 (row t r) k) := by
  unfold shV
  rw [pay12_apply]
  exact Finset.sum_congr rfl fun r _ => sum_apply m c t h r k

theorem scV_apply (t : Fin cfg0.N) (h : 4 ≤ t.val) (k : Fin 1024) :
    scV m c t (ix2 0 k) = ∑ r : Fin 512, dG m c (ix2 (row t r) k) * (x3 m c (ix2 (row t r) k) * rS (x3 m c) (row t r) * x6 m c (ix2 0 k)) := by
  unfold scV
  rw [pay13_apply]
  refine Finset.sum_congr rfl fun r _ => ?_
  rw [sum_apply m c t h, root_blk m c t h, iblk_4 m c t h, iblk_7]

theorem gnV_apply (t : Fin cfg0.N) (h : 4 ≤ t.val) (k : Fin 1024) :
    gnV m c t (ix2 0 k) = ∑ r : Fin 512, dG m c (ix2 (row t r) k) * (1 + x5 m c (ix2 1 k)) * (x3 m c (ix2 (row t r) k) * rS (x3 m c) (row t r)) := by
  unfold gnV
  rw [pay15_apply]
  refine Finset.sum_congr rfl fun r _ => ?_
  rw [sum_apply m c t h, root_blk m c t h, iblk_4 m c t h, iblk_6]
  rfl

theorem dxV_apply (t : Fin cfg0.N) (h : 4 ≤ t.val) (r : Fin 512) (k : Fin 1024) : dxV m c t (ix2 r k) = dxG m c (ix2 (row t r) k) := by
  unfold dxV
  rw [pay5_apply]
  simp only [sum_apply m c t h, root_blk m c t h, iblk_4 m c t h, iblk_5 m c t h, iblk_6, iblk_7]
  rfl

theorem late_le (i : Fin 4) : 4 ≤ (late i).val := Nat.le_add_right 4 i.val

theorem row_late_0 (r : Fin 512) : row (late 0) r = ⟨r.val, by omega⟩ := Fin.ext (by show (4 + 0) % 4 * 512 + r.val = r.val; omega)
theorem row_late_1 (r : Fin 512) : row (late 1) r = ⟨512 + r.val, by omega⟩ := Fin.ext (by show (4 + 1) % 4 * 512 + r.val = 512 + r.val; omega)
theorem row_late_2 (r : Fin 512) : row (late 2) r = ⟨1024 + r.val, by omega⟩ := Fin.ext (by show (4 + 2) % 4 * 512 + r.val = 1024 + r.val; omega)
theorem row_late_3 (r : Fin 512) : row (late 3) r = ⟨1536 + r.val, by omega⟩ := Fin.ext (by show (4 + 3) % 4 * 512 + r.val = 1536 + r.val; omega)

/-- The four points' parts of a row add up to the sum over all rows of the input. -/
theorem shV_sum (k : Fin 1024) : (((shV m c (late 0) (ix2 0 k) + shV m c (late 1) (ix2 0 k) : EReal) + shV m c (late 2) (ix2 0 k) : EReal)
    + shV m c (late 3) (ix2 0 k) : EReal) = dshS (dG m c) k := by
  rw [shV_apply m c _ (late_le 0), shV_apply m c _ (late_le 1), shV_apply m c _ (late_le 2), shV_apply m c _ (late_le 3)]
  simp only [row_late_0, row_late_1, row_late_2, row_late_3]
  generalize dG m c = D
  exact (sum_blocks fun r => D (ix2 r k)).symm

theorem scV_sum (k : Fin 1024) : (((scV m c (late 0) (ix2 0 k) + scV m c (late 1) (ix2 0 k) : EReal) + scV m c (late 2) (ix2 0 k) : EReal)
    + scV m c (late 3) (ix2 0 k) : EReal) = dscS (dG m c) (x3 m c) (x6 m c) k := by
  rw [scV_apply m c _ (late_le 0), scV_apply m c _ (late_le 1), scV_apply m c _ (late_le 2), scV_apply m c _ (late_le 3)]
  simp only [row_late_0, row_late_1, row_late_2, row_late_3]
  generalize dG m c = D
  generalize x3 m c = X
  generalize x6 m c = G
  exact (sum_blocks fun r => D (ix2 r k) * (X (ix2 r k) * rS X r * G (ix2 0 k))).symm

theorem gnV_sum (k : Fin 1024) : (((gnV m c (late 0) (ix2 0 k) + gnV m c (late 1) (ix2 0 k) : EReal) + gnV m c (late 2) (ix2 0 k) : EReal)
    + gnV m c (late 3) (ix2 0 k) : EReal) = dgnS (dG m c) (x3 m c) (x5 m c) k := by
  rw [gnV_apply m c _ (late_le 0), gnV_apply m c _ (late_le 1), gnV_apply m c _ (late_le 2), gnV_apply m c _ (late_le 3)]
  simp only [row_late_0, row_late_1, row_late_2, row_late_3]
  generalize dG m c = D
  generalize x3 m c = X
  generalize x5 m c = M
  exact (sum_blocks fun r => D (ix2 r k) * (1 + M (ix2 1 k)) * (X (ix2 r k) * rS X r)).symm

/-- The result of rows after the last point. -/
theorem rowsV_apply (p : Fin 8) (k : Fin 1024) : rowsV m c 4 (ix2 p k) = rowsG m c (ix2 p k) := by
  have e4 : rowsV m c 4 = addRows (rowsV m c 3) (shV m c (late 3)) (scV m c (late 3)) (gnV m c (late 3)) := rowsV_late m c (late 3) (by decide)
  have e3 : rowsV m c 3 = addRows (rowsV m c 2) (shV m c (late 2)) (scV m c (late 2)) (gnV m c (late 2)) := rowsV_late m c (late 2) (by decide)
  have e2 : rowsV m c 2 = addRows (rowsV m c 1) (shV m c (late 1)) (scV m c (late 1)) (gnV m c (late 1)) := rowsV_late m c (late 1) (by decide)
  have e1 : rowsV m c 1 = addRows (rowsV m c 0) (shV m c (late 0)) (scV m c (late 0)) (gnV m c (late 0)) := rowsV_late m c (late 0) (by decide)
  have e0 : rowsV m c 0 (ix2 p k) = 0 := pay1_apply p k
  rw [e4, addRows_apply, e3, addRows_apply, e2, addRows_apply, e1, addRows_apply, e0]
  show _ = if p.val = 0 then dshS (dG m c) k else if p.val = 1 then dscS (dG m c) (x3 m c) (x6 m c) k
    else if p.val = 2 then dgnS (dG m c) (x3 m c) (x5 m c) k else 0
  by_cases h0 : p.val = 0
  · simp only [if_pos h0, zero_add]
    exact shV_sum m c k
  by_cases h1 : p.val = 1
  · simp only [if_neg h0, if_pos h1, zero_add]
    exact scV_sum m c k
  by_cases h2 : p.val = 2
  · simp only [if_neg h0, if_neg h1, if_pos h2, zero_add]
    exact gnV_sum m c k
  simp only [if_neg h0, if_neg h1, if_neg h2]

/-! ### The arrays -/

theorem flush_8 : ∀ t : Fin cfg0.N, 4 ≤ t.val → (cfg0.win 8).flush t = true :=
  (by decide +kernel : ∀ t : Fin grid0.N, 4 ≤ t.val → win0_8.flush t = true)

theorem flushed_8 (t : Fin cfg0.N) (h : 4 ≤ t.val) : (dats m 0 c).flushed 8 t = ((cfg0.win 8).blk t).view.read (Elt Ideal) (dxG m c) := by
  show (cfg0.win 8).cut (grid0.coords t) ((dats m 0 c).after 8 t) = _
  rw [after_8]
  refine funext fun (y : S512x1024.Idx) => ?_
  show dxV m c t y = dxG m c (((cfg0.win 8).blk t).view.emb y)
  obtain ⟨p, q, rfl⟩ : ∃ (p : Fin 512) (q : Fin 1024), y = ix2 p q := ⟨y 0, y 1, eq_ix2 y⟩
  rw [emb_8 t h]
  exact dxV_apply m c t h _ _

theorem arr_8 : (dats m 0 c).arrAt 8 cfg0.N = dxG m c :=
  (dats m 0 c).arrAt_eq_of_cover 8 (dxG m c)
    (fun t ht => flushed_8 m c t (by by_contra h; have := noflush_8 t (by omega); rw [this] at ht; exact Bool.noConfusion ht)) fun (i : S2048x1024.Idx) => by
    obtain ⟨s, r, h⟩ := row_surj (i 0)
    have hs : 4 ≤ (late s).val := Nat.le_add_right 4 s.val
    refine ⟨late s, flush_8 (late s) hs, ?_⟩
    have e : ((cfg0.win 8).blk (late s)).view.emb (ix2 r (i 1)) = i := (emb_8 (late s) hs r (i 1)).trans (by rw [h]; exact (eq_ix2 i).symm)
    exact e ▸ View.emb_mem_set _ _

theorem flushed_9 (t : Fin cfg0.N) (h : t.val % 8 = 7) : (dats m 0 c).flushed 9 t = ((cfg0.win 9).blk t).view.read (Elt Ideal) (rowsG m c) := by
  have ht : t.val - 3 = 4 := by have : t.val < 8 := Nat.lt_of_lt_of_eq t.isLt N_0; omega
  show (cfg0.win 9).cut (grid0.coords t) ((dats m 0 c).after 9 t) = _
  rw [after_9, ht]
  refine funext fun (y : S8x1024.Idx) => ?_
  show rowsV m c 4 y = rowsG m c (((cfg0.win 9).blk t).view.emb y)
  obtain ⟨p, q, rfl⟩ : ∃ (p : Fin 8) (q : Fin 1024), y = ix2 p q := ⟨y 0, y 1, eq_ix2 y⟩
  rw [emb_9]
  exact rowsV_apply m c _ _

theorem arr_9 : (dats m 0 c).arrAt 9 cfg0.N = rowsG m c :=
  (dats m 0 c).arrAt_eq_of_cover 9 (rowsG m c) (fun t ht => flushed_9 m c t ((flush0_9 t).mp ht)) fun (i : S8x1024.Idx) => by
    refine ⟨late 3, (flush0_9 (late 3)).mpr (by decide), ?_⟩
    have e : ((cfg0.win 9).blk (late 3)).view.emb (ix2 (i 0) (i 1)) = i := (emb_9 (late 3) (i 0) (i 1)).trans (eq_ix2 i).symm
    exact e ▸ View.emb_mem_set _ _

/-- The run with the two results read: each array is the mathematics of the arguments. -/
theorem run (ρ : Dev nD → PrngReg) : θ_run defs (onTc (τ := τ) (main (F := Ideal))) ⟨m, fun _ => 0, ρ⟩ fun r => ∀ c : Dev nD,
      r.2.mem ((c.tc : Thread nD τ).loc main_v8_0) = dxG m c
      ∧ r.2.mem ((c.tc : Thread nD τ).loc main_v8_1) = rowsG m c :=
  (θ_run defs _ _).mono (fun _ h c => ⟨((h c).1 8).trans (arr_8 m c), ((h c).1 9).trans (arr_9 m c)⟩) (run_main m ρ)

end Cert.FfnIn

end
-- ==== Proof.InNorm.lean ====
/- The gradient of a root-mean-square norm, over the extended reals. The kernel and the reference group the derivative of
   the reciprocal root differently; the two agree for every input, infinite ones included: where the mean square is
   infinite both are zero, and elsewhere the reciprocal root is a positive real, which distributes over every sum. -/
module

public import proofs.«01_k».proof.Proof.NormSpec

@[expose] public section

noncomputable section

namespace Cert.FfnIn

open Idealize.ShloMosaic Cert.FfnBwd Cert.FfnFwd

/-- Minus one half, as the programs hold it. -/
abbrev negHalfE : EReal := Ideal.ofBits .f32 0xBF000000#32

theorem negHalf_lit : negHalfE = ((-(1 / 2) : ℝ) : EReal) := by
  simp [negHalfE, Ideal.ofBits, Ideal.ieee, -EReal.coe_mul]; norm_num

theorem dim_lit : dimE = ((1024 : ℝ) : EReal) := by
  simp [dimE, Ideal.ofBits, Ideal.ieee, -EReal.coe_mul]; norm_num

theorem eps_lit : ∃ e : ℝ, 0 < e ∧ epsE = (e : EReal) := by
  refine ⟨(2 ^ 23 + 407485 : ℕ) * (2 : ℝ) ^ (-43 : ℤ), by positivity, ?_⟩
  simp [epsE, Ideal.ofBits, Ideal.ieee, -EReal.coe_mul]

theorem div_real (y : EReal) {d : ℝ} (hd : d ≠ 0) : Ideal.div y (d : EReal) = y * ((d⁻¹ : ℝ) : EReal) := by
  unfold Ideal.div
  rw [if_neg (by exact_mod_cast hd), EReal.coe_inv]

theorem sq_nonneg (x : EReal) : 0 ≤ x * x := by
  induction x using EReal.rec with
  | bot => simp
  | coe r => rw [← EReal.coe_mul]; exact_mod_cast mul_self_nonneg r
  | top => simp

/-- The mean square of a row of any length, with the small constant: infinite, or a positive real. -/
theorem mean_square {n : ℕ} {D : EReal} {d : ℝ} (hd : 0 < d) (hD : D = (d : EReal)) (X : Fin n → EReal) :
    Ideal.div (∑ l, X l * X l) D + epsE = ⊤ ∨ ∃ q : ℝ, 0 < q ∧ Ideal.div (∑ l, X l * X l) D + epsE = (q : EReal) := by
  obtain ⟨e, he, hE⟩ := eps_lit
  rw [hE, hD, div_real _ hd.ne']
  have h0 : 0 ≤ ∑ l, X l * X l := Finset.sum_nonneg fun l _ => sq_nonneg _
  generalize (∑ l, X l * X l) = s at h0
  induction s using EReal.rec with
  | bot => simp at h0
  | coe r =>
    right
    have hr : 0 ≤ r := by exact_mod_cast h0
    exact ⟨r * d⁻¹ + e, by positivity, by push_cast; rfl⟩
  | top =>
    left
    rw [EReal.top_mul_coe_of_pos (by positivity)]
    exact EReal.top_add_coe e

/-- A positive real comes out of a sum. -/
theorem sum_scaled {n : ℕ} {ρ : ℝ} (h : 0 ≤ ρ) (f : Fin n → EReal) : ∑ l, f l * (ρ : EReal) = (∑ l, f l) * (ρ : EReal) := by
  have key : ∀ s : Finset (Fin n), ∑ l ∈ s, f l * (ρ : EReal) = (∑ l ∈ s, f l) * (ρ : EReal) := fun s => by
    induction s using Finset.induction_on with
    | empty => simp
    | insert a s ha ih =>
      rw [Finset.sum_insert ha, Finset.sum_insert ha, ih]
      exact (EReal.right_distrib_of_nonneg_of_ne_top (by exact_mod_cast h) (EReal.coe_ne_top ρ) _ _).symm
  exact key _

/-- Twice a multiple of a nonnegative real is the multiple of twice it. -/
theorem twice (y : EReal) {a : ℝ} (h : 0 ≤ a) : y * (a : EReal) + y * (a : EReal) = y * ((a + a : ℝ) : EReal) := by
  rw [EReal.coe_add]
  exact (EReal.left_distrib_of_nonneg (by exact_mod_cast h) (by exact_mod_cast h)).symm

/-- For a row of any length: the two groupings of the norm's gradient at one element, added to the cotangent that passes by. -/
theorem norm_grad_of {n : ℕ} {D : EReal} {d : ℝ} (hd0 : 0 < d) (hD : D = (d : EReal)) (X N : Fin n → EReal) (k : Fin n) (e : EReal) :
    Ideal.rsqrt (Ideal.div (∑ l, X l * X l) D + epsE)
        * (N k - X k * Ideal.rsqrt (Ideal.div (∑ l, X l * X l) D + epsE)
            * Ideal.div (∑ l, N l * (X l * Ideal.rsqrt (Ideal.div (∑ l, X l * X l) D + epsE))) D) + e
      = e + (N k * Ideal.rsqrt (Ideal.div (∑ l, X l * X l) D + epsE)
          + X k * Ideal.div ((∑ l, X l * N l) * (negHalfE * Ideal.div (Ideal.rsqrt (Ideal.div (∑ l, X l * X l) D + epsE))
              (Ideal.div (∑ l, X l * X l) D + epsE))) D
          + Ideal.div ((∑ l, X l * N l) * (negHalfE * Ideal.div (Ideal.rsqrt (Ideal.div (∑ l, X l * X l) D + epsE))
              (Ideal.div (∑ l, X l * X l) D + epsE))) D * X k) := by
  rw [add_comm]
  congr 1
  rcases mean_square hd0 hD X with h | ⟨q, hq, h⟩
  · rw [h]
    have hR : Ideal.rsqrt ⊤ = 0 := rfl
    have hd : Ideal.div 0 ⊤ = 0 := by unfold Ideal.div; rw [if_neg (by simp)]; simp
    rw [hR, hd]
    simp [hD, div_real _ hd0.ne']
  · rw [h]
    set ρ : ℝ := (Real.sqrt q)⁻¹ with hρ
    have hs : 0 < Real.sqrt q := Real.sqrt_pos.mpr hq
    have hp : 0 < ρ := inv_pos.mpr hs
    have hR : Ideal.rsqrt (q : EReal) = (ρ : EReal) := by
      show (if q < 0 then (⊥ : EReal) else if q = 0 then ⊤ else (((Real.sqrt q)⁻¹ : ℝ) : EReal)) = _
      rw [if_neg (not_lt.mpr hq.le), if_neg hq.ne']
    have hρ2 : ρ * ρ = q⁻¹ := by
      rw [hρ, ← mul_inv, Real.mul_self_sqrt hq.le]
    rw [hR, hD, div_real _ hd0.ne', div_real _ hd0.ne', div_real _ hq.ne', negHalf_lit]
    have eN : ∑ l, N l * (X l * (ρ : EReal)) = (∑ l, X l * N l) * (ρ : EReal) := by
      rw [← sum_scaled hp.le]
      exact Finset.sum_congr rfl fun l _ => by rw [← mul_assoc, mul_comm (N l)]
    rw [eN]
    generalize (∑ l, X l * N l) = S
    generalize X k = x
    generalize N k = u0
    set a : ℝ := 1 / 2 * (ρ * q⁻¹) * d⁻¹ with ha
    have ha0 : 0 ≤ a := by positivity
    have eC : S * (((-(1 / 2) : ℝ) : EReal) * ((ρ : EReal) * ((q⁻¹ : ℝ) : EReal))) * ((d⁻¹ : ℝ) : EReal) = -(S * (a : EReal)) := by
      rw [mul_assoc, ← EReal.coe_mul, ← EReal.coe_mul, ← EReal.coe_mul, ← mul_neg, ← EReal.coe_neg]
      congr 2; rw [ha]; ring
    have e3 : (ρ : EReal) * (x * (ρ : EReal) * (S * (ρ : EReal) * ((d⁻¹ : ℝ) : EReal))) = x * S * ((a + a : ℝ) : EReal) := by
      have : a + a = ρ * ρ * ρ * d⁻¹ := by rw [hρ2, ha]; ring
      rw [this, EReal.coe_mul, EReal.coe_mul, EReal.coe_mul]; ac_rfl
    rw [eC, sub_eq_add_neg, EReal.left_distrib_of_nonneg_of_ne_top (by exact_mod_cast hp.le) (EReal.coe_ne_top ρ), mul_neg, e3, ← twice _ ha0,
      mul_comm (ρ : EReal) u0, add_assoc]
    congr 1
    have u : x * -(S * (a : EReal)) = -(x * S * (a : EReal)) := by rw [mul_neg, mul_assoc]
    have u' : -(S * (a : EReal)) * x = -(x * S * (a : EReal)) := by rw [neg_mul, mul_comm x S, mul_assoc, mul_assoc, mul_comm x]
    rw [u, u']
    generalize x * S * (a : EReal) = y
    induction y using EReal.rec with
    | bot => rfl
    | coe r => norm_cast; ring
    | top => rfl

/-- The two groupings of the norm's gradient at one element, added to the cotangent that passes by. -/
theorem norm_grad (X N : Fin 1024 → EReal) (k : Fin 1024) (e : EReal) :
    Ideal.rsqrt (Ideal.div (∑ l, X l * X l) dimE + epsE)
        * (N k - X k * Ideal.rsqrt (Ideal.div (∑ l, X l * X l) dimE + epsE)
            * Ideal.div (∑ l, N l * (X l * Ideal.rsqrt (Ideal.div (∑ l, X l * X l) dimE + epsE))) dimE) + e
      = e + (N k * Ideal.rsqrt (Ideal.div (∑ l, X l * X l) dimE + epsE)
          + X k * Ideal.div ((∑ l, X l * N l) * (negHalfE * Ideal.div (Ideal.rsqrt (Ideal.div (∑ l, X l * X l) dimE + epsE))
              (Ideal.div (∑ l, X l * X l) dimE + epsE))) dimE
          + Ideal.div ((∑ l, X l * N l) * (negHalfE * Ideal.div (Ideal.rsqrt (Ideal.div (∑ l, X l * X l) dimE + epsE))
              (Ideal.div (∑ l, X l * X l) dimE + epsE))) dimE * X k) := norm_grad_of (by norm_num) dim_lit X N k e

end Cert.FfnIn

end
-- ==== Proof.InRef.lean ====
/- The two results of the input gradient's reference, element by element: the same mathematics as the kernel's arrays. -/
module

public import proofs.«01_k».proof.Proof.Gen.Reference2Ideal.Read
public import proofs.«01_k».proof.Proof.InSpec
public import proofs.«01_k».proof.Proof.InNorm

@[expose] public section

set_option maxRecDepth 16384

noncomputable section

namespace Cert.FfnIn.Ref

open Cert.Reference2Ideal Cert.Reference2Ideal.Gen Cert.Reference2Ideal.Read Cert.FfnBwd Cert.FfnFwd
open Idealize.ShloMosaic

variable (x0 x1 : Mat 2048 2816) (x2 : Mat 1024 5632) (x3 x4 : Mat 2048 1024) (x5 : Mat 3 1024) (x6 : Mat 1 1024)

theorem join_left (r : Fin 2048) (j : Fin 2816) : val_main_v3 (F := Ideal) x0 x1 (ix2 r ⟨j.val, by omega⟩) = x0 (ix2 r j) := by
  unfold val_main_v3; pointwise

theorem join_right (r : Fin 2048) (j : Fin 2816) : val_main_v3 (F := Ideal) x0 x1 (ix2 r ⟨2816 + j.val, by omega⟩) = x1 (ix2 r j) := by
  unfold val_main_v3; pointwise

theorem dh : val_main_v26 (F := Ideal) x0 x1 x2 = dhS x0 x1 x2 := by
  funext i
  obtain ⟨r, k, rfl⟩ : ∃ (r : Fin 2048) (k : Fin 1024), i = ix2 r k := ⟨i 0, i 1, eq_ix2 i⟩
  have e : val_main_v26 (F := Ideal) x0 x1 x2 (ix2 r k) = ∑ j : Fin 5632, val_main_v3 (F := Ideal) x0 x1 (ix2 r j) * x2 (ix2 k j) := by
    unfold val_main_v26
    generalize val_main_v3 (F := Ideal) x0 x1 = y
    pointwise
  rw [e, sum_two]
  simp only [join_left, join_right]
  rfl

/-- The reciprocal root, a row's normed values, and the gradient of the normed rows. -/
theorem root (r : Fin 2048) : val_main_v11 (F := Ideal) x3 (ix2 r 0) = rS x3 r := by
  unfold val_main_v11 val_main_v10 val_main_v9 val_main_v8 val_main_v7 val_main_v6 val_main_v5 val_main_v4 val_main_cst val_main_cst_0 val_main_cst_1
  pointwise
  rfl

theorem dn : val_main_v38 (F := Ideal) x0 x1 x2 x5 x6 = dnS (dhS x0 x1 x2) x5 x6 := by
  funext i
  obtain ⟨r, k, rfl⟩ : ∃ (r : Fin 2048) (k : Fin 1024), i = ix2 r k := ⟨i 0, i 1, eq_ix2 i⟩
  unfold val_main_v38 val_main_v37 val_main_v33 val_main_v32 val_main_v20 val_main_v19 val_main_v1 val_main_cst_3
  rw [dh]
  generalize dhS x0 x1 x2 = y
  pointwise
  rfl

/-- The first result. -/
theorem dx : val_main_v53 (F := Ideal) x0 x1 x2 x3 x4 x5 x6 = dxS (dhS x0 x1 x2) x3 x4 x5 x6 := by
  funext i
  obtain ⟨r, k, rfl⟩ : ∃ (r : Fin 2048) (k : Fin 1024), i = ix2 r k := ⟨i 0, i 1, eq_ix2 i⟩
  unfold val_main_v53 val_main_v52 val_main_v51 val_main_v50 val_main_v49 val_main_v48 val_main_v47 val_main_v46 val_main_v45 val_main_v44 val_main_v43
    val_main_v42 val_main_v41 val_main_v40 val_main_v39 val_main_v14 val_main_v13 val_main_v12
    val_main_v11 val_main_v10 val_main_v9 val_main_v8 val_main_v7 val_main_v6 val_main_v5 val_main_v4 val_main_cst val_main_cst_0 val_main_cst_1
    val_main_cst_2 val_main_cst_7 val_main_cst_8 val_main_cst_9
  rw [dn]
  unfold dxS
  generalize dnS (dhS x0 x1 x2) x5 x6 = N
  refine Eq.trans ?_ (norm_grad (fun l => x3 (ix2 r l)) (fun l => N (ix2 r l)) k (x4 (ix2 r k))).symm
  pointwise
  rw [Fin.sum_univ_one]

/-- The second result. -/
theorem row_shift (k : Fin 1024) : val_main_v28 (F := Ideal) x0 x1 x2 (ix2 0 k) = dshS (dhS x0 x1 x2) k := by
  unfold val_main_v28 val_main_v27 val_main_cst_4
  rw [dh]
  generalize dhS x0 x1 x2 = y
  pointwise
  rfl

theorem row_scale (k : Fin 1024) : val_main_v31 (F := Ideal) x0 x1 x2 x3 x6 (ix2 0 k) = dscS (dhS x0 x1 x2) x3 x6 k := by
  unfold val_main_v31 val_main_v30 val_main_v29 val_main_v18 val_main_v17 val_main_v16 val_main_v15
    val_main_v11 val_main_v10 val_main_v9 val_main_v8 val_main_v7 val_main_v6 val_main_v5 val_main_v4 val_main_cst val_main_cst_0 val_main_cst_1 val_main_cst_5
  rw [dh]
  generalize dhS x0 x1 x2 = y
  pointwise
  exact Finset.sum_congr rfl fun r _ => mul_comm (G := EReal) _ _

theorem row_gain (k : Fin 1024) : val_main_v36 (F := Ideal) x0 x1 x2 x3 x5 (ix2 0 k) = dgnS (dhS x0 x1 x2) x3 x5 k := by
  unfold val_main_v36 val_main_v35 val_main_v34 val_main_v33 val_main_v32 val_main_v20 val_main_v19 val_main_v1 val_main_v16 val_main_v15
    val_main_v11 val_main_v10 val_main_v9 val_main_v8 val_main_v7 val_main_v6 val_main_v5 val_main_v4 val_main_cst val_main_cst_0 val_main_cst_1 val_main_cst_3 val_main_cst_6
  rw [dh]
  generalize dhS x0 x1 x2 = y
  pointwise
  exact Finset.sum_congr rfl fun r _ => mul_comm (G := EReal) _ _

theorem rows : val_main_v55 (F := Ideal) x0 x1 x2 x3 x5 x6 = rowsS (dhS x0 x1 x2) x3 x5 x6 := by
  funext i
  obtain ⟨p, k, rfl⟩ : ∃ (p : Fin 8) (k : Fin 1024), i = ix2 p k := ⟨i 0, i 1, eq_ix2 i⟩
  have e0 := row_shift x0 x1 x2 k
  have e1 := row_scale x0 x1 x2 x3 x6 k
  have e2 := row_gain x0 x1 x2 x3 x5 k
  unfold val_main_v55 val_main_v54 val_main_cst_10
  generalize val_main_v28 (F := Ideal) x0 x1 x2 = a at e0 ⊢
  generalize val_main_v31 (F := Ideal) x0 x1 x2 x3 x6 = b at e1 ⊢
  generalize val_main_v36 (F := Ideal) x0 x1 x2 x3 x5 = d at e2 ⊢
  fin_cases p
  · exact Eq.trans (by pointwise) e0
  · exact Eq.trans (by pointwise) e1
  · exact Eq.trans (by pointwise) e2
  all_goals exact Eq.trans (by pointwise) (rfl : (0 : EReal) = 0)

end Cert.FfnIn.Ref

end
-- ==== Proof.InKernel.lean ====
/- The input gradient kernel's frame on words. The run is proved once, over any float values, and the two programs have the same text. -/
module

public import proofs.«01_k».proof.Defs
public import proofs.«01_k».proof.Proof.InFrame
public import proofs.«01_k».proof.Proof.Gen.Kernel2

@[expose] public section

noncomputable section

namespace Cert.FfnIn

open Idealize.ShloMosaic Idealize.SL.Sem

attribute [local instance] Cert.Kernel2.Gen.facts

theorem body_text : @Cert.Kernel2.cc0_ffn_bwd_in Bits _ _ = @Cert.Kernel2Ideal.cc0_ffn_bwd_in Bits _ _ := rfl

theorem bodies_text : Cert.Kernel2.defs₀ (F := Bits) = Cert.Kernel2Ideal.defs₀ (F := Bits) := by
  refine congrArg Defs.onTc ?_
  funext l x
  match l, x with
  | ⟨0, _⟩, (t, s) => rfl

theorem defs_text : Cert.Kernel2.defs (F := Bits) = Cert.Kernel2Ideal.defs (F := Bits) := congrArg (Pipeline.defs _) bodies_text

theorem frame_kernel : Cert.quiescent_Kernel2 := by
  intro m ρ _
  rw [defs_text]
  exact (θ_run Cert.Kernel2Ideal.defs _ _).mono (fun _ h => h) (frame (F := Bits) m ρ)

end Cert.FfnIn

end
-- ==== Proof.FwdRun.lean ====
/- The feed-forward forward kernel's body, run once per case: what each buffer holds after the body, in terms of
   what its operands hold. -/
module

public import proofs.«01_k».proof.Proof.Gen.Kernel3Ideal.Frame
public import proofs.«01_k».proof.Proof.Gen.Kernel3Ideal.Skeleton
public import proofs.«01_k».proof.Proof.Whole
public import Idealize.ShloMosaic.Lib.Claim
public import Idealize.ShloMosaic.Lib.Pipeline.Value

@[expose] public section

set_option maxRecDepth 16384

noncomputable section

namespace Cert.FfnFwd

open Cert.Kernel3Ideal Cert.Kernel3Ideal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The normed and modulated rows, from a block of the input, the gain, the shift and the scale. -/
def hBlk (x : Vec F S512x1024 .f32) (md : Vec F S3x1024 .f32) (g : Vec F S1x1024 .f32) : Vec F S512x1024 .bf16 :=
  k0_pay3 x g (rows md 0 1 (by decide)) (rows md 1 1 (by decide))

set_option maxHeartbeats 2000000 in
/-- The body at the first point of a block of rows: it forms the rows, the first half of the columns of the two
    products, and the first part of the sum. -/
theorem run_first (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1408x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (arg13 : Memref sig .tc .vmem S512x1024 .f32) (harg13 : arg13.IsWhole)
    (hc1 : k0_cond1 i = 1#1) (hc2 : ¬ (k0_cond2 i = 1#1)) (x2 : Vec F S512x1024 .f32) (x3 : Vec F S3x1024 .f32) (x4 : Vec F S1x1024 .f32) (x5 : Vec F S1x1024x1408 .bf16) (x6 : Vec F S1x1024x1408 .bf16) (x7 : Vec F S1408x1024 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare (hBlk x2 x3 x4) ∗ owns (c : Thread nD τ) arg10 fullShare (k0_pay8 (hBlk x2 x3 x4) x5) ∗ owns (c : Thread nD τ) arg11 fullShare (k0_pay9 (hBlk x2 x3 x4) x6) ∗ owns (c : Thread nD τ) arg13 fullShare (k0_pay10 (hBlk x2 x3 x4) x5 x6 k0_pay4 x7)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, ⟨%d11, %f11, -, H11⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro; refine (stored2 _ _ _ _ _).trans ?_; try (sl_unfold_words; simp only [load2, load3, load_row (by decide : 0 + 1 ≤ 3), load_row (by decide : 1 + 1 ≤ 3), load_row (by decide : 2 + 1 ≤ 3), reload2]; try rfl)
  isplitl [H10]
  · iexists _; isplitr; swap; · iexact H10
    ipureintro; refine (stored2 _ _ _ _ _).trans ?_; try (sl_unfold_words; simp only [load2, load3, load_row (by decide : 0 + 1 ≤ 3), load_row (by decide : 1 + 1 ≤ 3), load_row (by decide : 2 + 1 ≤ 3), reload2]; try rfl)
  isplitl [H11]
  · iexists _; isplitr; swap; · iexact H11
    ipureintro; refine (stored2 _ _ _ _ _).trans ?_; try (sl_unfold_words; simp only [load2, load3, load_row (by decide : 0 + 1 ≤ 3), load_row (by decide : 1 + 1 ≤ 3), load_row (by decide : 2 + 1 ≤ 3), reload2]; try rfl)
  iexists _; isplitr; swap; · iexact H13
  ipureintro; refine (stored2 _ _ _ _ _).trans ?_; try (sl_unfold_words; simp only [load2, load3, load_row (by decide : 0 + 1 ≤ 3), load_row (by decide : 1 + 1 ≤ 3), load_row (by decide : 2 + 1 ≤ 3), reload2]; try rfl)

set_option maxHeartbeats 2000000 in
/-- The body at the second point: it forms the other half of the columns, ends the sum, and adds the scaled sum to the input. -/
theorem run_last (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1408x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (arg13 : Memref sig .tc .vmem S512x1024 .f32) (harg13 : arg13.IsWhole)
    (hc1 : ¬ (k0_cond1 i = 1#1)) (hc2 : k0_cond2 i = 1#1) (x2 : Vec F S512x1024 .f32) (x3 : Vec F S3x1024 .f32) (x5 : Vec F S1x1024x1408 .bf16) (x6 : Vec F S1x1024x1408 .bf16) (x7 : Vec F S1408x1024 .bf16) (x9 : Vec F S512x1024 .bf16) (x13 : Vec F S512x1024 .f32) (E : Set ℕ) (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg13 fullShare x13 ∗ (∃ d, owns (c : Thread nD τ) arg8 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg13 fullShare (k0_pay10 x9 x5 x6 x13 x7) ∗ owns (c : Thread nD τ) arg8 fullShare (k0_pay2 (k0_pay10 x9 x5 x6 x13 x7) x2 (rows x3 2 1 (by decide))) ∗ owns (c : Thread nD τ) arg10 fullShare (k0_pay8 x9 x5) ∗ owns (c : Thread nD τ) arg11 fullShare (k0_pay9 x9 x6) ∗ owns (c : Thread nD τ) arg12 fullShare (k0_pay1 (k0_pay10 x9 x5 x6 x13 x7))) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]
  unfold owns
  iintro ⟨⟨%f2, %hf2, H2⟩, ⟨%f3, %hf3, H3⟩, ⟨%f5, %hf5, H5⟩, ⟨%f6, %hf6, H6⟩, ⟨%f7, %hf7, H7⟩, ⟨%f9, %hf9, H9⟩, ⟨%f13, %hf13, H13⟩, ⟨%d8, %f8, -, H8⟩, ⟨%d10, %f10, -, H10⟩, ⟨%d11, %f11, -, H11⟩, ⟨%d12, %f12, -, H12⟩, Hk⟩
  obtain rfl := harg2.eq_unread hf2; obtain rfl := harg3.eq_unread hf3; obtain rfl := harg5.eq_unread hf5; obtain rfl := harg6.eq_unread hf6; obtain rfl := harg7.eq_unread hf7; obtain rfl := harg9.eq_unread hf9; obtain rfl := harg13.eq_unread hf13
  sl_exec (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  isplitl [H13]
  · iexists _; isplitr; swap; · iexact H13
    ipureintro; refine (stored2 _ _ _ _ _).trans ?_; try (sl_unfold_words; simp only [load2, load3, load_row (by decide : 0 + 1 ≤ 3), load_row (by decide : 1 + 1 ≤ 3), load_row (by decide : 2 + 1 ≤ 3), reload2]; try rfl)
  isplitl [H8]
  · iexists _; isplitr; swap; · iexact H8
    ipureintro; refine (stored2 _ _ _ _ _).trans ?_; try (sl_unfold_words; simp only [load2, load3, load_row (by decide : 0 + 1 ≤ 3), load_row (by decide : 1 + 1 ≤ 3), load_row (by decide : 2 + 1 ≤ 3), reload2]; try rfl)
  isplitl [H10]
  · iexists _; isplitr; swap; · iexact H10
    ipureintro; refine (stored2 _ _ _ _ _).trans ?_; try (sl_unfold_words; simp only [load2, load3, load_row (by decide : 0 + 1 ≤ 3), load_row (by decide : 1 + 1 ≤ 3), load_row (by decide : 2 + 1 ≤ 3), reload2]; try rfl)
  isplitl [H11]
  · iexists _; isplitr; swap; · iexact H11
    ipureintro; refine (stored2 _ _ _ _ _).trans ?_; try (sl_unfold_words; simp only [load2, load3, load_row (by decide : 0 + 1 ≤ 3), load_row (by decide : 1 + 1 ≤ 3), load_row (by decide : 2 + 1 ≤ 3), reload2]; try rfl)
  iexists _; isplitr; swap; · iexact H12
  ipureintro; refine (stored2 _ _ _ _ _).trans ?_; try (sl_unfold_words; simp only [load2, load3, load_row (by decide : 0 + 1 ≤ 3), load_row (by decide : 1 + 1 ≤ 3), load_row (by decide : 2 + 1 ≤ 3), reload2]; try rfl)

end Cert.FfnFwd

end
-- ==== Proof.FwdFrame.lean ====
/- The feed-forward forward kernel's launch: what each buffer holds at each point, the body's obligation, and the run of
   the whole program. A block of rows has two points. The first stores the normed rows and the first part of the sum, which
   the second reads; the second stores the sum and the new rows. Each of these buffers is written back after the second. -/
module

public import proofs.«01_k».proof.Proof.FwdRun
public import Idealize.ShloMosaic.Lib.Claim
public import Idealize.ShloMosaic.Lib.Pipeline.Value

@[expose] public section

set_option maxRecDepth 16384

noncomputable section

namespace Cert.FfnFwd

open Cert.Kernel3Ideal Cert.Kernel3Ideal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev scratch : Memref sig .tc .vmem S512x1024 .f32 := Memref.whole cc0_scratch0

/-- The first branch is taken at the even points. -/
theorem cond1_iff : ∀ t : Fin cfg0.N, k0_cond1 (grid0.coords t) = 1#1 ↔ t.val % 2 = 0 :=
  (fun t => by
    have e0 : (grid0.coords t 1).val = t.val / 1 % 2 := Pipeline.Grid.coords_val t 1 (by decide) rfl
    simp only [k0_cond1, e0, Nat.div_one]
    word_cmp
   : ∀ t : Fin grid0.N, k0_cond1 (grid0.coords t) = 1#1 ↔ t.val % 2 = 0)

/-- The second branch is taken at the odd points. -/
theorem cond2_iff : ∀ t : Fin cfg0.N, k0_cond2 (grid0.coords t) = 1#1 ↔ t.val % 2 = 1 :=
  (fun t => by
    have e0 : (grid0.coords t 1).val = t.val / 1 % 2 := Pipeline.Grid.coords_val t 1 (by decide) rfl
    simp only [k0_cond2, e0, Nat.div_one]
    word_cmp
   : ∀ t : Fin grid0.N, k0_cond2 (grid0.coords t) = 1#1 ↔ t.val % 2 = 1)

theorem busy_7 (t : Fin cfg0.N) (h : t.val % 2 = 0) : cfg0.idle 7 (cfg0.grid.coords t) = false := by
  have := (cond1_iff t).mpr h
  show (!decide (k0_cond1 (grid0.coords t) = 1#1)) = false
  simp [this]

theorem idle_7 (t : Fin cfg0.N) (h : t.val % 2 = 1) : cfg0.idle 7 (cfg0.grid.coords t) = true := by
  have := mt (cond1_iff t).mp (by omega)
  show (!decide (k0_cond1 (grid0.coords t) = 1#1)) = true
  simp [this]

theorem busy_6 (t : Fin cfg0.N) (h : t.val % 2 = 1) : cfg0.idle 6 (cfg0.grid.coords t) = false := by
  have := (cond2_iff t).mpr h
  show (!decide (k0_cond2 (grid0.coords t) = 1#1)) = false
  simp [this]

theorem idle_6 (t : Fin cfg0.N) (h : t.val % 2 = 0) : cfg0.idle 6 (cfg0.grid.coords t) = true := by
  have := mt (cond2_iff t).mp (by omega)
  show (!decide (k0_cond2 (grid0.coords t) = 1#1)) = true
  simp [this]

theorem busy_10 (t : Fin cfg0.N) (h : t.val % 2 = 1) : cfg0.idle 10 (cfg0.grid.coords t) = false := by
  have := (cond2_iff t).mpr h
  show (!decide (k0_cond2 (grid0.coords t) = 1#1)) = false
  simp [this]

theorem idle_10 (t : Fin cfg0.N) (h : t.val % 2 = 0) : cfg0.idle 10 (cfg0.grid.coords t) = true := by
  have := mt (cond2_iff t).mp (by omega)
  show (!decide (k0_cond2 (grid0.coords t) = 1#1)) = true
  simp [this]

/-- The first of the two points of a point's block of rows. -/
def ev (t : Fin cfg0.N) : Fin cfg0.N := ⟨t.val - t.val % 2, Nat.lt_of_le_of_lt (Nat.sub_le _ _) t.isLt⟩

theorem ev_even (t : Fin cfg0.N) (h : t.val % 2 = 0) : ev t = t := Fin.ext (by show t.val - t.val % 2 = t.val; omega)

theorem ev_succ (n : ℕ) (hn : n + 1 < cfg0.N) (h : n % 2 = 0) : ev ⟨n + 1, hn⟩ = ⟨n, Nat.lt_of_succ_lt hn⟩ :=
  Fin.ext (by show n + 1 - (n + 1) % 2 = n; omega)

/-- The normed rows, the first part of the sum, and the whole sum, of a point's block of rows. -/
def hV (c : Dev nD) (t : Fin cfg0.N) : Vec F S512x1024 .bf16 := hBlk (iblk m c 0 (ev t)) (iblk m c 1 (ev t)) (iblk m c 2 (ev t))
def partV (c : Dev nD) (t : Fin cfg0.N) : Vec F S512x1024 .f32 :=
  k0_pay10 (hV m c t) (iblk m c 3 (ev t)) (iblk m c 4 (ev t)) k0_pay4 (iblk m c 5 (ev t))
def sumV (c : Dev nD) (t : Fin cfg0.N) : Vec F S512x1024 .f32 :=
  k0_pay10 (hV m c t) (iblk m c 3 t) (iblk m c 4 t) (partV m c t) (iblk m c 5 t)

/-- What each point, or each block's second point, leaves for the other four results. -/
def aV (c : Dev nD) (t : Fin cfg0.N) : Vec F S512x1408 .bf16 := k0_pay8 (hV m c t) (iblk m c 3 t)
def bV (c : Dev nD) (t : Fin cfg0.N) : Vec F S512x1408 .bf16 := k0_pay9 (hV m c t) (iblk m c 4 t)
def xnV (c : Dev nD) (t : Fin cfg0.N) : Vec F S512x1024 .f32 := k0_pay2 (sumV m c t) (iblk m c 0 t) (rows (iblk m c 1 t) 2 1 (by decide))
def oV (c : Dev nD) (t : Fin cfg0.N) : Vec F S512x1024 .bf16 := k0_pay1 (sumV m c t)

/-- What the scratch buffer holds before a point: the first part of the sum before a block's second point, else anything. -/
def scratchAt (c : Dev nD) (n : ℕ) : sProp 𝕄 :=
  if h : n % 2 = 1 ∧ n < cfg0.N then owns (c : Thread nD τ) scratch fullShare (partV m c ⟨n, h.2⟩)
  else iprop(∃ d, owns (c : Thread nD τ) scratch fullShare d)

theorem scratchAt_any (c : Dev nD) (n : ℕ) (h : n % 2 = 0) :
    (scratchAt m c n : sProp 𝕄) = iprop(∃ d, owns (c : Thread nD τ) scratch fullShare d) := dif_neg (by omega)

theorem scratchAt_part (c : Dev nD) (t : Fin cfg0.N) (h : t.val % 2 = 1) :
    (scratchAt m c t.val : sProp 𝕄) = owns (c : Thread nD τ) scratch fullShare (partV m c t) := dif_pos ⟨h, t.isLt⟩

theorem scratchAt_next (c : Dev nD) (t : Fin cfg0.N) (h : t.val % 2 = 0) :
    (scratchAt m c (t.val + 1) : sProp 𝕄) = owns (c : Thread nD τ) scratch fullShare (partV m c t) := by
  have hN : cfg0.N = 8 := N_0
  have hlt : t.val + 1 < cfg0.N := by have := t.isLt; omega
  refine (dif_pos ⟨by omega, hlt⟩).trans ?_
  have e : ev ⟨t.val + 1, hlt⟩ = ev t := (ev_succ t.val hlt h).trans (ev_even t h).symm
  unfold partV hV
  rw [e]

/-- The proof data: the arrays as the region finds them, what each buffer holds after each point, the scratch buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => xnV m c t
    | ⟨7, _⟩ => hV m c t
    | ⟨8, _⟩ => aV m c t
    | ⟨9, _⟩ => bV m c t
    | ⟨10, _⟩ => oV m c t
  Φ t := iprop(scratchAt m c t.val ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = xnV m c t := by dsimp only [dats]
theorem after_7 (c : Dev nD) (t : Fin cfg0.N) : (dats m 0 c).after 7 t = hV m c t := by dsimp only [dats]
theorem after_8 (c : Dev nD) (t : Fin cfg0.N) : (dats m 0 c).after 8 t = aV m c t := by dsimp only [dats]
theorem after_9 (c : Dev nD) (t : Fin cfg0.N) : (dats m 0 c).after 9 t = bV m c t := by dsimp only [dats]
theorem after_10 (c : Dev nD) (t : Fin cfg0.N) : (dats m 0 c).after 10 t = oV m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- At a block's second point the buffer of the normed rows holds them. -/
theorem before_7 (c : Dev nD) (t : Fin cfg0.N) (h : t.val % 2 = 1) (d) : (dats m 0 c).before 7 t d = hV m c t := by
  obtain ⟨n, hn⟩ : ∃ n, t.val = n + 1 := ⟨t.val - 1, by omega⟩
  have hlt : n + 1 < cfg0.N := hn ▸ t.isLt
  obtain rfl : t = ⟨n + 1, hlt⟩ := Fin.ext hn
  have hp : n % 2 = 0 := by simp at h; omega
  rw [Dat.before_of_pos _ _ _ (by simp) rfl]
  rw [if_neg (by intro h'; have h'' := (flush0_7 _).mp h'; simp at h''; omega)]
  unfold Dat.left
  rw [busy_7 _ (by simpa using hp)]
  dsimp only
  unfold Dat.kept
  refine (after_7 m c _).trans ?_
  have e : ev ⟨n + 1, hlt⟩ = ev ⟨n, Nat.lt_of_succ_lt hlt⟩ := (ev_succ n hlt hp).trans (ev_even _ hp).symm
  unfold hV
  rw [e]
  rfl

/-- What the body is handed at a point, and what it returns. -/
def bodyPre (c : Dev nD) (t : Fin cfg0.N) : sProp 𝕄 :=
  iprop((dats m 0 c).Φ t.castSucc
    ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ
    ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t
    ∗ (dats m 0 c).leavesExact 7 t
    ∗ owns (c : Thread nD τ) (ms8 t) fullShare ((dats m 0 c).after 8 t)
    ∗ owns (c : Thread nD τ) (ms9 t) fullShare ((dats m 0 c).after 9 t)
    ∗ (dats m 0 c).leavesExact 10 t)

theorem leaves_7 (c : Dev nD) (t : Fin cfg0.N) (h : t.val % 2 = 0) :
    (dats m 0 c).leavesExact 7 t = (owns (c : Thread nD τ) (ms7 t) fullShare (hV m c t) : sProp 𝕄) := by
  unfold Dat.leavesExact; rw [busy_7 t h]; dsimp only; rw [after_7]

theorem leaves_6 (c : Dev nD) (t : Fin cfg0.N) (h : t.val % 2 = 1) :
    (dats m 0 c).leavesExact 6 t = (owns (c : Thread nD τ) (ms6 t) fullShare (xnV m c t) : sProp 𝕄) := by
  unfold Dat.leavesExact; rw [busy_6 t h]; dsimp only; rw [after_6]

theorem leaves_10 (c : Dev nD) (t : Fin cfg0.N) (h : t.val % 2 = 1) :
    (dats m 0 c).leavesExact 10 t = (owns (c : Thread nD τ) (ms10 t) fullShare (oV m c t) : sProp 𝕄) := by
  unfold Dat.leavesExact; rw [busy_10 t h]; dsimp only; rw [after_10]

theorem keeps_6 (c : Dev nD) (t : Fin cfg0.N) (h : t.val % 2 = 0) (d) :
    owns (c : Thread nD τ) (ms6 t) fullShare ((dats m 0 c).before 6 t d) ⊢ ((dats m 0 c).leavesExact 6 t : sProp 𝕄) := by
  have hf : ¬ (cfg0.win 6).flush t = true := fun hf => by have := (flush0_6 t).mp hf; omega
  rw [Dat.leavesExact_idle _ 6 t (idle_6 t h) (by simpa using hf)]
  iintro H; iexists _; iexact H

theorem keeps_10 (c : Dev nD) (t : Fin cfg0.N) (h : t.val % 2 = 0) (d) :
    owns (c : Thread nD τ) (ms10 t) fullShare ((dats m 0 c).before 10 t d) ⊢ ((dats m 0 c).leavesExact 10 t : sProp 𝕄) := by
  have hf : ¬ (cfg0.win 10).flush t = true := fun hf => by have := (flush0_10 t).mp hf; omega
  rw [Dat.leavesExact_idle _ 10 t (idle_10 t h) (by simpa using hf)]
  iintro H; iexists _; iexact H

theorem keeps_7 (c : Dev nD) (t : Fin cfg0.N) (h : t.val % 2 = 1) :
    (dats m 0 c).leavesExact 7 t = (owns (c : Thread nD τ) (ms7 t) fullShare (hV m c t) : sProp 𝕄) := by
  have hf : (cfg0.win 7).flush t = true := (flush0_7 t).mpr h
  unfold Dat.leavesExact; rw [idle_7 t h, hf]; dsimp only
  rw [after_7]

set_option maxHeartbeats 2000000 in
theorem sound_first (c : Dev nD) (t : Fin cfg0.N) (h0 : t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.castSucc = iprop(scratchAt m c t.val ∗ (∃ r, prngReg c r)) from rfl, scratchAt_any m c _ h0,
    show (dats m 0 c).Φ t.succ = iprop(scratchAt m c (t.val + 1) ∗ (∃ r, prngReg c r)) from rfl, scratchAt_next m c t h0,
    show (dats m 0 c).owesAt () t.succ = (dats m 0 c).owesAt () t.castSucc from rfl,
    after_0, after_1, after_2, after_3, after_4, after_5, after_8, after_9, leaves_7 m c t h0]
  have eh : hV m c t = hBlk (iblk m c 0 t) (iblk m c 1 t) (iblk m c 2 t) := by unfold hV; rw [ev_even t h0]
  have ep : partV m c t = k0_pay10 (hV m c t) (iblk m c 3 t) (iblk m c 4 t) k0_pay4 (iblk m c 5 t) := by unfold partV; rw [ev_even t h0]
  rw [ep]; unfold aV bV; rw [eh]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave H6 := (keeps_6 m c t h0 d6) $$ H6
  ihave H10 := (keeps_10 m c t h0 d10) $$ H10
  iapply (run_first c (grid0.coords t) _ _ _ _ _ _ _ _ _ _ _ _ _ _ _ _ _ _ _ _ _ _ _ _ ((cond1_iff t).mpr h0) (fun h => by have := (cond2_iff t).mp h; omega) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  isplitl [H8]; · iexists _; iexact H8
  isplitl [H9]; · iexists _; iexact H9
  isplitl [HS]; · iexact HS
  iintro ⟨H0, H1, H2, H3, H4, H5, H7, H8, H9, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 2000000 in
theorem sound_last (c : Dev nD) (t : Fin cfg0.N) (h1 : t.val % 2 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_7 m c t h1]
  rw [show (dats m 0 c).Φ t.castSucc = iprop(scratchAt m c t.val ∗ (∃ r, prngReg c r)) from rfl, scratchAt_part m c t h1,
    show (dats m 0 c).Φ t.succ = iprop(scratchAt m c (t.val + 1) ∗ (∃ r, prngReg c r)) from rfl, scratchAt_any m c _ (by omega),
    show (dats m 0 c).owesAt () t.succ = (dats m 0 c).owesAt () t.castSucc from rfl,
    after_0, after_1, after_2, after_3, after_4, after_5, after_8, after_9, leaves_6 m c t h1, leaves_10 m c t h1, keeps_7 m c t h1]
  unfold aV bV xnV oV sumV
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_last c (grid0.coords t) _ _ _ _ _ _ _ _ _ _ _ _ _ _ _ _ _ _ _ _ _ _ _ _ (fun h => by have := (cond1_iff t).mp h; omega) ((cond2_iff t).mpr h1) (iblk m c 0 t) (iblk m c 1 t) (iblk m c 3 t) (iblk m c 4 t) (iblk m c 5 t) (hV m c t) (partV m c t) Set.univ _)
  isplitl [H0]; · iexact H0
  isplitl [H1]; · iexact H1
  isplitl [H3]; · iexact H3
  isplitl [H4]; · iexact H4
  isplitl [H5]; · iexact H5
  isplitl [H7]; · iexact H7
  isplitl [HS]; · iexact HS
  isplitl [H6]; · iexists _; iexact H6
  isplitl [H8]; · iexists _; iexact H8
  isplitl [H9]; · iexists _; iexact H9
  isplitl [H10]; · iexists _; iexact H10
  iintro ⟨H0, H1, H3, H4, H5, H7, HS, H6, H8, H9, H10⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body's obligation at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  by_cases h0 : t.val % 2 = 0
  · exact triple_restated (sound_first m c t h0) rfl .rfl fun _ => .rfl
  · exact triple_restated (sound_last m c t (by omega)) rfl .rfl fun _ => .rfl

/-- The scratch buffer and the generator's register, as the launch hands them over. -/
theorem launch_rest (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

theorem first_rest (c : Dev nD) : (dats m 0 c).Φ 0 = (iprop((∃ d, owns (c : Thread nD τ) scratch fullShare d) ∗ (∃ r, prngReg c r)) : sProp 𝕄) := by
  rw [show (dats m 0 c).Φ 0 = iprop(scratchAt m c 0 ∗ (∃ r, prngReg c r)) from rfl, scratchAt_any m c 0 rfl]

theorem last_rest (c : Dev nD) : (dats m 0 c).Φ (Fin.last cfg0.N) = (iprop((∃ d, owns (c : Thread nD τ) scratch fullShare d) ∗ (∃ r, prngReg c r)) : sProp 𝕄) := by
  rw [show (dats m 0 c).Φ (Fin.last cfg0.N) = iprop(scratchAt m c cfg0.N ∗ (∃ r, prngReg c r)) from rfl,
    scratchAt_any m c _ (by rw [show cfg0.N = 8 from N_0])]

set_option backward.isDefEq.respectTransparency.types false in
/-- The run: every execution ends, with the windows' arrays at what the proof data says and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by rw [launch_rest]; exact (BIBase.BiEntails.of_eq (first_rest m c)).2)
    (hout := fun c => by rw [launch_rest]; exact (BIBase.BiEntails.of_eq (last_rest m c)).1)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the argument arrays unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FfnFwd

end
-- ==== Proof.FwdPay.lean ====
/- The feed-forward forward kernel's arithmetic, element by element, over the extended reals. -/
module

public import proofs.«01_k».proof.Proof.FwdRun
public import proofs.«01_k».proof.Proof.NormSpec
public import Idealize.ShloMosaic.Lib.Pointwise

@[expose] public section

set_option maxRecDepth 16384

noncomputable section

namespace Cert.FfnFwd

open Cert.Kernel3Ideal Cert.Kernel3Ideal.Gen Cert.Whole Cert.FfnBwd
open Idealize.ShloMosaic

/-- The normed and modulated rows of a block. -/
theorem hBlk_apply (x : Vec Ideal S512x1024 .f32) (md : Vec Ideal S3x1024 .f32) (g : Vec Ideal S1x1024 .f32) (r : Fin 512) (k : Fin 1024) :
    hBlk x md g (ix2 r k) = hS x md g (ix2 r k) := by
  unfold hBlk k0_pay3; pointwise; rfl

/-- One half of the product with a block of the input weights. -/
theorem pay8_apply (h : Vec Ideal S512x1024 .bf16) (w : Vec Ideal S1x1024x1408 .bf16) (r : Fin 512) (j : Fin 1408) :
    k0_pay8 h w (ix2 r j) = ∑ k : Fin 1024, h (ix2 r k) * w (ix3 0 k j) := by
  unfold k0_pay8 k0_pay6 k0_pay5; pointwise

/-- The other half. -/
theorem pay9_apply (h : Vec Ideal S512x1024 .bf16) (w : Vec Ideal S1x1024x1408 .bf16) (r : Fin 512) (j : Fin 1408) :
    k0_pay9 h w (ix2 r j) = ∑ k : Fin 1024, h (ix2 r k) * w (ix3 0 k j) := by
  unfold k0_pay9 k0_pay7 k0_pay5; pointwise

/-- One block's part of the product with the output weights, added to what is there. -/
theorem pay10_apply (h : Vec Ideal S512x1024 .bf16) (wa wb : Vec Ideal S1x1024x1408 .bf16) (acc : Vec Ideal S512x1024 .f32)
    (wo : Vec Ideal S1408x1024 .bf16) (r : Fin 512) (k : Fin 1024) :
    k0_pay10 h wa wb acc wo (ix2 r k) = acc (ix2 r k)
      + ∑ j : Fin 1408, (k0_pay8 h wa (ix2 r j) * Ideal.logistic (k0_pay8 h wa (ix2 r j)) * k0_pay9 h wb (ix2 r j)) * wo (ix2 j k) := by
  rw [show k0_pay8 h wa = k0_pay6 h wa from rfl, show k0_pay9 h wb = k0_pay7 h wb from rfl]
  unfold k0_pay10
  generalize k0_pay6 h wa = a
  generalize k0_pay7 h wb = b
  pointwise

theorem pay4_apply (r : Fin 512) (k : Fin 1024) : (k0_pay4 (F := Ideal)) (ix2 r k) = 0 := by
  unfold k0_pay4; pointwise

theorem pay1_apply (o : Vec Ideal S512x1024 .f32) (r : Fin 512) (k : Fin 1024) : k0_pay1 o (ix2 r k) = o (ix2 r k) := by
  unfold k0_pay1; pointwise

/-- The new rows. -/
theorem pay2_apply (o x : Vec Ideal S512x1024 .f32) (q : Vec Ideal S1x1024 .f32) (r : Fin 512) (k : Fin 1024) :
    k0_pay2 o x q (ix2 r k) = x (ix2 r k) + halfE * q (ix2 0 k) * o (ix2 r k) := by
  unfold k0_pay2; pointwise

end Cert.FfnFwd

end
-- ==== Proof.FwdHost.lean ====
/- The weights as the host code prepares them for the feed-forward forward kernel: the two halves of the input weights
   stacked, and the output weights. -/
module

public import proofs.«01_k».proof.Proof.Gen.Kernel3Ideal.Frame
public import proofs.«01_k».proof.Proof.FfnSpec
public import Idealize.ShloMosaic.Lib.Claim
public import Idealize.ShloMosaic.Lib.Pointwise

@[expose] public section

set_option maxRecDepth 16384

noncomputable section

namespace Cert.FfnFwd

open Cert.Kernel3Ideal Cert.Kernel3Ideal.Gen Cert.FfnBwd
open Idealize.ShloMosaic Idealize.ShloMosaic.TcCoe Idealize.ShloMosaic.StableHlo
open Idealize.SL.Sem

/-- The two halves of the columns, stacked. -/
def stackH {F : FTy → Type} [FloatOps F] (w : Vec F S1024x5632 .f32) : Vec F S2x1024x2816 .f32 :=
  concatenate S2x1024x2816 0
    [⟨S1x1024x2816, broadcastInDim S1x1024x2816 ![1, 2] bcast_S1024x2816_S1x1024x2816_1_2 (extractStridedSlice S1024x2816 ![0, 0] w slices_S1024x5632_S1024x2816_0_0)⟩,
     ⟨S1x1024x2816, broadcastInDim S1x1024x2816 ![1, 2] bcast_S1024x2816_S1x1024x2816_1_2 (extractStridedSlice S1024x2816 ![0, 2816] w slices_S1024x5632_S1024x2816_0_2816)⟩]
    concatenates_S1x1024x2816_S1x1024x2816_S2x1024x2816_d0

theorem stackH_zero (w : Vec Ideal S1024x5632 .f32) (k : Fin 1024) (j : Fin 2816) :
    stackH w (ix3 0 k j) = w (ix2 k ⟨j.val, by omega⟩) := by
  unfold stackH; pointwise

theorem stackH_one (w : Vec Ideal S1024x5632 .f32) (k : Fin 1024) (j : Fin 2816) :
    stackH w (ix3 1 k j) = w (ix2 k ⟨2816 + j.val, by omega⟩) := by
  unfold stackH; pointwise

section
variable {F : FTy → Type} [FloatOps F] (m : (ℓ : Loc nD τ sig) → Buf (Elt F) ℓ) (c : Dev nD)

theorem V_v5 : V m c main_v5 = truncf .bf16 (stackH (m ((c : Thread nD τ).loc main_arg3))) bitsLt_bf16_f32 := by
  unfold stackH
  simp only [V, hostOps0, List.flatten_cons, List.flatten_nil, List.append_nil, List.cons_append, List.nil_append,
    TRef.binary, TRef.nullary, TRef.unary, TRef.toBuf, TRef.ofBuf, cast_eq]
  after_results_simp <;> rfl

theorem V_v6 : V m c main_v6 = truncf .bf16 (m ((c : Thread nD τ).loc main_arg4)) bitsLt_bf16_f32 := by
  simp only [V, hostOps0, List.flatten_cons, List.flatten_nil, List.append_nil, List.cons_append, List.nil_append,
    TRef.binary, TRef.nullary, TRef.unary, TRef.toBuf, TRef.ofBuf, cast_eq]
  after_results_simp <;> rfl
end

variable (m : (ℓ : Loc nD τ sig) → Buf (Elt Ideal) ℓ) (c : Dev nD)

/-- The five arguments of a device. -/
abbrev x0 : Mat 2048 1024 := m ((c.tc : Thread nD τ).loc main_arg0)
abbrev x1 : Mat 3 1024 := m ((c.tc : Thread nD τ).loc main_arg1)
abbrev x2 : Mat 1 1024 := m ((c.tc : Thread nD τ).loc main_arg2)
abbrev x3 : Mat 1024 5632 := m ((c.tc : Thread nD τ).loc main_arg3)
abbrev x4 : Mat 2816 1024 := m ((c.tc : Thread nD τ).loc main_arg4)

theorem V_v5_zero (k : Fin 1024) (j : Fin 2816) : V m c main_v5 (ix3 0 k j) = x3 m c (ix2 k ⟨j.val, by omega⟩) :=
  (congrFun ((V_v5 m c).trans (show _ = stackH (F := Ideal) (x3 m c) from rfl)) _).trans (stackH_zero _ k j)
theorem V_v5_one (k : Fin 1024) (j : Fin 2816) : V m c main_v5 (ix3 1 k j) = x3 m c (ix2 k ⟨2816 + j.val, by omega⟩) :=
  (congrFun ((V_v5 m c).trans (show _ = stackH (F := Ideal) (x3 m c) from rfl)) _).trans (stackH_one _ k j)
theorem V_wo : V m c main_v6 = x4 m c := (V_v6 m c).trans rfl

end Cert.FfnFwd

end
-- ==== Proof.FwdArrays.lean ====
/- The five result arrays of the feed-forward forward kernel after its run, as functions of its arguments: each block
   written back is the block of that function, and the blocks cover the array. -/
module

public import proofs.«01_k».proof.Proof.FwdFrame
public import proofs.«01_k».proof.Proof.FwdPay
public import proofs.«01_k».proof.Proof.FwdHost

@[expose] public section

set_option maxRecDepth 16384

noncomputable section

namespace Cert.FfnFwd

open Cert.Kernel3Ideal Cert.Kernel3Ideal.Gen Cert.Whole Cert.FfnBwd
open Idealize.ShloMosaic Idealize.ShloMosaic.TcCoe
open Idealize.SL.Sem

variable (m : (ℓ : Loc nD τ sig) → Buf (Elt Ideal) ℓ) (c : Dev nD)

/-- Row `r` of the block of rows of point `t`, and column `j` of its block of columns. -/
def row (t : Fin cfg0.N) (r : Fin 512) : Fin 2048 :=
  ⟨t.val / 2 * 512 + r.val, by have : t.val < 8 := Nat.lt_of_lt_of_eq t.isLt N_0; have := r.isLt; omega⟩
def col (t : Fin cfg0.N) (j : Fin 1408) : Fin 2816 := ⟨t.val % 2 * 1408 + j.val, by have := j.isLt; omega⟩

theorem row_ev (t : Fin cfg0.N) (r : Fin 512) : row (ev t) r = row t r :=
  Fin.ext (by show (t.val - t.val % 2) / 2 * 512 + r.val = t.val / 2 * 512 + r.val; omega)

/-- Each row is in the block of some last point, and each element of a wide array in the block of some point. -/
theorem row_surj (n : Fin 2048) : ∃ t r, t.val % 2 = 1 ∧ row t r = n :=
  ⟨⟨2 * (n.val / 512) + 1, by have := n.isLt; have : cfg0.N = 8 := N_0; omega⟩, ⟨n.val % 512, Nat.mod_lt _ (by decide)⟩,
    by show (2 * (n.val / 512) + 1) % 2 = 1; omega, Fin.ext (by show (2 * (n.val / 512) + 1) / 2 * 512 + n.val % 512 = n.val; omega)⟩

theorem wide_surj (n : Fin 2048) (l : Fin 2816) : ∃ t r j, row t r = n ∧ col t j = l :=
  ⟨⟨2 * (n.val / 512) + l.val / 1408, by have := n.isLt; have := l.isLt; have : cfg0.N = 8 := N_0; omega⟩, ⟨n.val % 512, Nat.mod_lt _ (by decide)⟩,
    ⟨l.val % 1408, Nat.mod_lt _ (by decide)⟩,
    Fin.ext (by show (2 * (n.val / 512) + l.val / 1408) / 2 * 512 + n.val % 512 = n.val; have := l.isLt; omega),
    Fin.ext (by show (2 * (n.val / 512) + l.val / 1408) % 2 * 1408 + l.val % 1408 = l.val; have := l.isLt; omega)⟩

/-! ### Where an element of a block lies in its array -/

theorem emb_0 (t : Fin cfg0.N) (p : Fin 512) (q : Fin 1024) : ((cfg0.win 0).blk t).view.emb (ix2 p q) = (ix2 (row t p) q : S2048x1024.Idx) := by
  funext a; apply Fin.ext
  match a with
  | ⟨0, _⟩ =>
    refine (win0_0.rect_emb_val t (ix2 p q) 0).trans ?_
    rw [(by decide +kernel : ∀ t : Fin grid0.N, win0_0.index t 0 * win0_0.size 0 = t.val / 2 * 512) t]; rfl
  | ⟨1, _⟩ => exact win0_0.rect_emb_val_of_index_zero t 1 ((by decide +kernel : ∀ t : Fin grid0.N, win0_0.index t 1 = 0) t) (ix2 p q)

theorem emb_1 (t : Fin cfg0.N) (p : Fin 3) (q : Fin 1024) : ((cfg0.win 1).blk t).view.emb (ix2 p q) = (ix2 p q : S3x1024.Idx) := by
  funext a; apply Fin.ext
  match a with
  | ⟨0, _⟩ => exact win0_1.rect_emb_val_of_index_zero t 0 ((by decide +kernel : ∀ t : Fin grid0.N, win0_1.index t 0 = 0) t) (ix2 p q)
  | ⟨1, _⟩ => exact win0_1.rect_emb_val_of_index_zero t 1 ((by decide +kernel : ∀ t : Fin grid0.N, win0_1.index t 1 = 0) t) (ix2 p q)

theorem emb_2 (t : Fin cfg0.N) (p : Fin 1) (q : Fin 1024) : ((cfg0.win 2).blk t).view.emb (ix2 p q) = (ix2 p q : S1x1024.Idx) := by
  funext a; apply Fin.ext
  match a with
  | ⟨0, _⟩ => exact win0_2.rect_emb_val_of_index_zero t 0 ((by decide +kernel : ∀ t : Fin grid0.N, win0_2.index t 0 = 0) t) (ix2 p q)
  | ⟨1, _⟩ => exact win0_2.rect_emb_val_of_index_zero t 1 ((by decide +kernel : ∀ t : Fin grid0.N, win0_2.index t 1 = 0) t) (ix2 p q)

theorem emb_3 (t : Fin cfg0.N) (p : Fin 1) (q : Fin 1024) (s : Fin 1408) : ((cfg0.win 3).blk t).view.emb (ix3 p q s) = (ix3 0 q (col t s) : S2x1024x2816.Idx) := by
  funext a; apply Fin.ext
  match a with
  | ⟨0, _⟩ =>
    refine (win0_3.rect_emb_val t (ix3 p q s) 0).trans ?_
    rw [(by decide +kernel : ∀ t : Fin grid0.N, win0_3.index t 0 * win0_3.size 0 = 0) t]; have : p.val < 1 := p.isLt; show 0 + p.val = 0; omega
  | ⟨1, _⟩ => exact win0_3.rect_emb_val_of_index_zero t 1 ((by decide +kernel : ∀ t : Fin grid0.N, win0_3.index t 1 = 0) t) (ix3 p q s)
  | ⟨2, _⟩ =>
    refine (win0_3.rect_emb_val t (ix3 p q s) 2).trans ?_
    rw [(by decide +kernel : ∀ t : Fin grid0.N, win0_3.index t 2 * win0_3.size 2 = t.val % 2 * 1408) t]; rfl

theorem emb_4 (t : Fin cfg0.N) (p : Fin 1) (q : Fin 1024) (s : Fin 1408) : ((cfg0.win 4).blk t).view.emb (ix3 p q s) = (ix3 1 q (col t s) : S2x1024x2816.Idx) := by
  funext a; apply Fin.ext
  match a with
  | ⟨0, _⟩ =>
    refine (win0_4.rect_emb_val t (ix3 p q s) 0).trans ?_
    rw [(by decide +kernel : ∀ t : Fin grid0.N, win0_4.index t 0 * win0_4.size 0 = 1) t]; have : p.val < 1 := p.isLt; show 1 + p.val = 1; omega
  | ⟨1, _⟩ => exact win0_4.rect_emb_val_of_index_zero t 1 ((by decide +kernel : ∀ t : Fin grid0.N, win0_4.index t 1 = 0) t) (ix3 p q s)
  | ⟨2, _⟩ =>
    refine (win0_4.rect_emb_val t (ix3 p q s) 2).trans ?_
    rw [(by decide +kernel : ∀ t : Fin grid0.N, win0_4.index t 2 * win0_4.size 2 = t.val % 2 * 1408) t]; rfl

theorem emb_5 (t : Fin cfg0.N) (p : Fin 1408) (q : Fin 1024) : ((cfg0.win 5).blk t).view.emb (ix2 p q) = (ix2 (col t p) q : S2816x1024.Idx) := by
  funext a; apply Fin.ext
  match a with
  | ⟨0, _⟩ =>
    refine (win0_5.rect_emb_val t (ix2 p q) 0).trans ?_
    rw [(by decide +kernel : ∀ t : Fin grid0.N, win0_5.index t 0 * win0_5.size 0 = t.val % 2 * 1408) t]; rfl
  | ⟨1, _⟩ => exact win0_5.rect_emb_val_of_index_zero t 1 ((by decide +kernel : ∀ t : Fin grid0.N, win0_5.index t 1 = 0) t) (ix2 p q)

theorem emb_6 (t : Fin cfg0.N) (p : Fin 512) (q : Fin 1024) : ((cfg0.win 6).blk t).view.emb (ix2 p q) = (ix2 (row t p) q : S2048x1024.Idx) := by
  funext a; apply Fin.ext
  match a with
  | ⟨0, _⟩ =>
    refine (win0_6.rect_emb_val t (ix2 p q) 0).trans ?_
    rw [(by decide +kernel : ∀ t : Fin grid0.N, win0_6.index t 0 * win0_6.size 0 = t.val / 2 * 512) t]; rfl
  | ⟨1, _⟩ => exact win0_6.rect_emb_val_of_index_zero t 1 ((by decide +kernel : ∀ t : Fin grid0.N, win0_6.index t 1 = 0) t) (ix2 p q)

theorem emb_7 (t : Fin cfg0.N) (p : Fin 512) (q : Fin 1024) : ((cfg0.win 7).blk t).view.emb (ix2 p q) = (ix2 (row t p) q : S2048x1024.Idx) := by
  funext a; apply Fin.ext
  match a with
  | ⟨0, _⟩ =>
    refine (win0_7.rect_emb_val t (ix2 p q) 0).trans ?_
    rw [(by decide +kernel : ∀ t : Fin grid0.N, win0_7.index t 0 * win0_7.size 0 = t.val / 2 * 512) t]; rfl
  | ⟨1, _⟩ => exact win0_7.rect_emb_val_of_index_zero t 1 ((by decide +kernel : ∀ t : Fin grid0.N, win0_7.index t 1 = 0) t) (ix2 p q)

theorem emb_10 (t : Fin cfg0.N) (p : Fin 512) (q : Fin 1024) : ((cfg0.win 10).blk t).view.emb (ix2 p q) = (ix2 (row t p) q : S2048x1024.Idx) := by
  funext a; apply Fin.ext
  match a with
  | ⟨0, _⟩ =>
    refine (win0_10.rect_emb_val t (ix2 p q) 0).trans ?_
    rw [(by decide +kernel : ∀ t : Fin grid0.N, win0_10.index t 0 * win0_10.size 0 = t.val / 2 * 512) t]; rfl
  | ⟨1, _⟩ => exact win0_10.rect_emb_val_of_index_zero t 1 ((by decide +kernel : ∀ t : Fin grid0.N, win0_10.index t 1 = 0) t) (ix2 p q)

theorem emb_8 (t : Fin cfg0.N) (p : Fin 512) (q : Fin 1408) : ((cfg0.win 8).blk t).view.emb (ix2 p q) = (ix2 (row t p) (col t q) : S2048x2816.Idx) := by
  funext a; apply Fin.ext
  match a with
  | ⟨0, _⟩ =>
    refine (win0_8.rect_emb_val t (ix2 p q) 0).trans ?_
    rw [(by decide +kernel : ∀ t : Fin grid0.N, win0_8.index t 0 * win0_8.size 0 = t.val / 2 * 512) t]; rfl
  | ⟨1, _⟩ =>
    refine (win0_8.rect_emb_val t (ix2 p q) 1).trans ?_
    rw [(by decide +kernel : ∀ t : Fin grid0.N, win0_8.index t 1 * win0_8.size 1 = t.val % 2 * 1408) t]; rfl

theorem emb_9 (t : Fin cfg0.N) (p : Fin 512) (q : Fin 1408) : ((cfg0.win 9).blk t).view.emb (ix2 p q) = (ix2 (row t p) (col t q) : S2048x2816.Idx) := by
  funext a; apply Fin.ext
  match a with
  | ⟨0, _⟩ =>
    refine (win0_9.rect_emb_val t (ix2 p q) 0).trans ?_
    rw [(by decide +kernel : ∀ t : Fin grid0.N, win0_9.index t 0 * win0_9.size 0 = t.val / 2 * 512) t]; rfl
  | ⟨1, _⟩ =>
    refine (win0_9.rect_emb_val t (ix2 p q) 1).trans ?_
    rw [(by decide +kernel : ∀ t : Fin grid0.N, win0_9.index t 1 * win0_9.size 1 = t.val % 2 * 1408) t]; rfl

/-! ### The input blocks -/

theorem iblk_0 (t : Fin cfg0.N) (r : Fin 512) (k : Fin 1024) : iblk m c 0 t (ix2 r k) = x0 m c (ix2 (row t r) k) := by
  show V m c main_arg0 (((cfg0.win 0).blk t).view.emb (ix2 r k)) = _
  rw [emb_0, V_main_arg0]

theorem iblk_1 (t : Fin cfg0.N) : iblk m c 1 t = x1 m c := by
  refine funext fun (y : S3x1024.Idx) => ?_
  obtain ⟨p, q, rfl⟩ : ∃ (p : Fin 3) (q : Fin 1024), y = ix2 p q := ⟨y 0, y 1, eq_ix2 y⟩
  show V m c main_arg1 (((cfg0.win 1).blk t).view.emb (ix2 p q)) = _
  rw [emb_1, V_main_arg1]

theorem iblk_2 (t : Fin cfg0.N) : iblk m c 2 t = x2 m c := by
  refine funext fun (y : S1x1024.Idx) => ?_
  obtain ⟨p, q, rfl⟩ : ∃ (p : Fin 1) (q : Fin 1024), y = ix2 p q := ⟨y 0, y 1, eq_ix2 y⟩
  show V m c main_arg2 (((cfg0.win 2).blk t).view.emb (ix2 p q)) = _
  rw [emb_2, V_main_arg2]

theorem iblk_3 (t : Fin cfg0.N) (k : Fin 1024) (j : Fin 1408) :
    iblk m c 3 t (ix3 0 k j) = x3 m c (ix2 k ⟨(col t j).val, by have := (col t j).isLt; omega⟩) := by
  show V m c main_v5 (((cfg0.win 3).blk t).view.emb (ix3 0 k j)) = _
  rw [emb_3]
  exact V_v5_zero m c k (col t j)

theorem iblk_4 (t : Fin cfg0.N) (k : Fin 1024) (j : Fin 1408) :
    iblk m c 4 t (ix3 0 k j) = x3 m c (ix2 k ⟨2816 + (col t j).val, by have := (col t j).isLt; omega⟩) := by
  show V m c main_v5 (((cfg0.win 4).blk t).view.emb (ix3 0 k j)) = _
  rw [emb_4]
  exact V_v5_one m c k (col t j)

theorem iblk_5 (t : Fin cfg0.N) (j : Fin 1408) (k : Fin 1024) : iblk m c 5 t (ix2 j k) = x4 m c (ix2 (col t j) k) := by
  show V m c main_v6 (((cfg0.win 5).blk t).view.emb (ix2 j k)) = _
  rw [emb_5, V_wo]

/-! ### The functions that the result arrays hold -/

abbrev hG : Mat 2048 1024 := hS (x0 m c) (x1 m c) (x2 m c)
abbrev aG : Mat 2048 2816 := aS (hG m c) (x3 m c)
abbrev bG : Mat 2048 2816 := bS (hG m c) (x3 m c)
abbrev uG : Mat 2048 2816 := uS (aG m c) (bG m c)
abbrev oG : Mat 2048 1024 := oS (uG m c) (x4 m c)
abbrev xnG : Mat 2048 1024 := xnS (x0 m c) (x1 m c) (oG m c)

/-! ### One block -/

theorem hV_apply (t : Fin cfg0.N) (r : Fin 512) (k : Fin 1024) : hV m c t (ix2 r k) = hG m c (ix2 (row t r) k) := by
  unfold hV
  rw [hBlk_apply, iblk_1, iblk_2]
  exact hS_row (fun k => by rw [iblk_0, row_ev]) _ _ k

theorem pay8_blk (t t' : Fin cfg0.N) (r : Fin 512) (j : Fin 1408) (ht : ∀ r, row t' r = row t r) :
    k0_pay8 (hV m c t) (iblk m c 3 t') (ix2 r j) = aG m c (ix2 (row t' r) (col t' j)) := by
  rw [pay8_apply]
  simp only [hV_apply, iblk_3, ← ht]
  rfl

theorem pay9_blk (t t' : Fin cfg0.N) (r : Fin 512) (j : Fin 1408) (ht : ∀ r, row t' r = row t r) :
    k0_pay9 (hV m c t) (iblk m c 4 t') (ix2 r j) = bG m c (ix2 (row t' r) (col t' j)) := by
  rw [pay9_apply]
  simp only [hV_apply, iblk_4, ← ht]
  rfl

theorem aV_apply (t : Fin cfg0.N) (r : Fin 512) (j : Fin 1408) : aV m c t (ix2 r j) = aG m c (ix2 (row t r) (col t j)) :=
  pay8_blk m c t t r j fun _ => rfl

theorem bV_apply (t : Fin cfg0.N) (r : Fin 512) (j : Fin 1408) : bV m c t (ix2 r j) = bG m c (ix2 (row t r) (col t j)) :=
  pay9_blk m c t t r j fun _ => rfl

/-- What the two points of a block of rows add up to. -/
theorem sumV_apply (t : Fin cfg0.N) (h : t.val % 2 = 1) (r : Fin 512) (k : Fin 1024) : sumV m c t (ix2 r k) = oG m c (ix2 (row t r) k) := by
  unfold sumV partV
  rw [pay10_apply, pay10_apply, pay4_apply, zero_add]
  simp only [pay8_blk m c t t r _ (fun _ => rfl), pay9_blk m c t t r _ (fun _ => rfl), pay8_blk m c t (ev t) r _ (row_ev t),
    pay9_blk m c t (ev t) r _ (row_ev t), iblk_5, row_ev]
  show _ = ∑ j : Fin 2816, uG m c (ix2 (row t r) j) * x4 m c (ix2 j k)
  rw [sum_halves]
  have e0 : ∀ j : Fin 1408, col (ev t) j = ⟨j.val, by omega⟩ := fun j =>
    Fin.ext (by show (t.val - t.val % 2) % 2 * 1408 + j.val = j.val; omega)
  have e1 : ∀ j : Fin 1408, col t j = ⟨1408 + j.val, by omega⟩ := fun j =>
    Fin.ext (by show t.val % 2 * 1408 + j.val = 1408 + j.val; omega)
  simp only [e0, e1]
  rfl

theorem oV_apply (t : Fin cfg0.N) (h : t.val % 2 = 1) (r : Fin 512) (k : Fin 1024) : oV m c t (ix2 r k) = oG m c (ix2 (row t r) k) := by
  unfold oV
  rw [pay1_apply, sumV_apply m c t h]

theorem xnV_apply (t : Fin cfg0.N) (h : t.val % 2 = 1) (r : Fin 512) (k : Fin 1024) : xnV m c t (ix2 r k) = xnG m c (ix2 (row t r) k) := by
  unfold xnV
  rw [pay2_apply, sumV_apply m c t h, iblk_0, iblk_1]
  rfl

/-! ### The arrays -/

theorem flushed_6 (t : Fin cfg0.N) (h : t.val % 2 = 1) : (dats m 0 c).flushed 6 t = ((cfg0.win 6).blk t).view.read (Elt Ideal) (xnG m c) := by
  show (cfg0.win 6).cut (grid0.coords t) ((dats m 0 c).after 6 t) = _
  rw [after_6]
  refine funext fun (y : S512x1024.Idx) => ?_
  show xnV m c t y = xnG m c (((cfg0.win 6).blk t).view.emb y)
  obtain ⟨p, q, rfl⟩ : ∃ (p : Fin 512) (q : Fin 1024), y = ix2 p q := ⟨y 0, y 1, eq_ix2 y⟩
  rw [emb_6]
  exact xnV_apply m c t h _ _

theorem arr_6 : (dats m 0 c).arrAt 6 cfg0.N = xnG m c :=
  (dats m 0 c).arrAt_eq_of_cover 6 (xnG m c) (fun t ht => flushed_6 m c t ((flush0_6 t).mp ht)) fun (i : S2048x1024.Idx) => by
    obtain ⟨t, r, ht, h⟩ := row_surj (i 0)
    refine ⟨t, (flush0_6 t).mpr ht, ?_⟩
    have e : ((cfg0.win 6).blk t).view.emb (ix2 r (i 1)) = i := (emb_6 t r (i 1)).trans (by rw [h]; exact (eq_ix2 i).symm)
    exact e ▸ View.emb_mem_set _ _

theorem flushed_7 (t : Fin cfg0.N) (h : t.val % 2 = 1) : (dats m 0 c).flushed 7 t = ((cfg0.win 7).blk t).view.read (Elt Ideal) (hG m c) := by
  show (cfg0.win 7).cut (grid0.coords t) ((dats m 0 c).after 7 t) = _
  rw [after_7]
  refine funext fun (y : S512x1024.Idx) => ?_
  show hV m c t y = hG m c (((cfg0.win 7).blk t).view.emb y)
  obtain ⟨p, q, rfl⟩ : ∃ (p : Fin 512) (q : Fin 1024), y = ix2 p q := ⟨y 0, y 1, eq_ix2 y⟩
  rw [emb_7]
  exact hV_apply m c t _ _

theorem arr_7 : (dats m 0 c).arrAt 7 cfg0.N = hG m c :=
  (dats m 0 c).arrAt_eq_of_cover 7 (hG m c) (fun t ht => flushed_7 m c t ((flush0_7 t).mp ht)) fun (i : S2048x1024.Idx) => by
    obtain ⟨t, r, ht, h⟩ := row_surj (i 0)
    refine ⟨t, (flush0_7 t).mpr ht, ?_⟩
    have e : ((cfg0.win 7).blk t).view.emb (ix2 r (i 1)) = i := (emb_7 t r (i 1)).trans (by rw [h]; exact (eq_ix2 i).symm)
    exact e ▸ View.emb_mem_set _ _

theorem flushed_8 (t : Fin cfg0.N) : (dats m 0 c).flushed 8 t = ((cfg0.win 8).blk t).view.read (Elt Ideal) (aG m c) := by
  show (cfg0.win 8).cut (grid0.coords t) ((dats m 0 c).after 8 t) = _
  rw [after_8]
  refine funext fun (y : S512x1408.Idx) => ?_
  show aV m c t y = aG m c (((cfg0.win 8).blk t).view.emb y)
  obtain ⟨p, q, rfl⟩ : ∃ (p : Fin 512) (q : Fin 1408), y = ix2 p q := ⟨y 0, y 1, eq_ix2 y⟩
  rw [emb_8]
  exact aV_apply m c t _ _

theorem arr_8 : (dats m 0 c).arrAt 8 cfg0.N = aG m c :=
  (dats m 0 c).arrAt_eq_of_cover 8 (aG m c) (fun t _ => flushed_8 m c t) fun (i : S2048x2816.Idx) => by
    obtain ⟨t, r, j, h, h'⟩ := wide_surj (i 0) (i 1)
    refine ⟨t, flush0_8 t, ?_⟩
    have e : ((cfg0.win 8).blk t).view.emb (ix2 r j) = i := (emb_8 t r j).trans (by rw [h, h']; exact (eq_ix2 i).symm)
    exact e ▸ View.emb_mem_set _ _

theorem flushed_9 (t : Fin cfg0.N) : (dats m 0 c).flushed 9 t = ((cfg0.win 9).blk t).view.read (Elt Ideal) (bG m c) := by
  show (cfg0.win 9).cut (grid0.coords t) ((dats m 0 c).after 9 t) = _
  rw [after_9]
  refine funext fun (y : S512x1408.Idx) => ?_
  show bV m c t y = bG m c (((cfg0.win 9).blk t).view.emb y)
  obtain ⟨p, q, rfl⟩ : ∃ (p : Fin 512) (q : Fin 1408), y = ix2 p q := ⟨y 0, y 1, eq_ix2 y⟩
  rw [emb_9]
  exact bV_apply m c t _ _

theorem arr_9 : (dats m 0 c).arrAt 9 cfg0.N = bG m c :=
  (dats m 0 c).arrAt_eq_of_cover 9 (bG m c) (fun t _ => flushed_9 m c t) fun (i : S2048x2816.Idx) => by
    obtain ⟨t, r, j, h, h'⟩ := wide_surj (i 0) (i 1)
    refine ⟨t, flush0_9 t, ?_⟩
    have e : ((cfg0.win 9).blk t).view.emb (ix2 r j) = i := (emb_9 t r j).trans (by rw [h, h']; exact (eq_ix2 i).symm)
    exact e ▸ View.emb_mem_set _ _

theorem flushed_10 (t : Fin cfg0.N) (h : t.val % 2 = 1) : (dats m 0 c).flushed 10 t = ((cfg0.win 10).blk t).view.read (Elt Ideal) (oG m c) := by
  show (cfg0.win 10).cut (grid0.coords t) ((dats m 0 c).after 10 t) = _
  rw [after_10]
  refine funext fun (y : S512x1024.Idx) => ?_
  show oV m c t y = oG m c (((cfg0.win 10).blk t).view.emb y)
  obtain ⟨p, q, rfl⟩ : ∃ (p : Fin 512) (q : Fin 1024), y = ix2 p q := ⟨y 0, y 1, eq_ix2 y⟩
  rw [emb_10]
  exact oV_apply m c t h _ _

theorem arr_10 : (dats m 0 c).arrAt 10 cfg0.N = oG m c :=
  (dats m 0 c).arrAt_eq_of_cover 10 (oG m c) (fun t ht => flushed_10 m c t ((flush0_10 t).mp ht)) fun (i : S2048x1024.Idx) => by
    obtain ⟨t, r, ht, h⟩ := row_surj (i 0)
    refine ⟨t, (flush0_10 t).mpr ht, ?_⟩
    have e : ((cfg0.win 10).blk t).view.emb (ix2 r (i 1)) = i := (emb_10 t r (i 1)).trans (by rw [h]; exact (eq_ix2 i).symm)
    exact e ▸ View.emb_mem_set _ _

/-- The run with the five results read: each array is the mathematics of the arguments. -/
theorem run (ρ : Dev nD → PrngReg) : θ_run defs (onTc (τ := τ) (main (F := Ideal))) ⟨m, fun _ => 0, ρ⟩ fun r => ∀ c : Dev nD,
      r.2.mem ((c.tc : Thread nD τ).loc main_v7_0) = xnG m c
      ∧ r.2.mem ((c.tc : Thread nD τ).loc main_v7_1) = hG m c
      ∧ r.2.mem ((c.tc : Thread nD τ).loc main_v7_2) = aG m c
      ∧ r.2.mem ((c.tc : Thread nD τ).loc main_v7_3) = bG m c
      ∧ r.2.mem ((c.tc : Thread nD τ).loc main_v7_4) = oG m c :=
  (θ_run defs _ _).mono (fun _ h c => ⟨((h c).1 6).trans (arr_6 m c), ((h c).1 7).trans (arr_7 m c), ((h c).1 8).trans (arr_8 m c),
    ((h c).1 9).trans (arr_9 m c), ((h c).1 10).trans (arr_10 m c)⟩) (run_main m ρ)

end Cert.FfnFwd

end
-- ==== Proof.FwdRef.lean ====
/- The five results of the forward reference, element by element: the same mathematics as the kernel's arrays. -/
module

public import proofs.«01_k».proof.Proof.Gen.Reference3Ideal.Read
public import proofs.«01_k».proof.Proof.NormSpec

@[expose] public section

set_option maxRecDepth 16384

noncomputable section

namespace Cert.FfnFwd.Ref

open Cert.Reference3Ideal Cert.Reference3Ideal.Gen Cert.Reference3Ideal.Read Cert.FfnBwd
open Idealize.ShloMosaic

variable (x0 : Mat 2048 1024) (x1 : Mat 3 1024) (x2 : Mat 1 1024) (x3 : Mat 1024 5632) (x4 : Mat 2816 1024)

theorem h : val_main_v20 (F := Ideal) x0 x1 x2 = hS x0 x1 x2 := by
  funext i
  obtain ⟨r, k, rfl⟩ : ∃ (r : Fin 2048) (k : Fin 1024), i = ix2 r k := ⟨i 0, i 1, eq_ix2 i⟩
  unfold val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v1 val_main_v0
    val_main_cst val_main_cst_0 val_main_cst_1 val_main_cst_2
  pointwise
  rfl

theorem a : val_main_v22 (F := Ideal) x0 x1 x2 x3 = aS (hS x0 x1 x2) x3 := by
  funext i
  obtain ⟨r, j, rfl⟩ : ∃ (r : Fin 2048) (j : Fin 2816), i = ix2 r j := ⟨i 0, i 1, eq_ix2 i⟩
  unfold val_main_v22 val_main_v21
  rw [h]
  generalize hS x0 x1 x2 = y
  pointwise
  rfl

theorem b : val_main_v23 (F := Ideal) x0 x1 x2 x3 = bS (hS x0 x1 x2) x3 := by
  funext i
  obtain ⟨r, j, rfl⟩ : ∃ (r : Fin 2048) (j : Fin 2816), i = ix2 r j := ⟨i 0, i 1, eq_ix2 i⟩
  unfold val_main_v23 val_main_v21
  rw [h]
  generalize hS x0 x1 x2 = y
  pointwise
  rfl

theorem u : val_main_v25 (F := Ideal) x0 x1 x2 x3 = uS (aS (hS x0 x1 x2) x3) (bS (hS x0 x1 x2) x3) := by
  funext i
  obtain ⟨r, j, rfl⟩ : ∃ (r : Fin 2048) (j : Fin 2816), i = ix2 r j := ⟨i 0, i 1, eq_ix2 i⟩
  unfold val_main_v25 val_main_v24 val_main_call0_v5 val_main_call0_v4 val_main_call0_v3 val_main_call0_v2 val_main_call0_v1 val_main_call0_v0
    val_main_call0_cst val_main_call0_cst_0
  rw [a, b]
  generalize aS (hS x0 x1 x2) x3 = y
  generalize bS (hS x0 x1 x2) x3 = z
  pointwise
  rfl

theorem o : val_main_v26 (F := Ideal) x0 x1 x2 x3 x4 = oS (uS (aS (hS x0 x1 x2) x3) (bS (hS x0 x1 x2) x3)) x4 := by
  funext i
  obtain ⟨r, j, rfl⟩ : ∃ (r : Fin 2048) (j : Fin 1024), i = ix2 r j := ⟨i 0, i 1, eq_ix2 i⟩
  unfold val_main_v26
  rw [u]
  generalize uS (aS (hS x0 x1 x2) x3) (bS (hS x0 x1 x2) x3) = y
  pointwise
  rfl

theorem xn : val_main_v31 (F := Ideal) x0 x1 x2 x3 x4 = xnS x0 x1 (oS (uS (aS (hS x0 x1 x2) x3) (bS (hS x0 x1 x2) x3)) x4) := by
  funext i
  obtain ⟨r, j, rfl⟩ : ∃ (r : Fin 2048) (j : Fin 1024), i = ix2 r j := ⟨i 0, i 1, eq_ix2 i⟩
  unfold val_main_v31 val_main_v30 val_main_v29 val_main_v28 val_main_v27 val_main_v2 val_main_cst_3
  rw [o]
  generalize oS (uS (aS (hS x0 x1 x2) x3) (bS (hS x0 x1 x2) x3)) x4 = y
  pointwise
  rfl

end Cert.FfnFwd.Ref

end
-- ==== Proof.FwdKernel.lean ====
/- The feed-forward forward kernel's frame on words. The run is proved once, over any float values, and the two programs have the same text. -/
module

public import proofs.«01_k».proof.Defs
public import proofs.«01_k».proof.Proof.FwdFrame
public import proofs.«01_k».proof.Proof.Gen.Kernel3

@[expose] public section

noncomputable section

namespace Cert.FfnFwd

open Idealize.ShloMosaic Idealize.SL.Sem

attribute [local instance] Cert.Kernel3.Gen.facts

theorem body_text : @Cert.Kernel3.cc0_ffn_fwd Bits _ _ = @Cert.Kernel3Ideal.cc0_ffn_fwd Bits _ _ := rfl

theorem bodies_text : Cert.Kernel3.defs₀ (F := Bits) = Cert.Kernel3Ideal.defs₀ (F := Bits) := by
  refine congrArg Defs.onTc ?_
  funext l x
  match l, x with
  | ⟨0, _⟩, (t, s) => rfl

theorem defs_text : Cert.Kernel3.defs (F := Bits) = Cert.Kernel3Ideal.defs (F := Bits) := congrArg (Pipeline.defs _) bodies_text

theorem frame_kernel : Cert.quiescent_Kernel3 := by
  intro m ρ _
  rw [defs_text]
  exact (θ_run Cert.Kernel3Ideal.defs _ _).mono (fun _ h => h) (frame (F := Bits) m ρ)

end Cert.FfnFwd

end
-- ==== Proof.MixBwdOut.lean ====
/- What the body of the mixers' input gradient kernel leaves in its outputs and in its running sum, at the first point, a
   point between and the last point: the payload of its last store of each, over what it has loaded. -/
module

public import proofs.«01_k».proof.Proof.Gen.Kernel4Ideal.Frame
public import proofs.«01_k».proof.Proof.Whole
public import Idealize.ShloMosaic.Lib.Tactic
public import Idealize.ShloMosaic.Lib.Pipeline.ReadBack

@[expose] public section

set_option maxRecDepth 16384

noncomputable section

namespace Cert.MixBwd

open Cert.Kernel4Ideal Cert.Kernel4Ideal.Gen Cert.Whole
open Idealize.ShloMosaic Idealize.ShloMosaic.TcCoe Idealize.ShloMosaic.Tactic
open Idealize.SL.Sem

variable {F : FTy → Type} [FloatOps F]

/-- The small constant of the norm, as the kernel holds it. -/
abbrev epsF : F .f32 := Scalar.ofBits .f32 0x358637BD#32

/-- The gradient of a block of the modulated rows. -/
abbrev grad (x0 : Vec F S512x512 .f32) (x1 : Vec F S512x256 .f32) (x2 : Vec F S512x768 .f32) (x3 : Vec F S512x256 .f32) (x5 : Vec F S1792x1024 .bf16) :
    Vec F S512x1024 .f32 := k0_pay7 x0 x1 x2 x3 x5

/-- A load of one row of a buffer that was stored, whole, reads that row of what was stored. -/
theorem reload_row {o : ℕ} (ho : o + 1 ≤ 8) (v : View sig .tc .vmem S8x1024 .f32) (inb : ∀ x, (![0, 0] : Fin 2 → ℕ) x + S8x1024.size x ≤ S8x1024.size x)
    (inb' : ∀ x, (![o, 0] : Fin 2 → ℕ) x + S1x1024.size x ≤ S8x1024.size x) (Z : Vec F S8x1024 .f32) (L : List (View.Piece (Elt F) S8x1024 .f32)) :
    v.readCov ((⟨Rect.unit (s := S8x1024) ![0, 0] S8x1024.size inb, Z⟩ : View.Piece (Elt F) S8x1024 .f32) :: L)
      (Rect.unit (s := S8x1024) ![o, 0] S1x1024.size inb').toLoadRect = rows Z o 1 ho := by
  rw [View.readCov_fill v inb Z L _ (by decide)]
  funext y
  show Z _ = Z _
  congr 1
  funext x; apply Fin.ext
  match x with
  | ⟨0, _⟩ => show o + 1 * (y 0).val = o + (y 0).val; omega
  | ⟨1, _⟩ => show 0 + 1 * (y 1).val = (y 1).val; omega

/-- The gradient of a block of the input. -/
def dxB (d x : Vec F S512x1024 .f32) (g : Vec F S1x1024 .f32) (md : Vec F S3x1024 .f32) (e : Vec F S512x1024 .f32) : Vec F S512x1024 .f32 :=
  k0_pay13 d x g (rows md 1 1 (by decide)) (k0_pay8 x) epsF e

/-- The three rows that a block of rows adds to the result of rows, put over what it held. -/
def addRows (X : Vec F S8x1024 .f32) (d x : Vec F S512x1024 .f32) (g : Vec F S1x1024 .f32) (md : Vec F S3x1024 .f32) : Vec F S8x1024 .f32 :=
  VecWindow.put (VecWindow.put (VecWindow.put X ![0, 0] ![1, 1024] (k0_pay14 d (rows X 0 1 (by decide))))
    ![1, 0] ![1, 1024] (k0_pay15 d x g (k0_pay8 x) epsF (rows X 1 1 (by decide))))
    ![2, 0] ![1, 1024] (k0_pay1 (k0_pay12 d x (rows md 1 1 (by decide)) (k0_pay8 x) epsF) (rows X 2 1 (by decide)))

variable (c : Dev nD) (i : grid0.Coords) (arg1 : Memref sig .tc .vmem S512x512 .f32) (harg1 : arg1.IsWhole) (arg2 : Memref sig .tc .vmem S512x256 .f32) (harg2 : arg2.IsWhole) (arg3 : Memref sig .tc .vmem S512x768 .f32) (harg3 : arg3.IsWhole) (arg4 : Memref sig .tc .vmem S512x256 .f32) (harg4 : arg4.IsWhole) (arg5 : Memref sig .tc .vmem S512x1024 .bf16) (harg5 : arg5.IsWhole) (arg6 : Memref sig .tc .vmem S1792x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S3x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S8x1024 .f32) (harg12 : arg12.IsWhole) (arg13 : Memref sig .tc .vmem S1792x1024 .bf16) (harg13 : arg13.IsWhole) (arg14 : Memref sig .tc .vmem S1792x1024 .f32) (harg14 : arg14.IsWhole)
  (x0 : Vec F S512x512 .f32) (x1 : Vec F S512x256 .f32) (x2 : Vec F S512x768 .f32) (x3 : Vec F S512x256 .f32) (x4 : Vec F S512x1024 .bf16) (x5 : Vec F S1792x1024 .bf16) (x6 : Vec F S512x1024 .f32) (x7 : Vec F S512x1024 .f32) (x8 : Vec F S3x1024 .f32) (x9 : Vec F S1x1024 .f32) (xo11 : Vec F S8x1024 .f32) (xs0 : Vec F S1792x1024 .f32)

set_option maxHeartbeats 2000000 in
/-- The gradient of the block of the input, at the first point. -/
theorem dx_A (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9
      = dxB (grad x0 x1 x2 x3 x5) x6 x9 x8 x7 := by
  unfold out0_A_10
  unfold kernelRun0_A; dsimp only
  refine (stored2 _ _ _ _ _).trans ?_
  sl_unfold_words
  simp only [load2, load_row (by decide : 0 + 1 ≤ 3), load_row (by decide : 1 + 1 ≤ 3), load_row (by decide : 2 + 1 ≤ 3), load_row (by decide : 0 + 1 ≤ 8), load_row (by decide : 1 + 1 ≤ 8), load_row (by decide : 2 + 1 ≤ 8), reload2]
  rfl

set_option maxHeartbeats 2000000 in
/-- The running sum of the weights' gradient, at the first point. -/
theorem acc_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9
      = k0_pay6 x0 x1 x2 x3 k0_pay4 x4 := by
  unfold sout0_A_0
  unfold kernelRun0_A; dsimp only
  refine (stored2 _ _ _ _ _).trans ?_
  sl_unfold_words
  simp only [load2, load_row (by decide : 0 + 1 ≤ 3), load_row (by decide : 1 + 1 ≤ 3), load_row (by decide : 2 + 1 ≤ 3), load_row (by decide : 0 + 1 ≤ 8), load_row (by decide : 1 + 1 ≤ 8), load_row (by decide : 2 + 1 ≤ 8), reload2]

set_option maxHeartbeats 2000000 in
/-- The result of rows, at the first point. -/
theorem rows_A (hc0 : cond0_0 i) (hc1 : ¬cond0_1 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9
      = addRows k0_pay3 (grad x0 x1 x2 x3 x5) x6 x9 x8 := by
  unfold out0_A_11
  unfold kernelRun0_A; dsimp only
  refine (View.read_writes_cons_put _ _ _ _ _ rfl).trans ?_
  refine (congrArg (fun z => VecWindow.put z _ _ _) ((View.read_writes_cons_put _ _ _ _ _ rfl).trans (congrArg (fun z => VecWindow.put z _ _ _)
    ((View.read_writes_cons_put _ _ _ _ _ rfl).trans (congrArg (fun z => VecWindow.put z _ _ _) (stored2 _ _ _ _ _)))))).trans ?_
  sl_unfold_words
  simp only [load2, load_row (by decide : 0 + 1 ≤ 3), load_row (by decide : 1 + 1 ≤ 3), load_row (by decide : 2 + 1 ≤ 3), load_row (by decide : 0 + 1 ≤ 8), load_row (by decide : 1 + 1 ≤ 8), load_row (by decide : 2 + 1 ≤ 8), reload2]
  simp (disch := decide) only [↓View.readCov_skip]
  simp only [reload_row (by decide : 0 + 1 ≤ 8), reload_row (by decide : 1 + 1 ≤ 8), reload_row (by decide : 2 + 1 ≤ 8)]
  rfl

set_option maxHeartbeats 2000000 in
/-- The gradient of the block of the input, at a point between. -/
theorem dx_B (hc0 : ¬cond0_0 i) (hc1 : ¬cond0_1 i) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo11 xs0
      = dxB (grad x0 x1 x2 x3 x5) x6 x9 x8 x7 := by
  unfold out0_B_10
  unfold kernelRun0_B; dsimp only
  refine (stored2 _ _ _ _ _).trans ?_
  sl_unfold_words
  simp only [load2, load_row (by decide : 0 + 1 ≤ 3), load_row (by decide : 1 + 1 ≤ 3), load_row (by decide : 2 + 1 ≤ 3), load_row (by decide : 0 + 1 ≤ 8), load_row (by decide : 1 + 1 ≤ 8), load_row (by decide : 2 + 1 ≤ 8), reload2]
  rfl

set_option maxHeartbeats 2000000 in
/-- The running sum of the weights' gradient, at a point between. -/
theorem acc_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo11 xs0
      = k0_pay6 x0 x1 x2 x3 xs0 x4 := by
  unfold sout0_B_0
  unfold kernelRun0_B; dsimp only
  refine (stored2 _ _ _ _ _).trans ?_
  sl_unfold_words
  simp only [load2, load_row (by decide : 0 + 1 ≤ 3), load_row (by decide : 1 + 1 ≤ 3), load_row (by decide : 2 + 1 ≤ 3), load_row (by decide : 0 + 1 ≤ 8), load_row (by decide : 1 + 1 ≤ 8), load_row (by decide : 2 + 1 ≤ 8), reload2]

set_option maxHeartbeats 2000000 in
/-- The result of rows, at a point between. -/
theorem rows_B (hc0 : ¬cond0_0 i) (hc1 : ¬cond0_1 i) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo11 xs0
      = addRows xo11 (grad x0 x1 x2 x3 x5) x6 x9 x8 := by
  unfold out0_B_11
  unfold kernelRun0_B; dsimp only
  refine (View.read_writes_cons_put _ _ _ _ _ rfl).trans ?_
  refine (congrArg (fun z => VecWindow.put z _ _ _) ((View.read_writes_cons_put _ _ _ _ _ rfl).trans (congrArg (fun z => VecWindow.put z _ _ _) (View.read_writes_cons_put _ _ _ _ _ rfl)))).trans ?_
  sl_unfold_words
  simp only [load2, load_row (by decide : 0 + 1 ≤ 3), load_row (by decide : 1 + 1 ≤ 3), load_row (by decide : 2 + 1 ≤ 3), load_row (by decide : 0 + 1 ≤ 8), load_row (by decide : 1 + 1 ≤ 8), load_row (by decide : 2 + 1 ≤ 8), reload2]
  simp only [View.writes_nil, harg12.read_unread]
  rfl

set_option maxHeartbeats 2000000 in
/-- The gradient of the block of the input, at the last point. -/
theorem dx_C (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo11 xs0
      = dxB (grad x0 x1 x2 x3 x5) x6 x9 x8 x7 := by
  unfold out0_C_10
  unfold kernelRun0_C; dsimp only
  refine (stored2 _ _ _ _ _).trans ?_
  sl_unfold_words
  simp only [load2, load_row (by decide : 0 + 1 ≤ 3), load_row (by decide : 1 + 1 ≤ 3), load_row (by decide : 2 + 1 ≤ 3), load_row (by decide : 0 + 1 ≤ 8), load_row (by decide : 1 + 1 ≤ 8), load_row (by decide : 2 + 1 ≤ 8), reload2]
  rfl

set_option maxHeartbeats 2000000 in
/-- The running sum of the weights' gradient, at the last point. -/
theorem acc_C (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo11 xs0
      = k0_pay6 x0 x1 x2 x3 xs0 x4 := by
  unfold sout0_C_0
  unfold kernelRun0_C; dsimp only
  refine (stored2 _ _ _ _ _).trans ?_
  sl_unfold_words
  simp only [load2, load_row (by decide : 0 + 1 ≤ 3), load_row (by decide : 1 + 1 ≤ 3), load_row (by decide : 2 + 1 ≤ 3), load_row (by decide : 0 + 1 ≤ 8), load_row (by decide : 1 + 1 ≤ 8), load_row (by decide : 2 + 1 ≤ 8), reload2]

set_option maxHeartbeats 2000000 in
/-- The weights' gradient, at the last point. -/
theorem dw_C (hc0 : ¬cond0_0 i) (hc1 : cond0_1 i) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo11 xs0
      = k0_pay2 (k0_pay6 x0 x1 x2 x3 xs0 x4) := by
  unfold out0_C_12
  unfold kernelRun0_C; dsimp only
  refine (stored2 _ _ _ _ _).trans ?_
  sl_unfold_words
  simp only [load2, load_row (by decide : 0 + 1 ≤ 3), load_row (by decide : 1 + 1 ≤ 3), load_row (by decide : 2 + 1 ≤ 3), load_row (by decide : 0 + 1 ≤ 8), load_row (by decide : 1 + 1 ≤ 8), load_row (by decide : 2 + 1 ≤ 8), reload2]

set_option maxHeartbeats 2000000 in
/-- The result of rows, at the last point. -/
theorem rows_C (hc0 : ¬cond0_0 i) (hc1 : cond0_1 i) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo11 xs0
      = addRows xo11 (grad x0 x1 x2 x3 x5) x6 x9 x8 := by
  unfold out0_C_11
  unfold kernelRun0_C; dsimp only
  refine (View.read_writes_cons_put _ _ _ _ _ rfl).trans ?_
  refine (congrArg (fun z => VecWindow.put z _ _ _) ((View.read_writes_cons_put _ _ _ _ _ rfl).trans (congrArg (fun z => VecWindow.put z _ _ _) (View.read_writes_cons_put _ _ _ _ _ rfl)))).trans ?_
  sl_unfold_words
  simp only [load2, load_row (by decide : 0 + 1 ≤ 3), load_row (by decide : 1 + 1 ≤ 3), load_row (by decide : 2 + 1 ≤ 3), load_row (by decide : 0 + 1 ≤ 8), load_row (by decide : 1 + 1 ≤ 8), load_row (by decide : 2 + 1 ≤ 8), reload2]
  simp only [View.writes_nil, harg12.read_unread]
  rfl

end Cert.MixBwd

end
-- ==== Proof.MixBwdSpec.lean ====
/- The mathematics of the gradient through the mixers' input weights, over the extended reals. -/
module

public import proofs.«01_k».proof.Proof.InSpec

@[expose] public section

noncomputable section

namespace Cert.MixBwd

open Idealize.ShloMosaic Cert.FfnBwd Cert.FfnFwd

/-- The four mixers' cotangents, side by side. -/
def joinS {n : ℕ} (a : Mat n 512) (b : Mat n 256) (d : Mat n 768) (e : Mat n 256) : Mat n 1792 := fun i =>
  if h : (i 1).val < 512 then a (ix2 (i 0) ⟨(i 1).val, h⟩)
  else if h : (i 1).val < 768 then b (ix2 (i 0) ⟨(i 1).val - 512, by omega⟩)
  else if h : (i 1).val < 1536 then d (ix2 (i 0) ⟨(i 1).val - 768, by omega⟩)
  else e (ix2 (i 0) ⟨(i 1).val - 1536, by have : (i 1).val < 1792 := (i 1).isLt; omega⟩)

/-- An array that agrees with the four pieces where each of them lies is the four side by side. -/
theorem eq_join {n : ℕ} (y : Mat n 1792) (a : Mat n 512) (b : Mat n 256) (d : Mat n 768) (e : Mat n 256) (r : Fin n)
    (ha : ∀ j : Fin 512, y (ix2 r ⟨j.val, by omega⟩) = a (ix2 r j))
    (hb : ∀ j : Fin 256, y (ix2 r ⟨512 + j.val, by omega⟩) = b (ix2 r j))
    (hd : ∀ j : Fin 768, y (ix2 r ⟨768 + j.val, by omega⟩) = d (ix2 r j))
    (he : ∀ j : Fin 256, y (ix2 r ⟨1536 + j.val, by omega⟩) = e (ix2 r j)) (p : Fin 1792) :
    y (ix2 r p) = joinS a b d e (ix2 r p) := by
  show _ = if h : p.val < 512 then a (ix2 r ⟨p.val, h⟩) else if h : p.val < 768 then b (ix2 r ⟨p.val - 512, by omega⟩)
    else if h : p.val < 1536 then d (ix2 r ⟨p.val - 768, by omega⟩) else e (ix2 r ⟨p.val - 1536, by omega⟩)
  by_cases h0 : p.val < 512
  · rw [dif_pos h0]; exact ha ⟨p.val, h0⟩
  by_cases h1 : p.val < 768
  · rw [dif_neg h0, dif_pos h1, ← hb ⟨p.val - 512, by omega⟩]
    exact congrArg (fun q => y (ix2 r q)) (Fin.ext (by show p.val = 512 + (p.val - 512); omega))
  by_cases h2 : p.val < 1536
  · rw [dif_neg h0, dif_neg h1, dif_pos h2, ← hd ⟨p.val - 768, by omega⟩]
    exact congrArg (fun q => y (ix2 r q)) (Fin.ext (by show p.val = 768 + (p.val - 768); omega))
  · rw [dif_neg h0, dif_neg h1, dif_neg h2, ← he ⟨p.val - 1536, by omega⟩]
    exact congrArg (fun q => y (ix2 r q)) (Fin.ext (by show p.val = 1536 + (p.val - 1536); omega))

/-- A row of the four side by side depends on that row of each. -/
theorem join_row {n n' : ℕ} {a : Mat n 512} {b : Mat n 256} {d : Mat n 768} {e : Mat n 256} {a' : Mat n' 512} {b' : Mat n' 256} {d' : Mat n' 768}
    {e' : Mat n' 256} {r : Fin n} {r' : Fin n'} (ha : ∀ j, a (ix2 r j) = a' (ix2 r' j)) (hb : ∀ j, b (ix2 r j) = b' (ix2 r' j))
    (hd : ∀ j, d (ix2 r j) = d' (ix2 r' j)) (he : ∀ j, e (ix2 r j) = e' (ix2 r' j)) (p : Fin 1792) :
    joinS a b d e (ix2 r p) = joinS a' b' d' e' (ix2 r' p) := by
  show (if h : p.val < 512 then a (ix2 r ⟨p.val, h⟩) else if h : p.val < 768 then b (ix2 r ⟨p.val - 512, by omega⟩)
    else if h : p.val < 1536 then d (ix2 r ⟨p.val - 768, by omega⟩) else e (ix2 r ⟨p.val - 1536, by omega⟩)) = _
  simp only [ha, hb, hd, he]
  rfl

/-- The gradient of the modulated rows: the cotangents times the transposed weights. -/
def dhS (z : Mat 2048 1792) (w : Mat 1024 1792) : Mat 2048 1024 := fun i => ∑ p : Fin 1792, z (ix2 (i 0) p) * w (ix2 (i 1) p)

/-- The gradient of the weights, transposed. -/
def dwS (z : Mat 2048 1792) (h : Mat 2048 1024) : Mat 1792 1024 := fun i => ∑ r : Fin 2048, z (ix2 r (i 0)) * h (ix2 r (i 1))

end Cert.MixBwd

end
-- ==== Proof.MixBwdPay.lean ====
/- The mixers' input gradient kernel's arithmetic, element by element, over the extended reals. -/
module

public import proofs.«01_k».proof.Proof.MixBwdOut
public import proofs.«01_k».proof.Proof.MixBwdSpec
public import Idealize.ShloMosaic.Lib.Pointwise

@[expose] public section

set_option maxRecDepth 16384

noncomputable section

namespace Cert.MixBwd

open Cert.Kernel4Ideal Cert.Kernel4Ideal.Gen Cert.Whole Cert.FfnBwd Cert.FfnFwd
open Idealize.ShloMosaic

theorem join_apply (a : Vec Ideal S512x512 .f32) (b : Vec Ideal S512x256 .f32) (d : Vec Ideal S512x768 .f32) (e : Vec Ideal S512x256 .f32)
    (r : Fin 512) (p : Fin 1792) : k0_pay5 a b d e (ix2 r p) = joinS a b d e (ix2 r p) :=
  eq_join (k0_pay5 a b d e) a b d e r (fun j => by unfold k0_pay5; pointwise) (fun j => by unfold k0_pay5; pointwise)
    (fun j => by
      unfold k0_pay5; pointwise
      rw [dif_neg (by omega), dif_neg (by omega), dif_pos (by omega)]
      exact congrArg (fun q => d (ix2 r q)) (Fin.ext (by show 768 + j.val - 512 - 256 = j.val; omega)))
    (fun j => by
      unfold k0_pay5; pointwise
      rw [dif_neg (by omega), dif_neg (by omega), dif_neg (by omega)]
      exact congrArg (fun q => e (ix2 r q)) (Fin.ext (by show 1536 + j.val - 512 - 256 - 768 = j.val; omega))) p

/-- The gradient of a block of the modulated rows. -/
theorem grad_apply (a : Vec Ideal S512x512 .f32) (b : Vec Ideal S512x256 .f32) (d : Vec Ideal S512x768 .f32) (e : Vec Ideal S512x256 .f32)
    (w : Vec Ideal S1792x1024 .bf16) (r : Fin 512) (k : Fin 1024) :
    grad a b d e w (ix2 r k) = ∑ p : Fin 1792, joinS a b d e (ix2 r p) * w (ix2 p k) := by
  simp only [← join_apply]
  unfold grad k0_pay7
  generalize k0_pay5 a b d e = y
  pointwise

/-- The weights' gradient from one block of rows, added to the running sum. -/
theorem pay6_apply (a : Vec Ideal S512x512 .f32) (b : Vec Ideal S512x256 .f32) (d : Vec Ideal S512x768 .f32) (e : Vec Ideal S512x256 .f32)
    (acc : Vec Ideal S1792x1024 .f32) (h : Vec Ideal S512x1024 .bf16) (p : Fin 1792) (k : Fin 1024) :
    k0_pay6 a b d e acc h (ix2 p k) = acc (ix2 p k) + ∑ r : Fin 512, joinS a b d e (ix2 r p) * h (ix2 r k) := by
  simp only [← join_apply]
  unfold k0_pay6
  generalize k0_pay5 a b d e = y
  pointwise

theorem pay2_apply (v : Vec Ideal S1792x1024 .f32) (p : Fin 1792) (k : Fin 1024) : k0_pay2 v (ix2 p k) = v (ix2 p k) := by
  unfold k0_pay2; pointwise
theorem pay3_apply (p : Fin 8) (k : Fin 1024) : (k0_pay3 (F := Ideal)) (ix2 p k) = 0 := by
  unfold k0_pay3; pointwise
theorem pay4_apply (p : Fin 1792) (k : Fin 1024) : (k0_pay4 (F := Ideal)) (ix2 p k) = 0 := by
  unfold k0_pay4; pointwise

/-- The gradient of a block of the input. -/
theorem dxB_apply (d x : Vec Ideal S512x1024 .f32) (g : Vec Ideal S1x1024 .f32) (md : Vec Ideal S3x1024 .f32) (e : Vec Ideal S512x1024 .f32)
    (r : Fin 512) (k : Fin 1024) :
    dxB d x g md e (ix2 r k)
      = rS x r * (d (ix2 r k) * (1 + md (ix2 1 k)) * g (ix2 0 k)
          - x (ix2 r k) * rS x r * Ideal.div (∑ l : Fin 1024, d (ix2 r l) * (1 + md (ix2 1 l)) * g (ix2 0 l) * (x (ix2 r l) * rS x r)) dimE)
        + e (ix2 r k) := by
  unfold dxB k0_pay13 k0_pay11 k0_pay10 k0_pay9 k0_pay8; pointwise; rfl

/-- The gradient of the shift, from one block of rows. -/
theorem pay14_apply (d : Vec Ideal S512x1024 .f32) (v : Vec Ideal S1x1024 .f32) (k : Fin 1024) :
    k0_pay14 d v (ix2 0 k) = v (ix2 0 k) + ∑ r : Fin 512, d (ix2 r k) := by
  unfold k0_pay14; pointwise

/-- The gradient of the scale, from one block of rows. -/
theorem pay15_apply (d x : Vec Ideal S512x1024 .f32) (g v : Vec Ideal S1x1024 .f32) (k : Fin 1024) :
    k0_pay15 d x g (k0_pay8 x) epsF v (ix2 0 k) = v (ix2 0 k) + ∑ r : Fin 512, d (ix2 r k) * (x (ix2 r k) * rS x r * g (ix2 0 k)) := by
  unfold k0_pay15 k0_pay10 k0_pay9 k0_pay8; pointwise; rfl

/-- The gradient of the gain, from one block of rows. -/
theorem pay12_apply (d x : Vec Ideal S512x1024 .f32) (s v : Vec Ideal S1x1024 .f32) (k : Fin 1024) :
    k0_pay1 (k0_pay12 d x s (k0_pay8 x) epsF) v (ix2 0 k) = v (ix2 0 k) + ∑ r : Fin 512, d (ix2 r k) * (1 + s (ix2 0 k)) * (x (ix2 r k) * rS x r) := by
  unfold k0_pay1 k0_pay12 k0_pay11 k0_pay10 k0_pay9 k0_pay8; pointwise; rfl

/-- Three rows added to an array of eight: each of the first three takes its own, the others stay. -/
theorem addRows_apply (X : Vec Ideal S8x1024 .f32) (d x : Vec Ideal S512x1024 .f32) (g : Vec Ideal S1x1024 .f32) (md : Vec Ideal S3x1024 .f32)
    (p : Fin 8) (k : Fin 1024) :
    addRows X d x g md (ix2 p k) = if p.val = 0 then X (ix2 p k) + ∑ r : Fin 512, d (ix2 r k)
      else if p.val = 1 then X (ix2 p k) + ∑ r : Fin 512, d (ix2 r k) * (x (ix2 r k) * rS x r * g (ix2 0 k))
      else if p.val = 2 then X (ix2 p k) + ∑ r : Fin 512, d (ix2 r k) * (1 + md (ix2 1 k)) * (x (ix2 r k) * rS x r) else X (ix2 p k) := by
  have hit : ∀ (Y : Vec Ideal S8x1024 .f32) (o : Fin 8) (w : Vec Ideal S1x1024 .f32),
      VecWindow.put Y ![o.val, 0] ![1, 1024] w (ix2 o k) = w (ix2 0 k) := fun Y o w => by
    refine (dif_pos (fun x => ?_)).trans (congrArg w (funext fun x => Fin.ext ?_))
    · match x with
      | ⟨0, _⟩ => exact ⟨le_rfl, Nat.lt_succ_self _⟩
      | ⟨1, _⟩ => exact ⟨Nat.zero_le _, by show k.val < 0 + 1024; omega⟩
    · match x with
      | ⟨0, _⟩ => exact Nat.sub_self _
      | ⟨1, _⟩ => exact Nat.sub_zero _
  have miss : ∀ (Y : Vec Ideal S8x1024 .f32) (o : ℕ) (w : Vec Ideal S1x1024 .f32), p.val ≠ o →
      VecWindow.put Y ![o, 0] ![1, 1024] w (ix2 p k) = Y (ix2 p k) := fun Y o w h => by
    refine dif_neg (fun hall => h ?_)
    have h0 := hall 0
    have l1 : o ≤ p.val := h0.1
    have l2 : p.val < o + 1 := h0.2
    omega
  unfold addRows
  by_cases h0 : p.val = 0
  · obtain rfl : p = 0 := Fin.ext h0
    rw [miss _ 2 _ (by decide), miss _ 1 _ (by decide), if_pos h0]
    exact (hit _ 0 _).trans (pay14_apply _ _ _)
  by_cases h1 : p.val = 1
  · obtain rfl : p = 1 := Fin.ext h1
    rw [miss _ 2 _ (by decide), if_neg h0, if_pos h1]
    exact (hit _ 1 _).trans (pay15_apply _ _ _ _ _)
  by_cases h2 : p.val = 2
  · obtain rfl : p = 2 := Fin.ext h2
    rw [if_neg h0, if_neg h1, if_pos h2]
    exact (hit _ 2 _).trans (pay12_apply _ _ _ _ _)
  rw [miss _ 2 _ h2, miss _ 1 _ h1, miss _ 0 _ h0, if_neg h0, if_neg h1, if_neg h2]

end Cert.MixBwd

end
-- ==== Proof.MixBwdHost.lean ====
/- The arrays as the host code prepares them for the mixers' input gradient kernel: the normed and modulated rows, and the
   weights transposed. -/
module

public import proofs.«01_k».proof.Proof.Gen.Kernel4Ideal.Frame
public import proofs.«01_k».proof.Proof.NormSpec
public import Idealize.ShloMosaic.Lib.Claim
public import Idealize.ShloMosaic.Lib.Pointwise

@[expose] public section

set_option maxRecDepth 16384

noncomputable section

namespace Cert.MixBwd

open Cert.Kernel4Ideal Cert.Kernel4Ideal.Gen Cert.FfnBwd Cert.FfnFwd
open Idealize.ShloMosaic Idealize.ShloMosaic.TcCoe Idealize.ShloMosaic.StableHlo
open Idealize.SL.Sem

/-- The weights transposed. -/
def flipW {F : FTy → Type} [FloatOps F] (w : Vec F S1024x1792 .f32) : Vec F S1792x1024 .f32 :=
  transpose S1792x1024 [1, 0] w transposes_S1024x1792_S1792x1024_1_0

theorem flip_apply (w : Vec Ideal S1024x1792 .f32) (p : Fin 1792) (k : Fin 1024) : flipW w (ix2 p k) = w (ix2 k p) := by
  unfold flipW; pointwise

/-- The reciprocal roots of the rows. -/
def rootH {F : FTy → Type} [FloatOps F] (x : Vec F S2048x1024 .f32) : Vec F S2048x1 .f32 :=
  Host.rsqrt (addf (Host.divf (broadcastInDim S2048x1 ![0] bcast_S2048_S2048x1_0
      (Host.reduceAdd (mulf x x) (constant S_ .f32 0x00000000#32) reducesTo_S2048x1024_S2048_d1 h_S_))
    (broadcastInDim S2048x1 ![] bcast_S_S2048x1 (constant S_ .f32 0x44800000#32)))
    (broadcastInDim S2048x1 ![] bcast_S_S2048x1 (constant S_ .f32 0x358637BD#32)))

/-- The rows normed, scaled by the gain, and modulated. -/
def normH {F : FTy → Type} [FloatOps F] (x : Vec F S2048x1024 .f32) (md : Vec F S3x1024 .f32) (g : Vec F S1x1024 .f32) : Vec F S2048x1024 .f32 :=
  addf (mulf (mulf (mulf x (broadcastInDim S2048x1024 ![0, 1] bcast_S2048x1_S2048x1024_0_1 (rootH x)))
      (broadcastInDim S2048x1024 ![0, 1] bcast_S1x1024_S2048x1024_0_1 g))
      (broadcastInDim S2048x1024 ![0, 1] bcast_S1x1024_S2048x1024_0_1
        (addf (broadcastInDim S1x1024 ![] bcast_S_S1x1024 (constant S_ .f32 0x3F800000#32)) (extractStridedSlice S1x1024 ![1, 0] md slices_S3x1024_S1x1024_1_0))))
    (broadcastInDim S2048x1024 ![0, 1] bcast_S1x1024_S2048x1024_0_1 (extractStridedSlice S1x1024 ![0, 0] md slices_S3x1024_S1x1024_0_0))

theorem norm_apply (x : Mat 2048 1024) (md : Mat 3 1024) (g : Mat 1 1024) (r : Fin 2048) (k : Fin 1024) :
    normH (F := Ideal) x md g (ix2 r k) = hS x md g (ix2 r k) := by
  unfold normH rootH; pointwise; rfl

section
variable {F : FTy → Type} [FloatOps F] (m : (ℓ : Loc nD τ sig) → Buf (Elt F) ℓ) (c : Dev nD)

theorem V_v20 : V m c main_v20 = truncf .bf16 (normH (m ((c : Thread nD τ).loc main_arg5)) (m ((c : Thread nD τ).loc main_arg7))
    (m ((c : Thread nD τ).loc main_arg8))) bitsLt_bf16_f32 := by
  unfold normH rootH
  simp only [V, hostOps0, List.flatten_cons, List.flatten_nil, List.append_nil, List.cons_append, List.nil_append,
    TRef.binary, TRef.nullary, TRef.unary, TRef.toBuf, TRef.ofBuf, cast_eq]
  after_results_simp <;> rfl

theorem V_v22 : V m c main_v22 = truncf .bf16 (flipW (m ((c : Thread nD τ).loc main_arg4))) bitsLt_bf16_f32 := by
  unfold flipW
  simp only [V, hostOps0, List.flatten_cons, List.flatten_nil, List.append_nil, List.cons_append, List.nil_append,
    TRef.binary, TRef.nullary, TRef.unary, TRef.toBuf, TRef.ofBuf, cast_eq]
  after_results_simp <;> rfl
end

variable (m : (ℓ : Loc nD τ sig) → Buf (Elt Ideal) ℓ) (c : Dev nD)

/-- The nine arguments of a device. -/
abbrev x0 : Mat 2048 512 := m ((c.tc : Thread nD τ).loc main_arg0)
abbrev x1 : Mat 2048 256 := m ((c.tc : Thread nD τ).loc main_arg1)
abbrev x2 : Mat 2048 768 := m ((c.tc : Thread nD τ).loc main_arg2)
abbrev x3 : Mat 2048 256 := m ((c.tc : Thread nD τ).loc main_arg3)
abbrev x4 : Mat 1024 1792 := m ((c.tc : Thread nD τ).loc main_arg4)
abbrev x5 : Mat 2048 1024 := m ((c.tc : Thread nD τ).loc main_arg5)
abbrev x6 : Mat 2048 1024 := m ((c.tc : Thread nD τ).loc main_arg6)
abbrev x7 : Mat 3 1024 := m ((c.tc : Thread nD τ).loc main_arg7)
abbrev x8 : Mat 1 1024 := m ((c.tc : Thread nD τ).loc main_arg8)

theorem V_h (r : Fin 2048) (k : Fin 1024) : V m c main_v20 (ix2 r k) = hS (x5 m c) (x7 m c) (x8 m c) (ix2 r k) :=
  (congrFun ((V_v20 m c).trans (show _ = normH (F := Ideal) (x5 m c) (x7 m c) (x8 m c) from rfl)) _).trans (norm_apply _ _ _ r k)

theorem V_w (p : Fin 1792) (k : Fin 1024) : V m c main_v22 (ix2 p k) = x4 m c (ix2 k p) :=
  (congrFun ((V_v22 m c).trans (show _ = flipW (F := Ideal) (x4 m c) from rfl)) _).trans (flip_apply _ p k)

end Cert.MixBwd

end
-- ==== Proof.MixBwdArrays.lean ====
/- The three result arrays of the mixers' input gradient kernel after its run, as functions of its arguments: each block
   written back is the block of that function, and the blocks cover the array. -/
module

public import proofs.«01_k».proof.Proof.Gen.Kernel4Ideal.Value
public import proofs.«01_k».proof.Proof.MixBwdPay
public import proofs.«01_k».proof.Proof.MixBwdHost
public import proofs.«01_k».proof.Proof.MixBwdSpec

@[expose] public section

set_option maxRecDepth 16384

noncomputable section

namespace Cert.MixBwd

open Cert.Kernel4Ideal Cert.Kernel4Ideal.Gen Cert.Whole Cert.FfnBwd Cert.FfnFwd Cert.FfnIn
open Idealize.ShloMosaic Idealize.ShloMosaic.TcCoe
open Idealize.SL.Sem

/-! ### What the points leave -/

section
variable {F : FTy → Type} [FloatOps F] (m : (ℓ : Loc nD τ sig) → Buf (Elt F) ℓ) (c : Dev nD)

/-- Point `n` of the grid. -/
def pt (n : ℕ) : Fin cfg0.N := ⟨n % 4, by have : cfg0.N = 4 := N_0; omega⟩

theorem pt_val (t : Fin cfg0.N) : pt t.val = t :=
  Fin.ext (by have : t.val < 4 := Nat.lt_of_lt_of_eq t.isLt N_0; show t.val % 4 = t.val; omega)

/-- The gradient of the modulated rows of a point's block. -/
def dV (t : Fin cfg0.N) : Vec F S512x1024 .f32 := grad (iblk m c 0 t) (iblk m c 1 t) (iblk m c 2 t) (iblk m c 3 t) (iblk m c 5 t)

/-- The result of rows, and the running sum of the weights' gradient, before point `n`. -/
def rowsV : ℕ → Vec F S8x1024 .f32
  | 0 => k0_pay3
  | n + 1 => addRows (rowsV n) (dV m c (pt n)) (iblk m c 6 (pt n)) (iblk m c 9 (pt n)) (iblk m c 8 (pt n))
def accV : ℕ → Vec F S1792x1024 .f32
  | 0 => k0_pay4
  | n + 1 => k0_pay6 (iblk m c 0 (pt n)) (iblk m c 1 (pt n)) (iblk m c 2 (pt n)) (iblk m c 3 (pt n)) (accV n) (iblk m c 4 (pt n))

theorem rowsV_step (t : Fin cfg0.N) : rowsV m c (t.val + 1) = addRows (rowsV m c t.val) (dV m c t) (iblk m c 6 t) (iblk m c 9 t) (iblk m c 8 t) := by
  show addRows (rowsV m c t.val) (dV m c (pt t.val)) (iblk m c 6 (pt t.val)) (iblk m c 9 (pt t.val)) (iblk m c 8 (pt t.val)) = _
  rw [pt_val]
theorem accV_step (t : Fin cfg0.N) : accV m c (t.val + 1)
    = k0_pay6 (iblk m c 0 t) (iblk m c 1 t) (iblk m c 2 t) (iblk m c 3 t) (accV m c t.val) (iblk m c 4 t) := by
  show k0_pay6 (iblk m c 0 (pt t.val)) (iblk m c 1 (pt t.val)) (iblk m c 2 (pt t.val)) (iblk m c 3 (pt t.val)) (accV m c t.val) (iblk m c 4 (pt t.val)) = _
  rw [pt_val]

/-- What the point before `t` leaves. -/
abbrev before (t : Fin cfg0.N) := outsAt0 m c (t.val - 1) (Nat.lt_of_le_of_lt (Nat.sub_le _ _) t.isLt)

theorem left_dx_A (t : Fin cfg0.N) (h0 : t.val % 4 = 0) (h1 : ¬t.val % 4 = 3) : (outsAt0 m c t.val t.isLt).1 = dxB (dV m c t) (iblk m c 6 t) (iblk m c 9 t) (iblk m c 8 t) (iblk m c 7 t) := by
  rw [outsAt0_A m c t h0 h1]
  dsimp only
  rw [dx_A]
  rfl
theorem left_rows_A (t : Fin cfg0.N) (h0 : t.val % 4 = 0) (h1 : ¬t.val % 4 = 3) : (outsAt0 m c t.val t.isLt).2.1 = addRows k0_pay3 (dV m c t) (iblk m c 6 t) (iblk m c 9 t) (iblk m c 8 t) := by
  rw [outsAt0_A m c t h0 h1]
  dsimp only
  rw [rows_A]
  rfl
theorem left_acc_A (t : Fin cfg0.N) (h0 : t.val % 4 = 0) (h1 : ¬t.val % 4 = 3) : (outsAt0 m c t.val t.isLt).2.2.2 = k0_pay6 (iblk m c 0 t) (iblk m c 1 t) (iblk m c 2 t) (iblk m c 3 t) k0_pay4 (iblk m c 4 t) := by
  rw [outsAt0_A m c t h0 h1]
  dsimp only
  rw [acc_A]

theorem left_dx_B (t : Fin cfg0.N) (h0 : ¬t.val % 4 = 0) (h1 : ¬t.val % 4 = 3) : (outsAt0 m c t.val t.isLt).1 = dxB (dV m c t) (iblk m c 6 t) (iblk m c 9 t) (iblk m c 8 t) (iblk m c 7 t) := by
  rw [outsAt0_B m c t h0 h1]
  dsimp only
  rw [dx_B]
  rfl
theorem left_rows_B (t : Fin cfg0.N) (h0 : ¬t.val % 4 = 0) (h1 : ¬t.val % 4 = 3) : (outsAt0 m c t.val t.isLt).2.1 = addRows (before m c t).2.1 (dV m c t) (iblk m c 6 t) (iblk m c 9 t) (iblk m c 8 t) := by
  rw [outsAt0_B m c t h0 h1]
  dsimp only
  rw [rows_B]
  rfl
theorem left_acc_B (t : Fin cfg0.N) (h0 : ¬t.val % 4 = 0) (h1 : ¬t.val % 4 = 3) : (outsAt0 m c t.val t.isLt).2.2.2 = k0_pay6 (iblk m c 0 t) (iblk m c 1 t) (iblk m c 2 t) (iblk m c 3 t) (before m c t).2.2.2 (iblk m c 4 t) := by
  rw [outsAt0_B m c t h0 h1]
  dsimp only
  rw [acc_B]

theorem left_dx_C (t : Fin cfg0.N) (h0 : ¬t.val % 4 = 0) (h1 : t.val % 4 = 3) : (outsAt0 m c t.val t.isLt).1 = dxB (dV m c t) (iblk m c 6 t) (iblk m c 9 t) (iblk m c 8 t) (iblk m c 7 t) := by
  rw [outsAt0_C m c t h0 h1]
  dsimp only
  rw [dx_C]
  rfl
theorem left_rows_C (t : Fin cfg0.N) (h0 : ¬t.val % 4 = 0) (h1 : t.val % 4 = 3) : (outsAt0 m c t.val t.isLt).2.1 = addRows (before m c t).2.1 (dV m c t) (iblk m c 6 t) (iblk m c 9 t) (iblk m c 8 t) := by
  rw [outsAt0_C m c t h0 h1]
  dsimp only
  rw [rows_C]
  rfl
theorem left_acc_C (t : Fin cfg0.N) (h0 : ¬t.val % 4 = 0) (h1 : t.val % 4 = 3) : (outsAt0 m c t.val t.isLt).2.2.2 = k0_pay6 (iblk m c 0 t) (iblk m c 1 t) (iblk m c 2 t) (iblk m c 3 t) (before m c t).2.2.2 (iblk m c 4 t) := by
  rw [outsAt0_C m c t h0 h1]
  dsimp only
  rw [acc_C]

theorem left_dw_C (t : Fin cfg0.N) (h0 : ¬t.val % 4 = 0) (h1 : t.val % 4 = 3) : (outsAt0 m c t.val t.isLt).2.2.1 = k0_pay2 (k0_pay6 (iblk m c 0 t) (iblk m c 1 t) (iblk m c 2 t) (iblk m c 3 t) (before m c t).2.2.2 (iblk m c 4 t)) := by
  rw [outsAt0_C m c t h0 h1]
  dsimp only
  rw [dw_C]

/-- What point `n` leaves in the result of rows and in the running sum. -/
theorem left (n : ℕ) : ∀ hn : n < cfg0.N, (outsAt0 m c n hn).2.1 = rowsV m c (n + 1) ∧ (outsAt0 m c n hn).2.2.2 = accV m c (n + 1) := by
  induction n with
  | zero =>
    intro hn
    have r := rowsV_step m c ⟨0, hn⟩
    have a := accV_step m c ⟨0, hn⟩
    exact ⟨(left_rows_A m c ⟨0, hn⟩ rfl (by show ¬ 0 % 4 = 3; decide)).trans r.symm, (left_acc_A m c ⟨0, hn⟩ rfl (by show ¬ 0 % 4 = 3; decide)).trans a.symm⟩
  | succ n ih =>
    intro hn
    have h4 : n + 1 < 4 := Nat.lt_of_lt_of_eq hn N_0
    obtain ⟨ih1, ih2⟩ := ih (Nat.lt_of_succ_lt hn)
    have r := rowsV_step m c ⟨n + 1, hn⟩
    have a := accV_step m c ⟨n + 1, hn⟩
    have b1 : (before m c ⟨n + 1, hn⟩).2.1 = rowsV m c (n + 1) := ih1
    have b2 : (before m c ⟨n + 1, hn⟩).2.2.2 = accV m c (n + 1) := ih2
    by_cases h : n + 1 = 3
    · have e1 := left_rows_C m c ⟨n + 1, hn⟩ (by show ¬ (n + 1) % 4 = 0; omega) (by show (n + 1) % 4 = 3; omega)
      have e2 := left_acc_C m c ⟨n + 1, hn⟩ (by show ¬ (n + 1) % 4 = 0; omega) (by show (n + 1) % 4 = 3; omega)
      rw [b1] at e1
      rw [b2] at e2
      exact ⟨e1.trans r.symm, e2.trans a.symm⟩
    · have e1 := left_rows_B m c ⟨n + 1, hn⟩ (by show ¬ (n + 1) % 4 = 0; omega) (by show ¬ (n + 1) % 4 = 3; omega)
      have e2 := left_acc_B m c ⟨n + 1, hn⟩ (by show ¬ (n + 1) % 4 = 0; omega) (by show ¬ (n + 1) % 4 = 3; omega)
      rw [b1] at e1
      rw [b2] at e2
      exact ⟨e1.trans r.symm, e2.trans a.symm⟩

/-- What a point leaves in its block of the input's gradient. -/
theorem left_dx (t : Fin cfg0.N) : (outsAt0 m c t.val t.isLt).1 = dxB (dV m c t) (iblk m c 6 t) (iblk m c 9 t) (iblk m c 8 t) (iblk m c 7 t) := by
  by_cases h0 : t.val % 4 = 0
  · exact left_dx_A m c t h0 (by omega)
  by_cases h1 : t.val % 4 = 3
  · exact left_dx_C m c t h0 h1
  · exact left_dx_B m c t h0 h1

/-- What the last point leaves in the weights' gradient. -/
theorem left_dw (t : Fin cfg0.N) (h : t.val % 4 = 3) : (outsAt0 m c t.val t.isLt).2.2.1 = k0_pay2 (accV m c 4) := by
  have h4 : t.val < 4 := Nat.lt_of_lt_of_eq t.isLt N_0
  have a := accV_step m c t
  rw [(by omega : t.val + 1 = 4)] at a
  have ih : (before m c t).2.2.2 = accV m c (t.val - 1 + 1) := (left m c (t.val - 1) (Nat.lt_of_le_of_lt (Nat.sub_le _ _) t.isLt)).2
  rw [(by omega : t.val - 1 + 1 = t.val)] at ih
  have e := left_dw_C m c t (by omega) h
  rw [ih, ← a] at e
  exact e
end

variable (m : (ℓ : Loc nD τ sig) → Buf (Elt Ideal) ℓ) (c : Dev nD)

/-! ### Where an element of a block lies in its array -/

/-- Row `r` of the block of rows of point `t`. -/
def row (t : Fin cfg0.N) (r : Fin 512) : Fin 2048 :=
  ⟨t.val * 512 + r.val, by have : t.val < 4 := Nat.lt_of_lt_of_eq t.isLt N_0; have := r.isLt; omega⟩

theorem row_surj (n : Fin 2048) : ∃ t r, row t r = n :=
  ⟨⟨n.val / 512, by have := n.isLt; have : cfg0.N = 4 := N_0; omega⟩, ⟨n.val % 512, Nat.mod_lt _ (by decide)⟩,
    Fin.ext (by show n.val / 512 * 512 + n.val % 512 = n.val; omega)⟩

theorem row_0 (r : Fin 512) : row (pt 0) r = ⟨r.val, by omega⟩ := Fin.ext (by show 0 * 512 + r.val = r.val; omega)
theorem row_1 (r : Fin 512) : row (pt 1) r = ⟨512 + r.val, by omega⟩ := Fin.ext (by show 1 * 512 + r.val = 512 + r.val; omega)
theorem row_2 (r : Fin 512) : row (pt 2) r = ⟨1024 + r.val, by omega⟩ := Fin.ext (by show 2 * 512 + r.val = 1024 + r.val; omega)
theorem row_3 (r : Fin 512) : row (pt 3) r = ⟨1536 + r.val, by omega⟩ := Fin.ext (by show 3 * 512 + r.val = 1536 + r.val; omega)

theorem emb_0 (t : Fin cfg0.N) (p : Fin 512) (q : Fin 512) : ((cfg0.win 0).blk t).view.emb (ix2 p q) = (ix2 (row t p) q : S2048x512.Idx) := by
  funext a; apply Fin.ext
  match a with
  | ⟨0, _⟩ =>
    refine (win0_0.rect_emb_val t (ix2 p q) 0).trans ?_
    rw [(by decide +kernel : ∀ t : Fin grid0.N, win0_0.index t 0 * win0_0.size 0 = t.val * 512) t]; rfl
  | ⟨1, _⟩ => exact win0_0.rect_emb_val_of_index_zero t 1 ((by decide +kernel : ∀ t : Fin grid0.N, win0_0.index t 1 = 0) t) (ix2 p q)

theorem emb_1 (t : Fin cfg0.N) (p : Fin 512) (q : Fin 256) : ((cfg0.win 1).blk t).view.emb (ix2 p q) = (ix2 (row t p) q : S2048x256.Idx) := by
  funext a; apply Fin.ext
  match a with
  | ⟨0, _⟩ =>
    refine (win0_1.rect_emb_val t (ix2 p q) 0).trans ?_
    rw [(by decide +kernel : ∀ t : Fin grid0.N, win0_1.index t 0 * win0_1.size 0 = t.val * 512) t]; rfl
  | ⟨1, _⟩ => exact win0_1.rect_emb_val_of_index_zero t 1 ((by decide +kernel : ∀ t : Fin grid0.N, win0_1.index t 1 = 0) t) (ix2 p q)

theorem emb_2 (t : Fin cfg0.N) (p : Fin 512) (q : Fin 768) : ((cfg0.win 2).blk t).view.emb (ix2 p q) = (ix2 (row t p) q : S2048x768.Idx) := by
  funext a; apply Fin.ext
  match a with
  | ⟨0, _⟩ =>
    refine (win0_2.rect_emb_val t (ix2 p q) 0).trans ?_
    rw [(by decide +kernel : ∀ t : Fin grid0.N, win0_2.index t 0 * win0_2.size 0 = t.val * 512) t]; rfl
  | ⟨1, _⟩ => exact win0_2.rect_emb_val_of_index_zero t 1 ((by decide +kernel : ∀ t : Fin grid0.N, win0_2.index t 1 = 0) t) (ix2 p q)

theorem emb_3 (t : Fin cfg0.N) (p : Fin 512) (q : Fin 256) : ((cfg0.win 3).blk t).view.emb (ix2 p q) = (ix2 (row t p) q : S2048x256.Idx) := by
  funext a; apply Fin.ext
  match a with
  | ⟨0, _⟩ =>
    refine (win0_3.rect_emb_val t (ix2 p q) 0).trans ?_
    rw [(by decide +kernel : ∀ t : Fin grid0.N, win0_3.index t 0 * win0_3.size 0 = t.val * 512) t]; rfl
  | ⟨1, _⟩ => exact win0_3.rect_emb_val_of_index_zero t 1 ((by decide +kernel : ∀ t : Fin grid0.N, win0_3.index t 1 = 0) t) (ix2 p q)

theorem emb_4 (t : Fin cfg0.N) (p : Fin 512) (q : Fin 1024) : ((cfg0.win 4).blk t).view.emb (ix2 p q) = (ix2 (row t p) q : S2048x1024.Idx) := by
  funext a; apply Fin.ext
  match a with
  | ⟨0, _⟩ =>
    refine (win0_4.rect_emb_val t (ix2 p q) 0).trans ?_
    rw [(by decide +kernel : ∀ t : Fin grid0.N, win0_4.index t 0 * win0_4.size 0 = t.val * 512) t]; rfl
  | ⟨1, _⟩ => exact win0_4.rect_emb_val_of_index_zero t 1 ((by decide +kernel : ∀ t : Fin grid0.N, win0_4.index t 1 = 0) t) (ix2 p q)

theorem emb_6 (t : Fin cfg0.N) (p : Fin 512) (q : Fin 1024) : ((cfg0.win 6).blk t).view.emb (ix2 p q) = (ix2 (row t p) q : S2048x1024.Idx) := by
  funext a; apply Fin.ext
  match a with
  | ⟨0, _⟩ =>
    refine (win0_6.rect_emb_val t (ix2 p q) 0).trans ?_
    rw [(by decide +kernel : ∀ t : Fin grid0.N, win0_6.index t 0 * win0_6.size 0 = t.val * 512) t]; rfl
  | ⟨1, _⟩ => exact win0_6.rect_emb_val_of_index_zero t 1 ((by decide +kernel : ∀ t : Fin grid0.N, win0_6.index t 1 = 0) t) (ix2 p q)

theorem emb_7 (t : Fin cfg0.N) (p : Fin 512) (q : Fin 1024) : ((cfg0.win 7).blk t).view.emb (ix2 p q) = (ix2 (row t p) q : S2048x1024.Idx) := by
  funext a; apply Fin.ext
  match a with
  | ⟨0, _⟩ =>
    refine (win0_7.rect_emb_val t (ix2 p q) 0).trans ?_
    rw [(by decide +kernel : ∀ t : Fin grid0.N, win0_7.index t 0 * win0_7.size 0 = t.val * 512) t]; rfl
  | ⟨1, _⟩ => exact win0_7.rect_emb_val_of_index_zero t 1 ((by decide +kernel : ∀ t : Fin grid0.N, win0_7.index t 1 = 0) t) (ix2 p q)

theorem emb_10 (t : Fin cfg0.N) (p : Fin 512) (q : Fin 1024) : ((cfg0.win 10).blk t).view.emb (ix2 p q) = (ix2 (row t p) q : S2048x1024.Idx) := by
  funext a; apply Fin.ext
  match a with
  | ⟨0, _⟩ =>
    refine (win0_10.rect_emb_val t (ix2 p q) 0).trans ?_
    rw [(by decide +kernel : ∀ t : Fin grid0.N, win0_10.index t 0 * win0_10.size 0 = t.val * 512) t]; rfl
  | ⟨1, _⟩ => exact win0_10.rect_emb_val_of_index_zero t 1 ((by decide +kernel : ∀ t : Fin grid0.N, win0_10.index t 1 = 0) t) (ix2 p q)

theorem emb_5 (t : Fin cfg0.N) (p : Fin 1792) (q : Fin 1024) : ((cfg0.win 5).blk t).view.emb (ix2 p q) = (ix2 p q : S1792x1024.Idx) := by
  funext a; apply Fin.ext
  match a with
  | ⟨0, _⟩ => exact win0_5.rect_emb_val_of_index_zero t 0 ((by decide +kernel : ∀ t : Fin grid0.N, win0_5.index t 0 = 0) t) (ix2 p q)
  | ⟨1, _⟩ => exact win0_5.rect_emb_val_of_index_zero t 1 ((by decide +kernel : ∀ t : Fin grid0.N, win0_5.index t 1 = 0) t) (ix2 p q)

theorem emb_8 (t : Fin cfg0.N) (p : Fin 3) (q : Fin 1024) : ((cfg0.win 8).blk t).view.emb (ix2 p q) = (ix2 p q : S3x1024.Idx) := by
  funext a; apply Fin.ext
  match a with
  | ⟨0, _⟩ => exact win0_8.rect_emb_val_of_index_zero t 0 ((by decide +kernel : ∀ t : Fin grid0.N, win0_8.index t 0 = 0) t) (ix2 p q)
  | ⟨1, _⟩ => exact win0_8.rect_emb_val_of_index_zero t 1 ((by decide +kernel : ∀ t : Fin grid0.N, win0_8.index t 1 = 0) t) (ix2 p q)

theorem emb_9 (t : Fin cfg0.N) (p : Fin 1) (q : Fin 1024) : ((cfg0.win 9).blk t).view.emb (ix2 p q) = (ix2 p q : S1x1024.Idx) := by
  funext a; apply Fin.ext
  match a with
  | ⟨0, _⟩ => exact win0_9.rect_emb_val_of_index_zero t 0 ((by decide +kernel : ∀ t : Fin grid0.N, win0_9.index t 0 = 0) t) (ix2 p q)
  | ⟨1, _⟩ => exact win0_9.rect_emb_val_of_index_zero t 1 ((by decide +kernel : ∀ t : Fin grid0.N, win0_9.index t 1 = 0) t) (ix2 p q)

theorem emb_11 (t : Fin cfg0.N) (p : Fin 8) (q : Fin 1024) : ((cfg0.win 11).blk t).view.emb (ix2 p q) = (ix2 p q : S8x1024.Idx) := by
  funext a; apply Fin.ext
  match a with
  | ⟨0, _⟩ => exact win0_11.rect_emb_val_of_index_zero t 0 ((by decide +kernel : ∀ t : Fin grid0.N, win0_11.index t 0 = 0) t) (ix2 p q)
  | ⟨1, _⟩ => exact win0_11.rect_emb_val_of_index_zero t 1 ((by decide +kernel : ∀ t : Fin grid0.N, win0_11.index t 1 = 0) t) (ix2 p q)

theorem emb_12 (t : Fin cfg0.N) (p : Fin 1792) (q : Fin 1024) : ((cfg0.win 12).blk t).view.emb (ix2 p q) = (ix2 p q : S1792x1024.Idx) := by
  funext a; apply Fin.ext
  match a with
  | ⟨0, _⟩ => exact win0_12.rect_emb_val_of_index_zero t 0 ((by decide +kernel : ∀ t : Fin grid0.N, win0_12.index t 0 = 0) t) (ix2 p q)
  | ⟨1, _⟩ => exact win0_12.rect_emb_val_of_index_zero t 1 ((by decide +kernel : ∀ t : Fin grid0.N, win0_12.index t 1 = 0) t) (ix2 p q)

/-! ### The input blocks -/

theorem iblk_0 (t : Fin cfg0.N) (r : Fin 512) (k : Fin 512) : iblk m c 0 t (ix2 r k) = x0 m c (ix2 (row t r) k) := by
  show V m c main_arg0 (((cfg0.win 0).blk t).view.emb (ix2 r k)) = _
  rw [emb_0, V_main_arg0]

theorem iblk_1 (t : Fin cfg0.N) (r : Fin 512) (k : Fin 256) : iblk m c 1 t (ix2 r k) = x1 m c (ix2 (row t r) k) := by
  show V m c main_arg1 (((cfg0.win 1).blk t).view.emb (ix2 r k)) = _
  rw [emb_1, V_main_arg1]

theorem iblk_2 (t : Fin cfg0.N) (r : Fin 512) (k : Fin 768) : iblk m c 2 t (ix2 r k) = x2 m c (ix2 (row t r) k) := by
  show V m c main_arg2 (((cfg0.win 2).blk t).view.emb (ix2 r k)) = _
  rw [emb_2, V_main_arg2]

theorem iblk_3 (t : Fin cfg0.N) (r : Fin 512) (k : Fin 256) : iblk m c 3 t (ix2 r k) = x3 m c (ix2 (row t r) k) := by
  show V m c main_arg3 (((cfg0.win 3).blk t).view.emb (ix2 r k)) = _
  rw [emb_3, V_main_arg3]

theorem iblk_4 (t : Fin cfg0.N) (r : Fin 512) (k : Fin 1024) : iblk m c 4 t (ix2 r k) = hS (x5 m c) (x7 m c) (x8 m c) (ix2 (row t r) k) := by
  show V m c main_v20 (((cfg0.win 4).blk t).view.emb (ix2 r k)) = _
  rw [emb_4, V_h]

theorem iblk_6 (t : Fin cfg0.N) (r : Fin 512) (k : Fin 1024) : iblk m c 6 t (ix2 r k) = x5 m c (ix2 (row t r) k) := by
  show V m c main_arg5 (((cfg0.win 6).blk t).view.emb (ix2 r k)) = _
  rw [emb_6, V_main_arg5]

theorem iblk_7 (t : Fin cfg0.N) (r : Fin 512) (k : Fin 1024) : iblk m c 7 t (ix2 r k) = x6 m c (ix2 (row t r) k) := by
  show V m c main_arg6 (((cfg0.win 7).blk t).view.emb (ix2 r k)) = _
  rw [emb_7, V_main_arg6]

theorem iblk_5 (t : Fin cfg0.N) (p : Fin 1792) (k : Fin 1024) : iblk m c 5 t (ix2 p k) = x4 m c (ix2 k p) := by
  show V m c main_v22 (((cfg0.win 5).blk t).view.emb (ix2 p k)) = _
  rw [emb_5, V_w]

theorem iblk_8 (t : Fin cfg0.N) : iblk m c 8 t = x7 m c := by
  funext (y : S3x1024.Idx)
  obtain ⟨p, q, rfl⟩ : ∃ (p : Fin 3) (q : Fin 1024), y = ix2 p q := ⟨y 0, y 1, eq_ix2 y⟩
  show V m c main_arg7 (((cfg0.win 8).blk t).view.emb (ix2 p q)) = _
  rw [emb_8, V_main_arg7]

theorem iblk_9 (t : Fin cfg0.N) : iblk m c 9 t = x8 m c := by
  funext (y : S1x1024.Idx)
  obtain ⟨p, q, rfl⟩ : ∃ (p : Fin 1) (q : Fin 1024), y = ix2 p q := ⟨y 0, y 1, eq_ix2 y⟩
  show V m c main_arg8 (((cfg0.win 9).blk t).view.emb (ix2 p q)) = _
  rw [emb_9, V_main_arg8]

/-! ### The functions that the result arrays hold -/

def zG : Mat 2048 1792 := joinS (x0 m c) (x1 m c) (x2 m c) (x3 m c)
def dG : Mat 2048 1024 := dhS (zG m c) (x4 m c)
def dxG : Mat 2048 1024 := dxS (dG m c) (x5 m c) (x6 m c) (x7 m c) (x8 m c)
def rowsG : Mat 8 1024 := rowsS (dG m c) (x5 m c) (x7 m c) (x8 m c)
def dwG : Mat 1792 1024 := dwS (zG m c) (hS (x5 m c) (x7 m c) (x8 m c))

/-! ### One block -/

/-- A row of a block's cotangents is that row of all of them. -/
theorem z_apply (t : Fin cfg0.N) (r : Fin 512) (p : Fin 1792) :
    joinS (n := 512) (iblk m c 0 t) (iblk m c 1 t) (iblk m c 2 t) (iblk m c 3 t) (ix2 r p) = zG m c (ix2 (row t r) p) :=
  join_row (fun j => iblk_0 m c t r j) (fun j => iblk_1 m c t r j) (fun j => iblk_2 m c t r j) (fun j => iblk_3 m c t r j) p

theorem dV_apply (t : Fin cfg0.N) (r : Fin 512) (k : Fin 1024) : dV m c t (ix2 r k) = dG m c (ix2 (row t r) k) := by
  unfold dV
  refine (grad_apply _ _ _ _ _ r k).trans ?_
  show _ = ∑ p : Fin 1792, zG m c (ix2 (row t r) p) * x4 m c (ix2 k p)
  refine Finset.sum_congr rfl fun p _ => ?_
  rw [z_apply]
  exact congrArg (_ * ·) (iblk_5 m c t p k)

/-- The reciprocal root of a row of a block is that of the array's row. -/
theorem root_row {n n' : ℕ} {x : Mat n 1024} {x' : Mat n' 1024} {r : Fin n} {r' : Fin n'} (h : ∀ k, x (ix2 r k) = x' (ix2 r' k)) :
    rS x r = rS x' r' := by
  unfold rS; simp only [h]

/-- A block's gradient of the input depends on the block's rows alone. -/
theorem dxB_row (d x : Vec Ideal S512x1024 .f32) (e : Vec Ideal S512x1024 .f32) (D X E : Mat 2048 1024) (md : Mat 3 1024) (g : Mat 1 1024)
    (r : Fin 512) (r' : Fin 2048) (hd : ∀ k, d (ix2 r k) = D (ix2 r' k)) (hx : ∀ k, x (ix2 r k) = X (ix2 r' k)) (he : ∀ k, e (ix2 r k) = E (ix2 r' k))
    (k : Fin 1024) : dxB d x g md e (ix2 r k) = dxS D X E md g (ix2 r' k) := by
  refine (dxB_apply d x g md e r k).trans ?_
  rw [root_row (x := x) (x' := X) (r := r) (r' := r') hx]
  simp only [hd, hx, he]
  rfl

theorem dx_apply (t : Fin cfg0.N) (r : Fin 512) (k : Fin 1024) :
    dxB (dV m c t) (iblk m c 6 t) (iblk m c 9 t) (iblk m c 8 t) (iblk m c 7 t) (ix2 r k) = dxG m c (ix2 (row t r) k) := by
  rw [iblk_9, iblk_8]
  exact dxB_row _ _ _ _ _ _ _ _ r (row t r) (dV_apply m c t r) (iblk_6 m c t r) (iblk_7 m c t r) k

/-! ### The sums over the blocks -/

/-- The rows before a point, each of the three with its own block's sum added. -/
theorem addRows_row (X : Vec Ideal S8x1024 .f32) (d x : Vec Ideal S512x1024 .f32) (D Y : Mat 2048 1024) (md : Mat 3 1024) (g : Mat 1 1024)
    (R : Fin 512 → Fin 2048) (hd : ∀ r k, d (ix2 r k) = D (ix2 (R r) k)) (hx : ∀ r k, x (ix2 r k) = Y (ix2 (R r) k)) (p : Fin 8) (k : Fin 1024) :
    addRows X d x g md (ix2 p k) = if p.val = 0 then X (ix2 p k) + ∑ r : Fin 512, D (ix2 (R r) k)
      else if p.val = 1 then X (ix2 p k) + ∑ r : Fin 512, D (ix2 (R r) k) * (Y (ix2 (R r) k) * rS Y (R r) * g (ix2 0 k))
      else if p.val = 2 then X (ix2 p k) + ∑ r : Fin 512, D (ix2 (R r) k) * (1 + md (ix2 1 k)) * (Y (ix2 (R r) k) * rS Y (R r)) else X (ix2 p k) := by
  refine (addRows_apply X d x g md p k).trans ?_
  have hr : ∀ r, rS x r = rS Y (R r) := fun r => root_row (hx r)
  simp only [hd, hx, hr]

theorem rowsV_apply (n : ℕ) (p : Fin 8) (k : Fin 1024) :
    rowsV m c (n + 1) (ix2 p k) = if p.val = 0 then rowsV m c n (ix2 p k) + ∑ r : Fin 512, dG m c (ix2 (row (pt n) r) k)
      else if p.val = 1 then rowsV m c n (ix2 p k) + ∑ r : Fin 512, dG m c (ix2 (row (pt n) r) k) * (x5 m c (ix2 (row (pt n) r) k) * rS (x5 m c) (row (pt n) r) * x8 m c (ix2 0 k))
      else if p.val = 2 then rowsV m c n (ix2 p k) + ∑ r : Fin 512, dG m c (ix2 (row (pt n) r) k) * (1 + x7 m c (ix2 1 k)) * (x5 m c (ix2 (row (pt n) r) k) * rS (x5 m c) (row (pt n) r))
      else rowsV m c n (ix2 p k) := by
  show addRows (rowsV m c n) (dV m c (pt n)) (iblk m c 6 (pt n)) (iblk m c 9 (pt n)) (iblk m c 8 (pt n)) (ix2 p k) = _
  rw [iblk_9, iblk_8]
  exact addRows_row _ _ _ _ _ _ _ (row (pt n)) (dV_apply m c (pt n)) (iblk_6 m c (pt n)) p k

theorem rows_apply (p : Fin 8) (k : Fin 1024) : rowsV m c 4 (ix2 p k) = rowsG m c (ix2 p k) := by
  have e0 : rowsV m c 0 (ix2 p k) = 0 := pay3_apply p k
  have e1 := rowsV_apply m c 0 p k
  have e2 := rowsV_apply m c 1 p k
  have e3 := rowsV_apply m c 2 p k
  have e4 := rowsV_apply m c 3 p k
  show _ = if p.val = 0 then dshS (dG m c) k else if p.val = 1 then dscS (dG m c) (x5 m c) (x8 m c) k
    else if p.val = 2 then dgnS (dG m c) (x5 m c) (x7 m c) k else 0
  simp only [row_0] at e1
  simp only [row_1] at e2
  simp only [row_2] at e3
  simp only [row_3] at e4
  by_cases h0 : p.val = 0
  · simp only [if_pos h0] at e1 e2 e3 e4 ⊢
    rw [e4, e3, e2, e1, e0, zero_add]
    unfold dshS
    generalize dG m c = D
    exact (sum_blocks fun r => D (ix2 r k)).symm
  by_cases h1 : p.val = 1
  · simp only [if_neg h0, if_pos h1] at e1 e2 e3 e4 ⊢
    rw [e4, e3, e2, e1, e0, zero_add]
    unfold dscS
    generalize dG m c = D
    generalize x5 m c = X
    generalize x8 m c = G
    exact (sum_blocks fun r => D (ix2 r k) * (X (ix2 r k) * rS X r * G (ix2 0 k))).symm
  by_cases h2 : p.val = 2
  · simp only [if_neg h0, if_neg h1, if_pos h2] at e1 e2 e3 e4 ⊢
    rw [e4, e3, e2, e1, e0, zero_add]
    unfold dgnS
    generalize dG m c = D
    generalize x5 m c = X
    generalize x7 m c = M
    exact (sum_blocks fun r => D (ix2 r k) * (1 + M (ix2 1 k)) * (X (ix2 r k) * rS X r)).symm
  simp only [if_neg h0, if_neg h1, if_neg h2] at e1 e2 e3 e4 ⊢
  rw [e4, e3, e2, e1, e0]

/-- A step of the running sum of the weights' gradient. -/
theorem accV_apply (n : ℕ) (p : Fin 1792) (k : Fin 1024) : accV m c (n + 1) (ix2 p k)
    = accV m c n (ix2 p k) + ∑ r : Fin 512, zG m c (ix2 (row (pt n) r) p) * hS (x5 m c) (x7 m c) (x8 m c) (ix2 (row (pt n) r) k) := by
  refine (pay6_apply _ _ _ _ _ _ p k).trans (congrArg (_ + ·) (Finset.sum_congr rfl fun r _ => ?_))
  rw [z_apply]
  exact congrArg (_ * ·) (iblk_4 m c (pt n) r k)

theorem dw_apply (p : Fin 1792) (k : Fin 1024) : accV m c 4 (ix2 p k) = dwG m c (ix2 p k) := by
  have e0 : accV m c 0 (ix2 p k) = 0 := pay4_apply p k
  have e1 := accV_apply m c 0 p k
  have e2 := accV_apply m c 1 p k
  have e3 := accV_apply m c 2 p k
  have e4 := accV_apply m c 3 p k
  simp only [row_0] at e1
  simp only [row_1] at e2
  simp only [row_2] at e3
  simp only [row_3] at e4
  rw [e4, e3, e2, e1, e0, zero_add]
  show _ = ∑ r : Fin 2048, zG m c (ix2 r p) * hS (x5 m c) (x7 m c) (x8 m c) (ix2 r k)
  generalize zG m c = Z
  generalize hS (x5 m c) (x7 m c) (x8 m c) = H
  exact (sum_blocks fun r => Z (ix2 r p) * H (ix2 r k)).symm

/-! ### The arrays -/

theorem flushed_10 (t : Fin cfg0.N) : (dats m 0 c).flushed 10 t = ((cfg0.win 10).blk t).view.read (Elt Ideal) (dxG m c) := by
  rw [Value.flushed10, left_dx]
  refine funext fun (y : S512x1024.Idx) => ?_
  obtain ⟨p, q, rfl⟩ : ∃ (p : Fin 512) (q : Fin 1024), y = ix2 p q := ⟨y 0, y 1, eq_ix2 y⟩
  show _ = dxG m c (((cfg0.win 10).blk t).view.emb (ix2 p q))
  rw [emb_10]
  exact dx_apply m c t p q

theorem arr_10 : (dats m 0 c).arrAt 10 cfg0.N = dxG m c :=
  (dats m 0 c).arrAt_eq_of_cover 10 (dxG m c) (fun t _ => flushed_10 m c t) fun (i : S2048x1024.Idx) => by
    obtain ⟨t, r, h⟩ := row_surj (i 0)
    refine ⟨t, flush0_10 t, ?_⟩
    have e : ((cfg0.win 10).blk t).view.emb (ix2 r (i 1)) = i := (emb_10 t r (i 1)).trans (by rw [h]; exact (eq_ix2 i).symm)
    exact e ▸ View.emb_mem_set _ _

theorem flushed_11 (t : Fin cfg0.N) (h : t.val % 4 = 3) : (dats m 0 c).flushed 11 t = ((cfg0.win 11).blk t).view.read (Elt Ideal) (rowsG m c) := by
  have h4 : t.val < 4 := Nat.lt_of_lt_of_eq t.isLt N_0
  rw [Value.flushed11, (left m c t.val t.isLt).1, (by omega : t.val + 1 = 4)]
  refine funext fun (y : S8x1024.Idx) => ?_
  obtain ⟨p, q, rfl⟩ : ∃ (p : Fin 8) (q : Fin 1024), y = ix2 p q := ⟨y 0, y 1, eq_ix2 y⟩
  show _ = rowsG m c (((cfg0.win 11).blk t).view.emb (ix2 p q))
  rw [emb_11]
  exact rows_apply m c p q

theorem arr_11 : (dats m 0 c).arrAt 11 cfg0.N = rowsG m c :=
  (dats m 0 c).arrAt_eq_of_cover 11 (rowsG m c) (fun t ht => flushed_11 m c t ((flush0_11 t).mp ht)) fun (i : S8x1024.Idx) => by
    refine ⟨pt 3, (flush0_11 (pt 3)).mpr rfl, ?_⟩
    have e : ((cfg0.win 11).blk (pt 3)).view.emb (ix2 (i 0) (i 1)) = i := (emb_11 (pt 3) (i 0) (i 1)).trans (eq_ix2 i).symm
    exact e ▸ View.emb_mem_set _ _

theorem flushed_12 (t : Fin cfg0.N) (h : t.val % 4 = 3) : (dats m 0 c).flushed 12 t = ((cfg0.win 12).blk t).view.read (Elt Ideal) (dwG m c) := by
  rw [Value.flushed12, left_dw m c t h]
  refine funext fun (y : S1792x1024.Idx) => ?_
  obtain ⟨p, q, rfl⟩ : ∃ (p : Fin 1792) (q : Fin 1024), y = ix2 p q := ⟨y 0, y 1, eq_ix2 y⟩
  show _ = dwG m c (((cfg0.win 12).blk t).view.emb (ix2 p q))
  rw [emb_12]
  exact (pay2_apply _ p q).trans (dw_apply m c p q)

theorem arr_12 : (dats m 0 c).arrAt 12 cfg0.N = dwG m c :=
  (dats m 0 c).arrAt_eq_of_cover 12 (dwG m c) (fun t ht => flushed_12 m c t ((flush0_12 t).mp ht)) fun (i : S1792x1024.Idx) => by
    refine ⟨pt 3, (flush0_12 (pt 3)).mpr rfl, ?_⟩
    have e : ((cfg0.win 12).blk (pt 3)).view.emb (ix2 (i 0) (i 1)) = i := (emb_12 (pt 3) (i 0) (i 1)).trans (eq_ix2 i).symm
    exact e ▸ View.emb_mem_set _ _

/-- The run with the three results read: each array is the mathematics of the arguments. -/
theorem run (ρ : Dev nD → PrngReg) : θ_run defs (onTc (τ := τ) (main (F := Ideal))) ⟨m, fun _ => 0, ρ⟩ fun r => ∀ c : Dev nD,
      r.2.mem ((c.tc : Thread nD τ).loc main_v23_0) = dxG m c
      ∧ r.2.mem ((c.tc : Thread nD τ).loc main_v23_1) = rowsG m c
      ∧ r.2.mem ((c.tc : Thread nD τ).loc main_v23_2) = dwG m c :=
  (θ_run defs _ _).mono (fun _ h c => ⟨(h c).1.trans (arr_10 m c), (h c).2.1.trans (arr_11 m c), (h c).2.2.1.trans (arr_12 m c)⟩) (Value.run_blocks m ρ)

end Cert.MixBwd

end
-- ==== Proof.MixBwdRef.lean ====
/- The three results of the mixers' input gradient's reference, element by element: the same mathematics as the kernel's
   arrays. -/
module

public import proofs.«01_k».proof.Proof.Gen.Reference4Ideal.Read
public import proofs.«01_k».proof.Proof.MixBwdSpec
public import proofs.«01_k».proof.Proof.InNorm

@[expose] public section

set_option maxRecDepth 16384

noncomputable section

namespace Cert.MixBwd.Ref

open Cert.Reference4Ideal Cert.Reference4Ideal.Gen Cert.Reference4Ideal.Read Cert.FfnBwd Cert.FfnFwd Cert.FfnIn
open Cert.MixBwd (joinS eq_join dwS)
open Idealize.ShloMosaic

variable (x0 : Mat 2048 512) (x1 : Mat 2048 256) (x2 : Mat 2048 768) (x3 : Mat 2048 256) (x4 : Mat 1024 1792) (x5 x6 : Mat 2048 1024)
  (x7 : Mat 3 1024) (x8 : Mat 1 1024)

/-- The four mixers' cotangents side by side. -/
theorem join : val_main_v3 (F := Ideal) x0 x1 x2 x3 = joinS x0 x1 x2 x3 := by
  funext i
  obtain ⟨r, p, rfl⟩ : ∃ (r : Fin 2048) (p : Fin 1792), i = ix2 r p := ⟨i 0, i 1, eq_ix2 i⟩
  refine eq_join (val_main_v3 (F := Ideal) x0 x1 x2 x3) x0 x1 x2 x3 r (fun j => by unfold val_main_v3; pointwise) (fun j => by unfold val_main_v3; pointwise)
    (fun j => ?_) (fun j => ?_) p
  · unfold val_main_v3; pointwise
    rw [dif_neg (by omega), dif_neg (by omega), dif_pos (by omega)]
    exact congrArg (fun q => x2 (ix2 r q)) (Fin.ext (by show 768 + j.val - 512 - 256 = j.val; omega))
  · unfold val_main_v3; pointwise
    rw [dif_neg (by omega), dif_neg (by omega), dif_neg (by omega)]
    exact congrArg (fun q => x3 (ix2 r q)) (Fin.ext (by show 1536 + j.val - 512 - 256 - 768 = j.val; omega))

theorem dh : val_main_v28 (F := Ideal) x0 x1 x2 x3 x4 = MixBwd.dhS (joinS x0 x1 x2 x3) x4 := by
  funext i
  obtain ⟨r, k, rfl⟩ : ∃ (r : Fin 2048) (k : Fin 1024), i = ix2 r k := ⟨i 0, i 1, eq_ix2 i⟩
  unfold val_main_v28
  rw [join]
  generalize joinS x0 x1 x2 x3 = y
  pointwise
  rfl

/-- The reciprocal root, a row's normed values, and the gradient of the normed rows. -/
theorem root (r : Fin 2048) : val_main_v11 (F := Ideal) x5 (ix2 r 0) = rS x5 r := by
  unfold val_main_v11 val_main_v10 val_main_v9 val_main_v8 val_main_v7 val_main_v6 val_main_v5 val_main_v4 val_main_cst val_main_cst_0 val_main_cst_1
  pointwise
  rfl

theorem dn : val_main_v40 (F := Ideal) x0 x1 x2 x3 x4 x7 x8 = dnS (MixBwd.dhS (joinS x0 x1 x2 x3) x4) x7 x8 := by
  funext i
  obtain ⟨r, k, rfl⟩ : ∃ (r : Fin 2048) (k : Fin 1024), i = ix2 r k := ⟨i 0, i 1, eq_ix2 i⟩
  unfold val_main_v40 val_main_v39 val_main_v35 val_main_v34 val_main_v20 val_main_v19 val_main_v1 val_main_cst_3
  rw [dh]
  generalize MixBwd.dhS (joinS x0 x1 x2 x3) x4 = y
  pointwise
  rfl

/-- The first result. -/
theorem dx : val_main_v55 (F := Ideal) x0 x1 x2 x3 x4 x5 x6 x7 x8 = dxS (MixBwd.dhS (joinS x0 x1 x2 x3) x4) x5 x6 x7 x8 := by
  funext i
  obtain ⟨r, k, rfl⟩ : ∃ (r : Fin 2048) (k : Fin 1024), i = ix2 r k := ⟨i 0, i 1, eq_ix2 i⟩
  unfold val_main_v55 val_main_v54 val_main_v53 val_main_v52 val_main_v51 val_main_v50 val_main_v49 val_main_v48 val_main_v47 val_main_v46 val_main_v45
    val_main_v44 val_main_v43 val_main_v42 val_main_v41 val_main_v14 val_main_v13 val_main_v12
    val_main_v11 val_main_v10 val_main_v9 val_main_v8 val_main_v7 val_main_v6 val_main_v5 val_main_v4 val_main_cst val_main_cst_0 val_main_cst_1
    val_main_cst_2 val_main_cst_7 val_main_cst_8 val_main_cst_9
  rw [dn]
  unfold dxS
  generalize dnS (MixBwd.dhS (joinS x0 x1 x2 x3) x4) x7 x8 = N
  refine Eq.trans ?_ (norm_grad (fun l => x5 (ix2 r l)) (fun l => N (ix2 r l)) k (x6 (ix2 r k))).symm
  pointwise
  rw [Fin.sum_univ_one]

/-- The second result. -/
theorem row_shift (k : Fin 1024) : val_main_v30 (F := Ideal) x0 x1 x2 x3 x4 (ix2 0 k) = dshS (MixBwd.dhS (joinS x0 x1 x2 x3) x4) k := by
  unfold val_main_v30 val_main_v29 val_main_cst_4
  rw [dh]
  generalize MixBwd.dhS (joinS x0 x1 x2 x3) x4 = y
  pointwise
  rfl

theorem row_scale (k : Fin 1024) : val_main_v33 (F := Ideal) x0 x1 x2 x3 x4 x5 x8 (ix2 0 k) = dscS (MixBwd.dhS (joinS x0 x1 x2 x3) x4) x5 x8 k := by
  unfold val_main_v33 val_main_v32 val_main_v31 val_main_v18 val_main_v17 val_main_v16 val_main_v15
    val_main_v11 val_main_v10 val_main_v9 val_main_v8 val_main_v7 val_main_v6 val_main_v5 val_main_v4 val_main_cst val_main_cst_0 val_main_cst_1 val_main_cst_5
  rw [dh]
  generalize MixBwd.dhS (joinS x0 x1 x2 x3) x4 = y
  pointwise
  exact Finset.sum_congr rfl fun r _ => mul_comm (G := EReal) _ _

theorem row_gain (k : Fin 1024) : val_main_v38 (F := Ideal) x0 x1 x2 x3 x4 x5 x7 (ix2 0 k) = dgnS (MixBwd.dhS (joinS x0 x1 x2 x3) x4) x5 x7 k := by
  unfold val_main_v38 val_main_v37 val_main_v36 val_main_v35 val_main_v34 val_main_v20 val_main_v19 val_main_v1 val_main_v16 val_main_v15
    val_main_v11 val_main_v10 val_main_v9 val_main_v8 val_main_v7 val_main_v6 val_main_v5 val_main_v4 val_main_cst val_main_cst_0 val_main_cst_1 val_main_cst_3 val_main_cst_6
  rw [dh]
  generalize MixBwd.dhS (joinS x0 x1 x2 x3) x4 = y
  pointwise
  exact Finset.sum_congr rfl fun r _ => mul_comm (G := EReal) _ _

theorem rows : val_main_v57 (F := Ideal) x0 x1 x2 x3 x4 x5 x7 x8 = rowsS (MixBwd.dhS (joinS x0 x1 x2 x3) x4) x5 x7 x8 := by
  funext i
  obtain ⟨p, k, rfl⟩ : ∃ (p : Fin 8) (k : Fin 1024), i = ix2 p k := ⟨i 0, i 1, eq_ix2 i⟩
  have e0 := row_shift x0 x1 x2 x3 x4 k
  have e1 := row_scale x0 x1 x2 x3 x4 x5 x8 k
  have e2 := row_gain x0 x1 x2 x3 x4 x5 x7 k
  unfold val_main_v57 val_main_v56 val_main_cst_10
  generalize val_main_v30 (F := Ideal) x0 x1 x2 x3 x4 = a at e0 ⊢
  generalize val_main_v33 (F := Ideal) x0 x1 x2 x3 x4 x5 x8 = b at e1 ⊢
  generalize val_main_v38 (F := Ideal) x0 x1 x2 x3 x4 x5 x7 = d at e2 ⊢
  fin_cases p
  · exact Eq.trans (by pointwise) e0
  · exact Eq.trans (by pointwise) e1
  · exact Eq.trans (by pointwise) e2
  all_goals exact Eq.trans (by pointwise) (rfl : (0 : EReal) = 0)

/-- The modulated rows, and the third result. -/
theorem h : val_main_v24 (F := Ideal) x5 x7 x8 = hS x5 x7 x8 := by
  funext i
  obtain ⟨r, k, rfl⟩ : ∃ (r : Fin 2048) (k : Fin 1024), i = ix2 r k := ⟨i 0, i 1, eq_ix2 i⟩
  unfold val_main_v24 val_main_v23 val_main_v22 val_main_v21 val_main_v20 val_main_v19 val_main_v18 val_main_v17 val_main_v16 val_main_v15
    val_main_v11 val_main_v10 val_main_v9 val_main_v8 val_main_v7 val_main_v6 val_main_v5 val_main_v4 val_main_v1 val_main_v0 val_main_cst val_main_cst_0 val_main_cst_1 val_main_cst_3
  pointwise
  rfl

theorem dw : val_main_v59 (F := Ideal) x0 x1 x2 x3 x5 x7 x8 = dwS (joinS x0 x1 x2 x3) (hS x5 x7 x8) := by
  funext i
  obtain ⟨p, k, rfl⟩ : ∃ (p : Fin 1792) (k : Fin 1024), i = ix2 p k := ⟨i 0, i 1, eq_ix2 i⟩
  unfold val_main_v59 val_main_v58 val_main_v27 val_main_v26
  rw [join, h]
  generalize joinS x0 x1 x2 x3 = y
  generalize hS x5 x7 x8 = w
  pointwise
  rfl

end Cert.MixBwd.Ref

end
-- ==== Proof.MixBwdKernel.lean ====
/- The frame of the mixers' input gradient on words. The run is proved once, over any float values, and the two programs have the same text. -/
module

public import proofs.«01_k».proof.Defs
public import proofs.«01_k».proof.Proof.MixBwdArrays
public import proofs.«01_k».proof.Proof.Gen.Kernel4

@[expose] public section

noncomputable section

namespace Cert.MixBwd

open Idealize.ShloMosaic Idealize.SL.Sem

attribute [local instance] Cert.Kernel4.Gen.facts

theorem body_text : @Cert.Kernel4.cc0_mix_in_bwd Bits _ _ = @Cert.Kernel4Ideal.cc0_mix_in_bwd Bits _ _ := rfl

set_option maxHeartbeats 4000000 in
theorem bodies_text : Cert.Kernel4.defs₀ (F := Bits) = Cert.Kernel4Ideal.defs₀ (F := Bits) := by
  refine congrArg Defs.onTc ?_
  funext l x
  match l, x with
  | ⟨0, _⟩, (t, s) => rfl

theorem defs_text : Cert.Kernel4.defs (F := Bits) = Cert.Kernel4Ideal.defs (F := Bits) := congrArg (Pipeline.defs _) bodies_text

theorem frame_kernel : Cert.quiescent_Kernel4 := by
  intro m ρ _
  rw [defs_text]
  exact (θ_run Cert.Kernel4Ideal.defs _ _).mono (fun _ h => h) (Cert.Kernel4Ideal.Gen.frame (F := Bits) m ρ)

end Cert.MixBwd

end
-- ==== Proof.MixFwd.lean ====
/- The mixers' input product after its run: the normed and modulated rows and their product with the weights, as
   functions of the arguments. Each block written back is the block of that function, and the blocks cover the array. -/
module

public import proofs.«01_k».proof.Proof.Gen.Kernel5Ideal.Frame
public import proofs.«01_k».proof.Proof.NormSpec
public import proofs.«01_k».proof.Proof.Whole

@[expose] public section

set_option maxRecDepth 16384

noncomputable section

namespace Cert.MixFwd

open Cert.Kernel5Ideal Cert.Kernel5Ideal.Gen Cert.Whole Cert.FfnBwd Cert.FfnFwd
open Idealize.ShloMosaic Idealize.ShloMosaic.TcCoe Idealize.ShloMosaic.StableHlo
open Idealize.SL.Sem

/-- The product of the modulated rows with the mixers' input weights. -/
def zS (h : Mat 2048 1024) (w : Mat 1024 1792) : Mat 2048 1792 := fun i => ∑ k : Fin 1024, h (ix2 (i 0) k) * w (ix2 k (i 1))

/-! ### What one block computes -/

/-- A load of one row of a block of modulations. -/
theorem ld_row {o : ℕ} (ho : o + 1 ≤ 3) (X : Vec Ideal S3x1024 .f32)
    (inb : ∀ x, (![o, 0] : Fin 2 → ℕ) x + S1x1024.size x ≤ S3x1024.size x) :
    View.ld X (Rect.unit (s := S3x1024) ![o, 0] S1x1024.size inb) = rows X o 1 ho := by
  funext y
  show X _ = X _
  congr 1
  funext x; apply Fin.ext
  match x with
  | ⟨0, _⟩ => show o + 1 * (y 0).val = o + (y 0).val; omega
  | ⟨1, _⟩ => show 0 + 1 * (y 1).val = (y 1).val; omega

/-- The normed and modulated rows of a block. -/
theorem pay1_apply (x : Vec Ideal S1024x1024 .f32) (md : Vec Ideal S3x1024 .f32) (g : Vec Ideal S1x1024 .f32) (r : Fin 1024) (k : Fin 1024) :
    k0_pay1 x g (rows md 0 1 (by omega)) (rows md 1 1 (by omega)) (ix2 r k) = hS x md g (ix2 r k) := by
  unfold k0_pay1; pointwise; rfl

/-- Their product with the weights, given transposed. -/
theorem pay2_apply (x : Vec Ideal S1024x1024 .f32) (sh sc g : Vec Ideal S1x1024 .f32) (w : Vec Ideal S1792x1024 .bf16) (r : Fin 1024) (p : Fin 1792) :
    k0_pay2 x g sh sc w (ix2 r p) = ∑ k : Fin 1024, k0_pay1 x g sh sc (ix2 r k) * w (ix2 p k) := by
  unfold k0_pay2
  generalize k0_pay1 x g sh sc = y
  pointwise

/-- What a block leaves in the two outputs. -/
theorem out5_eq (x : Vec Ideal S1024x1024 .f32) (md : Vec Ideal S3x1024 .f32) (g : Vec Ideal S1x1024 .f32) (w : Vec Ideal S1792x1024 .bf16) :
    out0_5 x md g w = k0_pay1 x g (rows md 0 1 (by omega)) (rows md 1 1 (by omega)) := by
  unfold out0_5
  rw [View.canon_unit_zero zero2, View.ld_unit_zero zero2, View.ld_unit_zero zero2, ld_row (by omega), ld_row (by omega)]

theorem out4_eq (x : Vec Ideal S1024x1024 .f32) (md : Vec Ideal S3x1024 .f32) (g : Vec Ideal S1x1024 .f32) (w : Vec Ideal S1792x1024 .bf16) :
    out0_4 x md g w = k0_pay2 x g (rows md 0 1 (by omega)) (rows md 1 1 (by omega)) w := by
  unfold out0_4
  rw [View.canon_unit_zero zero2, View.ld_unit_zero zero2, View.ld_unit_zero zero2, View.ld_unit_zero zero2, ld_row (by omega), ld_row (by omega)]

/-! ### The weights as the host code prepares them -/

/-- The weights transposed. -/
def flipW {F : FTy → Type} [FloatOps F] (w : Vec F S1024x1792 .f32) : Vec F S1792x1024 .f32 :=
  transpose S1792x1024 [1, 0] w transposes_S1024x1792_S1792x1024_1_0

section
variable {F : FTy → Type} [FloatOps F] (m : (ℓ : Loc nD τ sig) → Buf (Elt F) ℓ) (c : Dev nD)

theorem V_v1 : V m c main_v1 = truncf .bf16 (flipW (m ((c : Thread nD τ).loc main_arg3))) bitsLt_bf16_f32 := by
  unfold flipW
  simp only [V, hostOps0, List.flatten_cons, List.flatten_nil, List.append_nil, List.cons_append, List.nil_append,
    TRef.binary, TRef.nullary, TRef.unary, TRef.toBuf, TRef.ofBuf, cast_eq]
  after_results_simp <;> rfl
end

theorem flip_apply (w : Vec Ideal S1024x1792 .f32) (p : Fin 1792) (k : Fin 1024) : flipW w (ix2 p k) = w (ix2 k p) := by
  unfold flipW; pointwise

variable (m : (ℓ : Loc nD τ sig) → Buf (Elt Ideal) ℓ) (c : Dev nD)

/-- The four arguments of a device. -/
abbrev x0 : Mat 2048 1024 := m ((c.tc : Thread nD τ).loc main_arg0)
abbrev x1 : Mat 3 1024 := m ((c.tc : Thread nD τ).loc main_arg1)
abbrev x2 : Mat 1 1024 := m ((c.tc : Thread nD τ).loc main_arg2)
abbrev x3 : Mat 1024 1792 := m ((c.tc : Thread nD τ).loc main_arg3)

theorem V_w (p : Fin 1792) (k : Fin 1024) : V m c main_v1 (ix2 p k) = x3 m c (ix2 k p) :=
  (congrFun ((V_v1 m c).trans (show _ = flipW (F := Ideal) (x3 m c) from rfl)) _).trans (flip_apply _ p k)

/-! ### Where an element of a block lies in its array -/

/-- Row `r` of the block of rows of point `t`. -/
def row (t : Fin cfg0.N) (r : Fin 1024) : Fin 2048 :=
  ⟨t.val * 1024 + r.val, by have : t.val < 2 := Nat.lt_of_lt_of_eq t.isLt N_0; have := r.isLt; omega⟩

theorem row_surj (n : Fin 2048) : ∃ t r, row t r = n :=
  ⟨⟨n.val / 1024, by have := n.isLt; have : cfg0.N = 2 := N_0; omega⟩, ⟨n.val % 1024, Nat.mod_lt _ (by decide)⟩,
    Fin.ext (by show n.val / 1024 * 1024 + n.val % 1024 = n.val; omega)⟩

theorem emb_0 (t : Fin cfg0.N) (p : Fin 1024) (q : Fin 1024) : ((cfg0.win 0).blk t).view.emb (ix2 p q) = (ix2 (row t p) q : S2048x1024.Idx) := by
  funext a; apply Fin.ext
  match a with
  | ⟨0, _⟩ =>
    refine (win0_0.rect_emb_val t (ix2 p q) 0).trans ?_
    rw [(by decide +kernel : ∀ t : Fin grid0.N, win0_0.index t 0 * win0_0.size 0 = t.val * 1024) t]; rfl
  | ⟨1, _⟩ => exact win0_0.rect_emb_val_of_index_zero t 1 ((by decide +kernel : ∀ t : Fin grid0.N, win0_0.index t 1 = 0) t) (ix2 p q)

theorem emb_1 (t : Fin cfg0.N) (p : Fin 3) (q : Fin 1024) : ((cfg0.win 1).blk t).view.emb (ix2 p q) = (ix2 p q : S3x1024.Idx) := by
  funext a; apply Fin.ext
  match a with
  | ⟨0, _⟩ => exact win0_1.rect_emb_val_of_index_zero t 0 ((by decide +kernel : ∀ t : Fin grid0.N, win0_1.index t 0 = 0) t) (ix2 p q)
  | ⟨1, _⟩ => exact win0_1.rect_emb_val_of_index_zero t 1 ((by decide +kernel : ∀ t : Fin grid0.N, win0_1.index t 1 = 0) t) (ix2 p q)

theorem emb_2 (t : Fin cfg0.N) (p : Fin 1) (q : Fin 1024) : ((cfg0.win 2).blk t).view.emb (ix2 p q) = (ix2 p q : S1x1024.Idx) := by
  funext a; apply Fin.ext
  match a with
  | ⟨0, _⟩ => exact win0_2.rect_emb_val_of_index_zero t 0 ((by decide +kernel : ∀ t : Fin grid0.N, win0_2.index t 0 = 0) t) (ix2 p q)
  | ⟨1, _⟩ => exact win0_2.rect_emb_val_of_index_zero t 1 ((by decide +kernel : ∀ t : Fin grid0.N, win0_2.index t 1 = 0) t) (ix2 p q)

theorem emb_3 (t : Fin cfg0.N) (p : Fin 1792) (q : Fin 1024) : ((cfg0.win 3).blk t).view.emb (ix2 p q) = (ix2 p q : S1792x1024.Idx) := by
  funext a; apply Fin.ext
  match a with
  | ⟨0, _⟩ => exact win0_3.rect_emb_val_of_index_zero t 0 ((by decide +kernel : ∀ t : Fin grid0.N, win0_3.index t 0 = 0) t) (ix2 p q)
  | ⟨1, _⟩ => exact win0_3.rect_emb_val_of_index_zero t 1 ((by decide +kernel : ∀ t : Fin grid0.N, win0_3.index t 1 = 0) t) (ix2 p q)

theorem emb_4 (t : Fin cfg0.N) (p : Fin 1024) (q : Fin 1792) : ((cfg0.win 4).blk t).view.emb (ix2 p q) = (ix2 (row t p) q : S2048x1792.Idx) := by
  funext a; apply Fin.ext
  match a with
  | ⟨0, _⟩ =>
    refine (win0_4.rect_emb_val t (ix2 p q) 0).trans ?_
    rw [(by decide +kernel : ∀ t : Fin grid0.N, win0_4.index t 0 * win0_4.size 0 = t.val * 1024) t]; rfl
  | ⟨1, _⟩ => exact win0_4.rect_emb_val_of_index_zero t 1 ((by decide +kernel : ∀ t : Fin grid0.N, win0_4.index t 1 = 0) t) (ix2 p q)

theorem emb_5 (t : Fin cfg0.N) (p : Fin 1024) (q : Fin 1024) : ((cfg0.win 5).blk t).view.emb (ix2 p q) = (ix2 (row t p) q : S2048x1024.Idx) := by
  funext a; apply Fin.ext
  match a with
  | ⟨0, _⟩ =>
    refine (win0_5.rect_emb_val t (ix2 p q) 0).trans ?_
    rw [(by decide +kernel : ∀ t : Fin grid0.N, win0_5.index t 0 * win0_5.size 0 = t.val * 1024) t]; rfl
  | ⟨1, _⟩ => exact win0_5.rect_emb_val_of_index_zero t 1 ((by decide +kernel : ∀ t : Fin grid0.N, win0_5.index t 1 = 0) t) (ix2 p q)

/-! ### The input blocks -/

theorem iblk_0 (t : Fin cfg0.N) (r : Fin 1024) (k : Fin 1024) : iblk m c 0 t (ix2 r k) = x0 m c (ix2 (row t r) k) := by
  show V m c main_arg0 (((cfg0.win 0).blk t).view.emb (ix2 r k)) = _
  rw [emb_0, V_main_arg0]

theorem iblk_1 (t : Fin cfg0.N) : iblk m c 1 t = x1 m c := by
  funext (y : S3x1024.Idx)
  obtain ⟨p, q, rfl⟩ : ∃ (p : Fin 3) (q : Fin 1024), y = ix2 p q := ⟨y 0, y 1, eq_ix2 y⟩
  show V m c main_arg1 (((cfg0.win 1).blk t).view.emb (ix2 p q)) = _
  rw [emb_1, V_main_arg1]

theorem iblk_2 (t : Fin cfg0.N) : iblk m c 2 t = x2 m c := by
  funext (y : S1x1024.Idx)
  obtain ⟨p, q, rfl⟩ : ∃ (p : Fin 1) (q : Fin 1024), y = ix2 p q := ⟨y 0, y 1, eq_ix2 y⟩
  show V m c main_arg2 (((cfg0.win 2).blk t).view.emb (ix2 p q)) = _
  rw [emb_2, V_main_arg2]

theorem iblk_3 (t : Fin cfg0.N) (p : Fin 1792) (k : Fin 1024) : iblk m c 3 t (ix2 p k) = x3 m c (ix2 k p) := by
  show V m c main_v1 (((cfg0.win 3).blk t).view.emb (ix2 p k)) = _
  rw [emb_3, V_w]

/-! ### The two results -/

/-- The modulated rows, and their product with the weights. -/
def hG : Mat 2048 1024 := hS (x0 m c) (x1 m c) (x2 m c)
def zG : Mat 2048 1792 := zS (hG m c) (x3 m c)

theorem h_apply (t : Fin cfg0.N) (r : Fin 1024) (k : Fin 1024) :
    k0_pay1 (iblk m c 0 t) (iblk m c 2 t) (rows (iblk m c 1 t) 0 1 (by omega)) (rows (iblk m c 1 t) 1 1 (by omega)) (ix2 r k) = hG m c (ix2 (row t r) k) := by
  rw [iblk_1, iblk_2]
  exact (pay1_apply _ _ _ r k).trans (hS_row (fun k => iblk_0 m c t r k) _ _ k)

theorem flushed_5 (t : Fin cfg0.N) : (dats m 0 c).flushed 5 t = ((cfg0.win 5).blk t).view.read (Elt Ideal) (hG m c) := by
  show (cfg0.win 5).cut (grid0.coords t) ((dats m 0 c).after 5 t) = _
  rw [after0_5, out5_eq]
  refine funext fun (y : S1024x1024.Idx) => ?_
  obtain ⟨p, q, rfl⟩ : ∃ (p : Fin 1024) (q : Fin 1024), y = ix2 p q := ⟨y 0, y 1, eq_ix2 y⟩
  show _ = hG m c (((cfg0.win 5).blk t).view.emb (ix2 p q))
  rw [emb_5]
  exact h_apply m c t p q

theorem arr_5 : (dats m 0 c).arrAt 5 cfg0.N = hG m c :=
  (dats m 0 c).arrAt_eq_of_cover 5 (hG m c) (fun t _ => flushed_5 m c t) fun (i : S2048x1024.Idx) => by
    obtain ⟨t, r, h⟩ := row_surj (i 0)
    refine ⟨t, flush0_5 t, ?_⟩
    have e : ((cfg0.win 5).blk t).view.emb (ix2 r (i 1)) = i := (emb_5 t r (i 1)).trans (by rw [h]; exact (eq_ix2 i).symm)
    exact e ▸ View.emb_mem_set _ _

theorem flushed_4 (t : Fin cfg0.N) : (dats m 0 c).flushed 4 t = ((cfg0.win 4).blk t).view.read (Elt Ideal) (zG m c) := by
  show (cfg0.win 4).cut (grid0.coords t) ((dats m 0 c).after 4 t) = _
  rw [after0_4, out4_eq]
  refine funext fun (y : S1024x1792.Idx) => ?_
  obtain ⟨p, q, rfl⟩ : ∃ (p : Fin 1024) (q : Fin 1792), y = ix2 p q := ⟨y 0, y 1, eq_ix2 y⟩
  show _ = zG m c (((cfg0.win 4).blk t).view.emb (ix2 p q))
  rw [emb_4]
  refine (pay2_apply _ _ _ _ _ p q).trans ?_
  show _ = ∑ k : Fin 1024, hG m c (ix2 (row t p) k) * x3 m c (ix2 k q)
  exact Finset.sum_congr rfl fun k _ => congrArg₂ (· * ·) (h_apply m c t p k) (iblk_3 m c t q k)

theorem arr_4 : (dats m 0 c).arrAt 4 cfg0.N = zG m c :=
  (dats m 0 c).arrAt_eq_of_cover 4 (zG m c) (fun t _ => flushed_4 m c t) fun (i : S2048x1792.Idx) => by
    obtain ⟨t, r, h⟩ := row_surj (i 0)
    refine ⟨t, flush0_4 t, ?_⟩
    have e : ((cfg0.win 4).blk t).view.emb (ix2 r (i 1)) = i := (emb_4 t r (i 1)).trans (by rw [h]; exact (eq_ix2 i).symm)
    exact e ▸ View.emb_mem_set _ _

/-- The run with the two results read: each array is the mathematics of the arguments. -/
theorem run (ρ : Dev nD → PrngReg) : θ_run defs (onTc (τ := τ) (main (F := Ideal))) ⟨m, fun _ => 0, ρ⟩ fun r => ∀ c : Dev nD,
      r.2.mem ((c.tc : Thread nD τ).loc main_v2_0) = zG m c
      ∧ r.2.mem ((c.tc : Thread nD τ).loc main_v2_1) = hG m c :=
  (θ_run defs _ _).mono (fun _ h c => ⟨((h c).1 4).trans (arr_4 m c), ((h c).1 5).trans (arr_5 m c)⟩) (run_main m ρ)

end Cert.MixFwd

end
-- ==== Proof.MixFwdRef.lean ====
/- The two results of the reference of the mixers' input product, element by element: the same mathematics as the
   kernel's arrays. -/
module

public import proofs.«01_k».proof.Proof.Gen.Reference5Ideal.Read
public import proofs.«01_k».proof.Proof.MixFwd

@[expose] public section

set_option maxRecDepth 16384

noncomputable section

namespace Cert.MixFwd.Ref

open Cert.Reference5Ideal Cert.Reference5Ideal.Gen Cert.Reference5Ideal.Read Cert.FfnBwd Cert.FfnFwd
open Idealize.ShloMosaic

variable (x0 : Mat 2048 1024) (x1 : Mat 3 1024) (x2 : Mat 1 1024) (x3 : Mat 1024 1792)

theorem root : val_main_v20 (F := Ideal) x0 x1 x2 = hS x0 x1 x2 := by
  funext i
  obtain ⟨r, k, rfl⟩ : ∃ (r : Fin 2048) (k : Fin 1024), i = ix2 r k := ⟨i 0, i 1, eq_ix2 i⟩
  unfold val_main_v20 val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v1 val_main_v0
    val_main_cst val_main_cst_0 val_main_cst_1 val_main_cst_2
  pointwise
  rfl

theorem h : val_main_v22 (F := Ideal) x0 x1 x2 = hS x0 x1 x2 := by
  unfold val_main_v22
  rw [root]
  rfl

theorem z : val_main_v21 (F := Ideal) x0 x1 x2 x3 = zS (hS x0 x1 x2) x3 := by
  funext i
  obtain ⟨r, j, rfl⟩ : ∃ (r : Fin 2048) (j : Fin 1792), i = ix2 r j := ⟨i 0, i 1, eq_ix2 i⟩
  unfold val_main_v21
  rw [root]
  generalize hS x0 x1 x2 = y
  pointwise
  rfl

end Cert.MixFwd.Ref

end
-- ==== Proof.MixFwdKernel.lean ====
/- The mixers' input product's frame on words. The run is proved once, over any float values, and the two programs have the same text. -/
module

public import proofs.«01_k».proof.Defs
public import proofs.«01_k».proof.Proof.MixFwd
public import proofs.«01_k».proof.Proof.Gen.Kernel5

@[expose] public section

noncomputable section

namespace Cert.MixFwd

open Idealize.ShloMosaic Idealize.SL.Sem

attribute [local instance] Cert.Kernel5.Gen.facts

theorem body_text : @Cert.Kernel5.cc0_mix_in_fwd Bits _ _ = @Cert.Kernel5Ideal.cc0_mix_in_fwd Bits _ _ := rfl

theorem bodies_text : Cert.Kernel5.defs₀ (F := Bits) = Cert.Kernel5Ideal.defs₀ (F := Bits) := by
  refine congrArg Defs.onTc ?_
  funext l x
  match l, x with
  | ⟨0, _⟩, (t, s) => rfl

theorem defs_text : Cert.Kernel5.defs (F := Bits) = Cert.Kernel5Ideal.defs (F := Bits) := congrArg (Pipeline.defs _) bodies_text

theorem frame_kernel : Cert.quiescent_Kernel5 := by
  intro m ρ _
  rw [defs_text]
  exact (θ_run Cert.Kernel5Ideal.defs _ _).mono (fun _ h => h) (Cert.Kernel5Ideal.Gen.frame (F := Bits) m ρ)

end Cert.MixFwd

end
-- ==== Proof.PoolOut.lean ====
/- What the body of the pooling and convolution gradient kernel leaves in its five outputs: the payload of its last store of
   each, over what it has loaded. -/
module

public import proofs.«01_k».proof.Proof.Gen.Kernel6Ideal.Frame
public import proofs.«01_k».proof.Proof.Whole
public import Idealize.ShloMosaic.Lib.Tactic
public import Idealize.ShloMosaic.Lib.Pipeline.ReadBack

@[expose] public section

set_option maxRecDepth 16384

noncomputable section

namespace Cert.PoolBwd

open Cert.Kernel6Ideal Cert.Kernel6Ideal.Gen Cert.Whole
open Idealize.ShloMosaic Idealize.ShloMosaic.TcCoe Idealize.ShloMosaic.Tactic
open Idealize.SL.Sem

variable {F : FTy → Type} [FloatOps F]

/-- The pooled rows minus the rows, and the block-diagonal weights. -/
abbrev pooled (x0 : Vec F S2048x256 .f32) : Vec F S2048x256 .bf16 := k0_pay8 x0 (k0_pay3 x0) k0_pay4 (k0_pay5 x0)
abbrev diag (x4 : Vec F S256x64 .f32) : Vec F S256x256 .bf16 := k0_pay7 (k0_pay2 x4)

/-- The gradient of the pooled input. -/
def dzbB (x2 : Vec F S2048x256 .f32) (x4 : Vec F S256x64 .f32) (x5 : Vec F S1x256 .f32) : Vec F S2048x256 .f32 :=
  k0_pay17 (k0_pay12 (diag x4) x2 x5) (k0_pay13 k0_pay6 (diag x4) x2 x5) (k0_pay14 k0_pay6 (diag x4) x2 x5) (k0_pay15 k0_pay6 (diag x4) x2 x5)
    k0_pay16 2040#32

/-- The gradient of the convolution's input, its gates and its values side by side. -/
def dzcB (x1 : Vec F S2048x768 .f32) (x3 : Vec F S2048x256 .f32) (x6 : Vec F S3x256 .f32) : Vec F S2048x768 .f32 :=
  k0_pay1 (k0_pay19 x1) (k0_pay20 x1) (k0_pay26 (k0_pay23 x1) (k0_pay24 x6 x1) (k0_pay25 x6)) x3 (k0_pay32 x6 (k0_pay18 x1) x3) (k0_pay33 x6)
    k0_pay34 (k0_pay35 (k0_pay18 x1) x3) (Scalar.ofBits .f32 0x00000000#32)

/-- The three rows of the convolution weights' gradient, put over zeros. -/
def dcwB (x1 : Vec F S2048x768 .f32) (x3 : Vec F S2048x256 .f32) : Vec F S8x256 .f32 :=
  VecWindow.put (VecWindow.put (VecWindow.put k0_pay28 ![0, 0] ![1, 256] (k0_pay29 (k0_pay18 x1) (k0_pay23 x1) x3))
    ![1, 0] ![1, 256] (k0_pay30 (k0_pay18 x1) (k0_pay22 x1) x3))
    ![2, 0] ![1, 256] (k0_pay31 (k0_pay18 x1) (k0_pay21 x1) x3)

variable (c : Dev nD) (i : grid0.Coords) (arg1 : Memref sig .tc .vmem S2048x256 .f32) (harg1 : arg1.IsWhole) (arg2 : Memref sig .tc .vmem S2048x768 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x64 .f32) (harg5 : arg5.IsWhole) (arg6 : Memref sig .tc .vmem S1x256 .f32) (harg6 : arg6.IsWhole) (arg7 : Memref sig .tc .vmem S3x256 .f32) (harg7 : arg7.IsWhole) (arg8 : Memref sig .tc .vmem S2048x256 .f32) (harg8 : arg8.IsWhole) (arg9 : Memref sig .tc .vmem S2048x768 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S8x256 .f32) (harg12 : arg12.IsWhole)
  (x0 : Vec F S2048x256 .f32) (x1 : Vec F S2048x768 .f32) (x2 : Vec F S2048x256 .f32) (x3 : Vec F S2048x256 .f32) (x4 : Vec F S256x64 .f32) (x5 : Vec F S1x256 .f32) (x6 : Vec F S3x256 .f32)

set_option maxHeartbeats 2000000 in
/-- The gradient of the pooled input. -/
theorem dzb_out : out0_A_7 c i arg1 harg1 arg2 harg2 arg3 harg3 arg4 harg4 arg5 harg5 arg6 harg6 arg7 harg7 arg8 harg8 arg9 harg9 arg10 harg10 arg11 harg11 arg12 harg12 x0 x1 x2 x3 x4 x5 x6 = dzbB x2 x4 x5 := by
  unfold out0_A_7
  unfold kernelRun0_A; dsimp only
  refine (stored2 _ _ _ _ _).trans ?_
  sl_unfold_words
  simp only [load2, reload2]
  rfl

set_option maxHeartbeats 2000000 in
/-- The gradient of the convolution's input. -/
theorem dzc_out : out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 = dzcB x1 x3 x6 := by
  unfold out0_A_8
  unfold kernelRun0_A; dsimp only
  refine (stored2 _ _ _ _ _).trans ?_
  sl_unfold_words
  simp only [load2, reload2]
  rfl

set_option maxHeartbeats 2000000 in
/-- The gradient of the pooling weights. -/
theorem dw_out : out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 = k0_pay11 (pooled x0) x2 x5 := by
  unfold out0_A_9
  unfold kernelRun0_A; dsimp only
  refine (stored2 _ _ _ _ _).trans ?_
  sl_unfold_words
  simp only [load2, reload2]

set_option maxHeartbeats 2000000 in
/-- The gradient of the channels' scale. -/
theorem dps_out : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 = k0_pay9 x0 (k0_pay2 x4) (k0_pay3 x0) k0_pay4 (k0_pay5 x0) x2 := by
  unfold out0_A_10
  unfold kernelRun0_A; dsimp only
  refine (stored2 _ _ _ _ _).trans ?_
  sl_unfold_words
  simp only [load2, reload2]

set_option maxHeartbeats 2000000 in
/-- The gradient of the convolution weights. -/
theorem dcw_out : out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 = dcwB x1 x3 := by
  unfold out0_A_11
  unfold kernelRun0_A; dsimp only
  refine (View.read_writes_cons_put _ _ _ _ _ rfl).trans ?_
  refine (congrArg (fun z => VecWindow.put z _ _ _) ((View.read_writes_cons_put _ _ _ _ _ rfl).trans (congrArg (fun z => VecWindow.put z _ _ _)
    ((View.read_writes_cons_put _ _ _ _ _ rfl).trans (congrArg (fun z => VecWindow.put z _ _ _) (stored2 _ _ _ _ _)))))).trans ?_
  sl_unfold_words
  simp only [load2, reload2]
  rfl

end Cert.PoolBwd

end
-- ==== Proof.PoolSpec.lean ====
/- Sums over a window of rows, which the pooling mixer averages: the window of the rows up to one's own and the window of the rows
   from one's own on. A window of twice the length is the window and the same window one length off. -/
module

public import proofs.«01_k».proof.Proof.FfnSpec

@[expose] public section

noncomputable section

namespace Cert.PoolBwd

open Idealize.ShloMosaic Cert.FfnBwd

/-- The sum over the `n` rows up to row `t`, those there are. -/
def back (n : ℕ) (d : Fin 2048 → EReal) (t : ℕ) : EReal := ∑ u : Fin 2048, if u.val ≤ t ∧ t < u.val + n then d u else 0
/-- The sum over the `n` rows from row `t` on, those there are. -/
def ahead (n : ℕ) (d : Fin 2048 → EReal) (t : ℕ) : EReal := ∑ u : Fin 2048, if t ≤ u.val ∧ u.val < t + n then d u else 0

theorem back_one (d : Fin 2048 → EReal) (t : Fin 2048) : back 1 d t.val = d t := by
  unfold back
  rw [Finset.sum_eq_single t (fun u _ h => if_neg (fun e => h (Fin.ext (by omega)))) (fun h => absurd (Finset.mem_univ t) h), if_pos (by omega)]

theorem ahead_one (d : Fin 2048 → EReal) (t : Fin 2048) : ahead 1 d t.val = d t := by
  unfold ahead
  rw [Finset.sum_eq_single t (fun u _ h => if_neg (fun e => h (Fin.ext (by omega)))) (fun h => absurd (Finset.mem_univ t) h), if_pos (by omega)]

theorem back_double (n : ℕ) (d : Fin 2048 → EReal) (t : ℕ) : back n d t + (if t < n then 0 else back n d (t - n)) = back (2 * n) d t := by
  unfold back
  split_ifs with h
  · rw [add_zero]
    refine Finset.sum_congr rfl fun u _ => ?_
    split_ifs <;> first | rfl | omega
  · rw [← Finset.sum_add_distrib]
    refine Finset.sum_congr rfl fun u _ => ?_
    split_ifs <;> first | omega | simp only [add_zero, zero_add]

theorem ahead_double (n : ℕ) (d : Fin 2048 → EReal) (t : ℕ) (k : ℕ) (hk : k + n = 2048) :
    ahead n d t + (if k ≤ t then 0 else ahead n d (t + n)) = ahead (2 * n) d t := by
  unfold ahead
  split_ifs with h
  · rw [add_zero]
    refine Finset.sum_congr rfl fun u _ => ?_
    have := u.isLt
    split_ifs <;> first | rfl | omega
  · rw [← Finset.sum_add_distrib]
    refine Finset.sum_congr rfl fun u _ => ?_
    split_ifs <;> first | omega | simp only [add_zero, zero_add]

/-- The windows over each column of an array. -/
def backM (n : ℕ) (x : Mat 2048 256) : Mat 2048 256 := fun i => back n (fun u => x (ix2 u (i 1))) (i 0).val
def aheadM (n : ℕ) (x : Mat 2048 256) : Mat 2048 256 := fun i => ahead n (fun u => x (ix2 u (i 1))) (i 0).val

theorem backM_one (x : Mat 2048 256) : backM 1 x = x := by
  funext i
  obtain ⟨t, p, rfl⟩ : ∃ (t : Fin 2048) (p : Fin 256), i = ix2 t p := ⟨i 0, i 1, eq_ix2 i⟩
  exact back_one (fun u => x (ix2 u p)) t
theorem aheadM_one (x : Mat 2048 256) : aheadM 1 x = x := by
  funext i
  obtain ⟨t, p, rfl⟩ : ∃ (t : Fin 2048) (p : Fin 256), i = ix2 t p := ⟨i 0, i 1, eq_ix2 i⟩
  exact ahead_one (fun u => x (ix2 u p)) t

/-- A column's group of 64, its place within, and the column of a group and a place. -/
abbrev grp (p : Fin 256) : Fin 4 := ⟨p.val / 64, by omega⟩
abbrev pos (p : Fin 256) : Fin 64 := ⟨p.val % 64, by omega⟩
abbrev at64 (g : Fin 4) (k : Fin 64) : Fin 256 := ⟨64 * g.val + k.val, by omega⟩

/-- The number of rows in the window of group `g` up to row `t`. -/
def cntS (t : Fin 2048) (g : Fin 4) : EReal := ((min (t.val + 1) (2 ^ (g.val + 1)) : ℕ) : ℝ)

/-- The mean over the window, minus the row itself. -/
def pS (z : Mat 2048 256) : Mat 2048 256 := fun i => Ideal.div (backM (2 ^ ((i 1).val / 64 + 1)) z i) (cntS (i 0) (grp (i 1))) - z i

/-- The cotangent of the product's result, scaled; the gradient of what it was given; the gradient of the pooled input. -/
def doS (d : Mat 2048 256) (s : Mat 1 256) : Mat 2048 256 := fun i => d i * s (ix2 0 (i 1))
def dpS (d : Mat 2048 256) (s : Mat 1 256) (w : Fin 4 → Fin 64 → Fin 64 → EReal) : Mat 2048 256 := fun i =>
  ∑ k : Fin 64, doS d s (ix2 (i 0) (at64 (grp (i 1)) k)) * w (grp (i 1)) (pos (i 1)) k
def dzbS (d : Mat 2048 256) (s : Mat 1 256) (w : Fin 4 → Fin 64 → Fin 64 → EReal) : Mat 2048 256 := fun i =>
  aheadM (2 ^ ((i 1).val / 64 + 1)) (fun j => Ideal.div (dpS d s w j) (cntS (j 0) (grp (j 1)))) i - dpS d s w i

/-- The gradient of the weights, spread over the diagonal, and of the scale. -/
def dwS (z d : Mat 2048 256) (s : Mat 1 256) : Mat 256 256 := fun i =>
  if grp (i 0) = grp (i 1) then ∑ t : Fin 2048, pS z (ix2 t (i 0)) * doS d s (ix2 t (i 1)) else 0
def dpsS (z d : Mat 2048 256) (w : Fin 4 → Fin 64 → Fin 64 → EReal) : Mat 1 256 := fun i =>
  ∑ t : Fin 2048, d (ix2 t (i 1)) * ∑ k : Fin 64, pS z (ix2 t (at64 (grp (i 1)) k)) * w (grp (i 1)) k (pos (i 1))

/-- A sum over the columns whose terms outside one group are zero is a sum over the group. -/
theorem sum_grp (g : Fin 4) (f : Fin 256 → EReal) (h : ∀ p, grp p ≠ g → f p = 0) : ∑ p : Fin 256, f p = ∑ k : Fin 64, f (at64 g k) := by
  refine (Finset.sum_of_injOn (at64 g) (fun a _ b _ e => Fin.ext (by have := congrArg Fin.val e; dsimp only at this; omega))
    (fun _ _ => Finset.mem_coe.mpr (Finset.mem_univ _)) (fun p _ hp => h p fun e => hp ?_) (fun _ _ => rfl)).symm
  exact ⟨pos p, Finset.mem_coe.mpr (Finset.mem_univ _), Fin.ext (by have := congrArg Fin.val e; dsimp only at this ⊢; omega)⟩

/-! ### The gated convolution -/

/-- The rows shifted down and up, zeros before the first and after the last. -/
def dnS (n : ℕ) (x : Mat 2048 256) : Mat 2048 256 := fun i => if (i 0).val < n then 0 else x (ix2 ⟨(i 0).val - n, by have := (i 0).isLt; exact lt_of_le_of_lt (Nat.sub_le _ _) this⟩ (i 1))
def upS (n : ℕ) (x : Mat 2048 256) : Mat 2048 256 := fun i => if h : (i 0).val + n < 2048 then x (ix2 ⟨(i 0).val + n, h⟩ (i 1)) else 0

/-- The three parts of the convolution's input, side by side. -/
def partS (o : Fin 3) (z : Mat 2048 768) : Mat 2048 256 := fun i => z (ix2 (i 0) ⟨256 * o.val + (i 1).val, by have := o.isLt; have : (i 1).val < 256 := (i 1).isLt; omega⟩)

/-- What is convolved, the convolution, the cotangent of it, and the gradient of what is convolved. -/
def yS (z : Mat 2048 768) : Mat 2048 256 := fun i => partS 1 z i * partS 2 z i
def convS (z : Mat 2048 768) (w : Mat 3 256) : Mat 2048 256 := fun i =>
  w (ix2 2 (i 1)) * yS z i + w (ix2 1 (i 1)) * dnS 1 (yS z) i + w (ix2 0 (i 1)) * dnS 2 (yS z) i
def dcS (z : Mat 2048 768) (d : Mat 2048 256) : Mat 2048 256 := fun i => d i * partS 0 z i
def dyS (z : Mat 2048 768) (d : Mat 2048 256) (w : Mat 3 256) : Mat 2048 256 := fun i =>
  w (ix2 2 (i 1)) * dcS z d i + w (ix2 1 (i 1)) * upS 1 (dcS z d) i + w (ix2 0 (i 1)) * upS 2 (dcS z d) i

/-- Three arrays side by side. -/
def sideS (a b c : Mat 2048 256) : Mat 2048 768 := fun i =>
  if h : (i 1).val < 256 then a (ix2 (i 0) ⟨(i 1).val, h⟩)
  else if h' : (i 1).val < 512 then b (ix2 (i 0) ⟨(i 1).val - 256, by omega⟩)
  else c (ix2 (i 0) ⟨(i 1).val - 512, by have : (i 1).val < 768 := (i 1).isLt; omega⟩)

theorem eq_side (v : Mat 2048 768) (a b c : Mat 2048 256) (r : Fin 2048) (ha : ∀ j : Fin 256, v (ix2 r ⟨j.val, by omega⟩) = a (ix2 r j))
    (hb : ∀ j : Fin 256, v (ix2 r ⟨256 + j.val, by omega⟩) = b (ix2 r j)) (hc : ∀ j : Fin 256, v (ix2 r ⟨512 + j.val, by omega⟩) = c (ix2 r j))
    (q : Fin 768) : v (ix2 r q) = sideS a b c (ix2 r q) := by
  by_cases h : q.val < 256
  · refine (ha ⟨q.val, h⟩).trans (Eq.symm ?_)
    unfold sideS
    exact dif_pos h
  by_cases h' : q.val < 512
  · exact ((congrArg (fun q => v (ix2 r q)) (Fin.ext (show q.val = 256 + (q.val - 256) by omega))).trans (hb ⟨q.val - 256, by omega⟩)).trans
      ((dif_neg h).trans (dif_pos h')).symm
  · exact ((congrArg (fun q => v (ix2 r q)) (Fin.ext (show q.val = 512 + (q.val - 512) by omega))).trans (hc ⟨q.val - 512, by omega⟩)).trans
      ((dif_neg h).trans (dif_neg h')).symm

/-- The gradient of the convolution's input, and of its weights. -/
def dzcS (z : Mat 2048 768) (d : Mat 2048 256) (w : Mat 3 256) : Mat 2048 768 :=
  sideS (fun i => d i * convS z w i) (fun i => dyS z d w i * partS 2 z i) (fun i => dyS z d w i * partS 1 z i)
def dcwR (z : Mat 2048 768) (d : Mat 2048 256) (p : Fin 8) (k : Fin 256) : EReal :=
  if p.val = 0 then ∑ t : Fin 2048, dcS z d (ix2 t k) * dnS 2 (yS z) (ix2 t k)
  else if p.val = 1 then ∑ t : Fin 2048, dcS z d (ix2 t k) * dnS 1 (yS z) (ix2 t k)
  else if p.val = 2 then ∑ t : Fin 2048, dcS z d (ix2 t k) * yS z (ix2 t k) else 0
def dcwS (z : Mat 2048 768) (d : Mat 2048 256) : Mat 8 256 := fun i => dcwR z d (i 0) (i 1)

end Cert.PoolBwd

end
-- ==== Proof.PoolPay.lean ====
/- The payloads of the pooling and convolution gradient kernel, element by element. -/
module

public import proofs.«01_k».proof.Proof.PoolOut
public import proofs.«01_k».proof.Proof.PoolSpec
public import Idealize.ShloMosaic.Lib.Pointwise
public import Idealize.ShloMosaic.Lib.WordCmp
public import Idealize.ShloMosaic.Lib.KernelVsHost

@[expose] public section

set_option maxRecDepth 16384

noncomputable section

namespace Cert.PoolBwd

open Cert.Kernel6Ideal Cert.Kernel6Ideal.Gen Cert.FfnBwd
open Idealize.ShloMosaic Idealize.ShloMosaic.WordCmp

/-! ### Selecting by the row and by the column -/

theorem iota_row {a b : ℕ} (h : (⟨2, ![a, b]⟩ : Shape).Iotas .tc 32 [0]) (t : Fin a) (p : Fin b) :
    iota .tc ⟨2, ![a, b]⟩ 32 [0] h (ix2 t p) = BitVec.ofNat 32 t.val := by
  rw [iota_apply]
  show BitVec.ofNat 32 (0 * a + t.val) = _
  rw [Nat.zero_mul, Nat.zero_add]
theorem iota_col {a b : ℕ} (h : (⟨2, ![a, b]⟩ : Shape).Iotas .tc 32 [1]) (t : Fin a) (p : Fin b) :
    iota .tc ⟨2, ![a, b]⟩ 32 [1] h (ix2 t p) = BitVec.ofNat 32 p.val := by
  rw [iota_apply]
  show BitVec.ofNat 32 (0 * b + p.val) = _
  rw [Nat.zero_mul, Nat.zero_add]

section
variable {α : Type} (a b : S2048x256.Idx → α) (n : ℕ) (hn : n ≤ 2048) (t : Fin 2048) (p : Fin 256)
include hn

theorem row_lt : select (cmpi .slt (iota .tc S2048x256 32 [0] iota_S2048x256_d0_w32) (broadcast S2048x256 (BitVec.ofNat 32 n))) a b (ix2 t p)
    = if t.val < n then a (ix2 t p) else b (ix2 t p) := by
  show Scalar.select (IntOp.cmpi .slt (iota .tc S2048x256 32 [0] iota_S2048x256_d0_w32 (ix2 t p)) (BitVec.ofNat 32 n)) _ _ = _
  rw [iota_row, cmpi_slt_ofNat (by have := t.isLt; omega) (by omega)]
  split_ifs with h
  · rw [decide_eq_true h]; rfl
  · rw [decide_eq_false h]; rfl

theorem row_ge : select (cmpi .sge (iota .tc S2048x256 32 [0] iota_S2048x256_d0_w32) (broadcast S2048x256 (BitVec.ofNat 32 n))) a b (ix2 t p)
    = if n ≤ t.val then a (ix2 t p) else b (ix2 t p) := by
  show Scalar.select (IntOp.cmpi .sge (iota .tc S2048x256 32 [0] iota_S2048x256_d0_w32 (ix2 t p)) (BitVec.ofNat 32 n)) _ _ = _
  rw [iota_row, cmpi_sge_ofNat (by have := t.isLt; omega) (by omega)]
  split_ifs with h
  · rw [decide_eq_true h]; rfl
  · rw [decide_eq_false h]; rfl

theorem col_lt : select (cmpi .slt (iota .tc S2048x256 32 [1] iota_S2048x256_d1_w32) (broadcast S2048x256 (BitVec.ofNat 32 n))) a b (ix2 t p)
    = if p.val < n then a (ix2 t p) else b (ix2 t p) := by
  show Scalar.select (IntOp.cmpi .slt (iota .tc S2048x256 32 [1] iota_S2048x256_d1_w32 (ix2 t p)) (BitVec.ofNat 32 n)) _ _ = _
  rw [iota_col, cmpi_slt_ofNat (by have := p.isLt; omega) (by omega)]
  split_ifs with h
  · rw [decide_eq_true h]; rfl
  · rw [decide_eq_false h]; rfl
end

theorem ix2_ext {a b : ℕ} {i j : (⟨2, ![a, b]⟩ : Shape).Idx} (h0 : (i 0).val = (j 0).val) (h1 : (i 1).val = (j 1).val) : i = j :=
  funext fun x => match x with
    | ⟨0, _⟩ => Fin.ext h0
    | ⟨1, _⟩ => Fin.ext h1

/-- The rows shifted down and up, zeros before the first and after the last. -/
def dnR (n : ℕ) (x : Vec Ideal S2048x256 .f32) : Vec Ideal S2048x256 .f32 :=
  select (cmpi .slt (iota .tc S2048x256 32 [0] iota_S2048x256_d0_w32) (broadcast S2048x256 (BitVec.ofNat 32 n)))
    (broadcast S2048x256 (Scalar.ofBits .f32 0x00000000#32 : Ideal .f32)) (dynamicRotate 0 (BitVec.ofNat 32 n) none x rotates_S2048x256_d0)
def upR (k : ℕ) (x : Vec Ideal S2048x256 .f32) : Vec Ideal S2048x256 .f32 :=
  select (cmpi .sge (iota .tc S2048x256 32 [0] iota_S2048x256_d0_w32) (broadcast S2048x256 (BitVec.ofNat 32 k)))
    (broadcast S2048x256 (Scalar.ofBits .f32 0x00000000#32 : Ideal .f32)) (dynamicRotate 0 (BitVec.ofNat 32 k) none x rotates_S2048x256_d0)

theorem zeroF : (Scalar.ofBits .f32 0x00000000#32 : Ideal .f32) = (0 : EReal) := Ideal.ofBits_zero _

theorem dn_apply (n : ℕ) (hn : n < 2048) (x : Vec Ideal S2048x256 .f32) (t : Fin 2048) (p : Fin 256) :
    dnR n x (ix2 t p) = dnS n x (ix2 t p) := by
  show _ = ite (t.val < n) (0 : EReal) (x (ix2 ⟨t.val - n, by omega⟩ p))
  unfold dnR
  rw [row_lt _ _ n hn.le]
  split_ifs with h
  · exact zeroF
  · rw [Pointwise.dynamicRotate_apply]
    refine congrArg x (ix2_ext ?_ ?_)
    · show (t.val + 2048 - ((BitVec.ofNat 32 n).toNat + 0) % 2048) % 2048 = t.val - n
      rw [BitVec.toNat_ofNat]
      omega
    · rfl

theorem up_apply (k n : ℕ) (hk : k + n = 2048) (x : Vec Ideal S2048x256 .f32) (t : Fin 2048) (p : Fin 256) :
    upR k x (ix2 t p) = upS n x (ix2 t p) := by
  show _ = dite (t.val + n < 2048) (fun h => x (ix2 ⟨t.val + n, h⟩ p)) (fun _ => (0 : EReal))
  unfold upR
  rw [row_ge _ _ k (by omega)]
  by_cases h : k ≤ t.val
  · rw [if_pos h, dif_neg (by omega)]
    exact zeroF
  · rw [if_neg h, dif_pos (by omega)]
    rw [Pointwise.dynamicRotate_apply]
    refine congrArg x (ix2_ext ?_ ?_)
    · show (t.val + 2048 - ((BitVec.ofNat 32 k).toNat + 0) % 2048) % 2048 = t.val + n
      rw [BitVec.toNat_ofNat]
      omega
    · rfl

/-- A window's sum and the same shifted by its length: the window of twice the length. -/
theorem back_step (n : ℕ) (hn : n < 2048) (x : Mat 2048 256) : addf (F := Ideal) (φ := .f32) (backM n x) (dnR n (backM n x)) = backM (2 * n) x := by
  funext i
  obtain ⟨t, p, rfl⟩ : ∃ (t : Fin 2048) (p : Fin 256), i = ix2 t p := ⟨i 0, i 1, eq_ix2 i⟩
  show backM n x (ix2 t p) + dnR n (backM n x) (ix2 t p) = _
  rw [dn_apply n hn]
  exact back_double n (fun u => x (ix2 u p)) t.val

theorem ahead_step (k n : ℕ) (hk : k + n = 2048) (x : Mat 2048 256) :
    addf (F := Ideal) (φ := .f32) (aheadM n x) (upR k (aheadM n x)) = aheadM (2 * n) x := by
  funext i
  obtain ⟨t, p, rfl⟩ : ∃ (t : Fin 2048) (p : Fin 256), i = ix2 t p := ⟨i 0, i 1, eq_ix2 i⟩
  show aheadM n x (ix2 t p) + upR k (aheadM n x) (ix2 t p) = _
  rw [up_apply k n hk]
  refine Eq.trans (congrArg (aheadM n x (ix2 t p) + ·) ?_) (ahead_double n (fun u => x (ix2 u p)) t.val k hk)
  show dite (t.val + n < 2048) (fun h => aheadM n x (ix2 ⟨t.val + n, h⟩ p)) (fun _ => (0 : EReal)) = _
  by_cases h : k ≤ t.val
  · rw [dif_neg (by omega), if_pos h]
  · rw [dif_pos (by omega), if_neg h]; rfl

/-! ### The pooling mixer -/

theorem pay3_eq (x : Vec Ideal S2048x256 .f32) : k0_pay3 x = backM 2 x := by
  have h := back_step 1 (by omega) x
  rw [backM_one] at h
  exact h

theorem pay5_apply (x : Vec Ideal S2048x256 .f32) (t : Fin 2048) (p : Fin 256) :
    k0_pay5 x (ix2 t p) = if p.val < 128 then backM 4 x (ix2 t p) else if p.val < 192 then backM 8 x (ix2 t p) else backM 16 x (ix2 t p) := by
  have e4 : addf (F := Ideal) (φ := .f32) (k0_pay3 x) (dnR 2 (k0_pay3 x)) = backM 4 x := by rw [pay3_eq]; exact back_step 2 (by omega) x
  have e8 := back_step 4 (by omega) x
  have e16 := back_step 8 (by omega) x
  have h : k0_pay5 x = select (cmpi .slt (iota .tc S2048x256 32 [1] iota_S2048x256_d1_w32) (broadcast S2048x256 (BitVec.ofNat 32 128)))
      (addf (F := Ideal) (φ := .f32) (k0_pay3 x) (dnR 2 (k0_pay3 x)))
      (select (cmpi .slt (iota .tc S2048x256 32 [1] iota_S2048x256_d1_w32) (broadcast S2048x256 (BitVec.ofNat 32 192)))
        (addf (F := Ideal) (φ := .f32) (addf (F := Ideal) (φ := .f32) (k0_pay3 x) (dnR 2 (k0_pay3 x))) (dnR 4 (addf (F := Ideal) (φ := .f32) (k0_pay3 x) (dnR 2 (k0_pay3 x)))))
        (addf (F := Ideal) (φ := .f32) (addf (F := Ideal) (φ := .f32) (addf (F := Ideal) (φ := .f32) (k0_pay3 x) (dnR 2 (k0_pay3 x))) (dnR 4 (addf (F := Ideal) (φ := .f32) (k0_pay3 x) (dnR 2 (k0_pay3 x)))))
          (dnR 8 (addf (F := Ideal) (φ := .f32) (addf (F := Ideal) (φ := .f32) (k0_pay3 x) (dnR 2 (k0_pay3 x))) (dnR 4 (addf (F := Ideal) (φ := .f32) (k0_pay3 x) (dnR 2 (k0_pay3 x)))))))) := rfl
  rw [h, e4, e8, e16, col_lt _ _ 128 (by omega), col_lt _ _ 192 (by omega)]

theorem two_lit : Ideal.ofBits .f32 0x40000000#32 = ((2 : ℝ) : EReal) := by simp [Ideal.ofBits, Ideal.ieee, -EReal.coe_mul]; norm_num
theorem four_lit : Ideal.ofBits .f32 0x40800000#32 = ((4 : ℝ) : EReal) := by simp [Ideal.ofBits, Ideal.ieee, -EReal.coe_mul]; norm_num
theorem eight_lit : Ideal.ofBits .f32 0x41000000#32 = ((8 : ℝ) : EReal) := by simp [Ideal.ofBits, Ideal.ieee, -EReal.coe_mul]; norm_num
theorem sixteen_lit : Ideal.ofBits .f32 0x41800000#32 = ((16 : ℝ) : EReal) := by simp [Ideal.ofBits, Ideal.ieee, -EReal.coe_mul]; norm_num

theorem word_succ (t : Fin 2048) : (IntOp.addi (BitVec.ofNat 32 t.val) (BitVec.ofNat 32 1)).toInt = ((t.val + 1 : ℕ) : ℤ) := by
  show (BitVec.ofNat 32 t.val + BitVec.ofNat 32 1).toInt = _
  rw [← BitVec.ofNat_add, BitVec.toInt_ofNat']
  exact Int.bmod_eq_of_le (by omega) (by have := t.isLt; omega)

theorem grp_cases (p : Fin 256) : (p.val < 64 ∧ p.val / 64 = 0) ∨ (¬p.val < 64 ∧ p.val < 128 ∧ p.val / 64 = 1)
    ∨ (¬p.val < 64 ∧ ¬p.val < 128 ∧ p.val < 192 ∧ p.val / 64 = 2) ∨ (¬p.val < 64 ∧ ¬p.val < 128 ∧ ¬p.val < 192 ∧ p.val / 64 = 3) := by
  have := p.isLt
  omega

theorem pay6_apply (t : Fin 2048) (p : Fin 256) : (k0_pay6 (F := Ideal)) (ix2 t p) = cntS t (grp p) := by
  have h : (k0_pay6 (F := Ideal)) (ix2 t p) = min (((IntOp.addi (iota .tc S2048x256 32 [0] iota_S2048x256_d0_w32 (ix2 t p)) (BitVec.ofNat 32 1)).toInt : ℝ) : EReal)
    (select (cmpi .slt (iota .tc S2048x256 32 [1] iota_S2048x256_d1_w32) (broadcast S2048x256 (BitVec.ofNat 32 64)))
      (broadcast S2048x256 (Ideal.ofBits .f32 0x40000000#32))
      (select (cmpi .slt (iota .tc S2048x256 32 [1] iota_S2048x256_d1_w32) (broadcast S2048x256 (BitVec.ofNat 32 128)))
        (broadcast S2048x256 (Ideal.ofBits .f32 0x40800000#32))
        (select (cmpi .slt (iota .tc S2048x256 32 [1] iota_S2048x256_d1_w32) (broadcast S2048x256 (BitVec.ofNat 32 192)))
          (broadcast S2048x256 (Ideal.ofBits .f32 0x41000000#32)) (broadcast S2048x256 (Ideal.ofBits .f32 0x41800000#32)))) (ix2 t p)) := rfl
  rw [h, col_lt _ _ 64 (by omega), col_lt _ _ 128 (by omega), col_lt _ _ 192 (by omega), iota_row, word_succ]
  show min _ (ite _ (Ideal.ofBits .f32 0x40000000#32) (ite _ (Ideal.ofBits .f32 0x40800000#32) (ite _ (Ideal.ofBits .f32 0x41000000#32) (Ideal.ofBits .f32 0x41800000#32)))) = _
  rw [two_lit, four_lit, eight_lit, sixteen_lit]
  unfold cntS
  have key : ∀ (a b : ℕ), min (((a : ℤ) : ℝ) : EReal) (((b : ℕ) : ℝ) : EReal) = (((min a b : ℕ) : ℝ) : EReal) := fun a b => by
    rw [Int.cast_natCast, Nat.cast_min]
    exact (EReal.coe_strictMono.monotone.map_min).symm
  rcases grp_cases p with ⟨h0, e⟩ | ⟨h0, h1, e⟩ | ⟨h0, h1, h2, e⟩ | ⟨h0, h1, h2, e⟩
  · rw [if_pos h0, show (grp p).val = 0 from e]; exact (key (t.val + 1) 2)
  · rw [if_neg h0, if_pos h1, show (grp p).val = 1 from e]; exact (key (t.val + 1) 4)
  · rw [if_neg h0, if_neg h1, if_pos h2, show (grp p).val = 2 from e]; exact (key (t.val + 1) 8)
  · rw [if_neg h0, if_neg h1, if_neg h2, show (grp p).val = 3 from e]; exact (key (t.val + 1) 16)

/-- The pooled rows minus the rows. -/
theorem pooled_eq (x : Vec Ideal S2048x256 .f32) : pooled x = pS x := by
  funext i
  obtain ⟨t, p, rfl⟩ : ∃ (t : Fin 2048) (p : Fin 256), i = ix2 t p := ⟨i 0, i 1, eq_ix2 i⟩
  have h : pooled x (ix2 t p) = Ideal.div (select (cmpi .slt (iota .tc S2048x256 32 [1] iota_S2048x256_d1_w32) (broadcast S2048x256 (BitVec.ofNat 32 64)))
    (k0_pay3 x) (k0_pay5 x) (ix2 t p)) ((k0_pay6 (F := Ideal)) (ix2 t p)) - x (ix2 t p) := rfl
  rw [h, col_lt _ _ 64 (by omega), pay6_apply, pay5_apply, pay3_eq]
  refine congrArg (fun q => Ideal.div q (cntS t (grp p)) - x (ix2 t p)) ?_
  show _ = backM (2 ^ (p.val / 64 + 1)) x (ix2 t p)
  rcases grp_cases p with ⟨h0, e⟩ | ⟨h0, h1, e⟩ | ⟨h0, h1, h2, e⟩ | ⟨h0, h1, h2, e⟩
  · rw [if_pos h0, e]; rfl
  · rw [if_neg h0, if_pos h1, e]; rfl
  · rw [if_neg h0, if_neg h1, if_pos h2, e]; rfl
  · rw [if_neg h0, if_neg h1, if_neg h2, e]; rfl

/-- The group of a column as a word. -/
theorem word_grp : ∀ p : Fin 256, IntOp.shrsi .vector (BitVec.ofNat 32 p.val) (BitVec.ofNat 32 6) = BitVec.ofNat 32 (p.val / 64) := by
  decide

theorem same_grp {α : Type} (a b : S256x256.Idx → α) (p q : Fin 256) :
    select (cmpi .eq (shrsi (iota .tc S256x256 32 [0] iota_S256x256_d0_w32) (broadcast S256x256 (BitVec.ofNat 32 6)))
      (shrsi (iota .tc S256x256 32 [1] iota_S256x256_d1_w32) (broadcast S256x256 (BitVec.ofNat 32 6)))) a b (ix2 p q)
    = if grp p = grp q then a (ix2 p q) else b (ix2 p q) := by
  show Scalar.select (IntOp.cmpi .eq (IntOp.shrsi .vector (iota .tc S256x256 32 [0] iota_S256x256_d0_w32 (ix2 p q)) (BitVec.ofNat 32 6))
    (IntOp.shrsi .vector (iota .tc S256x256 32 [1] iota_S256x256_d1_w32 (ix2 p q)) (BitVec.ofNat 32 6))) _ _ = _
  rw [iota_row, iota_col, word_grp, word_grp, cmpi_eq_ofNat (by have := p.isLt; omega) (by have := q.isLt; omega)]
  by_cases h : grp p = grp q
  · rw [if_pos h, decide_eq_true (congrArg Fin.val h)]; rfl
  · rw [if_neg h, decide_eq_false (fun e => h (Fin.ext e))]; rfl

/-- The weights four times side by side. -/
def fourW (w : Vec Ideal S256x64 .f32) : Vec Ideal S256x256 .f32 :=
  concatenate S256x256 1 [⟨S256x64, w⟩, ⟨S256x64, w⟩, ⟨S256x64, w⟩, ⟨S256x64, w⟩] concatenates_S256x64_S256x64_S256x64_S256x64_S256x256_d1

theorem four_apply (w : Vec Ideal S256x64 .f32) (p q : Fin 256) : fourW w (ix2 p q) = w (ix2 p (pos q)) := by
  have hq : q = at64 (grp q) (pos q) := Fin.ext (by show q.val = 64 * (q.val / 64) + q.val % 64; omega)
  generalize grp q = g at hq
  generalize pos q = k at hq ⊢
  subst hq
  unfold fourW
  fin_cases g
  · pointwise
  · pointwise
  · pointwise
    rw [dif_neg (by omega), dif_neg (by omega), dif_pos (by omega)]
    exact congrArg (fun q => w (ix2 p q)) (Fin.ext (by show 128 + k.val - 64 - 64 = k.val; omega))
  · pointwise
    rw [dif_neg (by omega), dif_neg (by omega), dif_neg (by omega)]
    exact congrArg (fun q => w (ix2 p q)) (Fin.ext (by show 192 + k.val - 64 - 64 - 64 = k.val; omega))

theorem diag_apply (w : Vec Ideal S256x64 .f32) (p q : Fin 256) : diag w (ix2 p q) = if grp p = grp q then w (ix2 p (pos q)) else (0 : EReal) := by
  have h2 : k0_pay2 w = w := by
    funext i
    obtain ⟨t, p, rfl⟩ : ∃ (t : Fin 256) (p : Fin 64), i = ix2 t p := ⟨i 0, i 1, eq_ix2 i⟩
    unfold k0_pay2; pointwise
  unfold diag
  rw [h2]
  refine Eq.trans (b := select (cmpi .eq (shrsi (iota .tc S256x256 32 [0] iota_S256x256_d0_w32) (broadcast S256x256 (BitVec.ofNat 32 6)))
      (shrsi (iota .tc S256x256 32 [1] iota_S256x256_d1_w32) (broadcast S256x256 (BitVec.ofNat 32 6)))) (fourW w)
      (broadcast S256x256 (Scalar.ofBits .f32 0x00000000#32 : Ideal .f32)) (ix2 p q)) rfl ?_
  rw [same_grp, four_apply]
  exact if_congr Iff.rfl rfl zeroF

/-- The scaled cotangent. -/
theorem pay10_eq (d : Vec Ideal S2048x256 .f32) (s : Vec Ideal S1x256 .f32) : k0_pay10 d s = doS d s := by
  funext i
  obtain ⟨t, p, rfl⟩ : ∃ (t : Fin 2048) (p : Fin 256), i = ix2 t p := ⟨i 0, i 1, eq_ix2 i⟩
  unfold k0_pay10 doS
  pointwise

/-- The weights of a group, from the rows of the four groups one under another. -/
def unW (w : Vec Ideal S256x64 .f32) : Fin 4 → Fin 64 → Fin 64 → EReal := fun g k l => w (ix2 (at64 g k) l)

theorem at64_grp (g : Fin 4) (k : Fin 64) : grp (at64 g k) = g := Fin.ext (by show (64 * g.val + k.val) / 64 = g.val; omega)
theorem at64_pos (g : Fin 4) (k : Fin 64) : pos (at64 g k) = k := Fin.ext (by show (64 * g.val + k.val) % 64 = k.val; omega)
theorem at64_eta (p : Fin 256) : at64 (grp p) (pos p) = p := Fin.ext (by show 64 * (p.val / 64) + p.val % 64 = p.val; omega)

theorem pay12_eq (w : Vec Ideal S256x64 .f32) (d : Vec Ideal S2048x256 .f32) (s : Vec Ideal S1x256 .f32) : k0_pay12 (diag w) d s = dpS d s (unW w) := by
  funext i
  obtain ⟨t, p, rfl⟩ : ∃ (t : Fin 2048) (p : Fin 256), i = ix2 t p := ⟨i 0, i 1, eq_ix2 i⟩
  have h : k0_pay12 (diag w) d s (ix2 t p) = ∑ q : Fin 256, doS d s (ix2 t q) * diag w (ix2 p q) := by
    unfold k0_pay12
    rw [pay10_eq]
    generalize doS d s = e
    generalize diag w = v
    pointwise
  rw [h, sum_grp (grp p) _ (fun q hq => by rw [diag_apply, if_neg (fun e => hq e.symm)]; exact mul_zero (M₀ := EReal) _)]
  refine Finset.sum_congr rfl fun k _ => ?_
  rw [diag_apply, at64_grp, if_pos rfl, at64_pos]
  show _ = _ * w (ix2 (at64 (grp p) (pos p)) k)
  rw [at64_eta]
  rfl

theorem pay11_eq (x d : Vec Ideal S2048x256 .f32) (s : Vec Ideal S1x256 .f32) : k0_pay11 (pooled x) d s = dwS x d s := by
  rw [pooled_eq]
  funext i
  obtain ⟨p, q, rfl⟩ : ∃ (p : Fin 256) (q : Fin 256), i = ix2 p q := ⟨i 0, i 1, eq_ix2 i⟩
  have h : k0_pay11 (pS x) d s (ix2 p q) = if grp p = grp q
      then matmul (F := Ideal) dot_S2048x256_S2048x256_S256x256_0_0_1_1_n_n none (φ₁ := .bf16) (φ₂ := .bf16) (pS x) (k0_pay10 d s) (constant S256x256 .f32 0x00000000#32) (ix2 p q)
      else (broadcast S256x256 (Scalar.ofBits .f32 0x00000000#32 : Ideal .f32)) (ix2 p q) := same_grp _ _ p q
  rw [h, pay10_eq]
  refine if_congr Iff.rfl ?_ zeroF
  generalize doS d s = e
  generalize pS x = y
  pointwise

theorem pay9_eq (x : Vec Ideal S2048x256 .f32) (w : Vec Ideal S256x64 .f32) (d : Vec Ideal S2048x256 .f32) :
    k0_pay9 x (k0_pay2 w) (k0_pay3 x) k0_pay4 (k0_pay5 x) d = dpsS x d (unW w) := by
  funext i
  obtain ⟨z, p, rfl⟩ : ∃ (z : Fin 1) (p : Fin 256), i = ix2 z p := ⟨i 0, i 1, eq_ix2 i⟩
  obtain rfl : z = 0 := Subsingleton.elim _ _
  have h : k0_pay9 x (k0_pay2 w) (k0_pay3 x) k0_pay4 (k0_pay5 x) d (ix2 0 p) = ∑ t : Fin 2048, d (ix2 t p) * ∑ q : Fin 256, pS x (ix2 t q) * diag w (ix2 q p) := by
    rw [← pooled_eq]
    unfold k0_pay9 pooled diag
    generalize k0_pay8 x (k0_pay3 x) k0_pay4 (k0_pay5 x) = e
    generalize k0_pay7 (k0_pay2 w) = v
    pointwise
  rw [h]
  refine Finset.sum_congr rfl fun t _ => congrArg (d (ix2 t p) * ·) ?_
  rw [sum_grp (grp p) _ (fun q hq => by rw [diag_apply, if_neg hq]; exact mul_zero (M₀ := EReal) _)]
  refine Finset.sum_congr rfl fun k _ => ?_
  rw [diag_apply, at64_grp, if_pos rfl]
  rfl

/-- The gradient of the pooled input. -/
theorem dzb_eq (d : Vec Ideal S2048x256 .f32) (w : Vec Ideal S256x64 .f32) (s : Vec Ideal S1x256 .f32) : dzbB d w s = dzbS d s (unW w) := by
  funext i
  obtain ⟨t, p, rfl⟩ : ∃ (t : Fin 2048) (p : Fin 256), i = ix2 t p := ⟨i 0, i 1, eq_ix2 i⟩
  have e0 : divf (F := Ideal) (φ := .f32) (k0_pay12 (diag w) d s) k0_pay6 = aheadM 1 (fun j => Ideal.div (dpS d s (unW w) j) (cntS (j 0) (grp (j 1)))) := by
    rw [aheadM_one, pay12_eq]
    funext j
    obtain ⟨t, p, rfl⟩ : ∃ (t : Fin 2048) (p : Fin 256), j = ix2 t p := ⟨j 0, j 1, eq_ix2 j⟩
    exact congrArg (Ideal.div _) (pay6_apply t p)
  have e1 : k0_pay13 k0_pay6 (diag w) d s = aheadM 2 (fun j => Ideal.div (dpS d s (unW w) j) (cntS (j 0) (grp (j 1)))) :=
    (show k0_pay13 k0_pay6 (diag w) d s = addf (F := Ideal) (φ := .f32) (divf (F := Ideal) (φ := .f32) (k0_pay12 (diag w) d s) k0_pay6)
      (upR 2047 (divf (F := Ideal) (φ := .f32) (k0_pay12 (diag w) d s) k0_pay6)) from rfl).trans (by rw [e0]; exact ahead_step 2047 1 rfl _)
  have e2 : k0_pay14 k0_pay6 (diag w) d s = aheadM 4 (fun j => Ideal.div (dpS d s (unW w) j) (cntS (j 0) (grp (j 1)))) :=
    (show k0_pay14 k0_pay6 (diag w) d s = addf (F := Ideal) (φ := .f32) (k0_pay13 k0_pay6 (diag w) d s)
      (upR 2046 (k0_pay13 k0_pay6 (diag w) d s)) from rfl).trans (by rw [e1]; exact ahead_step 2046 2 rfl _)
  have e3 : k0_pay15 k0_pay6 (diag w) d s = aheadM 8 (fun j => Ideal.div (dpS d s (unW w) j) (cntS (j 0) (grp (j 1)))) :=
    (show k0_pay15 k0_pay6 (diag w) d s = addf (F := Ideal) (φ := .f32) (k0_pay14 k0_pay6 (diag w) d s)
      (upR 2044 (k0_pay14 k0_pay6 (diag w) d s)) from rfl).trans (by rw [e2]; exact ahead_step 2044 4 rfl _)
  unfold dzbB
  rw [e1, e2, e3, pay12_eq]
  have e4 := ahead_step 2040 8 rfl (fun j => Ideal.div (dpS d s (unW w) j) (cntS (j 0) (grp (j 1))))
  show select (cmpi .slt (iota .tc S2048x256 32 [1] iota_S2048x256_d1_w32) (broadcast S2048x256 (BitVec.ofNat 32 64)))
    (aheadM 2 (fun j => Ideal.div (dpS d s (unW w) j) (cntS (j 0) (grp (j 1)))))
    (select (cmpi .slt (iota .tc S2048x256 32 [1] iota_S2048x256_d1_w32) (broadcast S2048x256 (BitVec.ofNat 32 128)))
      (aheadM 4 (fun j => Ideal.div (dpS d s (unW w) j) (cntS (j 0) (grp (j 1)))))
      (select (cmpi .slt (iota .tc S2048x256 32 [1] iota_S2048x256_d1_w32) (broadcast S2048x256 (BitVec.ofNat 32 192)))
        (aheadM 8 (fun j => Ideal.div (dpS d s (unW w) j) (cntS (j 0) (grp (j 1)))))
        (addf (F := Ideal) (φ := .f32) (aheadM 8 (fun j => Ideal.div (dpS d s (unW w) j) (cntS (j 0) (grp (j 1)))))
          (upR 2040 (aheadM 8 (fun j => Ideal.div (dpS d s (unW w) j) (cntS (j 0) (grp (j 1))))))))) (ix2 t p) - dpS d s (unW w) (ix2 t p) = _
  rw [e4, col_lt _ _ 64 (by omega), col_lt _ _ 128 (by omega), col_lt _ _ 192 (by omega)]
  refine congrArg (· - dpS d s (unW w) (ix2 t p)) ?_
  show _ = aheadM (2 ^ (p.val / 64 + 1)) (fun j => Ideal.div (dpS d s (unW w) j) (cntS (j 0) (grp (j 1)))) (ix2 t p)
  rcases grp_cases p with ⟨h0, e⟩ | ⟨h0, h1, e⟩ | ⟨h0, h1, h2, e⟩ | ⟨h0, h1, h2, e⟩
  · rw [if_pos h0, e]; rfl
  · rw [if_neg h0, if_pos h1, e]; rfl
  · rw [if_neg h0, if_neg h1, if_pos h2, e]; rfl
  · rw [if_neg h0, if_neg h1, if_neg h2, e]; rfl

/-! ### The gated convolution -/

theorem pay18_eq (z : Vec Ideal S2048x768 .f32) : k0_pay18 z = partS 0 z := by
  funext i
  obtain ⟨t, p, rfl⟩ : ∃ (t : Fin 2048) (p : Fin 256), i = ix2 t p := ⟨i 0, i 1, eq_ix2 i⟩
  unfold k0_pay18; pointwise
  exact congrArg z (ix2_ext rfl (by show p.val = 256 * 0 + p.val; omega))
theorem pay19_eq (z : Vec Ideal S2048x768 .f32) : k0_pay19 z = partS 1 z := by
  funext i
  obtain ⟨t, p, rfl⟩ : ∃ (t : Fin 2048) (p : Fin 256), i = ix2 t p := ⟨i 0, i 1, eq_ix2 i⟩
  unfold k0_pay19; pointwise
  exact congrArg z (ix2_ext rfl (by show 256 + p.val = 256 * 1 + p.val; omega))
theorem pay20_eq (z : Vec Ideal S2048x768 .f32) : k0_pay20 z = partS 2 z := by
  funext i
  obtain ⟨t, p, rfl⟩ : ∃ (t : Fin 2048) (p : Fin 256), i = ix2 t p := ⟨i 0, i 1, eq_ix2 i⟩
  unfold k0_pay20; pointwise
  exact congrArg z (ix2_ext rfl (by show 512 + p.val = 256 * 2 + p.val; omega))

theorem dnR_eq (n : ℕ) (hn : n < 2048) (x : Vec Ideal S2048x256 .f32) : dnR n x = dnS n x := by
  funext i
  obtain ⟨t, p, rfl⟩ : ∃ (t : Fin 2048) (p : Fin 256), i = ix2 t p := ⟨i 0, i 1, eq_ix2 i⟩
  exact dn_apply n hn x t p
theorem upR_eq (k n : ℕ) (hk : k + n = 2048) (x : Vec Ideal S2048x256 .f32) : upR k x = upS n x := by
  funext i
  obtain ⟨t, p, rfl⟩ : ∃ (t : Fin 2048) (p : Fin 256), i = ix2 t p := ⟨i 0, i 1, eq_ix2 i⟩
  exact up_apply k n hk x t p

theorem pay21_eq (z : Vec Ideal S2048x768 .f32) : k0_pay21 z = yS z := by
  unfold k0_pay21
  rw [pay19_eq, pay20_eq]
  rfl
theorem pay22_eq (z : Vec Ideal S2048x768 .f32) : k0_pay22 z = dnS 1 (yS z) :=
  (show k0_pay22 z = dnR 1 (k0_pay21 z) from rfl).trans (by rw [pay21_eq]; exact dnR_eq 1 (by omega) _)
theorem pay23_eq (z : Vec Ideal S2048x768 .f32) : k0_pay23 z = dnS 2 (yS z) :=
  (show k0_pay23 z = dnR 2 (k0_pay21 z) from rfl).trans (by rw [pay21_eq]; exact dnR_eq 2 (by omega) _)

theorem dc_eq (z : Vec Ideal S2048x768 .f32) (d : Vec Ideal S2048x256 .f32) : k0_pay27 (k0_pay18 z) d = dcS z d := by
  rw [pay18_eq]
  rfl

theorem conv_eq (z : Vec Ideal S2048x768 .f32) (w : Vec Ideal S3x256 .f32) : k0_pay26 (k0_pay23 z) (k0_pay24 w z) (k0_pay25 w) = convS z w := by
  unfold k0_pay24
  rw [pay21_eq, pay22_eq, pay23_eq]
  funext i
  obtain ⟨t, p, rfl⟩ : ∃ (t : Fin 2048) (p : Fin 256), i = ix2 t p := ⟨i 0, i 1, eq_ix2 i⟩
  unfold k0_pay26 k0_pay25 convS
  generalize dnS 1 (yS z) = y1
  generalize dnS 2 (yS z) = y2
  generalize yS z = y
  pointwise

theorem dy_eq (z : Vec Ideal S2048x768 .f32) (d : Vec Ideal S2048x256 .f32) (w : Vec Ideal S3x256 .f32) :
    addf (F := Ideal) (φ := .f32) (k0_pay32 w (k0_pay18 z) d) (mulf (F := Ideal) (φ := .f32) (broadcastTo S2048x256 (k0_pay33 w) broadcasts_S1x256_S2048x256)
      (select k0_pay34 (broadcast S2048x256 (Scalar.ofBits .f32 0x00000000#32 : Ideal .f32)) (k0_pay35 (k0_pay18 z) d))) = dyS z d w := by
  have e1 : upR 2047 (k0_pay27 (k0_pay18 z) d) = upS 1 (dcS z d) := by rw [dc_eq]; exact upR_eq 2047 1 rfl _
  have e2 : upR 2046 (k0_pay27 (k0_pay18 z) d) = upS 2 (dcS z d) := by rw [dc_eq]; exact upR_eq 2046 2 rfl _
  have h2 : select k0_pay34 (broadcast S2048x256 (Scalar.ofBits .f32 0x00000000#32 : Ideal .f32)) (k0_pay35 (k0_pay18 z) d)
    = upR 2046 (k0_pay27 (k0_pay18 z) d) := rfl
  have h1 : k0_pay32 w (k0_pay18 z) d = addf (F := Ideal) (φ := .f32)
      (mulf (F := Ideal) (φ := .f32) (broadcastTo S2048x256 (extractStridedSlice S1x256 ![2, 0] w slices_S3x256_o2_0_S1x256) broadcasts_S1x256_S2048x256) (k0_pay27 (k0_pay18 z) d))
      (mulf (F := Ideal) (φ := .f32) (broadcastTo S2048x256 (extractStridedSlice S1x256 ![1, 0] w slices_S3x256_o1_0_S1x256) broadcasts_S1x256_S2048x256)
        (upR 2047 (k0_pay27 (k0_pay18 z) d))) := rfl
  rw [h1, h2, e1, e2, dc_eq]
  funext i
  obtain ⟨t, p, rfl⟩ : ∃ (t : Fin 2048) (p : Fin 256), i = ix2 t p := ⟨i 0, i 1, eq_ix2 i⟩
  unfold k0_pay33 dyS
  generalize upS 1 (dcS z d) = y1
  generalize upS 2 (dcS z d) = y2
  generalize dcS z d = y
  pointwise

/-- The gradient of the convolution's input. -/
theorem dzc_eq (z : Vec Ideal S2048x768 .f32) (d : Vec Ideal S2048x256 .f32) (w : Vec Ideal S3x256 .f32) : dzcB z d w = dzcS z d w := by
  have h : dzcB z d w = concatenate S2048x768 1 [⟨S2048x256, mulf (F := Ideal) (φ := .f32) d (convS z w)⟩, ⟨S2048x256, mulf (F := Ideal) (φ := .f32) (dyS z d w) (partS 2 z)⟩,
      ⟨S2048x256, mulf (F := Ideal) (φ := .f32) (dyS z d w) (partS 1 z)⟩] concatenates_S2048x256_S2048x256_S2048x256_S2048x768_d1 := by
    rw [← dy_eq, ← conv_eq, ← pay19_eq, ← pay20_eq]
    rfl
  rw [h]
  funext i
  obtain ⟨t, q, rfl⟩ : ∃ (t : Fin 2048) (q : Fin 768), i = ix2 t q := ⟨i 0, i 1, eq_ix2 i⟩
  unfold dzcS
  refine eq_side _ (fun i => d i * convS z w i) (fun i => dyS z d w i * partS 2 z i) (fun i => dyS z d w i * partS 1 z i) t (fun j => ?_) (fun j => ?_) (fun j => ?_) q
  · generalize convS z w = a
    generalize dyS z d w = b
    generalize partS 1 z = c
    generalize partS 2 z = e
    pointwise
  · generalize convS z w = a
    generalize dyS z d w = b
    generalize partS 1 z = c
    generalize partS 2 z = e
    pointwise
  · generalize convS z w = a
    generalize dyS z d w = b
    generalize partS 1 z = c
    generalize partS 2 z = e
    pointwise
    rw [dif_neg (by omega), dif_neg (by omega)]
    have hj : (⟨512 + j.val - 256 - 256, by omega⟩ : Fin 256) = j := Fin.ext (by show 512 + j.val - 256 - 256 = j.val; omega)
    exact congrArg (fun q => b (ix2 t q) * c (ix2 t q)) hj

/-- The three rows of the convolution weights' gradient. -/
theorem row_sum (z : Vec Ideal S2048x768 .f32) (d : Vec Ideal S2048x256 .f32) (y : Vec Ideal S2048x256 .f32) (k : Fin 256) :
    k0_pay29 (k0_pay18 z) y d (ix2 0 k) = ∑ t : Fin 2048, dcS z d (ix2 t k) * y (ix2 t k) := by
  unfold k0_pay29
  rw [dc_eq]
  generalize dcS z d = e
  pointwise

theorem dcw_eq (z : Vec Ideal S2048x768 .f32) (d : Vec Ideal S2048x256 .f32) : dcwB z d = dcwS z d := by
  have hit : ∀ (Y : Vec Ideal S8x256 .f32) (o : Fin 8) (w : Vec Ideal S1x256 .f32) (k : Fin 256),
      VecWindow.put Y ![o.val, 0] ![1, 256] w (ix2 o k) = w (ix2 0 k) := fun Y o w k => by
    refine (dif_pos (fun x => ?_)).trans (congrArg w (funext fun x => Fin.ext ?_))
    · match x with
      | ⟨0, _⟩ => exact ⟨le_rfl, Nat.lt_succ_self _⟩
      | ⟨1, _⟩ => exact ⟨Nat.zero_le _, by have := k.isLt; show k.val < 0 + 256; omega⟩
    · match x with
      | ⟨0, _⟩ => exact Nat.sub_self _
      | ⟨1, _⟩ => rfl
  have miss : ∀ (Y : Vec Ideal S8x256 .f32) (o p : Fin 8) (w : Vec Ideal S1x256 .f32) (k : Fin 256), p ≠ o →
      VecWindow.put Y ![o.val, 0] ![1, 256] w (ix2 p k) = Y (ix2 p k) := fun Y o p w k hp => by
    refine dif_neg (fun hin => hp (Fin.ext ?_))
    have h0 : o.val ≤ p.val ∧ p.val < o.val + 1 := hin 0
    omega
  funext i
  obtain ⟨p, k, rfl⟩ : ∃ (p : Fin 8) (k : Fin 256), i = ix2 p k := ⟨i 0, i 1, eq_ix2 i⟩
  have e1 : k0_pay30 (k0_pay18 z) (k0_pay22 z) d = k0_pay29 (k0_pay18 z) (k0_pay22 z) d := rfl
  have e2 : k0_pay31 (k0_pay18 z) (k0_pay21 z) d = k0_pay29 (k0_pay18 z) (k0_pay21 z) d := rfl
  unfold dcwB
  rw [e1, e2, pay21_eq, pay22_eq, pay23_eq]
  show _ = dcwR z d p k
  unfold dcwR
  by_cases h0 : p = 0
  · subst h0
    rw [if_pos (show (0 : Fin 8).val = 0 from rfl)]
    refine (miss _ 2 0 _ k (by decide)).trans ((miss _ 1 0 _ k (by decide)).trans ((hit _ 0 _ k).trans ?_))
    exact row_sum z d _ k
  by_cases h1 : p = 1
  · subst h1
    rw [if_neg (show ¬(1 : Fin 8).val = 0 by decide), if_pos (show (1 : Fin 8).val = 1 from rfl)]
    refine (miss _ 2 1 _ k (by decide)).trans ((hit _ 1 _ k).trans ?_)
    exact row_sum z d _ k
  by_cases h2 : p = 2
  · subst h2
    rw [if_neg (show ¬(2 : Fin 8).val = 0 by decide), if_neg (show ¬(2 : Fin 8).val = 1 by decide), if_pos (show (2 : Fin 8).val = 2 from rfl)]
    refine (hit _ 2 _ k).trans ?_
    exact row_sum z d _ k
  · rw [if_neg (show ¬p.val = 0 from fun e => h0 (Fin.ext e)), if_neg (show ¬p.val = 1 from fun e => h1 (Fin.ext e)), if_neg (show ¬p.val = 2 from fun e => h2 (Fin.ext e))]
    refine (miss _ 2 p _ k h2).trans ((miss _ 1 p _ k h1).trans ((miss _ 0 p _ k h0).trans ?_))
    unfold k0_pay28
    exact zeroF

end Cert.PoolBwd

end
-- ==== Proof.PoolArrays.lean ====
/- The five result arrays of the pooling and convolution gradient kernel after its run, as functions of its arguments. The
   kernel runs at one point, so each output is one block. -/
module

public import proofs.«01_k».proof.Proof.Gen.Kernel6Ideal.Value
public import proofs.«01_k».proof.Proof.PoolPay

@[expose] public section

set_option maxRecDepth 16384

noncomputable section

namespace Cert.PoolBwd

open Cert.Kernel6Ideal Cert.Kernel6Ideal.Gen Cert.Whole Cert.FfnBwd
open Idealize.ShloMosaic Idealize.ShloMosaic.TcCoe Idealize.ShloMosaic.StableHlo
open Idealize.SL.Sem

/-! ### The pooling weights as the host code prepares them -/

/-- The four groups' weights one under the other. -/
def flatW {F : FTy → Type} [FloatOps F] (w : Vec F S4x64x64 .f32) : Vec F S256x64 .f32 :=
  shapeCast S256x64 w shapeCasts_S4x64x64_S256x64

section
variable {F : FTy → Type} [FloatOps F] (m : (ℓ : Loc nD τ sig) → Buf (Elt F) ℓ) (c : Dev nD)

theorem V_v0 : V m c main_v0 = flatW (m ((c : Thread nD τ).loc main_arg3)) := by
  unfold flatW
  simp only [V, hostOps0, List.flatten_cons, List.flatten_nil, List.append_nil, List.cons_append, List.nil_append,
    TRef.binary, TRef.nullary, TRef.unary, TRef.toBuf, TRef.ofBuf, cast_eq]
  after_results_simp <;> rfl
end

theorem flat_apply (w : Vec Ideal S4x64x64 .f32) (g : Fin 4) (k l : Fin 64) : flatW w (ix2 (at64 g k) l) = w (ix3 g k l) := by
  unfold flatW
  exact shapeCast_apply w _ (ix2 (at64 g k) l) (ix3 g k l) (by
    rw [Shape.rowMajor_val_three, Shape.rowMajor_val_two]; show (g.val * 64 + k.val) * 64 + l.val = (64 * g.val + k.val) * 64 + l.val; omega)

variable (m : (ℓ : Loc nD τ sig) → Buf (Elt Ideal) ℓ) (c : Dev nD)

/-- The six arguments of a device. -/
abbrev x0 : Mat 2048 1792 := m ((c.tc : Thread nD τ).loc main_arg0)
abbrev x1 : Mat 2048 256 := m ((c.tc : Thread nD τ).loc main_arg1)
abbrev x2 : Mat 2048 256 := m ((c.tc : Thread nD τ).loc main_arg2)
abbrev x3 : Vec Ideal S4x64x64 .f32 := m ((c.tc : Thread nD τ).loc main_arg3)
abbrev x4 : Mat 1 256 := m ((c.tc : Thread nD τ).loc main_arg4)
abbrev x5 : Mat 3 256 := m ((c.tc : Thread nD τ).loc main_arg5)

/-! ### Where an element of a block lies in its array -/

theorem emb_0 (t : Fin cfg0.N) (p : Fin 2048) (q : Fin 256) : ((cfg0.win 0).blk t).view.emb (ix2 p q) = (ix2 p ⟨512 + q.val, by omega⟩ : S2048x1792.Idx) := by
  funext a; apply Fin.ext
  match a with
  | ⟨0, _⟩ => exact win0_0.rect_emb_val_of_index_zero t 0 ((by decide +kernel : ∀ t : Fin grid0.N, win0_0.index t 0 = 0) t) (ix2 p q)
  | ⟨1, _⟩ =>
    refine (win0_0.rect_emb_val t (ix2 p q) 1).trans ?_
    rw [(by decide +kernel : ∀ t : Fin grid0.N, win0_0.index t 1 * win0_0.size 1 = 512) t]; rfl

theorem emb_2 (t : Fin cfg0.N) (p : Fin 2048) (q : Fin 256) : ((cfg0.win 2).blk t).view.emb (ix2 p q) = (ix2 p q : S2048x256.Idx) := by
  funext a; apply Fin.ext
  match a with
  | ⟨0, _⟩ => exact win0_2.rect_emb_val_of_index_zero t 0 ((by decide +kernel : ∀ t : Fin grid0.N, win0_2.index t 0 = 0) t) (ix2 p q)
  | ⟨1, _⟩ => exact win0_2.rect_emb_val_of_index_zero t 1 ((by decide +kernel : ∀ t : Fin grid0.N, win0_2.index t 1 = 0) t) (ix2 p q)

theorem emb_3 (t : Fin cfg0.N) (p : Fin 2048) (q : Fin 256) : ((cfg0.win 3).blk t).view.emb (ix2 p q) = (ix2 p q : S2048x256.Idx) := by
  funext a; apply Fin.ext
  match a with
  | ⟨0, _⟩ => exact win0_3.rect_emb_val_of_index_zero t 0 ((by decide +kernel : ∀ t : Fin grid0.N, win0_3.index t 0 = 0) t) (ix2 p q)
  | ⟨1, _⟩ => exact win0_3.rect_emb_val_of_index_zero t 1 ((by decide +kernel : ∀ t : Fin grid0.N, win0_3.index t 1 = 0) t) (ix2 p q)

theorem emb_4 (t : Fin cfg0.N) (p : Fin 256) (q : Fin 64) : ((cfg0.win 4).blk t).view.emb (ix2 p q) = (ix2 p q : S256x64.Idx) := by
  funext a; apply Fin.ext
  match a with
  | ⟨0, _⟩ => exact win0_4.rect_emb_val_of_index_zero t 0 ((by decide +kernel : ∀ t : Fin grid0.N, win0_4.index t 0 = 0) t) (ix2 p q)
  | ⟨1, _⟩ => exact win0_4.rect_emb_val_of_index_zero t 1 ((by decide +kernel : ∀ t : Fin grid0.N, win0_4.index t 1 = 0) t) (ix2 p q)

theorem emb_5 (t : Fin cfg0.N) (p : Fin 1) (q : Fin 256) : ((cfg0.win 5).blk t).view.emb (ix2 p q) = (ix2 p q : S1x256.Idx) := by
  funext a; apply Fin.ext
  match a with
  | ⟨0, _⟩ => exact win0_5.rect_emb_val_of_index_zero t 0 ((by decide +kernel : ∀ t : Fin grid0.N, win0_5.index t 0 = 0) t) (ix2 p q)
  | ⟨1, _⟩ => exact win0_5.rect_emb_val_of_index_zero t 1 ((by decide +kernel : ∀ t : Fin grid0.N, win0_5.index t 1 = 0) t) (ix2 p q)

theorem emb_6 (t : Fin cfg0.N) (p : Fin 3) (q : Fin 256) : ((cfg0.win 6).blk t).view.emb (ix2 p q) = (ix2 p q : S3x256.Idx) := by
  funext a; apply Fin.ext
  match a with
  | ⟨0, _⟩ => exact win0_6.rect_emb_val_of_index_zero t 0 ((by decide +kernel : ∀ t : Fin grid0.N, win0_6.index t 0 = 0) t) (ix2 p q)
  | ⟨1, _⟩ => exact win0_6.rect_emb_val_of_index_zero t 1 ((by decide +kernel : ∀ t : Fin grid0.N, win0_6.index t 1 = 0) t) (ix2 p q)

theorem emb_7 (t : Fin cfg0.N) (p : Fin 2048) (q : Fin 256) : ((cfg0.win 7).blk t).view.emb (ix2 p q) = (ix2 p q : S2048x256.Idx) := by
  funext a; apply Fin.ext
  match a with
  | ⟨0, _⟩ => exact win0_7.rect_emb_val_of_index_zero t 0 ((by decide +kernel : ∀ t : Fin grid0.N, win0_7.index t 0 = 0) t) (ix2 p q)
  | ⟨1, _⟩ => exact win0_7.rect_emb_val_of_index_zero t 1 ((by decide +kernel : ∀ t : Fin grid0.N, win0_7.index t 1 = 0) t) (ix2 p q)

theorem emb_8 (t : Fin cfg0.N) (p : Fin 2048) (q : Fin 768) : ((cfg0.win 8).blk t).view.emb (ix2 p q) = (ix2 p q : S2048x768.Idx) := by
  funext a; apply Fin.ext
  match a with
  | ⟨0, _⟩ => exact win0_8.rect_emb_val_of_index_zero t 0 ((by decide +kernel : ∀ t : Fin grid0.N, win0_8.index t 0 = 0) t) (ix2 p q)
  | ⟨1, _⟩ => exact win0_8.rect_emb_val_of_index_zero t 1 ((by decide +kernel : ∀ t : Fin grid0.N, win0_8.index t 1 = 0) t) (ix2 p q)

theorem emb_9 (t : Fin cfg0.N) (p : Fin 256) (q : Fin 256) : ((cfg0.win 9).blk t).view.emb (ix2 p q) = (ix2 p q : S256x256.Idx) := by
  funext a; apply Fin.ext
  match a with
  | ⟨0, _⟩ => exact win0_9.rect_emb_val_of_index_zero t 0 ((by decide +kernel : ∀ t : Fin grid0.N, win0_9.index t 0 = 0) t) (ix2 p q)
  | ⟨1, _⟩ => exact win0_9.rect_emb_val_of_index_zero t 1 ((by decide +kernel : ∀ t : Fin grid0.N, win0_9.index t 1 = 0) t) (ix2 p q)

theorem emb_10 (t : Fin cfg0.N) (p : Fin 1) (q : Fin 256) : ((cfg0.win 10).blk t).view.emb (ix2 p q) = (ix2 p q : S1x256.Idx) := by
  funext a; apply Fin.ext
  match a with
  | ⟨0, _⟩ => exact win0_10.rect_emb_val_of_index_zero t 0 ((by decide +kernel : ∀ t : Fin grid0.N, win0_10.index t 0 = 0) t) (ix2 p q)
  | ⟨1, _⟩ => exact win0_10.rect_emb_val_of_index_zero t 1 ((by decide +kernel : ∀ t : Fin grid0.N, win0_10.index t 1 = 0) t) (ix2 p q)

theorem emb_11 (t : Fin cfg0.N) (p : Fin 8) (q : Fin 256) : ((cfg0.win 11).blk t).view.emb (ix2 p q) = (ix2 p q : S8x256.Idx) := by
  funext a; apply Fin.ext
  match a with
  | ⟨0, _⟩ => exact win0_11.rect_emb_val_of_index_zero t 0 ((by decide +kernel : ∀ t : Fin grid0.N, win0_11.index t 0 = 0) t) (ix2 p q)
  | ⟨1, _⟩ => exact win0_11.rect_emb_val_of_index_zero t 1 ((by decide +kernel : ∀ t : Fin grid0.N, win0_11.index t 1 = 0) t) (ix2 p q)

theorem emb_1 (t : Fin cfg0.N) (y : ((cfg0.win 1).xblock (cfg0.grid.coords t)).Idx) (p : Fin 2048) (q : Fin 768) (hp : (y 0).val = p.val) (hq : (y 1).val = q.val) :
    ((cfg0.win 1).blk t).view.emb y = (ix2 p ⟨768 + q.val, by omega⟩ : S2048x1792.Idx) := by
  funext a; apply Fin.ext
  match a with
  | ⟨0, _⟩ => exact (win0_1.rect_emb_val_of_index_zero t 0 ((by decide +kernel : ∀ t : Fin grid0.N, win0_1.index t 0 = 0) t) y).trans hp
  | ⟨1, _⟩ =>
    refine (win0_1.rect_emb_val t y 1).trans ?_
    rw [(by decide +kernel : ∀ t : Fin grid0.N, win0_1.index t 1 * win0_1.size 1 = 768) t]
    exact congrArg (768 + ·) hq

/-! ### The input blocks -/

/-- The columns of the input product that the pooling and the convolution read, and the pooling weights by group. -/
def zb : Mat 2048 256 := fun i => x0 m c (ix2 (i 0) ⟨512 + (i 1).val, by have : (i 1).val < 256 := (i 1).isLt; omega⟩)
def zc : Mat 2048 768 := fun i => x0 m c (ix2 (i 0) ⟨768 + (i 1).val, by have : (i 1).val < 768 := (i 1).isLt; omega⟩)
def pw : Fin 4 → Fin 64 → Fin 64 → EReal := fun g k l => x3 m c (ix3 g k l)

theorem iblk_0 (t : Fin cfg0.N) : iblk m c 0 t = zb m c := by
  funext (y : S2048x256.Idx)
  obtain ⟨p, q, rfl⟩ : ∃ (p : Fin 2048) (q : Fin 256), y = ix2 p q := ⟨y 0, y 1, eq_ix2 y⟩
  show V m c main_arg0 (((cfg0.win 0).blk t).view.emb (ix2 p q)) = _
  rw [emb_0, V_main_arg0]; rfl

theorem iblk_1 (t : Fin cfg0.N) : X0_1 m c t = zc m c := by
  funext (y : S2048x768.Idx)
  unfold X0_1 Pipeline.Window.fill
  rw [dif_pos (moved0_1 t y)]
  show V m c main_arg0 (((cfg0.win 1).blk t).view.emb _) = _
  rw [emb_1 t _ (y 0) (y 1) rfl rfl, V_main_arg0]; rfl

theorem iblk_2 (t : Fin cfg0.N) : iblk m c 2 t = x1 m c := by
  funext (y : S2048x256.Idx)
  obtain ⟨p, q, rfl⟩ : ∃ (p : Fin 2048) (q : Fin 256), y = ix2 p q := ⟨y 0, y 1, eq_ix2 y⟩
  show V m c main_arg1 (((cfg0.win 2).blk t).view.emb (ix2 p q)) = _
  rw [emb_2, V_main_arg1]

theorem iblk_3 (t : Fin cfg0.N) : iblk m c 3 t = x2 m c := by
  funext (y : S2048x256.Idx)
  obtain ⟨p, q, rfl⟩ : ∃ (p : Fin 2048) (q : Fin 256), y = ix2 p q := ⟨y 0, y 1, eq_ix2 y⟩
  show V m c main_arg2 (((cfg0.win 3).blk t).view.emb (ix2 p q)) = _
  rw [emb_3, V_main_arg2]

theorem iblk_5 (t : Fin cfg0.N) : iblk m c 5 t = x4 m c := by
  funext (y : S1x256.Idx)
  obtain ⟨p, q, rfl⟩ : ∃ (p : Fin 1) (q : Fin 256), y = ix2 p q := ⟨y 0, y 1, eq_ix2 y⟩
  show V m c main_arg4 (((cfg0.win 5).blk t).view.emb (ix2 p q)) = _
  rw [emb_5, V_main_arg4]

theorem iblk_6 (t : Fin cfg0.N) : iblk m c 6 t = x5 m c := by
  funext (y : S3x256.Idx)
  obtain ⟨p, q, rfl⟩ : ∃ (p : Fin 3) (q : Fin 256), y = ix2 p q := ⟨y 0, y 1, eq_ix2 y⟩
  show V m c main_arg5 (((cfg0.win 6).blk t).view.emb (ix2 p q)) = _
  rw [emb_6, V_main_arg5]

theorem iblk_4 (t : Fin cfg0.N) : unW (iblk m c 4 t) = pw m c := by
  funext g k l
  show V m c main_v0 (((cfg0.win 4).blk t).view.emb (ix2 (at64 g k) l)) = x3 m c (ix3 g k l)
  rw [emb_4]
  exact (congrFun ((V_v0 m c).trans (show _ = flatW (F := Ideal) (x3 m c) from rfl)) _).trans (flat_apply _ g k l)

/-! ### The five results -/

/-- The one point. -/
def pt : Fin cfg0.N := ⟨0, by have : cfg0.N = 1 := N_0; omega⟩

/-- The gradients: of the pooled columns, of the convolution's columns, of the pooling weights, of the pooling scale, and of
    the convolution's weights. -/
def dzbG : Mat 2048 256 := dzbS (x1 m c) (x4 m c) (pw m c)
def dzcG : Mat 2048 768 := dzcS (zc m c) (x2 m c) (x5 m c)
def dwG : Mat 256 256 := dwS (zb m c) (x1 m c) (x4 m c)
def dpsG : Mat 1 256 := dpsS (zb m c) (x1 m c) (pw m c)
def dcwG : Mat 8 256 := dcwS (zc m c) (x2 m c)

theorem left_7 (t : Fin cfg0.N) : (outsAt0 m c t).1 = dzbG m c := by
  unfold outsAt0; dsimp only
  rw [dzb_out, dzb_eq, iblk_4, iblk_2, iblk_5]; rfl

theorem flushed_7 (t : Fin cfg0.N) : (dats m 0 c).flushed 7 t = ((cfg0.win 7).blk t).view.read (Elt Ideal) (dzbG m c) := by
  show (cfg0.win 7).cut (grid0.coords t) ((dats m 0 c).after 7 t) = _
  rw [after0_7, left_7]
  refine funext fun (y : S2048x256.Idx) => ?_
  obtain ⟨p, q, rfl⟩ : ∃ (p : Fin 2048) (q : Fin 256), y = ix2 p q := ⟨y 0, y 1, eq_ix2 y⟩
  show _ = dzbG m c (((cfg0.win 7).blk t).view.emb (ix2 p q))
  rw [emb_7]; rfl

theorem arr_7 : (dats m 0 c).arrAt 7 cfg0.N = dzbG m c :=
  (dats m 0 c).arrAt_eq_of_cover 7 (dzbG m c) (fun t _ => flushed_7 m c t) fun (i : S2048x256.Idx) => by
    refine ⟨pt, flush0_7 pt, ?_⟩
    have e : ((cfg0.win 7).blk pt).view.emb (ix2 (i 0) (i 1)) = i := (emb_7 pt (i 0) (i 1)).trans (eq_ix2 i).symm
    exact e ▸ View.emb_mem_set _ _

theorem left_8 (t : Fin cfg0.N) : (outsAt0 m c t).2.1 = dzcG m c := by
  unfold outsAt0; dsimp only
  rw [dzc_out, dzc_eq, iblk_1, iblk_3, iblk_6]; rfl

theorem flushed_8 (t : Fin cfg0.N) : (dats m 0 c).flushed 8 t = ((cfg0.win 8).blk t).view.read (Elt Ideal) (dzcG m c) := by
  show (cfg0.win 8).cut (grid0.coords t) ((dats m 0 c).after 8 t) = _
  rw [after0_8, left_8]
  refine funext fun (y : S2048x768.Idx) => ?_
  obtain ⟨p, q, rfl⟩ : ∃ (p : Fin 2048) (q : Fin 768), y = ix2 p q := ⟨y 0, y 1, eq_ix2 y⟩
  show _ = dzcG m c (((cfg0.win 8).blk t).view.emb (ix2 p q))
  rw [emb_8]; rfl

theorem arr_8 : (dats m 0 c).arrAt 8 cfg0.N = dzcG m c :=
  (dats m 0 c).arrAt_eq_of_cover 8 (dzcG m c) (fun t _ => flushed_8 m c t) fun (i : S2048x768.Idx) => by
    refine ⟨pt, flush0_8 pt, ?_⟩
    have e : ((cfg0.win 8).blk pt).view.emb (ix2 (i 0) (i 1)) = i := (emb_8 pt (i 0) (i 1)).trans (eq_ix2 i).symm
    exact e ▸ View.emb_mem_set _ _

theorem left_9 (t : Fin cfg0.N) : (outsAt0 m c t).2.2.1 = dwG m c := by
  unfold outsAt0; dsimp only
  rw [dw_out, pay11_eq, iblk_0, iblk_2, iblk_5]; rfl

theorem flushed_9 (t : Fin cfg0.N) : (dats m 0 c).flushed 9 t = ((cfg0.win 9).blk t).view.read (Elt Ideal) (dwG m c) := by
  show (cfg0.win 9).cut (grid0.coords t) ((dats m 0 c).after 9 t) = _
  rw [after0_9, left_9]
  refine funext fun (y : S256x256.Idx) => ?_
  obtain ⟨p, q, rfl⟩ : ∃ (p : Fin 256) (q : Fin 256), y = ix2 p q := ⟨y 0, y 1, eq_ix2 y⟩
  show _ = dwG m c (((cfg0.win 9).blk t).view.emb (ix2 p q))
  rw [emb_9]; rfl

theorem arr_9 : (dats m 0 c).arrAt 9 cfg0.N = dwG m c :=
  (dats m 0 c).arrAt_eq_of_cover 9 (dwG m c) (fun t _ => flushed_9 m c t) fun (i : S256x256.Idx) => by
    refine ⟨pt, flush0_9 pt, ?_⟩
    have e : ((cfg0.win 9).blk pt).view.emb (ix2 (i 0) (i 1)) = i := (emb_9 pt (i 0) (i 1)).trans (eq_ix2 i).symm
    exact e ▸ View.emb_mem_set _ _

theorem left_10 (t : Fin cfg0.N) : (outsAt0 m c t).2.2.2.1 = dpsG m c := by
  unfold outsAt0; dsimp only
  rw [dps_out, pay9_eq, iblk_4, iblk_0, iblk_2]; rfl

theorem flushed_10 (t : Fin cfg0.N) : (dats m 0 c).flushed 10 t = ((cfg0.win 10).blk t).view.read (Elt Ideal) (dpsG m c) := by
  show (cfg0.win 10).cut (grid0.coords t) ((dats m 0 c).after 10 t) = _
  rw [after0_10, left_10]
  refine funext fun (y : S1x256.Idx) => ?_
  obtain ⟨p, q, rfl⟩ : ∃ (p : Fin 1) (q : Fin 256), y = ix2 p q := ⟨y 0, y 1, eq_ix2 y⟩
  show _ = dpsG m c (((cfg0.win 10).blk t).view.emb (ix2 p q))
  rw [emb_10]; rfl

theorem arr_10 : (dats m 0 c).arrAt 10 cfg0.N = dpsG m c :=
  (dats m 0 c).arrAt_eq_of_cover 10 (dpsG m c) (fun t _ => flushed_10 m c t) fun (i : S1x256.Idx) => by
    refine ⟨pt, flush0_10 pt, ?_⟩
    have e : ((cfg0.win 10).blk pt).view.emb (ix2 (i 0) (i 1)) = i := (emb_10 pt (i 0) (i 1)).trans (eq_ix2 i).symm
    exact e ▸ View.emb_mem_set _ _

theorem left_11 (t : Fin cfg0.N) : (outsAt0 m c t).2.2.2.2 = dcwG m c := by
  unfold outsAt0; dsimp only
  rw [dcw_out, dcw_eq, iblk_1, iblk_3]; rfl

theorem flushed_11 (t : Fin cfg0.N) : (dats m 0 c).flushed 11 t = ((cfg0.win 11).blk t).view.read (Elt Ideal) (dcwG m c) := by
  show (cfg0.win 11).cut (grid0.coords t) ((dats m 0 c).after 11 t) = _
  rw [after0_11, left_11]
  refine funext fun (y : S8x256.Idx) => ?_
  obtain ⟨p, q, rfl⟩ : ∃ (p : Fin 8) (q : Fin 256), y = ix2 p q := ⟨y 0, y 1, eq_ix2 y⟩
  show _ = dcwG m c (((cfg0.win 11).blk t).view.emb (ix2 p q))
  rw [emb_11]; rfl

theorem arr_11 : (dats m 0 c).arrAt 11 cfg0.N = dcwG m c :=
  (dats m 0 c).arrAt_eq_of_cover 11 (dcwG m c) (fun t _ => flushed_11 m c t) fun (i : S8x256.Idx) => by
    refine ⟨pt, flush0_11 pt, ?_⟩
    have e : ((cfg0.win 11).blk pt).view.emb (ix2 (i 0) (i 1)) = i := (emb_11 pt (i 0) (i 1)).trans (eq_ix2 i).symm
    exact e ▸ View.emb_mem_set _ _

/-- The run with the five results read: each array is the mathematics of the arguments. -/
theorem run (ρ : Dev nD → PrngReg) : θ_run defs (onTc (τ := τ) (main (F := Ideal))) ⟨m, fun _ => 0, ρ⟩ fun r => ∀ c : Dev nD,
      r.2.mem ((c.tc : Thread nD τ).loc main_v1_0) = dzbG m c
      ∧ r.2.mem ((c.tc : Thread nD τ).loc main_v1_1) = dzcG m c
      ∧ r.2.mem ((c.tc : Thread nD τ).loc main_v1_2) = dwG m c
      ∧ r.2.mem ((c.tc : Thread nD τ).loc main_v1_3) = dpsG m c
      ∧ r.2.mem ((c.tc : Thread nD τ).loc main_v1_4) = dcwG m c :=
  (θ_run defs _ _).mono (fun _ h c => ⟨(h c).1.trans (arr_7 m c), (h c).2.1.trans (arr_8 m c), (h c).2.2.1.trans (arr_9 m c),
    (h c).2.2.2.1.trans (arr_10 m c), (h c).2.2.2.2.1.trans (arr_11 m c)⟩) (Value.run_blocks m ρ)

end Cert.PoolBwd

end
-- ==== Proof.PoolRef.lean ====
/- The pooling part of the reference, element by element: the same mathematics as the kernel's arrays. The window is stated by an
   array of zeros and ones, so that a product with it is a sum over the window. -/
module

public import proofs.«01_k».proof.Proof.Gen.Reference6Ideal.Read
public import proofs.«01_k».proof.Proof.PoolSpec
public import Idealize.ShloMosaic.Lib.Pointwise
public import Idealize.ShloMosaic.Lib.WordCmp
public import Idealize.ShloMosaic.Lib.KernelVsHost

@[expose] public section

set_option maxRecDepth 16384

noncomputable section

namespace Cert.PoolBwd.Ref

open Cert.Reference6Ideal Cert.Reference6Ideal.Gen Cert.Reference6Ideal.Read Cert.FfnBwd
open Cert.PoolBwd
open Idealize.ShloMosaic Idealize.ShloMosaic.WordCmp

/-- The columns that the pooling and the convolution read, and the pooling weights by group. -/
def colsB (x : Mat 2048 1792) : Mat 2048 256 := fun i => x (ix2 (i 0) ⟨512 + (i 1).val, by have : (i 1).val < 256 := (i 1).isLt; omega⟩)
def colsC (x : Mat 2048 1792) : Mat 2048 768 := fun i => x (ix2 (i 0) ⟨768 + (i 1).val, by have : (i 1).val < 768 := (i 1).isLt; omega⟩)
def grpW (w : Vec Ideal S4x64x64 .f32) : Fin 4 → Fin 64 → Fin 64 → EReal := fun g k l => w (ix3 g k l)

/-! ### The window of rows -/

theorem word_first : ∀ (g : Fin 4) (t : Fin 2048), IntOp.maxsi (IntOp.subi (IntOp.addi (BitVec.ofNat 32 t.val) 1#32) (IntOp.shli .host 2#32 (BitVec.ofNat 32 g.val))) 0#32
    = BitVec.ofNat 32 (t.val + 1 - 2 ^ (g.val + 1)) := by decide +kernel

theorem first (i : S2048x4.Idx) : val_main_v14 (F := Ideal) i = BitVec.ofNat 32 ((i 0).val + 1 - 2 ^ ((i 1).val + 1)) := by
  simp only [val_main_v14_apply, val_main_v12_apply, val_main_v10_apply, val_main_v8_apply, val_main_v6_apply, val_main_v2_apply, val_main_v7_apply,
    val_main_c_0_apply, val_main_v11_apply, val_main_v9_apply, val_main_v5_apply, val_main_v4_apply, val_main_c_apply, val_main_v3_apply,
    val_main_v13_apply, val_main_c_1_apply]
  exact word_first (i 1) (i 0)

theorem word_count : ∀ (g : Fin 4) (t : Fin 2048), (IntOp.subi (IntOp.addi (BitVec.ofNat 32 t.val) 1#32) (BitVec.ofNat 32 (t.val + 1 - 2 ^ (g.val + 1)))).toInt
    = ((min (t.val + 1) (2 ^ (g.val + 1)) : ℕ) : ℤ) := by decide +kernel

theorem count (i : S2048x4.Idx) : val_main_v20 (F := Ideal) i = cntS (i 0) (i 1) := by
  rw [val_main_v20_apply, val_main_v19_apply, first]
  simp only [val_main_v18_apply, val_main_v17_apply, val_main_v15_apply, val_main_v2_apply, val_main_v16_apply, val_main_c_2_apply]
  refine Eq.trans (show _ = (((_ : BitVec 32).toInt : ℝ) : EReal) from rfl) ?_
  rw [word_count (i 1) (i 0)]
  rfl

/-- The array of zeros and ones: row `t` of group `g`'s window holds row `u`. -/
theorem mask (g : Fin 4) (t u : Fin 2048) : val_main_v34 (F := Ideal) (ix3 g t u) = if u.val ≤ t.val ∧ t.val < u.val + 2 ^ (g.val + 1) then (1 : EReal) else 0 := by
  rw [val_main_v34_apply, val_main_v33_apply, val_main_v26_apply, val_main_v25_apply, val_main_v23_apply, val_main_v22_apply, first]
  simp only [val_main_v24_apply, val_main_v21_apply, val_main_v2_apply, val_main_v32_apply, val_main_v31_apply, val_main_v29_apply, val_main_v27_apply,
    val_main_v30_apply, val_main_v28_apply]
  have ht := t.isLt; have hu := u.isLt
  refine Eq.trans (show _ = (((IntOp.andi (IntOp.cmpi .sge (BitVec.ofNat 32 u.val) (BitVec.ofNat 32 (t.val + 1 - 2 ^ (g.val + 1))))
    (IntOp.cmpi .sle (BitVec.ofNat 32 u.val) (BitVec.ofNat 32 t.val))).toNat : ℝ) : EReal) from rfl) ?_
  generalize 2 ^ (g.val + 1) = n
  rw [cmpi_sge_ofNat (by omega) (by omega), cmpi_sle_ofNat (by omega) (by omega), andi_ofBool]
  by_cases h : u.val ≤ t.val ∧ t.val < u.val + n
  · have e : (decide (t.val + 1 - n ≤ u.val) && decide (u.val ≤ t.val)) = true := by
      rw [decide_eq_true (by omega), decide_eq_true (by omega)]; rfl
    rw [e, if_pos h]
    show (((1 : ℕ) : ℝ) : EReal) = 1
    rw [Nat.cast_one]; rfl
  · have e : (decide (t.val + 1 - n ≤ u.val) && decide (u.val ≤ t.val)) = false := by
      rw [Bool.and_eq_false_iff, decide_eq_false_iff_not, decide_eq_false_iff_not]; omega
    rw [e, if_neg h]
    show (((0 : ℕ) : ℝ) : EReal) = 0
    rw [Nat.cast_zero]; rfl

theorem times_one (a : EReal) (q : Prop) [Decidable q] : (a * if q then (1 : EReal) else 0) = if q then a else 0 := by
  split
  · exact mul_one a
  · exact mul_zero (M₀ := EReal) a

/-! ### The pooled rows -/

theorem ix2_at {a b : ℕ} {i : (⟨2, ![a, b]⟩ : Shape).Idx} {p : Fin a} {q : Fin b} (h0 : (i 0).val = p.val) (h1 : (i 1).val = q.val) : i = ix2 p q := by
  funext x; apply Fin.ext
  match x with
  | ⟨0, _⟩ => exact h0
  | ⟨1, _⟩ => exact h1

theorem ix3_at {a b c : ℕ} {i : (⟨3, ![a, b, c]⟩ : Shape).Idx} {p : Fin a} {q : Fin b} {r : Fin c} (h0 : (i 0).val = p.val) (h1 : (i 1).val = q.val)
    (h2 : (i 2).val = r.val) : i = ix3 p q r := by
  funext x; apply Fin.ext
  match x with
  | ⟨0, _⟩ => exact h0
  | ⟨1, _⟩ => exact h1
  | ⟨2, _⟩ => exact h2

theorem z_at (x0 : Mat 2048 1792) (t : Fin 2048) (g : Fin 4) (k : Fin 64) : val_main_v1 (F := Ideal) x0 (ix3 t g k) = colsB x0 (ix2 t (at64 g k)) := by
  rw [val_main_v1_apply, val_main_v0_apply]
  refine congrArg x0 (ix2_at ?_ ?_)
  · show ((t.val * 4 + g.val) * 64 + k.val) / 256 = t.val; omega
  · show 512 + ((t.val * 4 + g.val) * 64 + k.val) % 256 = 512 + (64 * g.val + k.val); omega

theorem div_of (a b : EReal) : (FloatOps.hostDivf (a : Ideal .f32) (b : Ideal .f32) : Ideal .f32) = Ideal.div a b := rfl

theorem count_at (t : Fin 2048) (g : Fin 4) (k : Fin 64) : val_main_v38 (F := Ideal) (ix3 t g k) = cntS t g := by
  rw [val_main_v38_apply, val_main_v37_apply, count]
  rfl

theorem at64_grp (g : Fin 4) (k : Fin 64) : grp (at64 g k) = g := Fin.ext (by show (64 * g.val + k.val) / 64 = g.val; omega)
theorem at64_pos (g : Fin 4) (k : Fin 64) : pos (at64 g k) = k := Fin.ext (by show (64 * g.val + k.val) % 64 = k.val; omega)
theorem at64_eta (p : Fin 256) : at64 (grp p) (pos p) = p := Fin.ext (by show 64 * (p.val / 64) + p.val % 64 = p.val; omega)
theorem at64_div (g : Fin 4) (k : Fin 64) : (at64 g k).val / 64 = g.val := by show (64 * g.val + k.val) / 64 = g.val; omega

theorem pooled (x0 : Mat 2048 1792) (t : Fin 2048) (g : Fin 4) (k : Fin 64) : val_main_v40 (F := Ideal) x0 (ix3 t g k) = pS (colsB x0) (ix2 t (at64 g k)) := by
  rw [val_main_v40_apply, val_main_v39_apply, count_at, z_at, val_main_v36_apply,
    show idx_main_v36 (ix3 t g k) = ix3 g k t from ix3_at rfl rfl rfl, val_main_v35_apply]
  refine (congrArg (fun s => Ideal.div s (cntS t g) - colsB x0 (ix2 t (at64 g k)))
    (?_ : _ = back (2 ^ (g.val + 1)) (fun u => colsB x0 (ix2 u (at64 g k))) t.val)).trans ?_
  · refine Finset.sum_congr rfl fun u _ => ?_
    rw [show lidx_main_v35 (ix3 g k t) u = ix3 u g k from ix3_at rfl rfl rfl, show ridx_main_v35 (ix3 g k t) u = ix3 g t u from ix3_at rfl rfl rfl,
      z_at, mask, times_one]
  · show _ = Ideal.div (back (2 ^ ((at64 g k).val / 64 + 1)) _ _) (cntS t (grp (at64 g k))) - _
    rw [at64_div, at64_grp]
    rfl

/-- The scaled cotangent, group by group. -/
theorem scaled (x1 : Mat 2048 256) (x4 : Mat 1 256) (g : Fin 4) (k : Fin 64) (t : Fin 2048) :
    val_main_v52 (F := Ideal) x1 x4 (ix3 g k t) = doS x1 x4 (ix2 t (at64 g k)) := by
  rw [val_main_v52_apply, val_main_v51_apply, val_main_v50_apply, val_main_v49_apply]
  have e : idx_main_v51 (idx_main_v52 (ix3 g k t)) = ix2 t (at64 g k) := ix2_at
    (by show ((t.val * 4 + g.val) * 64 + k.val) / 256 = t.val; omega) (by show ((t.val * 4 + g.val) * 64 + k.val) % 256 = 64 * g.val + k.val; omega)
  rw [e]
  exact congrArg (fun q => x1 (ix2 t (at64 g k)) * x4 q) (ix2_at rfl rfl)

/-- The gradient of the scale. -/
theorem dps (x0 : Mat 2048 1792) (x1 : Mat 2048 256) (x3 : Vec Ideal S4x64x64 .f32) :
    val_main_v48 (F := Ideal) x0 x1 x3 = dpsS (colsB x0) x1 (grpW x3) := by
  funext (i : (⟨2, ![1, 256]⟩ : Shape).Idx)
  obtain ⟨o, p, rfl⟩ : ∃ (o : Fin 1) (p : Fin 256), i = ix2 o p := ⟨i 0, i 1, eq_ix2 i⟩
  rw [val_main_v48_apply, val_main_v47_apply]
  refine (congrArg (· + _) (show val_main_cst (F := Ideal) _ = (0 : EReal) from Ideal.ofBits_zero .f32)).trans ((zero_add (M := EReal) _).trans ?_)
  refine Finset.sum_congr rfl fun t _ => ?_
  have e : idx_main_v47 (idx_main_v48 (ix2 o p)) t = ix2 t p := ix2_at rfl (by have := o.isLt; show o.val * 256 + p.val = p.val; omega)
  rw [e, val_main_v46_apply, val_main_v43_apply, val_main_v42_apply, val_main_v41_apply]
  refine (mul_comm (G := EReal) _ _).trans (congrArg (x1 (ix2 t p) * ·) (Finset.sum_congr rfl fun k _ => ?_))
  refine (mul_comm (G := EReal) _ _).trans (congrArg₂ (· * ·) ?_ ?_)
  · rw [← pooled]
    exact congrArg _ (ix3_at (by show (t.val * 256 + p.val) / 256 = t.val; omega) (by show (t.val * 256 + p.val) / 64 % 4 = p.val / 64; omega) rfl)
  · exact congrArg x3 (ix3_at (by show (t.val * 256 + p.val) / 64 % 4 = p.val / 64; omega) rfl (by show (t.val * 256 + p.val) % 64 = p.val % 64; omega))

/-- The gradient of what the product was given. -/
theorem dp (x1 : Mat 2048 256) (x3 : Vec Ideal S4x64x64 .f32) (x4 : Mat 1 256) (t : Fin 2048) (g : Fin 4) (k : Fin 64) :
    val_main_v54 (F := Ideal) x1 x3 x4 (ix3 t g k) = dpS x1 x4 (grpW x3) (ix2 t (at64 g k)) := by
  rw [val_main_v54_apply, show idx_main_v54 (ix3 t g k) = ix3 g t k from ix3_at rfl rfl rfl, val_main_v53_apply]
  refine Finset.sum_congr rfl fun l _ => ?_
  rw [show lidx_main_v53 (ix3 g t k) l = ix3 g l t from ix3_at rfl rfl rfl, show ridx_main_v53 (ix3 g t k) l = ix3 g k l from ix3_at rfl rfl rfl, scaled]
  show _ = doS x1 x4 (ix2 t (at64 (grp (at64 g k)) l)) * x3 (ix3 (grp (at64 g k)) (pos (at64 g k)) l)
  rw [at64_grp, at64_pos]

/-- The gradient of the pooled columns. -/
theorem dzb (x1 : Mat 2048 256) (x3 : Vec Ideal S4x64x64 .f32) (x4 : Mat 1 256) :
    val_main_v64 (F := Ideal) x1 x3 x4 = dzbS x1 x4 (grpW x3) := by
  funext (i : (⟨2, ![2048, 256]⟩ : Shape).Idx)
  obtain ⟨t, p, rfl⟩ : ∃ (t : Fin 2048) (p : Fin 256), i = ix2 t p := ⟨i 0, i 1, eq_ix2 i⟩
  have e : idx_main_v64 (ix2 t p) = ix3 t (grp p) (pos p) := ix3_at (by show (t.val * 256 + p.val) / 256 = t.val; omega)
    (by show (t.val * 256 + p.val) / 64 % 4 = p.val / 64; omega) (by show (t.val * 256 + p.val) % 64 = p.val % 64; omega)
  rw [val_main_v64_apply, e, val_main_v63_apply, val_main_v57_apply, dp, at64_eta, val_main_v62_apply,
    show idx_main_v62 (ix3 t (grp p) (pos p)) = ix3 (grp p) (pos p) t from ix3_at rfl rfl rfl, val_main_v61_apply]
  refine (add_comm (G := EReal) _ _).trans ?_
  refine congrArg (fun s : EReal => s + - dpS x1 x4 (grpW x3) (ix2 t p)) ?_
  unfold aheadM ahead
  refine Finset.sum_congr rfl fun u _ => ?_
  rw [show lidx_main_v61 (ix3 (grp p) (pos p) t) u = ix3 (grp p) (pos p) u from ix3_at rfl rfl rfl,
    show ridx_main_v61 (ix3 (grp p) (pos p) t) u = ix3 (grp p) u t from ix3_at rfl rfl rfl, mask, times_one, val_main_v60_apply,
    show idx_main_v60 (ix3 (grp p) (pos p) u) = ix3 u (grp p) (pos p) from ix3_at rfl rfl rfl, val_main_v59_apply, dp, at64_eta]
  rw [show val_main_v58 (F := Ideal) (ix3 u (grp p) (pos p)) = cntS u (grp p) from by rw [val_main_v58_apply]; exact count_at _ _ _]
  rfl

/-- The gradient of the weights, spread over the diagonal. -/
theorem word_same : ∀ a b : Fin 4, IntOp.cmpi .eq (IntOp.addi (BitVec.ofNat 32 a.val) 0#32) (BitVec.ofNat 32 b.val) = BitVec.ofBool (decide (a = b)) := by decide

theorem dw (x0 : Mat 2048 1792) (x1 : Mat 2048 256) (x4 : Mat 1 256) : val_main_v141 (F := Ideal) x0 x1 x4 = dwS (colsB x0) x1 x4 := by
  funext (i : (⟨2, ![256, 256]⟩ : Shape).Idx)
  obtain ⟨p, q, rfl⟩ : ∃ (p : Fin 256) (q : Fin 256), i = ix2 p q := ⟨i 0, i 1, eq_ix2 i⟩
  have h0 : (p.val * 256 + q.val) / 16384 = p.val / 64 := by omega
  have h1 : (p.val * 256 + q.val) / 256 % 64 = p.val % 64 := by omega
  have h2 : (p.val * 256 + q.val) / 64 % 4 = q.val / 64 := by omega
  have h3 : (p.val * 256 + q.val) % 64 = q.val % 64 := by omega
  rw [val_main_v141_apply, val_main_v140_apply, val_main_call0_v1_apply, val_main_v138_apply, val_main_call0_v2_apply, val_main_v139_apply,
    val_main_call0_v3_apply]
  rw [show idx_main_v138 (idx_main_call0_v1 (idx_main_v141 (ix2 p q))) = ix2 (grp p) (grp q) from ix2_at h0 h2,
    show idx_main_v139 (idx_main_call0_v2 (idx_main_v141 (ix2 p q))) = ix3 (grp p) (pos p) (pos q) from ix3_at h0 h1 h3,
    val_main_v137_apply, val_main_v136_apply]
  simp only [val_main_v133_apply, val_main_v134_apply, val_main_v135_apply, val_main_c_17_apply]
  refine (congrArg (fun c => Scalar.select c _ _) (word_same (grp p) (grp q))).trans ?_
  by_cases h : grp p = grp q
  · rw [decide_eq_true h]
    refine Eq.trans (show _ = val_main_v56 (F := Ideal) x0 x1 x4 (ix3 (grp p) (pos p) (pos q)) from rfl) (Eq.trans ?_ (if_pos h).symm)
    rw [val_main_v56_apply, show idx_main_v56 (ix3 (grp p) (pos p) (pos q)) = ix3 (grp p) (pos q) (pos p) from ix3_at rfl rfl rfl, val_main_v55_apply]
    refine Finset.sum_congr rfl fun t _ => ?_
    rw [show lidx_main_v55 (ix3 (grp p) (pos q) (pos p)) t = ix3 (grp p) (pos q) t from ix3_at rfl rfl rfl,
      show ridx_main_v55 (ix3 (grp p) (pos q) (pos p)) t = ix3 t (grp p) (pos p) from ix3_at rfl rfl rfl, scaled, pooled, at64_eta, h, at64_eta]
    exact mul_comm (G := EReal) _ _
  · rw [decide_eq_false h]
    exact (show _ = Ideal.ofBits .f32 0x00000000#32 from rfl).trans ((Ideal.ofBits_zero _).trans (if_neg h).symm)

end Cert.PoolBwd.Ref

end
-- ==== Proof.PoolConvRef.lean ====
/- The convolution part of the reference, element by element: the same mathematics as the kernel's arrays. A row shifted past the
   first or the last row is a row of zeros. -/
module

public import proofs.«01_k».proof.Proof.PoolRef

@[expose] public section

set_option maxRecDepth 16384

noncomputable section

namespace Cert.PoolBwd.Ref

open Cert.Reference6Ideal Cert.Reference6Ideal.Gen Cert.Reference6Ideal.Read Cert.FfnBwd
open Cert.PoolBwd
open Idealize.ShloMosaic

/-! ### Rows put among zeros -/

section
variable {a b n lo hi : ℕ} (x : (⟨2, ![a, b]⟩ : Shape).Idx → EReal) (v : S_.Idx → EReal)
  (h : (⟨2, ![a, b]⟩ : Shape).Pads (![lo, 0] : Fin 2 → ℕ) ![hi, 0] ![0, 0] ⟨2, ![n, b]⟩) (hu : 0 < S_.numel) (p : Fin n) (k : Fin b)

theorem pad_in (q : Fin a) (e : p.val = lo + q.val) : pad (⟨2, ![n, b]⟩ : Shape) ![lo, 0] ![hi, 0] ![0, 0] x v h hu (ix2 p k) = x (ix2 q k) :=
  pad_apply_of_inside _ _ _ x v h hu (ix2 p k) (ix2 q k) fun a => match a with
    | ⟨0, _⟩ => by show p.val = lo + q.val * (0 + 1); omega
    | ⟨1, _⟩ => by show k.val = 0 + k.val * (0 + 1); omega

theorem pad_out (e : p.val < lo ∨ lo + a ≤ p.val) : pad (⟨2, ![n, b]⟩ : Shape) ![lo, 0] ![hi, 0] ![0, 0] x v h hu (ix2 p k) = v (Shape.Idx.first hu) :=
  pad_apply_of_not_inside _ _ _ x v h hu (ix2 p k) 0 (by
    show ¬(lo ≤ p.val ∧ (p.val - lo) % (0 + 1) = 0 ∧ (p.val - lo) / (0 + 1) < a)
    rw [Nat.zero_add, Nat.div_one]; omega)
end

theorem zeroE : Ideal.ofBits .f32 0x00000000#32 = (0 : EReal) := Ideal.ofBits_zero .f32

variable (x0 : Mat 2048 1792) (x2 : Mat 2048 256) (x5 : Mat 3 256)

/-! ### The convolution -/

theorem gate (t : Fin 2048) (k : Fin 256) : val_main_v66 (F := Ideal) x0 (ix2 t k) = partS 0 (colsC x0) (ix2 t k) := by
  rw [val_main_v66_apply, val_main_v65_apply]
  exact congrArg x0 (ix2_at rfl (by show 768 + k.val = 768 + (256 * 0 + k.val); omega))
theorem gate2 (t : Fin 2048) (k : Fin 256) : val_main_v67 (F := Ideal) x0 (ix2 t k) = partS 1 (colsC x0) (ix2 t k) := by
  rw [val_main_v67_apply, val_main_v65_apply]
  exact congrArg x0 (ix2_at rfl (by show 768 + (256 + k.val) = 768 + (256 * 1 + k.val); omega))
theorem value (t : Fin 2048) (k : Fin 256) : val_main_v68 (F := Ideal) x0 (ix2 t k) = partS 2 (colsC x0) (ix2 t k) := by
  rw [val_main_v68_apply, val_main_v65_apply]
  exact congrArg x0 (ix2_at rfl (by show 768 + (512 + k.val) = 768 + (256 * 2 + k.val); omega))

theorem gated (t : Fin 2048) (k : Fin 256) : val_main_v69 (F := Ideal) x0 (ix2 t k) = yS (colsC x0) (ix2 t k) := by
  rw [val_main_v69_apply, gate2, value]; rfl

theorem late_in (n : Fin 2050) (k : Fin 256) (t : Fin 2048) (e : n.val = 2 + t.val) : val_main_v72 (F := Ideal) x0 (ix2 n k) = yS (colsC x0) (ix2 t k) := by
  rw [← gated]
  unfold val_main_v72
  generalize val_main_v69 (F := Ideal) x0 = y
  pointwise
  rw [dif_neg (by omega)]
  exact congrArg (fun q => y (ix2 q k)) (Fin.ext (by show n.val - 2 = t.val; omega))

theorem late_out (n : Fin 2050) (k : Fin 256) (e : n.val < 2) : val_main_v72 (F := Ideal) x0 (ix2 n k) = 0 := by
  unfold val_main_v72
  generalize val_main_v69 (F := Ideal) x0 = y
  pointwise
  rw [dif_pos (by omega), val_main_v71_apply]
  exact zeroE

theorem dn2 (t : Fin 2048) (k : Fin 256) : val_main_v76 (F := Ideal) x0 (ix2 t k) = dnS 2 (yS (colsC x0)) (ix2 t k) := by
  rw [val_main_v76_apply, show idx_main_v76 (ix2 t k) = ix2 ⟨t.val, by omega⟩ k from ix2_at rfl rfl]
  by_cases h : t.val < 2
  · exact (late_out x0 _ k h).trans (if_pos h).symm
  · exact (late_in x0 _ k ⟨t.val - 2, by omega⟩ (by show t.val = 2 + (t.val - 2); omega)).trans (if_neg h).symm
theorem dn1 (t : Fin 2048) (k : Fin 256) : val_main_v82 (F := Ideal) x0 (ix2 t k) = dnS 1 (yS (colsC x0)) (ix2 t k) := by
  rw [val_main_v82_apply, show idx_main_v82 (ix2 t k) = ix2 ⟨1 + t.val, by omega⟩ k from ix2_at rfl rfl]
  by_cases h : t.val < 1
  · exact (late_out x0 _ k (by show 1 + t.val < 2; omega)).trans (if_pos h).symm
  · exact (late_in x0 _ k ⟨t.val - 1, by omega⟩ (by show 1 + t.val = 2 + (t.val - 1); omega)).trans (if_neg h).symm
theorem dn0 (t : Fin 2048) (k : Fin 256) : val_main_v89 (F := Ideal) x0 (ix2 t k) = yS (colsC x0) (ix2 t k) := by
  rw [val_main_v89_apply, show idx_main_v89 (ix2 t k) = ix2 ⟨2 + t.val, by omega⟩ k from ix2_at rfl rfl]
  exact late_in x0 _ k t rfl

theorem w0 (i : S1x256.Idx) : val_main_v77 (F := Ideal) x5 i = x5 (ix2 0 (i 1)) := by
  rw [val_main_v77_apply, val_main_v75_apply, val_main_v74_apply]
  exact congrArg x5 (ix2_at rfl (Nat.mod_eq_of_lt (i 1).isLt))
theorem w1 (i : S1x256.Idx) : val_main_v83 (F := Ideal) x5 i = x5 (ix2 1 (i 1)) := by
  rw [val_main_v83_apply, val_main_v81_apply, val_main_v80_apply]
  exact congrArg x5 (ix2_at rfl (Nat.mod_eq_of_lt (i 1).isLt))
theorem w2 (i : S1x256.Idx) : val_main_v90 (F := Ideal) x5 i = x5 (ix2 2 (i 1)) := by
  rw [val_main_v90_apply, val_main_v88_apply, val_main_v87_apply]
  exact congrArg x5 (ix2_at rfl (Nat.mod_eq_of_lt (i 1).isLt))

theorem conv (t : Fin 2048) (k : Fin 256) : val_main_v93 (F := Ideal) x0 x5 (ix2 t k) = convS (colsC x0) x5 (ix2 t k) := by
  rw [val_main_v93_apply, val_main_v86_apply, val_main_v79_apply, val_main_v85_apply, val_main_v92_apply, val_main_v78_apply, val_main_v84_apply,
    val_main_v91_apply, w0, w1, w2, dn0, dn1, dn2]
  show (x5 (ix2 0 k) * dnS 2 (yS (colsC x0)) (ix2 t k) + x5 (ix2 1 k) * dnS 1 (yS (colsC x0)) (ix2 t k) + x5 (ix2 2 k) * yS (colsC x0) (ix2 t k) : EReal)
    = x5 (ix2 2 k) * yS (colsC x0) (ix2 t k) + x5 (ix2 1 k) * dnS 1 (yS (colsC x0)) (ix2 t k) + x5 (ix2 0 k) * dnS 2 (yS (colsC x0)) (ix2 t k)
  ac_rfl

/-! ### Its gradients -/

theorem cot (t : Fin 2048) (k : Fin 256) : val_main_v95 (F := Ideal) x0 x2 (ix2 t k) = dcS (colsC x0) x2 (ix2 t k) := by
  rw [val_main_v95_apply, gate]
  exact mul_comm (G := EReal) _ _

theorem cot2 (t : Fin 2048) (k : Fin 256) : val_main_v98 (F := Ideal) x0 x2 x5 (ix2 t k) = x5 (ix2 2 k) * dcS (colsC x0) x2 (ix2 t k) := by
  rw [val_main_v98_apply, val_main_v97_apply, w2, cot]; rfl
theorem cot1 (t : Fin 2048) (k : Fin 256) : val_main_v107 (F := Ideal) x0 x2 x5 (ix2 t k) = x5 (ix2 1 k) * dcS (colsC x0) x2 (ix2 t k) := by
  rw [val_main_v107_apply, val_main_v106_apply, w1, cot]; rfl
theorem cot0 (t : Fin 2048) (k : Fin 256) : val_main_v118 (F := Ideal) x0 x2 x5 (ix2 t k) = x5 (ix2 0 k) * dcS (colsC x0) x2 (ix2 t k) := by
  rw [val_main_v118_apply, val_main_v117_apply, w0, cot]; rfl

theorem dy (t : Fin 2048) (k : Fin 256) : val_main_v129 (F := Ideal) x0 x2 x5 (ix2 t k) = dyS (colsC x0) x2 x5 (ix2 t k) := by
  have ht := t.isLt
  rw [val_main_v129_apply, show idx_main_v129 (ix2 t k) = ix2 ⟨2 + t.val, by omega⟩ k from ix2_at rfl rfl, val_main_v124_apply, val_main_v113_apply]
  unfold val_main_v103 val_main_v112 val_main_v123
  refine congrArg₂ (· + ·) (congrArg₂ (· + ·) ?_ ?_) ?_
  · exact (pad_in _ _ _ _ _ k t rfl).trans (cot2 x0 x2 x5 t k)
  · by_cases h : t.val + 1 < 2048
    · refine (pad_in _ _ _ _ _ k ⟨t.val + 1, h⟩ (by show 2 + t.val = 1 + (t.val + 1); omega)).trans ((cot1 x0 x2 x5 _ k).trans ?_)
      exact congrArg (x5 (ix2 1 k) * ·) (show upS 1 (dcS (colsC x0) x2) (ix2 t k) = _ from dif_pos h).symm
    · refine (pad_out _ _ _ _ _ k (Or.inr (by show 1 + 2048 ≤ 2 + t.val; omega))).trans (zeroE.trans ?_)
      exact ((congrArg (x5 (ix2 1 k) * ·) (show upS 1 (dcS (colsC x0) x2) (ix2 t k) = 0 from dif_neg h)).trans (mul_zero (M₀ := EReal) _)).symm
  · by_cases h : t.val + 2 < 2048
    · refine (pad_in _ _ _ _ _ k ⟨t.val + 2, h⟩ (by show 2 + t.val = 0 + (t.val + 2); omega)).trans ((cot0 x0 x2 x5 _ k).trans ?_)
      exact congrArg (x5 (ix2 0 k) * ·) (show upS 2 (dcS (colsC x0) x2) (ix2 t k) = _ from dif_pos h).symm
    · refine (pad_out _ _ _ _ _ k (Or.inr (by show 0 + 2048 ≤ 2 + t.val; omega))).trans (zeroE.trans ?_)
      exact ((congrArg (x5 (ix2 0 k) * ·) (show upS 2 (dcS (colsC x0) x2) (ix2 t k) = 0 from dif_neg h)).trans (mul_zero (M₀ := EReal) _)).symm

/-- The gradient of the convolution's columns. -/
theorem dzc : val_main_v132 (F := Ideal) x0 x2 x5 = dzcS (colsC x0) x2 x5 := by
  funext (i : (⟨2, ![2048, 768]⟩ : Shape).Idx)
  obtain ⟨t, q, rfl⟩ : ∃ (t : Fin 2048) (q : Fin 768), i = ix2 t q := ⟨i 0, i 1, eq_ix2 i⟩
  have e1 : ∀ j : Fin 256, val_main_v96 (F := Ideal) x0 x2 x5 (ix2 t j) = x2 (ix2 t j) * convS (colsC x0) x5 (ix2 t j) := fun j => by
    rw [val_main_v96_apply, conv]; rfl
  have e2 : ∀ j : Fin 256, val_main_v131 (F := Ideal) x0 x2 x5 (ix2 t j) = dyS (colsC x0) x2 x5 (ix2 t j) * partS 2 (colsC x0) (ix2 t j) := fun j => by
    rw [val_main_v131_apply, dy, value]; rfl
  have e3 : ∀ j : Fin 256, val_main_v130 (F := Ideal) x0 x2 x5 (ix2 t j) = dyS (colsC x0) x2 x5 (ix2 t j) * partS 1 (colsC x0) (ix2 t j) := fun j => by
    rw [val_main_v130_apply, dy, gate2]; exact mul_comm (G := EReal) _ _
  refine eq_side (val_main_v132 (F := Ideal) x0 x2 x5) _ _ _ t (fun j => Eq.trans ?_ (e1 j)) (fun j => Eq.trans ?_ (e2 j)) (fun j => Eq.trans ?_ (e3 j)) q
  all_goals
    unfold val_main_v132
    generalize val_main_v96 (F := Ideal) x0 x2 x5 = a
    generalize val_main_v131 (F := Ideal) x0 x2 x5 = b
    generalize val_main_v130 (F := Ideal) x0 x2 x5 = d
  · pointwise
  · pointwise
  · pointwise
    refine (dif_neg (by omega)).trans ((dif_neg (by omega)).trans ?_)
    exact congrArg (fun q => d (ix2 t q)) (Fin.ext (Nat.add_sub_cancel_left (n := 512) (m := j.val)) : (⟨512 + j.val - 256 - 256, by omega⟩ : Fin 256) = j)

/-- A sum over the rows, then over the one row that it is. -/
theorem one_row {u : EReal} (f : Fin 1 → EReal) (e : f 0 = u) : (Ideal.ofBits .f32 0x00000000#32 + ∑ k : Fin 1, f k : EReal) = u := by
  rw [Fin.sum_univ_one, e, zeroE, zero_add]

theorem sum2 (k : Fin 256) : val_main_v104 (F := Ideal) x0 x2 (ix2 0 k) = ∑ t : Fin 2048, dcS (colsC x0) x2 (ix2 t k) * yS (colsC x0) (ix2 t k) := by
  rw [val_main_v104_apply, val_main_v102_apply]
  refine one_row _ ?_
  rw [val_main_v101_apply, val_main_v100_apply]
  refine (congrArg (· + _) (show val_main_cst_5 (F := Ideal) _ = (0 : EReal) from zeroE)).trans ((zero_add (M := EReal) _).trans ?_)
  refine Finset.sum_congr rfl fun t _ => ?_
  rw [show idx_main_v100 (idx_main_v101 (idx_main_v102 (idx_main_v104 (ix2 0 k)) 0)) t = ix2 t k from ix2_at rfl (by show 0 * 256 + k.val = k.val; omega),
    val_main_v99_apply, cot, dn0]
  rfl
theorem sum1 (k : Fin 256) : val_main_v114 (F := Ideal) x0 x2 (ix2 0 k) = ∑ t : Fin 2048, dcS (colsC x0) x2 (ix2 t k) * dnS 1 (yS (colsC x0)) (ix2 t k) := by
  rw [val_main_v114_apply, val_main_v111_apply]
  refine one_row _ ?_
  rw [val_main_v110_apply, val_main_v109_apply]
  refine (congrArg (· + _) (show val_main_cst_9 (F := Ideal) _ = (0 : EReal) from zeroE)).trans ((zero_add (M := EReal) _).trans ?_)
  refine Finset.sum_congr rfl fun t _ => ?_
  rw [show idx_main_v109 (idx_main_v110 (idx_main_v111 (idx_main_v114 (ix2 0 k)) 0)) t = ix2 t k from ix2_at rfl (by show 0 * 256 + k.val = k.val; omega),
    val_main_v108_apply, cot, dn1]
  rfl
theorem sum0 (k : Fin 256) : val_main_v125 (F := Ideal) x0 x2 (ix2 0 k) = ∑ t : Fin 2048, dcS (colsC x0) x2 (ix2 t k) * dnS 2 (yS (colsC x0)) (ix2 t k) := by
  rw [val_main_v125_apply, val_main_v122_apply]
  refine one_row _ ?_
  rw [val_main_v121_apply, val_main_v120_apply]
  refine (congrArg (· + _) (show val_main_cst_13 (F := Ideal) _ = (0 : EReal) from zeroE)).trans ((zero_add (M := EReal) _).trans ?_)
  refine Finset.sum_congr rfl fun t _ => ?_
  rw [show idx_main_v120 (idx_main_v121 (idx_main_v122 (idx_main_v125 (ix2 0 k)) 0)) t = ix2 t k from ix2_at rfl (by show 0 * 256 + k.val = k.val; omega),
    val_main_v119_apply, cot, dn2]
  rfl

/-- The three rows of the convolution weights' gradient. -/
theorem three (r : Fin 3) (k : Fin 256) : val_main_v127 (F := Ideal) x0 x2 (ix2 r k) = dcwR (colsC x0) x2 ⟨r.val, by omega⟩ k := by
  have hr := r.isLt
  rw [val_main_v127_apply, val_main_v116_apply]
  unfold val_main_v105 val_main_v115 val_main_v126
  have z1 : ∀ a : EReal, (a + 0 : EReal) = a := fun a => add_zero a
  have z2 : ∀ a : EReal, (0 + a : EReal) = a := fun a => zero_add a
  unfold dcwR
  match r with
  | ⟨0, _⟩ =>
    refine (congrArg₂ (· + ·) (congrArg₂ (· + ·) ((pad_out _ _ _ _ _ k (Or.inl (by show 0 < 2; omega))).trans zeroE)
      ((pad_out _ _ _ _ _ k (Or.inl (by show 0 < 1; omega))).trans zeroE)) ((pad_in _ _ _ _ _ k 0 rfl).trans (sum0 x0 x2 k))).trans ?_
    exact (congrArg (· + _) (z1 0)).trans (z2 _)
  | ⟨1, _⟩ =>
    refine (congrArg₂ (· + ·) (congrArg₂ (· + ·) ((pad_out _ _ _ _ _ k (Or.inl (by show 1 < 2; omega))).trans zeroE)
      ((pad_in _ _ _ _ _ k 0 rfl).trans (sum1 x0 x2 k))) ((pad_out _ _ _ _ _ k (Or.inr (by show 0 + 1 ≤ 1; omega))).trans zeroE)).trans ?_
    exact (z1 _).trans (z2 _)
  | ⟨2, _⟩ =>
    refine (congrArg₂ (· + ·) (congrArg₂ (· + ·) ((pad_in _ _ _ _ _ k 0 rfl).trans (sum2 x0 x2 k))
      ((pad_out _ _ _ _ _ k (Or.inr (by show 1 + 1 ≤ 2; omega))).trans zeroE)) ((pad_out _ _ _ _ _ k (Or.inr (by show 0 + 1 ≤ 2; omega))).trans zeroE)).trans ?_
    exact (z1 _).trans (z1 _)

/-- The gradient of the convolution's weights, over rows of zeros. -/
theorem dcw : val_main_v143 (F := Ideal) x0 x2 = dcwS (colsC x0) x2 := by
  funext (i : (⟨2, ![8, 256]⟩ : Shape).Idx)
  obtain ⟨r, k, rfl⟩ : ∃ (r : Fin 8) (k : Fin 256), i = ix2 r k := ⟨i 0, i 1, eq_ix2 i⟩
  show _ = dcwR (colsC x0) x2 r k
  by_cases h : r.val < 3
  · refine Eq.trans ?_ (three x0 x2 ⟨r.val, h⟩ k)
    unfold val_main_v143
    generalize val_main_v127 (F := Ideal) x0 x2 = y
    pointwise
    exact dif_pos h
  · refine Eq.trans (b := (0 : EReal)) ?_ ?_
    · unfold val_main_v143
      generalize val_main_v127 (F := Ideal) x0 x2 = y
      pointwise
      rw [dif_neg (by omega), val_main_v142_apply]
      exact zeroE
    · unfold dcwR
      rw [if_neg (by omega), if_neg (by omega), if_neg (by omega)]

end Cert.PoolBwd.Ref

end
-- ==== Proof.PoolKernel.lean ====
/- The frame of the pooling and convolution gradient on words. The run is proved once, over any float values, and the two programs have the same text. -/
module

public import proofs.«01_k».proof.Defs
public import proofs.«01_k».proof.Proof.PoolArrays
public import proofs.«01_k».proof.Proof.Gen.Kernel6

@[expose] public section

noncomputable section

namespace Cert.PoolBwd

open Idealize.ShloMosaic Idealize.SL.Sem

attribute [local instance] Cert.Kernel6.Gen.facts

theorem body_text : @Cert.Kernel6.cc0_poolconv_bwd Bits _ _ = @Cert.Kernel6Ideal.cc0_poolconv_bwd Bits _ _ := rfl

set_option maxHeartbeats 4000000 in
theorem bodies_text : Cert.Kernel6.defs₀ (F := Bits) = Cert.Kernel6Ideal.defs₀ (F := Bits) := by
  refine congrArg Defs.onTc ?_
  funext l x
  match l, x with
  | ⟨0, _⟩, (t, s) => rfl

theorem defs_text : Cert.Kernel6.defs (F := Bits) = Cert.Kernel6Ideal.defs (F := Bits) := congrArg (Pipeline.defs _) bodies_text

theorem frame_kernel : Cert.quiescent_Kernel6 := by
  intro m ρ _
  rw [defs_text]
  exact (θ_run Cert.Kernel6Ideal.defs _ _).mono (fun _ h => h) (Cert.Kernel6Ideal.Gen.frame (F := Bits) m ρ)

end Cert.PoolBwd

end
-- ==== Proof.MixOutSpec.lean ====
/- The mathematics of the mixers' joined outputs, over the extended reals, row by row: the last mixer's gated unit, the norm of
   each mixer's 256 columns, and the joined row. -/
module

public import proofs.«01_k».proof.Proof.NormSpec

@[expose] public section

noncomputable section

namespace Cert.MixOut

open Idealize.ShloMosaic Cert.FfnBwd Cert.FfnFwd

/-- A row of 256 columns. -/
abbrev Row : Type := Fin 256 → EReal

/-- The literals of the GELU: the root of 2/π and the cubic's coefficient; and 256, the row's length. -/
abbrev rootE : EReal := Ideal.ofBits .f32 0x3F4C422A#32
abbrev cubE : EReal := Ideal.ofBits .f32 0x3D372713#32
abbrev widE : EReal := Ideal.ofBits .f32 0x43800000#32

/-- The hyperbolic tangent inside the GELU, and the GELU. -/
def tanS (x : EReal) : EReal := Ideal.tanh (rootE * (x + cubE * x * x * x))
def geluS (x : EReal) : EReal := halfE * x * (1 + tanS x)

/-- The gate of the last mixer's output, and that output. -/
def gateR (y : Row) (w : Mat 256 256) (b : Mat 1 256) : Row := fun p => Ideal.logistic ((∑ l : Fin 256, geluS (y l) * w (ix2 l p)) + b (ix2 0 p))
def ydR (y : Row) (w : Mat 256 256) (b : Mat 1 256) : Row := fun p => geluS (y p) * gateR y w b p

/-- The reciprocal of a row's root mean square, and the normed row. -/
def rR (y : Row) : EReal := Ideal.rsqrt (Ideal.div (∑ l : Fin 256, y l * y l) widE + epsE)
def hatR (y : Row) : Row := fun p => y p * rR y

/-- Column `p` of mixer `q` in the joined row. -/
def col (q : Fin 4) (p : Fin 256) : Fin 1024 := ⟨q.val * 256 + p.val, by omega⟩
def grp (k : Fin 1024) : Fin 4 := ⟨k.val / 256, by omega⟩
def pos (k : Fin 1024) : Fin 256 := ⟨k.val % 256, by omega⟩

theorem col_grp_pos (k : Fin 1024) : col (grp k) (pos k) = k := Fin.ext (by show k.val / 256 * 256 + k.val % 256 = k.val; omega)
theorem grp_col (q : Fin 4) (p : Fin 256) : grp (col q p) = q := Fin.ext (by show (q.val * 256 + p.val) / 256 = q.val; omega)
theorem pos_col (q : Fin 4) (p : Fin 256) : pos (col q p) = p := Fin.ext (by show (q.val * 256 + p.val) % 256 = p.val; omega)

/-- The four mixers' rows, the last through its gated unit. -/
def four (a b c y : Row) (w : Mat 256 256) (d : Mat 1 256) : Fin 4 → Row
  | 0 => a
  | 1 => b
  | 2 => c
  | 3 => ydR y w d

/-- The joined row: each mixer's row normed, and scaled by the gain. -/
def joinR (f : Fin 4 → Row) (g : Mat 1 1024) (k : Fin 1024) : EReal := hatR (f (grp k)) (pos k) * g (ix2 0 k)

theorem joinR_col (f : Fin 4 → Row) (g : Mat 1 1024) (q : Fin 4) (p : Fin 256) : joinR f g (col q p) = hatR (f q) p * g (ix2 0 (col q p)) := by
  unfold joinR; rw [grp_col, pos_col]

/-- Row `r` of an array of 256 columns, and the four mixers' rows of four arrays. -/
def rowOf {n : ℕ} (x : Mat n 256) (r : Fin n) : Row := fun p => x (ix2 r p)
def rows4 {n : ℕ} (a b c y : Mat n 256) (w : Mat 256 256) (d : Mat 1 256) (r : Fin n) : Fin 4 → Row :=
  four (rowOf a r) (rowOf b r) (rowOf c r) (rowOf y r) w d

/-- The product of the joined rows with the output weights; and the input plus the gate times it. -/
def mS {n : ℕ} (a b c y : Mat n 256) (w : Mat 256 256) (d : Mat 1 256) (g : Mat 1 1024) (wo : Mat 1024 1024) : Mat n 1024 := fun i =>
  ∑ k : Fin 1024, joinR (rows4 a b c y w d (i 0)) g k * wo (ix2 k (i 1))
def xS {n : ℕ} (m x : Mat n 1024) (ga : Mat 1 1024) : Mat n 1024 := fun i => x i + ga (ix2 0 (i 1)) * m i

end Cert.MixOut

end
-- ==== Proof.OutFwdPay.lean ====
/- What one block of the mixers' output product computes, element by element. -/
module

public import proofs.«01_k».proof.Proof.Gen.Kernel7Ideal.Frame
public import proofs.«01_k».proof.Proof.MixOutSpec
public import proofs.«01_k».proof.Proof.Whole

@[expose] public section

set_option maxRecDepth 16384

noncomputable section

namespace Cert.OutFwd

open Cert.Kernel7Ideal Cert.Kernel7Ideal.Gen Cert.Whole Cert.FfnBwd Cert.FfnFwd Cert.MixOut
open Idealize.ShloMosaic

/-- The last mixer's output. -/
theorem pay2_apply (y : Vec Ideal S1024x256 .f32) (w : Vec Ideal S256x256 .f32) (b : Vec Ideal S1x256 .f32) (r : Fin 1024) (p : Fin 256) :
    k0_pay2 y w b (ix2 r p) = ydR (rowOf y r) w b p := by
  unfold k0_pay2; pointwise; rfl

/-- A normed row. -/
theorem pay3_apply (y : Vec Ideal S1024x256 .f32) (r : Fin 1024) (p : Fin 256) : k0_pay3 y (ix2 r p) = hatR (rowOf y r) p := by
  unfold k0_pay3; pointwise; rfl

/-- One mixer's part of the joined row. -/
theorem piece {x : Mat 1024 256} {g : Mat 1 1024} {r : Fin 1024} {q : Fin 4} {p : Fin 256} (f : Fin 4 → Row) (h : rowOf x r = f q) (p' : Fin 256) (k : Fin 1024)
    (hp : p' = p) (hk : k = col q p) :
    x (ix2 r p') * Ideal.rsqrt (Ideal.div (∑ l, x (ix2 r l) * x (ix2 r l)) widE + epsE) * g (ix2 0 k) = hatR (f q) p * g (ix2 0 (col q p)) := by
  subst hp hk
  rw [← h]
  rfl

/-- The product of the joined rows with the weights. -/
theorem pay4_apply (a b c y : Vec Ideal S1024x256 .f32) (g : Vec Ideal S1x1024 .f32) (wo : Vec Ideal S1024x1024 .bf16)
    (r : Fin 1024) (j : Fin 1024) (f : Fin 4 → Row) (h0 : rowOf a r = f 0) (h1 : rowOf b r = f 1) (h2 : rowOf c r = f 2) (h3 : rowOf y r = f 3) :
    k0_pay4 y b c g (k0_pay3 a) wo (ix2 r j) = ∑ k : Fin 1024, joinR f g k * wo (ix2 k j) := by
  unfold k0_pay4
  pointwise
  refine Finset.sum_congr rfl fun k _ => congrArg (· * _) ?_
  obtain ⟨q, p, rfl⟩ : ∃ q p, col q p = k := ⟨_, _, col_grp_pos k⟩
  rw [joinR_col]
  match q with
  | 0 =>
    rw [dif_pos (show (col 0 p).val < 256 by show 0 * 256 + p.val < 256; omega), pay3_apply]
    exact piece f h0 _ _ (Fin.ext (by show 0 * 256 + p.val = p.val; omega)) rfl
  | 1 =>
    rw [dif_neg (show ¬ (col 1 p).val < 256 by show ¬ 1 * 256 + p.val < 256; omega), dif_pos (show (col 1 p).val - 256 < 256 by show 1 * 256 + p.val - 256 < 256; omega)]
    exact piece f h1 _ _ (Fin.ext (by show 1 * 256 + p.val - 256 = p.val; omega)) (Fin.ext (by show 256 + (1 * 256 + p.val - 256) = 1 * 256 + p.val; omega))
  | 2 =>
    rw [dif_neg (show ¬ (col 2 p).val < 256 by show ¬ 2 * 256 + p.val < 256; omega), dif_neg (show ¬ (col 2 p).val - 256 < 256 by show ¬ 2 * 256 + p.val - 256 < 256; omega),
      dif_pos (show (col 2 p).val - 256 - 256 < 256 by show 2 * 256 + p.val - 256 - 256 < 256; omega)]
    exact piece f h2 _ _ (Fin.ext (by show 2 * 256 + p.val - 256 - 256 = p.val; omega)) (Fin.ext (by show 512 + (2 * 256 + p.val - 256 - 256) = 2 * 256 + p.val; omega))
  | 3 =>
    rw [dif_neg (show ¬ (col 3 p).val < 256 by show ¬ 3 * 256 + p.val < 256; omega), dif_neg (show ¬ (col 3 p).val - 256 < 256 by show ¬ 3 * 256 + p.val - 256 < 256; omega),
      dif_neg (show ¬ (col 3 p).val - 256 - 256 < 256 by show ¬ 3 * 256 + p.val - 256 - 256 < 256; omega)]
    exact piece f h3 _ _ (Fin.ext (by show 3 * 256 + p.val - 256 - 256 - 256 = p.val; omega)) (Fin.ext (by show 768 + (3 * 256 + p.val - 256 - 256 - 256) = 3 * 256 + p.val; omega))

/-- The block of the result. -/
theorem pay1_apply (m x : Vec Ideal S1024x1024 .f32) (ga : Vec Ideal S1x1024 .f32) (r j : Fin 1024) :
    k0_pay1 m x ga (ix2 r j) = x (ix2 r j) + ga (ix2 0 j) * m (ix2 r j) := by
  unfold k0_pay1; pointwise

end Cert.OutFwd

end
-- ==== Proof.OutFwd.lean ====
/- The mixers' output product after its run: the product of the joined rows with the weights, and the block's result, as functions
   of the arguments. Each block written back is the block of that function, and the blocks cover the array. -/
module

public import proofs.«01_k».proof.Proof.OutFwdPay

@[expose] public section

set_option maxRecDepth 16384

noncomputable section

namespace Cert.OutFwd

open Cert.Kernel7Ideal Cert.Kernel7Ideal.Gen Cert.Whole Cert.FfnBwd Cert.FfnFwd Cert.MixOut
open Idealize.ShloMosaic Idealize.ShloMosaic.TcCoe Idealize.ShloMosaic.StableHlo
open Idealize.SL.Sem

/-- What a block leaves in the two outputs. -/
theorem out11_eq (a b c y : Vec Ideal S1024x256 .f32) (w : Vec Ideal S256x256 .f32) (d : Vec Ideal S1x256 .f32) (g : Vec Ideal S1x1024 .f32)
    (wo : Vec Ideal S1024x1024 .bf16) (x : Vec Ideal S1024x1024 .f32) (ga : Vec Ideal S1x1024 .f32) :
    out0_11 a b c y w d g wo x ga = k0_pay4 (k0_pay2 y w d) b c g (k0_pay3 a) wo := by
  unfold out0_11 k0_pay5
  rw [View.canon_unit_zero zero2]
  repeat rw [View.ld_unit_zero zero2]

theorem out10_eq (a b c y : Vec Ideal S1024x256 .f32) (w : Vec Ideal S256x256 .f32) (d : Vec Ideal S1x256 .f32) (g : Vec Ideal S1x1024 .f32)
    (wo : Vec Ideal S1024x1024 .bf16) (x : Vec Ideal S1024x1024 .f32) (ga : Vec Ideal S1x1024 .f32) :
    out0_10 a b c y w d g wo x ga = k0_pay1 (k0_pay4 (k0_pay2 y w d) b c g (k0_pay3 a) wo) x ga := by
  unfold out0_10 k0_pay5
  rw [View.canon_unit_zero zero2]
  repeat rw [View.ld_unit_zero zero2]

section
variable {F : FTy → Type} [FloatOps F] (m : (ℓ : Loc nD τ sig) → Buf (Elt F) ℓ) (c : Dev nD)

theorem V_v0 : V m c main_v0 = truncf .bf16 (m ((c : Thread nD τ).loc main_arg7)) bitsLt_bf16_f32 := by
  simp only [V, hostOps0, List.flatten_cons, List.flatten_nil, List.append_nil, List.cons_append, List.nil_append,
    TRef.binary, TRef.nullary, TRef.unary, TRef.toBuf, TRef.ofBuf, cast_eq]
  after_results_simp <;> rfl
end

variable (m : (ℓ : Loc nD τ sig) → Buf (Elt Ideal) ℓ) (c : Dev nD)

/-- The ten arguments of a device. -/
abbrev x0 : Mat 2048 256 := m ((c.tc : Thread nD τ).loc main_arg0)
abbrev x1 : Mat 2048 256 := m ((c.tc : Thread nD τ).loc main_arg1)
abbrev x2 : Mat 2048 256 := m ((c.tc : Thread nD τ).loc main_arg2)
abbrev x3 : Mat 2048 256 := m ((c.tc : Thread nD τ).loc main_arg3)
abbrev x4 : Mat 256 256 := m ((c.tc : Thread nD τ).loc main_arg4)
abbrev x5 : Mat 1 256 := m ((c.tc : Thread nD τ).loc main_arg5)
abbrev x6 : Mat 1 1024 := m ((c.tc : Thread nD τ).loc main_arg6)
abbrev x7 : Mat 1024 1024 := m ((c.tc : Thread nD τ).loc main_arg7)
abbrev x8 : Mat 2048 1024 := m ((c.tc : Thread nD τ).loc main_arg8)
abbrev x9 : Mat 1 1024 := m ((c.tc : Thread nD τ).loc main_arg9)

/-! ### Where an element of a block lies in its array -/

/-- Row `r` of the block of rows of point `t`. -/
def row (t : Fin cfg0.N) (r : Fin 1024) : Fin 2048 :=
  ⟨t.val * 1024 + r.val, by have : t.val < 2 := Nat.lt_of_lt_of_eq t.isLt N_0; have := r.isLt; omega⟩

theorem row_surj (n : Fin 2048) : ∃ t r, row t r = n :=
  ⟨⟨n.val / 1024, by have := n.isLt; have : cfg0.N = 2 := N_0; omega⟩, ⟨n.val % 1024, Nat.mod_lt _ (by decide)⟩,
    Fin.ext (by show n.val / 1024 * 1024 + n.val % 1024 = n.val; omega)⟩

theorem emb_0 (t : Fin cfg0.N) (p : Fin 1024) (q : Fin 256) : ((cfg0.win 0).blk t).view.emb (ix2 p q) = (ix2 (row t p) q : S2048x256.Idx) := by
  funext a; apply Fin.ext
  match a with
  | ⟨0, _⟩ =>
    refine (win0_0.rect_emb_val t (ix2 p q) 0).trans ?_
    rw [(by decide +kernel : ∀ t : Fin grid0.N, win0_0.index t 0 * win0_0.size 0 = t.val * 1024) t]; rfl
  | ⟨1, _⟩ => exact win0_0.rect_emb_val_of_index_zero t 1 ((by decide +kernel : ∀ t : Fin grid0.N, win0_0.index t 1 = 0) t) (ix2 p q)

theorem emb_1 (t : Fin cfg0.N) (p : Fin 1024) (q : Fin 256) : ((cfg0.win 1).blk t).view.emb (ix2 p q) = (ix2 (row t p) q : S2048x256.Idx) := by
  funext a; apply Fin.ext
  match a with
  | ⟨0, _⟩ =>
    refine (win0_1.rect_emb_val t (ix2 p q) 0).trans ?_
    rw [(by decide +kernel : ∀ t : Fin grid0.N, win0_1.index t 0 * win0_1.size 0 = t.val * 1024) t]; rfl
  | ⟨1, _⟩ => exact win0_1.rect_emb_val_of_index_zero t 1 ((by decide +kernel : ∀ t : Fin grid0.N, win0_1.index t 1 = 0) t) (ix2 p q)

theorem emb_2 (t : Fin cfg0.N) (p : Fin 1024) (q : Fin 256) : ((cfg0.win 2).blk t).view.emb (ix2 p q) = (ix2 (row t p) q : S2048x256.Idx) := by
  funext a; apply Fin.ext
  match a with
  | ⟨0, _⟩ =>
    refine (win0_2.rect_emb_val t (ix2 p q) 0).trans ?_
    rw [(by decide +kernel : ∀ t : Fin grid0.N, win0_2.index t 0 * win0_2.size 0 = t.val * 1024) t]; rfl
  | ⟨1, _⟩ => exact win0_2.rect_emb_val_of_index_zero t 1 ((by decide +kernel : ∀ t : Fin grid0.N, win0_2.index t 1 = 0) t) (ix2 p q)

theorem emb_3 (t : Fin cfg0.N) (p : Fin 1024) (q : Fin 256) : ((cfg0.win 3).blk t).view.emb (ix2 p q) = (ix2 (row t p) q : S2048x256.Idx) := by
  funext a; apply Fin.ext
  match a with
  | ⟨0, _⟩ =>
    refine (win0_3.rect_emb_val t (ix2 p q) 0).trans ?_
    rw [(by decide +kernel : ∀ t : Fin grid0.N, win0_3.index t 0 * win0_3.size 0 = t.val * 1024) t]; rfl
  | ⟨1, _⟩ => exact win0_3.rect_emb_val_of_index_zero t 1 ((by decide +kernel : ∀ t : Fin grid0.N, win0_3.index t 1 = 0) t) (ix2 p q)

theorem emb_4 (t : Fin cfg0.N) (p : Fin 256) (q : Fin 256) : ((cfg0.win 4).blk t).view.emb (ix2 p q) = (ix2 p q : S256x256.Idx) := by
  funext a; apply Fin.ext
  match a with
  | ⟨0, _⟩ =>
    exact win0_4.rect_emb_val_of_index_zero t 0 ((by decide +kernel : ∀ t : Fin grid0.N, win0_4.index t 0 = 0) t) (ix2 p q)
  | ⟨1, _⟩ => exact win0_4.rect_emb_val_of_index_zero t 1 ((by decide +kernel : ∀ t : Fin grid0.N, win0_4.index t 1 = 0) t) (ix2 p q)

theorem emb_5 (t : Fin cfg0.N) (p : Fin 1) (q : Fin 256) : ((cfg0.win 5).blk t).view.emb (ix2 p q) = (ix2 p q : S1x256.Idx) := by
  funext a; apply Fin.ext
  match a with
  | ⟨0, _⟩ =>
    exact win0_5.rect_emb_val_of_index_zero t 0 ((by decide +kernel : ∀ t : Fin grid0.N, win0_5.index t 0 = 0) t) (ix2 p q)
  | ⟨1, _⟩ => exact win0_5.rect_emb_val_of_index_zero t 1 ((by decide +kernel : ∀ t : Fin grid0.N, win0_5.index t 1 = 0) t) (ix2 p q)

theorem emb_6 (t : Fin cfg0.N) (p : Fin 1) (q : Fin 1024) : ((cfg0.win 6).blk t).view.emb (ix2 p q) = (ix2 p q : S1x1024.Idx) := by
  funext a; apply Fin.ext
  match a with
  | ⟨0, _⟩ =>
    exact win0_6.rect_emb_val_of_index_zero t 0 ((by decide +kernel : ∀ t : Fin grid0.N, win0_6.index t 0 = 0) t) (ix2 p q)
  | ⟨1, _⟩ => exact win0_6.rect_emb_val_of_index_zero t 1 ((by decide +kernel : ∀ t : Fin grid0.N, win0_6.index t 1 = 0) t) (ix2 p q)

theorem emb_7 (t : Fin cfg0.N) (p : Fin 1024) (q : Fin 1024) : ((cfg0.win 7).blk t).view.emb (ix2 p q) = (ix2 p q : S1024x1024.Idx) := by
  funext a; apply Fin.ext
  match a with
  | ⟨0, _⟩ =>
    exact win0_7.rect_emb_val_of_index_zero t 0 ((by decide +kernel : ∀ t : Fin grid0.N, win0_7.index t 0 = 0) t) (ix2 p q)
  | ⟨1, _⟩ => exact win0_7.rect_emb_val_of_index_zero t 1 ((by decide +kernel : ∀ t : Fin grid0.N, win0_7.index t 1 = 0) t) (ix2 p q)

theorem emb_8 (t : Fin cfg0.N) (p : Fin 1024) (q : Fin 1024) : ((cfg0.win 8).blk t).view.emb (ix2 p q) = (ix2 (row t p) q : S2048x1024.Idx) := by
  funext a; apply Fin.ext
  match a with
  | ⟨0, _⟩ =>
    refine (win0_8.rect_emb_val t (ix2 p q) 0).trans ?_
    rw [(by decide +kernel : ∀ t : Fin grid0.N, win0_8.index t 0 * win0_8.size 0 = t.val * 1024) t]; rfl
  | ⟨1, _⟩ => exact win0_8.rect_emb_val_of_index_zero t 1 ((by decide +kernel : ∀ t : Fin grid0.N, win0_8.index t 1 = 0) t) (ix2 p q)

theorem emb_9 (t : Fin cfg0.N) (p : Fin 1) (q : Fin 1024) : ((cfg0.win 9).blk t).view.emb (ix2 p q) = (ix2 p q : S1x1024.Idx) := by
  funext a; apply Fin.ext
  match a with
  | ⟨0, _⟩ =>
    exact win0_9.rect_emb_val_of_index_zero t 0 ((by decide +kernel : ∀ t : Fin grid0.N, win0_9.index t 0 = 0) t) (ix2 p q)
  | ⟨1, _⟩ => exact win0_9.rect_emb_val_of_index_zero t 1 ((by decide +kernel : ∀ t : Fin grid0.N, win0_9.index t 1 = 0) t) (ix2 p q)

theorem emb_10 (t : Fin cfg0.N) (p : Fin 1024) (q : Fin 1024) : ((cfg0.win 10).blk t).view.emb (ix2 p q) = (ix2 (row t p) q : S2048x1024.Idx) := by
  funext a; apply Fin.ext
  match a with
  | ⟨0, _⟩ =>
    refine (win0_10.rect_emb_val t (ix2 p q) 0).trans ?_
    rw [(by decide +kernel : ∀ t : Fin grid0.N, win0_10.index t 0 * win0_10.size 0 = t.val * 1024) t]; rfl
  | ⟨1, _⟩ => exact win0_10.rect_emb_val_of_index_zero t 1 ((by decide +kernel : ∀ t : Fin grid0.N, win0_10.index t 1 = 0) t) (ix2 p q)

theorem emb_11 (t : Fin cfg0.N) (p : Fin 1024) (q : Fin 1024) : ((cfg0.win 11).blk t).view.emb (ix2 p q) = (ix2 (row t p) q : S2048x1024.Idx) := by
  funext a; apply Fin.ext
  match a with
  | ⟨0, _⟩ =>
    refine (win0_11.rect_emb_val t (ix2 p q) 0).trans ?_
    rw [(by decide +kernel : ∀ t : Fin grid0.N, win0_11.index t 0 * win0_11.size 0 = t.val * 1024) t]; rfl
  | ⟨1, _⟩ => exact win0_11.rect_emb_val_of_index_zero t 1 ((by decide +kernel : ∀ t : Fin grid0.N, win0_11.index t 1 = 0) t) (ix2 p q)

/-! ### The input blocks -/

theorem iblk_0 (t : Fin cfg0.N) (r : Fin 1024) : rowOf (iblk m c 0 t) r = rowOf (x0 m c) (row t r) := by
  funext k
  show V m c main_arg0 (((cfg0.win 0).blk t).view.emb (ix2 r k)) = _
  rw [emb_0, V_main_arg0]
  rfl

theorem iblk_1 (t : Fin cfg0.N) (r : Fin 1024) : rowOf (iblk m c 1 t) r = rowOf (x1 m c) (row t r) := by
  funext k
  show V m c main_arg1 (((cfg0.win 1).blk t).view.emb (ix2 r k)) = _
  rw [emb_1, V_main_arg1]
  rfl

theorem iblk_2 (t : Fin cfg0.N) (r : Fin 1024) : rowOf (iblk m c 2 t) r = rowOf (x2 m c) (row t r) := by
  funext k
  show V m c main_arg2 (((cfg0.win 2).blk t).view.emb (ix2 r k)) = _
  rw [emb_2, V_main_arg2]
  rfl

theorem iblk_3 (t : Fin cfg0.N) (r : Fin 1024) : rowOf (iblk m c 3 t) r = rowOf (x3 m c) (row t r) := by
  funext k
  show V m c main_arg3 (((cfg0.win 3).blk t).view.emb (ix2 r k)) = _
  rw [emb_3, V_main_arg3]
  rfl

theorem iblk_4 (t : Fin cfg0.N) : iblk m c 4 t = x4 m c := by
  funext (y : S256x256.Idx)
  obtain ⟨p, q, rfl⟩ : ∃ (p : Fin 256) (q : Fin 256), y = ix2 p q := ⟨y 0, y 1, eq_ix2 y⟩
  show V m c main_arg4 (((cfg0.win 4).blk t).view.emb (ix2 p q)) = _
  rw [emb_4, V_main_arg4]

theorem iblk_5 (t : Fin cfg0.N) : iblk m c 5 t = x5 m c := by
  funext (y : S1x256.Idx)
  obtain ⟨p, q, rfl⟩ : ∃ (p : Fin 1) (q : Fin 256), y = ix2 p q := ⟨y 0, y 1, eq_ix2 y⟩
  show V m c main_arg5 (((cfg0.win 5).blk t).view.emb (ix2 p q)) = _
  rw [emb_5, V_main_arg5]

theorem iblk_6 (t : Fin cfg0.N) : iblk m c 6 t = x6 m c := by
  funext (y : S1x1024.Idx)
  obtain ⟨p, q, rfl⟩ : ∃ (p : Fin 1) (q : Fin 1024), y = ix2 p q := ⟨y 0, y 1, eq_ix2 y⟩
  show V m c main_arg6 (((cfg0.win 6).blk t).view.emb (ix2 p q)) = _
  rw [emb_6, V_main_arg6]

theorem iblk_9 (t : Fin cfg0.N) : iblk m c 9 t = x9 m c := by
  funext (y : S1x1024.Idx)
  obtain ⟨p, q, rfl⟩ : ∃ (p : Fin 1) (q : Fin 1024), y = ix2 p q := ⟨y 0, y 1, eq_ix2 y⟩
  show V m c main_arg9 (((cfg0.win 9).blk t).view.emb (ix2 p q)) = _
  rw [emb_9, V_main_arg9]

theorem iblk_7 (t : Fin cfg0.N) (p q : Fin 1024) : iblk m c 7 t (ix2 p q) = x7 m c (ix2 p q) := by
  show V m c main_v0 (((cfg0.win 7).blk t).view.emb (ix2 p q)) = _
  rw [emb_7, V_v0]
  rfl

theorem iblk_8 (t : Fin cfg0.N) (r q : Fin 1024) : iblk m c 8 t (ix2 r q) = x8 m c (ix2 (row t r) q) := by
  show V m c main_arg8 (((cfg0.win 8).blk t).view.emb (ix2 r q)) = _
  rw [emb_8, V_main_arg8]

/-! ### The two results -/

/-- The product of the joined rows with the weights, and the input plus the gate times it. -/
def mG : Mat 2048 1024 := mS (x0 m c) (x1 m c) (x2 m c) (x3 m c) (x4 m c) (x5 m c) (x6 m c) (x7 m c)
def xG : Mat 2048 1024 := xS (mG m c) (x8 m c) (x9 m c)

theorem m_apply (t : Fin cfg0.N) (r j : Fin 1024) :
    k0_pay4 (k0_pay2 (iblk m c 3 t) (iblk m c 4 t) (iblk m c 5 t)) (iblk m c 1 t) (iblk m c 2 t) (iblk m c 6 t) (k0_pay3 (iblk m c 0 t)) (iblk m c 7 t) (ix2 r j)
      = mG m c (ix2 (row t r) j) := by
  rw [iblk_4, iblk_5, iblk_6]
  refine (pay4_apply _ _ _ _ _ _ r j (rows4 (x0 m c) (x1 m c) (x2 m c) (x3 m c) (x4 m c) (x5 m c) (row t r)) (iblk_0 m c t r) (iblk_1 m c t r) (iblk_2 m c t r) ?_).trans ?_
  · funext p
    refine (pay2_apply _ _ _ r p).trans ?_
    rw [iblk_3]
    rfl
  · exact Finset.sum_congr rfl fun k _ => congrArg (_ * ·) (iblk_7 m c t k j)

theorem flushed_11 (t : Fin cfg0.N) : (dats m 0 c).flushed 11 t = ((cfg0.win 11).blk t).view.read (Elt Ideal) (mG m c) := by
  show (cfg0.win 11).cut (grid0.coords t) ((dats m 0 c).after 11 t) = _
  rw [after0_11, out11_eq]
  refine funext fun (y : S1024x1024.Idx) => ?_
  obtain ⟨p, q, rfl⟩ : ∃ (p : Fin 1024) (q : Fin 1024), y = ix2 p q := ⟨y 0, y 1, eq_ix2 y⟩
  show _ = mG m c (((cfg0.win 11).blk t).view.emb (ix2 p q))
  rw [emb_11]
  exact m_apply m c t p q

theorem arr_11 : (dats m 0 c).arrAt 11 cfg0.N = mG m c :=
  (dats m 0 c).arrAt_eq_of_cover 11 (mG m c) (fun t _ => flushed_11 m c t) fun (i : S2048x1024.Idx) => by
    obtain ⟨t, r, h⟩ := row_surj (i 0)
    refine ⟨t, flush0_11 t, ?_⟩
    have e : ((cfg0.win 11).blk t).view.emb (ix2 r (i 1)) = i := (emb_11 t r (i 1)).trans (by rw [h]; exact (eq_ix2 i).symm)
    exact e ▸ View.emb_mem_set _ _

theorem flushed_10 (t : Fin cfg0.N) : (dats m 0 c).flushed 10 t = ((cfg0.win 10).blk t).view.read (Elt Ideal) (xG m c) := by
  show (cfg0.win 10).cut (grid0.coords t) ((dats m 0 c).after 10 t) = _
  rw [after0_10, out10_eq]
  refine funext fun (y : S1024x1024.Idx) => ?_
  obtain ⟨p, q, rfl⟩ : ∃ (p : Fin 1024) (q : Fin 1024), y = ix2 p q := ⟨y 0, y 1, eq_ix2 y⟩
  show _ = xG m c (((cfg0.win 10).blk t).view.emb (ix2 p q))
  rw [emb_10]
  refine (pay1_apply _ _ _ p q).trans ?_
  rw [m_apply, iblk_8, iblk_9]
  rfl

theorem arr_10 : (dats m 0 c).arrAt 10 cfg0.N = xG m c :=
  (dats m 0 c).arrAt_eq_of_cover 10 (xG m c) (fun t _ => flushed_10 m c t) fun (i : S2048x1024.Idx) => by
    obtain ⟨t, r, h⟩ := row_surj (i 0)
    refine ⟨t, flush0_10 t, ?_⟩
    have e : ((cfg0.win 10).blk t).view.emb (ix2 r (i 1)) = i := (emb_10 t r (i 1)).trans (by rw [h]; exact (eq_ix2 i).symm)
    exact e ▸ View.emb_mem_set _ _

/-- The run with the two results read: each array is the mathematics of the arguments. -/
theorem run (ρ : Dev nD → PrngReg) : θ_run defs (onTc (τ := τ) (main (F := Ideal))) ⟨m, fun _ => 0, ρ⟩ fun r => ∀ c : Dev nD,
      r.2.mem ((c.tc : Thread nD τ).loc main_v1_0) = xG m c
      ∧ r.2.mem ((c.tc : Thread nD τ).loc main_v1_1) = mG m c :=
  (θ_run defs _ _).mono (fun _ h c => ⟨((h c).1 10).trans (arr_10 m c), ((h c).1 11).trans (arr_11 m c)⟩) (run_main m ρ)

end Cert.OutFwd

end
-- ==== Proof.OutFwdRef.lean ====
/- The two results of the reference of the mixers' output product, element by element: the same mathematics as the kernel's
   arrays. -/
module

public import proofs.«01_k».proof.Proof.Gen.Reference7Ideal.Read
public import proofs.«01_k».proof.Proof.MixOutSpec
public import Idealize.ShloMosaic.Lib.Pointwise

@[expose] public section

set_option maxRecDepth 16384

noncomputable section

namespace Cert.OutFwd.Ref

open Cert.Reference7Ideal Cert.Reference7Ideal.Gen Cert.Reference7Ideal.Read Cert.FfnBwd Cert.FfnFwd Cert.MixOut
open Idealize.ShloMosaic

theorem ix2_at {a b : ℕ} {i : (⟨2, ![a, b]⟩ : Shape).Idx} {p : Fin a} {q : Fin b} (h0 : (i 0).val = p.val) (h1 : (i 1).val = q.val) : i = ix2 p q := by
  funext x; apply Fin.ext
  match x with
  | ⟨0, _⟩ => exact h0
  | ⟨1, _⟩ => exact h1

theorem ix3_at {a b c : ℕ} {i : (⟨3, ![a, b, c]⟩ : Shape).Idx} {p : Fin a} {q : Fin b} {r : Fin c} (h0 : (i 0).val = p.val) (h1 : (i 1).val = q.val)
    (h2 : (i 2).val = r.val) : i = ix3 p q r := by
  funext x; apply Fin.ext
  match x with
  | ⟨0, _⟩ => exact h0
  | ⟨1, _⟩ => exact h1
  | ⟨2, _⟩ => exact h2

variable (x0 x1 x2 x3 : Mat 2048 256) (x4 : Mat 256 256) (x5 : Mat 1 256) (x6 : Mat 1 1024) (x7 : Mat 1024 1024) (x8 : Mat 2048 1024) (x9 : Mat 1 1024)

/-- The GELU, which the reference groups the other way. -/
theorem gelu (r : Fin 2048) (p : Fin 256) : val_main_v12 (F := Ideal) x3 (ix2 r p) = geluS (x3 (ix2 r p)) := by
  unfold val_main_v12 val_main_v11 val_main_v10 val_main_v9 val_main_v8 val_main_v7 val_main_v6 val_main_v5 val_main_v4 val_main_v3 val_main_v2
    val_main_v1 val_main_v0 val_main_cst val_main_cst_0 val_main_cst_1 val_main_cst_2
  pointwise
  unfold geluS tanS
  have cube : ∀ x : EReal, cubE * x * x * x = cubE * (x * x * x) := fun x => by rw [mul_assoc, mul_assoc, mul_assoc]
  rw [cube]
  exact (mul_left_comm _ _ _).trans (mul_assoc _ _ _).symm

/-- The last mixer's output. -/
theorem yd (r : Fin 2048) (p : Fin 256) : val_main_v22 (F := Ideal) x3 x4 x5 (ix2 r p) = ydR (rowOf x3 r) x4 x5 p := by
  have e : ∀ (l : Fin 256), val_main_v12 (F := Ideal) x3 (ix2 r l) = geluS (x3 (ix2 r l)) := gelu x3 r
  unfold val_main_v22 val_main_v21 val_main_v20 val_main_v19 val_main_v18 val_main_v17 val_main_v16 val_main_v15 val_main_v14 val_main_v13
    val_main_cst_3 val_main_cst_4
  generalize val_main_v12 (F := Ideal) x3 = z at e ⊢
  pointwise
  simp only [e]
  rfl

/-- The four mixers' rows side by side. -/
theorem side (r : Fin 2048) (q : Fin 4) (p : Fin 256) : val_main_v23 (F := Ideal) x0 x1 x2 x3 x4 x5 (ix2 r (col q p)) = rows4 x0 x1 x2 x3 x4 x5 r q p := by
  have e : ∀ (l : Fin 256), val_main_v22 (F := Ideal) x3 x4 x5 (ix2 r l) = ydR (rowOf x3 r) x4 x5 l := yd x3 x4 x5 r
  unfold val_main_v23
  generalize val_main_v22 (F := Ideal) x3 x4 x5 = z at e ⊢
  pointwise
  match q with
  | 0 =>
    rw [dif_pos (show (col 0 p).val < 256 by show 0 * 256 + p.val < 256; omega)]
    exact congrArg (fun k => x0 (ix2 r k)) (Fin.ext (by show 0 * 256 + p.val = p.val; omega))
  | 1 =>
    rw [dif_neg (show ¬ (col 1 p).val < 256 by show ¬ 1 * 256 + p.val < 256; omega), dif_pos (show (col 1 p).val - 256 < 256 by show 1 * 256 + p.val - 256 < 256; omega)]
    exact congrArg (fun k => x1 (ix2 r k)) (Fin.ext (by show 1 * 256 + p.val - 256 = p.val; omega))
  | 2 =>
    rw [dif_neg (show ¬ (col 2 p).val < 256 by show ¬ 2 * 256 + p.val < 256; omega), dif_neg (show ¬ (col 2 p).val - 256 < 256 by show ¬ 2 * 256 + p.val - 256 < 256; omega),
      dif_pos (show (col 2 p).val - 256 - 256 < 256 by show 2 * 256 + p.val - 256 - 256 < 256; omega)]
    exact congrArg (fun k => x2 (ix2 r k)) (Fin.ext (by show 2 * 256 + p.val - 256 - 256 = p.val; omega))
  | 3 =>
    rw [dif_neg (show ¬ (col 3 p).val < 256 by show ¬ 3 * 256 + p.val < 256; omega), dif_neg (show ¬ (col 3 p).val - 256 < 256 by show ¬ 3 * 256 + p.val - 256 < 256; omega),
      dif_neg (show ¬ (col 3 p).val - 256 - 256 < 256 by show ¬ 3 * 256 + p.val - 256 - 256 < 256; omega)]
    exact (congrArg (fun k => z (ix2 r k)) (Fin.ext (by show 3 * 256 + p.val - 256 - 256 - 256 = p.val; omega))).trans (e p)

theorem split (r : Fin 2048) (q : Fin 4) (p : Fin 256) : val_main_v24 (F := Ideal) x0 x1 x2 x3 x4 x5 (ix3 r q p) = rows4 x0 x1 x2 x3 x4 x5 r q p := by
  rw [val_main_v24_apply, ← side]
  have hq := q.isLt; have hp := p.isLt
  exact congrArg _ (ix2_at (by show ((r.val * 4 + q.val) * 256 + p.val) / 1024 = r.val; omega) (by show ((r.val * 4 + q.val) * 256 + p.val) % 1024 = q.val * 256 + p.val; omega))

/-- The normed rows. -/
theorem hat (r : Fin 2048) (q : Fin 4) (p : Fin 256) : val_main_v34 (F := Ideal) x0 x1 x2 x3 x4 x5 (ix3 r q p) = hatR (rows4 x0 x1 x2 x3 x4 x5 r q) p := by
  have e : ∀ (l : Fin 256), val_main_v24 (F := Ideal) x0 x1 x2 x3 x4 x5 (ix3 r q l) = rows4 x0 x1 x2 x3 x4 x5 r q l := split x0 x1 x2 x3 x4 x5 r q
  unfold val_main_v34 val_main_v33 val_main_v32 val_main_v31 val_main_v30 val_main_v29 val_main_v28 val_main_v27 val_main_v26 val_main_v25
    val_main_cst_5 val_main_cst_6 val_main_cst_7
  generalize val_main_v24 (F := Ideal) x0 x1 x2 x3 x4 x5 = z at e ⊢
  pointwise
  simp only [e]
  rfl

/-- The joined row. -/
theorem join (r : Fin 2048) (k : Fin 1024) : val_main_v37 (F := Ideal) x0 x1 x2 x3 x4 x5 x6 (ix2 r k) = joinR (rows4 x0 x1 x2 x3 x4 x5 r) x6 k := by
  obtain ⟨q, p, rfl⟩ : ∃ q p, col q p = k := ⟨_, _, col_grp_pos k⟩
  have hq := q.isLt; have hp := p.isLt; have hr := r.isLt
  rw [joinR_col, val_main_v37_apply, val_main_v35_apply, val_main_v36_apply, ← hat]
  refine congrArg₂ (· * ·) (congrArg _ (ix3_at ?_ ?_ ?_)) (congrArg x6 (ix2_at rfl rfl))
  · show (r.val * 1024 + (q.val * 256 + p.val)) / 1024 = r.val; omega
  · show (r.val * 1024 + (q.val * 256 + p.val)) / 256 % 4 = q.val; omega
  · show (r.val * 1024 + (q.val * 256 + p.val)) % 256 = p.val; omega

/-- The product with the weights. -/
theorem m : val_main_v38 (F := Ideal) x0 x1 x2 x3 x4 x5 x6 x7 = mS x0 x1 x2 x3 x4 x5 x6 x7 := by
  funext i
  rw [val_main_v38_apply]
  refine Finset.sum_congr rfl fun k _ => congrArg₂ (· * ·) ?_ (congrArg x7 (ix2_at rfl rfl))
  exact (congrArg _ (ix2_at rfl rfl)).trans (join x0 x1 x2 x3 x4 x5 x6 (i 0) k)

/-- The result. -/
theorem x : val_main_v41 (F := Ideal) x0 x1 x2 x3 x4 x5 x6 x7 x8 x9 = xS (mS x0 x1 x2 x3 x4 x5 x6 x7) x8 x9 := by
  funext i
  rw [val_main_v41_apply, val_main_v40_apply, val_main_v39_apply, m]
  exact congrArg (x8 i + ·) (congrArg (· * _) (congrArg x9 (ix2_at rfl rfl)))

end Cert.OutFwd.Ref

end
-- ==== Proof.OutFwdKernel.lean ====
/- The frame of the mixers' output product on words. The run is proved once, over any float values, and the two programs have the same text. -/
module

public import proofs.«01_k».proof.Defs
public import proofs.«01_k».proof.Proof.OutFwd
public import proofs.«01_k».proof.Proof.Gen.Kernel7

@[expose] public section

noncomputable section

namespace Cert.OutFwd

open Idealize.ShloMosaic Idealize.SL.Sem

attribute [local instance] Cert.Kernel7.Gen.facts

theorem body_text : @Cert.Kernel7.cc0_mix_out_fwd Bits _ _ = @Cert.Kernel7Ideal.cc0_mix_out_fwd Bits _ _ := rfl

set_option maxHeartbeats 4000000 in
theorem bodies_text : Cert.Kernel7.defs₀ (F := Bits) = Cert.Kernel7Ideal.defs₀ (F := Bits) := by
  refine congrArg Defs.onTc ?_
  funext l x
  match l, x with
  | ⟨0, _⟩, (t, s) => rfl

theorem defs_text : Cert.Kernel7.defs (F := Bits) = Cert.Kernel7Ideal.defs (F := Bits) := congrArg (Pipeline.defs _) bodies_text

theorem frame_kernel : Cert.quiescent_Kernel7 := by
  intro m ρ _
  rw [defs_text]
  exact (θ_run Cert.Kernel7Ideal.defs _ _).mono (fun _ h => h) (Cert.Kernel7Ideal.Gen.frame (F := Bits) m ρ)

end Cert.OutFwd

end
-- ==== Proof.OutBwdOut.lean ====
/- What the body of the mixers' output gradient kernel leaves in its outputs and in its running sum, at the first point, a
   point between and the last point: the payload of its last store of each, over what it has loaded. -/
module

public import proofs.«01_k».proof.Proof.Gen.Kernel8Ideal.Frame
public import proofs.«01_k».proof.Proof.Whole
public import Idealize.ShloMosaic.Lib.Tactic
public import Idealize.ShloMosaic.Lib.Pipeline.ReadBack

@[expose] public section

set_option maxRecDepth 16384

noncomputable section

namespace Cert.OutBwd

open Cert.Kernel8Ideal Cert.Kernel8Ideal.Gen Cert.Whole
open Idealize.ShloMosaic Idealize.ShloMosaic.TcCoe Idealize.ShloMosaic.Tactic
open Idealize.SL.Sem

variable {F : FTy → Type} [FloatOps F]

/-- The GELU of a block of the last mixer's rows, the gate made of it, and the two multiplied. -/
def ygB (y : Vec F S512x256 .f32) : Vec F S512x256 .f32 := k0_pay13 (k0_pay10 y) (k0_pay11 y) k0_pay12
def sgB (y : Vec F S512x256 .f32) (w : Vec F S256x256 .f32) (b : Vec F S1x256 .f32) : Vec F S512x256 .f32 :=
  k0_pay14 w b (k0_pay10 y) (k0_pay11 y) k0_pay12
def ydB (y : Vec F S512x256 .f32) (w : Vec F S256x256 .f32) (b : Vec F S1x256 .f32) : Vec F S512x256 .f32 :=
  k0_pay15 w b (k0_pay10 y) (k0_pay11 y) k0_pay12

/-- The gradient of a block of the product, and of the joined rows. -/
def dmB (x : Vec F S512x1024 .f32) (ga : Vec F S1x1024 .f32) : Vec F S512x1024 .bf16 := k0_pay9 x ga
def dyB (x : Vec F S512x1024 .f32) (ga : Vec F S1x1024 .f32) (w : Vec F S1024x1024 .bf16) : Vec F S512x1024 .f32 := k0_pay29 (dmB x ga) w

/-- The gradients of a block of the first three mixers' outputs. -/
def dyaB (a : Vec F S512x256 .f32) (g : Vec F S1x1024 .f32) (dm : Vec F S512x1024 .bf16) (w : Vec F S1024x1024 .bf16) : Vec F S512x256 .f32 :=
  k0_pay34 (k0_pay16 a) (k0_pay32 dm g w) (k0_pay33 dm g (k0_pay17 a) w)
def dybB (b : Vec F S512x256 .f32) (g : Vec F S1x1024 .f32) (dy : Vec F S512x1024 .f32) : Vec F S512x256 .f32 :=
  k0_pay37 g (k0_pay19 b) (k0_pay20 b) dy
def dycB (y : Vec F S512x256 .f32) (g : Vec F S1x1024 .f32) (dy : Vec F S512x1024 .f32) : Vec F S512x256 .f32 :=
  k0_pay40 g (k0_pay24 (k0_pay22 y) k0_pay23) (k0_pay25 y (k0_pay22 y) k0_pay23) dy

/-- What a block of rows adds to the gradients of the gain, of the unit's weights and bias, and of the output weights, over what they held. -/
def dgB (a b d y : Vec F S512x256 .f32) (w : Vec F S256x256 .f32) (e : Vec F S1x256 .f32) (dm : Vec F S512x1024 .bf16) (wo : Vec F S1024x1024 .bf16)
    (X : Vec F S1x1024 .f32) : Vec F S1x1024 .f32 :=
  k0_pay46 (k0_pay31 dm (k0_pay17 a) wo) (k0_pay36 (k0_pay20 b) (k0_pay29 dm wo)) (k0_pay39 (k0_pay25 d (k0_pay22 d) k0_pay23) (k0_pay29 dm wo))
    (k0_pay42 (k0_pay27 (ydB y w e)) (k0_pay29 dm wo)) X
def dgwB (y : Vec F S512x256 .f32) (w : Vec F S256x256 .f32) (e : Vec F S1x256 .f32) (g : Vec F S1x1024 .f32) (dy : Vec F S512x1024 .f32)
    (X : Vec F S256x256 .f32) : Vec F S256x256 .f32 :=
  k0_pay48 (ygB y) (sgB y w e) (k0_pay26 (ydB y w e)) (k0_pay43 g dy) (k0_pay44 g (k0_pay27 (ydB y w e)) dy) X
def dgbB (y : Vec F S512x256 .f32) (w : Vec F S256x256 .f32) (e : Vec F S1x256 .f32) (g : Vec F S1x1024 .f32) (dy : Vec F S512x1024 .f32)
    (X : Vec F S1x256 .f32) : Vec F S1x256 .f32 :=
  k0_pay49 (ygB y) (sgB y w e) (k0_pay26 (ydB y w e)) (k0_pay43 g dy) (k0_pay44 g (k0_pay27 (ydB y w e)) dy) X
def accB (a b d y : Vec F S512x256 .f32) (w : Vec F S256x256 .f32) (e : Vec F S1x256 .f32) (g : Vec F S1x1024 .f32) (dm : Vec F S512x1024 .bf16)
    (X : Vec F S1024x1024 .f32) : Vec F S1024x1024 .f32 :=
  k0_pay28 dm g (ydB y w e) d (k0_pay18 g a) (k0_pay21 g b) (k0_pay22 d) k0_pay23 X

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S512x256 .f32) (harg12 : arg12.IsWhole) (arg13 : Memref sig .tc .vmem S512x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1024x1024 .bf16) (harg18 : arg18.IsWhole) (arg19 : Memref sig .tc .vmem S256x256 .f32) (harg19 : arg19.IsWhole) (arg20 : Memref sig .tc .vmem S1x256 .f32) (harg20 : arg20.IsWhole) (arg21 : Memref sig .tc .vmem S1024x1024 .f32) (harg21 : arg21.IsWhole)
  (x0 : Vec F S512x1024 .f32) (x1 : Vec F S512x1024 .f32) (x2 : Vec F S1x1024 .f32) (x3 : Vec F S512x256 .f32) (x4 : Vec F S512x256 .f32) (x5 : Vec F S512x256 .f32) (x6 : Vec F S512x256 .f32) (x7 : Vec F S256x256 .f32) (x8 : Vec F S1x256 .f32) (x9 : Vec F S1x1024 .f32) (x10 : Vec F S1024x1024 .bf16) (xo15 : Vec F S1x1024 .f32) (xo16 : Vec F S1x1024 .f32) (xo18 : Vec F S256x256 .f32) (xo19 : Vec F S1x256 .f32) (xs0 : Vec F S1024x1024 .f32)

set_option maxHeartbeats 2000000 in
/-- The gradient of the block of the first mixer's output, at the first point. -/
theorem dya_A (hc0 : cond0_0 i) (hc1 : ¬cond0_1 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = dyaB x3 x9 (dmB x0 x2) x10 := by
  unfold out0_A_11
  unfold kernelRun0_A; dsimp only
  refine (stored2 _ _ _ _ _).trans ?_
  sl_unfold_words
  simp only [load2, reload2]
  rfl

set_option maxHeartbeats 2000000 in
/-- The gradient of the block of the second mixer's output, at the first point. -/
theorem dyb_A (hc0 : cond0_0 i) (hc1 : ¬cond0_1 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = dybB x4 x9 (dyB x0 x2 x10) := by
  unfold out0_A_12
  unfold kernelRun0_A; dsimp only
  refine (stored2 _ _ _ _ _).trans ?_
  sl_unfold_words
  simp only [load2, reload2]
  rfl

set_option maxHeartbeats 2000000 in
/-- The gradient of the block of the third mixer's output, at the first point. -/
theorem dyc_A (hc0 : cond0_0 i) (hc1 : ¬cond0_1 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = dycB x5 x9 (dyB x0 x2 x10) := by
  unfold out0_A_13
  unfold kernelRun0_A; dsimp only
  refine (stored2 _ _ _ _ _).trans ?_
  sl_unfold_words
  simp only [load2, reload2]
  rfl

set_option maxHeartbeats 2000000 in
/-- The gradient of the gate, at the first point. -/
theorem dgate_A (hc0 : cond0_0 i) (hc1 : ¬cond0_1 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = k0_pay8 x0 k0_pay3 x1 := by
  unfold out0_A_15
  unfold kernelRun0_A; dsimp only
  refine (stored2 _ _ _ _ _).trans ?_
  sl_unfold_words
  simp only [load2, reload2]

set_option maxHeartbeats 2000000 in
/-- The gradient of the gain, at the first point. -/
theorem dmng_A (hc0 : cond0_0 i) (hc1 : ¬cond0_1 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = dgB x3 x4 x5 x6 x7 x8 (dmB x0 x2) x10 k0_pay4 := by
  unfold out0_A_16
  unfold kernelRun0_A; dsimp only
  refine (stored2 _ _ _ _ _).trans ?_
  sl_unfold_words
  simp only [load2, reload2]
  rfl

set_option maxHeartbeats 2000000 in
/-- The gradient of the unit's weights, at the first point. -/
theorem dgw_A (hc0 : cond0_0 i) (hc1 : ¬cond0_1 i) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = dgwB x6 x7 x8 x9 (dyB x0 x2 x10) k0_pay5 := by
  unfold out0_A_18
  unfold kernelRun0_A; dsimp only
  refine (stored2 _ _ _ _ _).trans ?_
  sl_unfold_words
  simp only [load2, reload2]
  rfl

set_option maxHeartbeats 2000000 in
/-- The gradient of the unit's bias, at the first point. -/
theorem dgb_A (hc0 : cond0_0 i) (hc1 : ¬cond0_1 i) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = dgbB x6 x7 x8 x9 (dyB x0 x2 x10) k0_pay6 := by
  unfold out0_A_19
  unfold kernelRun0_A; dsimp only
  refine (stored2 _ _ _ _ _).trans ?_
  sl_unfold_words
  simp only [load2, reload2]
  rfl

set_option maxHeartbeats 2000000 in
/-- The running sum of the output weights' gradient, at the first point. -/
theorem acc_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 = accB x3 x4 x5 x6 x7 x8 x9 (dmB x0 x2) k0_pay7 := by
  unfold sout0_A_0
  unfold kernelRun0_A; dsimp only
  refine (stored2 _ _ _ _ _).trans ?_
  sl_unfold_words
  simp only [load2, reload2]
  rfl

set_option maxHeartbeats 2000000 in
/-- The gradient of the block of the first mixer's output, at a point between. -/
theorem dya_B (hc0 : ¬cond0_0 i) (hc1 : ¬cond0_1 i) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dyaB x3 x9 (dmB x0 x2) x10 := by
  unfold out0_B_11
  unfold kernelRun0_B; dsimp only
  refine (stored2 _ _ _ _ _).trans ?_
  sl_unfold_words
  simp only [load2, reload2]
  rfl

set_option maxHeartbeats 2000000 in
/-- The gradient of the block of the second mixer's output, at a point between. -/
theorem dyb_B (hc0 : ¬cond0_0 i) (hc1 : ¬cond0_1 i) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dybB x4 x9 (dyB x0 x2 x10) := by
  unfold out0_B_12
  unfold kernelRun0_B; dsimp only
  refine (stored2 _ _ _ _ _).trans ?_
  sl_unfold_words
  simp only [load2, reload2]
  rfl

set_option maxHeartbeats 2000000 in
/-- The gradient of the block of the third mixer's output, at a point between. -/
theorem dyc_B (hc0 : ¬cond0_0 i) (hc1 : ¬cond0_1 i) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dycB x5 x9 (dyB x0 x2 x10) := by
  unfold out0_B_13
  unfold kernelRun0_B; dsimp only
  refine (stored2 _ _ _ _ _).trans ?_
  sl_unfold_words
  simp only [load2, reload2]
  rfl

set_option maxHeartbeats 2000000 in
/-- The gradient of the gate, at a point between. -/
theorem dgate_B (hc0 : ¬cond0_0 i) (hc1 : ¬cond0_1 i) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = k0_pay8 x0 xo15 x1 := by
  unfold out0_B_15
  unfold kernelRun0_B; dsimp only
  refine (stored2 _ _ _ _ _).trans ?_
  sl_unfold_words
  simp only [load2, reload2]

set_option maxHeartbeats 2000000 in
/-- The gradient of the gain, at a point between. -/
theorem dmng_B (hc0 : ¬cond0_0 i) (hc1 : ¬cond0_1 i) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dgB x3 x4 x5 x6 x7 x8 (dmB x0 x2) x10 xo16 := by
  unfold out0_B_16
  unfold kernelRun0_B; dsimp only
  refine (stored2 _ _ _ _ _).trans ?_
  sl_unfold_words
  simp only [load2, reload2]
  rfl

set_option maxHeartbeats 2000000 in
/-- The gradient of the unit's weights, at a point between. -/
theorem dgw_B (hc0 : ¬cond0_0 i) (hc1 : ¬cond0_1 i) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dgwB x6 x7 x8 x9 (dyB x0 x2 x10) xo18 := by
  unfold out0_B_18
  unfold kernelRun0_B; dsimp only
  refine (stored2 _ _ _ _ _).trans ?_
  sl_unfold_words
  simp only [load2, reload2]
  rfl

set_option maxHeartbeats 2000000 in
/-- The gradient of the unit's bias, at a point between. -/
theorem dgb_B (hc0 : ¬cond0_0 i) (hc1 : ¬cond0_1 i) :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dgbB x6 x7 x8 x9 (dyB x0 x2 x10) xo19 := by
  unfold out0_B_19
  unfold kernelRun0_B; dsimp only
  refine (stored2 _ _ _ _ _).trans ?_
  sl_unfold_words
  simp only [load2, reload2]
  rfl

set_option maxHeartbeats 2000000 in
/-- The running sum of the output weights' gradient, at a point between. -/
theorem acc_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = accB x3 x4 x5 x6 x7 x8 x9 (dmB x0 x2) xs0 := by
  unfold sout0_B_0
  unfold kernelRun0_B; dsimp only
  refine (stored2 _ _ _ _ _).trans ?_
  sl_unfold_words
  simp only [load2, reload2]
  rfl

set_option maxHeartbeats 2000000 in
/-- The gradient of the block of the first mixer's output, at the last point. -/
theorem dya_C (hc0 : ¬cond0_0 i) (hc1 : cond0_1 i) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dyaB x3 x9 (dmB x0 x2) x10 := by
  unfold out0_C_11
  unfold kernelRun0_C; dsimp only
  refine (stored2 _ _ _ _ _).trans ?_
  sl_unfold_words
  simp only [load2, reload2]
  rfl

set_option maxHeartbeats 2000000 in
/-- The gradient of the block of the second mixer's output, at the last point. -/
theorem dyb_C (hc0 : ¬cond0_0 i) (hc1 : cond0_1 i) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dybB x4 x9 (dyB x0 x2 x10) := by
  unfold out0_C_12
  unfold kernelRun0_C; dsimp only
  refine (stored2 _ _ _ _ _).trans ?_
  sl_unfold_words
  simp only [load2, reload2]
  rfl

set_option maxHeartbeats 2000000 in
/-- The gradient of the block of the third mixer's output, at the last point. -/
theorem dyc_C (hc0 : ¬cond0_0 i) (hc1 : cond0_1 i) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dycB x5 x9 (dyB x0 x2 x10) := by
  unfold out0_C_13
  unfold kernelRun0_C; dsimp only
  refine (stored2 _ _ _ _ _).trans ?_
  sl_unfold_words
  simp only [load2, reload2]
  rfl

set_option maxHeartbeats 2000000 in
/-- The gradient of the gate, at the last point. -/
theorem dgate_C (hc0 : ¬cond0_0 i) (hc1 : cond0_1 i) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = k0_pay8 x0 xo15 x1 := by
  unfold out0_C_15
  unfold kernelRun0_C; dsimp only
  refine (stored2 _ _ _ _ _).trans ?_
  sl_unfold_words
  simp only [load2, reload2]

set_option maxHeartbeats 2000000 in
/-- The gradient of the gain, at the last point. -/
theorem dmng_C (hc0 : ¬cond0_0 i) (hc1 : cond0_1 i) :
    out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dgB x3 x4 x5 x6 x7 x8 (dmB x0 x2) x10 xo16 := by
  unfold out0_C_16
  unfold kernelRun0_C; dsimp only
  refine (stored2 _ _ _ _ _).trans ?_
  sl_unfold_words
  simp only [load2, reload2]
  rfl

set_option maxHeartbeats 2000000 in
/-- The gradient of the unit's weights, at the last point. -/
theorem dgw_C (hc0 : ¬cond0_0 i) (hc1 : cond0_1 i) :
    out0_C_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dgwB x6 x7 x8 x9 (dyB x0 x2 x10) xo18 := by
  unfold out0_C_18
  unfold kernelRun0_C; dsimp only
  refine (stored2 _ _ _ _ _).trans ?_
  sl_unfold_words
  simp only [load2, reload2]
  rfl

set_option maxHeartbeats 2000000 in
/-- The gradient of the unit's bias, at the last point. -/
theorem dgb_C (hc0 : ¬cond0_0 i) (hc1 : cond0_1 i) :
    out0_C_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = dgbB x6 x7 x8 x9 (dyB x0 x2 x10) xo19 := by
  unfold out0_C_19
  unfold kernelRun0_C; dsimp only
  refine (stored2 _ _ _ _ _).trans ?_
  sl_unfold_words
  simp only [load2, reload2]
  rfl

set_option maxHeartbeats 2000000 in
/-- The running sum of the output weights' gradient, at the last point. -/
theorem acc_C (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = accB x3 x4 x5 x6 x7 x8 x9 (dmB x0 x2) xs0 := by
  unfold sout0_C_0
  unfold kernelRun0_C; dsimp only
  refine (stored2 _ _ _ _ _).trans ?_
  sl_unfold_words
  simp only [load2, reload2]
  rfl

set_option maxHeartbeats 2000000 in
/-- The output weights' gradient, at the last point. -/
theorem dw_C (hc0 : ¬cond0_0 i) (hc1 : cond0_1 i) :
    out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xo15 xo16 xo18 xo19 xs0 = k0_pay2 (accB x3 x4 x5 x6 x7 x8 x9 (dmB x0 x2) xs0) := by
  unfold out0_C_17
  unfold kernelRun0_C; dsimp only
  refine (stored2 _ _ _ _ _).trans ?_
  sl_unfold_words
  simp only [load2, reload2]
  rfl

end Cert.OutBwd

end
-- ==== Proof.OutBwdLeft.lean ====
/- What each point of the mixers' output gradient kernel leaves in its result blocks and in the running sum of the weights' gradient. -/
module

public import proofs.«01_k».proof.Proof.Gen.Kernel8Ideal.Value
public import proofs.«01_k».proof.Proof.OutBwdOut

@[expose] public section

set_option maxRecDepth 16384

noncomputable section

namespace Cert.OutBwd

open Cert.Kernel8Ideal Cert.Kernel8Ideal.Gen
open Idealize.ShloMosaic Idealize.ShloMosaic.TcCoe
open Idealize.SL.Sem

variable {F : FTy → Type} [FloatOps F] (m : (ℓ : Loc nD τ sig) → Buf (Elt F) ℓ) (c : Dev nD)

/-- Point `n` of the grid. -/
def pt (n : ℕ) : Fin cfg0.N := ⟨n % 4, by have : cfg0.N = 4 := N_0; omega⟩

theorem pt_val (t : Fin cfg0.N) : pt t.val = t :=
  Fin.ext (by have : t.val < 4 := Nat.lt_of_lt_of_eq t.isLt N_0; show t.val % 4 = t.val; omega)

/-- A point's block of the gradient of the product, and of the gradient of the joined rows. -/
def dmV (t : Fin cfg0.N) : Vec F S512x1024 .bf16 := dmB (iblk m c 0 t) (iblk m c 2 t)
def dyV (t : Fin cfg0.N) : Vec F S512x1024 .f32 := dyB (iblk m c 0 t) (iblk m c 2 t) (iblk m c 10 t)

/-! ### The sums before point `n`: the gradients of the gate, of the gain, of the gated unit's weights and bias, and of the output weights -/

def gateV : ℕ → Vec F S1x1024 .f32
  | 0 => k0_pay3
  | n + 1 => k0_pay8 (iblk m c 0 (pt n)) (gateV n) (iblk m c 1 (pt n))
def gainV : ℕ → Vec F S1x1024 .f32
  | 0 => k0_pay4
  | n + 1 => dgB (iblk m c 3 (pt n)) (iblk m c 4 (pt n)) (iblk m c 5 (pt n)) (iblk m c 6 (pt n)) (iblk m c 7 (pt n)) (iblk m c 8 (pt n)) (dmV m c (pt n)) (iblk m c 10 (pt n)) (gainV n)
def gwV : ℕ → Vec F S256x256 .f32
  | 0 => k0_pay5
  | n + 1 => dgwB (iblk m c 6 (pt n)) (iblk m c 7 (pt n)) (iblk m c 8 (pt n)) (iblk m c 9 (pt n)) (dyV m c (pt n)) (gwV n)
def gbV : ℕ → Vec F S1x256 .f32
  | 0 => k0_pay6
  | n + 1 => dgbB (iblk m c 6 (pt n)) (iblk m c 7 (pt n)) (iblk m c 8 (pt n)) (iblk m c 9 (pt n)) (dyV m c (pt n)) (gbV n)
def accV : ℕ → Vec F S1024x1024 .f32
  | 0 => k0_pay7
  | n + 1 => accB (iblk m c 3 (pt n)) (iblk m c 4 (pt n)) (iblk m c 5 (pt n)) (iblk m c 6 (pt n)) (iblk m c 7 (pt n)) (iblk m c 8 (pt n)) (iblk m c 9 (pt n)) (dmV m c (pt n)) (accV n)

theorem gateV_step (t : Fin cfg0.N) : gateV m c (t.val + 1) = k0_pay8 (iblk m c 0 t) (gateV m c t.val) (iblk m c 1 t) := by
  show k0_pay8 (iblk m c 0 (pt t.val)) (gateV m c t.val) (iblk m c 1 (pt t.val)) = _
  rw [pt_val]
theorem gainV_step (t : Fin cfg0.N) : gainV m c (t.val + 1) = dgB (iblk m c 3 t) (iblk m c 4 t) (iblk m c 5 t) (iblk m c 6 t) (iblk m c 7 t) (iblk m c 8 t) (dmV m c t) (iblk m c 10 t) (gainV m c t.val) := by
  show dgB (iblk m c 3 (pt t.val)) (iblk m c 4 (pt t.val)) (iblk m c 5 (pt t.val)) (iblk m c 6 (pt t.val)) (iblk m c 7 (pt t.val)) (iblk m c 8 (pt t.val)) (dmV m c (pt t.val)) (iblk m c 10 (pt t.val)) (gainV m c t.val) = _
  rw [pt_val]
theorem gwV_step (t : Fin cfg0.N) : gwV m c (t.val + 1) = dgwB (iblk m c 6 t) (iblk m c 7 t) (iblk m c 8 t) (iblk m c 9 t) (dyV m c t) (gwV m c t.val) := by
  show dgwB (iblk m c 6 (pt t.val)) (iblk m c 7 (pt t.val)) (iblk m c 8 (pt t.val)) (iblk m c 9 (pt t.val)) (dyV m c (pt t.val)) (gwV m c t.val) = _
  rw [pt_val]
theorem gbV_step (t : Fin cfg0.N) : gbV m c (t.val + 1) = dgbB (iblk m c 6 t) (iblk m c 7 t) (iblk m c 8 t) (iblk m c 9 t) (dyV m c t) (gbV m c t.val) := by
  show dgbB (iblk m c 6 (pt t.val)) (iblk m c 7 (pt t.val)) (iblk m c 8 (pt t.val)) (iblk m c 9 (pt t.val)) (dyV m c (pt t.val)) (gbV m c t.val) = _
  rw [pt_val]
theorem accV_step (t : Fin cfg0.N) : accV m c (t.val + 1) = accB (iblk m c 3 t) (iblk m c 4 t) (iblk m c 5 t) (iblk m c 6 t) (iblk m c 7 t) (iblk m c 8 t) (iblk m c 9 t) (dmV m c t) (accV m c t.val) := by
  show accB (iblk m c 3 (pt t.val)) (iblk m c 4 (pt t.val)) (iblk m c 5 (pt t.val)) (iblk m c 6 (pt t.val)) (iblk m c 7 (pt t.val)) (iblk m c 8 (pt t.val)) (iblk m c 9 (pt t.val)) (dmV m c (pt t.val)) (accV m c t.val) = _
  rw [pt_val]

/-- What the point before `t` leaves. -/
abbrev before (t : Fin cfg0.N) := outsAt0 m c (t.val - 1) (Nat.lt_of_le_of_lt (Nat.sub_le _ _) t.isLt)

theorem left_dya_A (t : Fin cfg0.N) (h0 : t.val % 4 = 0) (h1 : ¬t.val % 4 = 3) : (outsAt0 m c t.val t.isLt).1 = dyaB (iblk m c 3 t) (iblk m c 9 t) (dmV m c t) (iblk m c 10 t) := by
  rw [outsAt0_A m c t h0 h1]
  dsimp only
  rw [dya_A]
  try rfl
theorem left_dyb_A (t : Fin cfg0.N) (h0 : t.val % 4 = 0) (h1 : ¬t.val % 4 = 3) : (outsAt0 m c t.val t.isLt).2.1 = dybB (iblk m c 4 t) (iblk m c 9 t) (dyV m c t) := by
  rw [outsAt0_A m c t h0 h1]
  dsimp only
  rw [dyb_A]
  try rfl
theorem left_dyc_A (t : Fin cfg0.N) (h0 : t.val % 4 = 0) (h1 : ¬t.val % 4 = 3) : (outsAt0 m c t.val t.isLt).2.2.1 = dycB (iblk m c 5 t) (iblk m c 9 t) (dyV m c t) := by
  rw [outsAt0_A m c t h0 h1]
  dsimp only
  rw [dyc_A]
  try rfl
theorem left_dgate_A (t : Fin cfg0.N) (h0 : t.val % 4 = 0) (h1 : ¬t.val % 4 = 3) : (outsAt0 m c t.val t.isLt).2.2.2.2.1 = k0_pay8 (iblk m c 0 t) k0_pay3 (iblk m c 1 t) := by
  rw [outsAt0_A m c t h0 h1]
  dsimp only
  rw [dgate_A]
  try rfl
theorem left_dmng_A (t : Fin cfg0.N) (h0 : t.val % 4 = 0) (h1 : ¬t.val % 4 = 3) : (outsAt0 m c t.val t.isLt).2.2.2.2.2.1 = dgB (iblk m c 3 t) (iblk m c 4 t) (iblk m c 5 t) (iblk m c 6 t) (iblk m c 7 t) (iblk m c 8 t) (dmV m c t) (iblk m c 10 t) k0_pay4 := by
  rw [outsAt0_A m c t h0 h1]
  dsimp only
  rw [dmng_A]
  try rfl
theorem left_dgw_A (t : Fin cfg0.N) (h0 : t.val % 4 = 0) (h1 : ¬t.val % 4 = 3) : (outsAt0 m c t.val t.isLt).2.2.2.2.2.2.2.1 = dgwB (iblk m c 6 t) (iblk m c 7 t) (iblk m c 8 t) (iblk m c 9 t) (dyV m c t) k0_pay5 := by
  rw [outsAt0_A m c t h0 h1]
  dsimp only
  rw [dgw_A]
  try rfl
theorem left_dgb_A (t : Fin cfg0.N) (h0 : t.val % 4 = 0) (h1 : ¬t.val % 4 = 3) : (outsAt0 m c t.val t.isLt).2.2.2.2.2.2.2.2.1 = dgbB (iblk m c 6 t) (iblk m c 7 t) (iblk m c 8 t) (iblk m c 9 t) (dyV m c t) k0_pay6 := by
  rw [outsAt0_A m c t h0 h1]
  dsimp only
  rw [dgb_A]
  try rfl
theorem left_acc_A (t : Fin cfg0.N) (h0 : t.val % 4 = 0) (h1 : ¬t.val % 4 = 3) : (outsAt0 m c t.val t.isLt).2.2.2.2.2.2.2.2.2 = accB (iblk m c 3 t) (iblk m c 4 t) (iblk m c 5 t) (iblk m c 6 t) (iblk m c 7 t) (iblk m c 8 t) (iblk m c 9 t) (dmV m c t) k0_pay7 := by
  rw [outsAt0_A m c t h0 h1]
  dsimp only
  rw [acc_A]
  try rfl

theorem left_dya_B (t : Fin cfg0.N) (h0 : ¬t.val % 4 = 0) (h1 : ¬t.val % 4 = 3) : (outsAt0 m c t.val t.isLt).1 = dyaB (iblk m c 3 t) (iblk m c 9 t) (dmV m c t) (iblk m c 10 t) := by
  rw [outsAt0_B m c t h0 h1]
  dsimp only
  rw [dya_B]
  try rfl
theorem left_dyb_B (t : Fin cfg0.N) (h0 : ¬t.val % 4 = 0) (h1 : ¬t.val % 4 = 3) : (outsAt0 m c t.val t.isLt).2.1 = dybB (iblk m c 4 t) (iblk m c 9 t) (dyV m c t) := by
  rw [outsAt0_B m c t h0 h1]
  dsimp only
  rw [dyb_B]
  try rfl
theorem left_dyc_B (t : Fin cfg0.N) (h0 : ¬t.val % 4 = 0) (h1 : ¬t.val % 4 = 3) : (outsAt0 m c t.val t.isLt).2.2.1 = dycB (iblk m c 5 t) (iblk m c 9 t) (dyV m c t) := by
  rw [outsAt0_B m c t h0 h1]
  dsimp only
  rw [dyc_B]
  try rfl
theorem left_dgate_B (t : Fin cfg0.N) (h0 : ¬t.val % 4 = 0) (h1 : ¬t.val % 4 = 3) : (outsAt0 m c t.val t.isLt).2.2.2.2.1 = k0_pay8 (iblk m c 0 t) (before m c t).2.2.2.2.1 (iblk m c 1 t) := by
  rw [outsAt0_B m c t h0 h1]
  dsimp only
  rw [dgate_B]
  try rfl
theorem left_dmng_B (t : Fin cfg0.N) (h0 : ¬t.val % 4 = 0) (h1 : ¬t.val % 4 = 3) : (outsAt0 m c t.val t.isLt).2.2.2.2.2.1 = dgB (iblk m c 3 t) (iblk m c 4 t) (iblk m c 5 t) (iblk m c 6 t) (iblk m c 7 t) (iblk m c 8 t) (dmV m c t) (iblk m c 10 t) (before m c t).2.2.2.2.2.1 := by
  rw [outsAt0_B m c t h0 h1]
  dsimp only
  rw [dmng_B]
  try rfl
theorem left_dgw_B (t : Fin cfg0.N) (h0 : ¬t.val % 4 = 0) (h1 : ¬t.val % 4 = 3) : (outsAt0 m c t.val t.isLt).2.2.2.2.2.2.2.1 = dgwB (iblk m c 6 t) (iblk m c 7 t) (iblk m c 8 t) (iblk m c 9 t) (dyV m c t) (before m c t).2.2.2.2.2.2.2.1 := by
  rw [outsAt0_B m c t h0 h1]
  dsimp only
  rw [dgw_B]
  try rfl
theorem left_dgb_B (t : Fin cfg0.N) (h0 : ¬t.val % 4 = 0) (h1 : ¬t.val % 4 = 3) : (outsAt0 m c t.val t.isLt).2.2.2.2.2.2.2.2.1 = dgbB (iblk m c 6 t) (iblk m c 7 t) (iblk m c 8 t) (iblk m c 9 t) (dyV m c t) (before m c t).2.2.2.2.2.2.2.2.1 := by
  rw [outsAt0_B m c t h0 h1]
  dsimp only
  rw [dgb_B]
  try rfl
theorem left_acc_B (t : Fin cfg0.N) (h0 : ¬t.val % 4 = 0) (h1 : ¬t.val % 4 = 3) : (outsAt0 m c t.val t.isLt).2.2.2.2.2.2.2.2.2 = accB (iblk m c 3 t) (iblk m c 4 t) (iblk m c 5 t) (iblk m c 6 t) (iblk m c 7 t) (iblk m c 8 t) (iblk m c 9 t) (dmV m c t) (before m c t).2.2.2.2.2.2.2.2.2 := by
  rw [outsAt0_B m c t h0 h1]
  dsimp only
  rw [acc_B]
  try rfl

theorem left_dya_C (t : Fin cfg0.N) (h0 : ¬t.val % 4 = 0) (h1 : t.val % 4 = 3) : (outsAt0 m c t.val t.isLt).1 = dyaB (iblk m c 3 t) (iblk m c 9 t) (dmV m c t) (iblk m c 10 t) := by
  rw [outsAt0_C m c t h0 h1]
  dsimp only
  rw [dya_C]
  try rfl
theorem left_dyb_C (t : Fin cfg0.N) (h0 : ¬t.val % 4 = 0) (h1 : t.val % 4 = 3) : (outsAt0 m c t.val t.isLt).2.1 = dybB (iblk m c 4 t) (iblk m c 9 t) (dyV m c t) := by
  rw [outsAt0_C m c t h0 h1]
  dsimp only
  rw [dyb_C]
  try rfl
theorem left_dyc_C (t : Fin cfg0.N) (h0 : ¬t.val % 4 = 0) (h1 : t.val % 4 = 3) : (outsAt0 m c t.val t.isLt).2.2.1 = dycB (iblk m c 5 t) (iblk m c 9 t) (dyV m c t) := by
  rw [outsAt0_C m c t h0 h1]
  dsimp only
  rw [dyc_C]
  try rfl
theorem left_dgate_C (t : Fin cfg0.N) (h0 : ¬t.val % 4 = 0) (h1 : t.val % 4 = 3) : (outsAt0 m c t.val t.isLt).2.2.2.2.1 = k0_pay8 (iblk m c 0 t) (before m c t).2.2.2.2.1 (iblk m c 1 t) := by
  rw [outsAt0_C m c t h0 h1]
  dsimp only
  rw [dgate_C]
  try rfl
theorem left_dmng_C (t : Fin cfg0.N) (h0 : ¬t.val % 4 = 0) (h1 : t.val % 4 = 3) : (outsAt0 m c t.val t.isLt).2.2.2.2.2.1 = dgB (iblk m c 3 t) (iblk m c 4 t) (iblk m c 5 t) (iblk m c 6 t) (iblk m c 7 t) (iblk m c 8 t) (dmV m c t) (iblk m c 10 t) (before m c t).2.2.2.2.2.1 := by
  rw [outsAt0_C m c t h0 h1]
  dsimp only
  rw [dmng_C]
  try rfl
theorem left_dgw_C (t : Fin cfg0.N) (h0 : ¬t.val % 4 = 0) (h1 : t.val % 4 = 3) : (outsAt0 m c t.val t.isLt).2.2.2.2.2.2.2.1 = dgwB (iblk m c 6 t) (iblk m c 7 t) (iblk m c 8 t) (iblk m c 9 t) (dyV m c t) (before m c t).2.2.2.2.2.2.2.1 := by
  rw [outsAt0_C m c t h0 h1]
  dsimp only
  rw [dgw_C]
  try rfl
theorem left_dgb_C (t : Fin cfg0.N) (h0 : ¬t.val % 4 = 0) (h1 : t.val % 4 = 3) : (outsAt0 m c t.val t.isLt).2.2.2.2.2.2.2.2.1 = dgbB (iblk m c 6 t) (iblk m c 7 t) (iblk m c 8 t) (iblk m c 9 t) (dyV m c t) (before m c t).2.2.2.2.2.2.2.2.1 := by
  rw [outsAt0_C m c t h0 h1]
  dsimp only
  rw [dgb_C]
  try rfl
theorem left_acc_C (t : Fin cfg0.N) (h0 : ¬t.val % 4 = 0) (h1 : t.val % 4 = 3) : (outsAt0 m c t.val t.isLt).2.2.2.2.2.2.2.2.2 = accB (iblk m c 3 t) (iblk m c 4 t) (iblk m c 5 t) (iblk m c 6 t) (iblk m c 7 t) (iblk m c 8 t) (iblk m c 9 t) (dmV m c t) (before m c t).2.2.2.2.2.2.2.2.2 := by
  rw [outsAt0_C m c t h0 h1]
  dsimp only
  rw [acc_C]
  try rfl

theorem left_dw_C (t : Fin cfg0.N) (h0 : ¬t.val % 4 = 0) (h1 : t.val % 4 = 3) : (outsAt0 m c t.val t.isLt).2.2.2.2.2.2.1 = k0_pay2 (accB (iblk m c 3 t) (iblk m c 4 t) (iblk m c 5 t) (iblk m c 6 t) (iblk m c 7 t) (iblk m c 8 t) (iblk m c 9 t) (dmV m c t) (before m c t).2.2.2.2.2.2.2.2.2) := by
  rw [outsAt0_C m c t h0 h1]
  dsimp only
  rw [dw_C]
  rfl

/-- What point `n` leaves in its sum. -/
theorem left_gateV (n : ℕ) : ∀ hn : n < cfg0.N, (outsAt0 m c n hn).2.2.2.2.1 = gateV m c (n + 1) := by
  induction n with
  | zero => exact fun hn => (left_dgate_A m c ⟨0, hn⟩ rfl (by show ¬ 0 % 4 = 3; decide)).trans (gateV_step m c ⟨0, hn⟩).symm
  | succ n ih =>
    intro hn
    have h4 : n + 1 < 4 := Nat.lt_of_lt_of_eq hn N_0
    have a := gateV_step m c ⟨n + 1, hn⟩
    have b : (before m c ⟨n + 1, hn⟩).2.2.2.2.1 = gateV m c (n + 1) := ih (Nat.lt_of_succ_lt hn)
    by_cases h : n + 1 = 3
    · have e := left_dgate_C m c ⟨n + 1, hn⟩ (by show ¬ (n + 1) % 4 = 0; omega) (by show (n + 1) % 4 = 3; omega)
      rw [b] at e
      exact e.trans a.symm
    · have e := left_dgate_B m c ⟨n + 1, hn⟩ (by show ¬ (n + 1) % 4 = 0; omega) (by show ¬ (n + 1) % 4 = 3; omega)
      rw [b] at e
      exact e.trans a.symm

/-- What point `n` leaves in its sum. -/
theorem left_gainV (n : ℕ) : ∀ hn : n < cfg0.N, (outsAt0 m c n hn).2.2.2.2.2.1 = gainV m c (n + 1) := by
  induction n with
  | zero => exact fun hn => (left_dmng_A m c ⟨0, hn⟩ rfl (by show ¬ 0 % 4 = 3; decide)).trans (gainV_step m c ⟨0, hn⟩).symm
  | succ n ih =>
    intro hn
    have h4 : n + 1 < 4 := Nat.lt_of_lt_of_eq hn N_0
    have a := gainV_step m c ⟨n + 1, hn⟩
    have b : (before m c ⟨n + 1, hn⟩).2.2.2.2.2.1 = gainV m c (n + 1) := ih (Nat.lt_of_succ_lt hn)
    by_cases h : n + 1 = 3
    · have e := left_dmng_C m c ⟨n + 1, hn⟩ (by show ¬ (n + 1) % 4 = 0; omega) (by show (n + 1) % 4 = 3; omega)
      rw [b] at e
      exact e.trans a.symm
    · have e := left_dmng_B m c ⟨n + 1, hn⟩ (by show ¬ (n + 1) % 4 = 0; omega) (by show ¬ (n + 1) % 4 = 3; omega)
      rw [b] at e
      exact e.trans a.symm

/-- What point `n` leaves in its sum. -/
theorem left_gwV (n : ℕ) : ∀ hn : n < cfg0.N, (outsAt0 m c n hn).2.2.2.2.2.2.2.1 = gwV m c (n + 1) := by
  induction n with
  | zero => exact fun hn => (left_dgw_A m c ⟨0, hn⟩ rfl (by show ¬ 0 % 4 = 3; decide)).trans (gwV_step m c ⟨0, hn⟩).symm
  | succ n ih =>
    intro hn
    have h4 : n + 1 < 4 := Nat.lt_of_lt_of_eq hn N_0
    have a := gwV_step m c ⟨n + 1, hn⟩
    have b : (before m c ⟨n + 1, hn⟩).2.2.2.2.2.2.2.1 = gwV m c (n + 1) := ih (Nat.lt_of_succ_lt hn)
    by_cases h : n + 1 = 3
    · have e := left_dgw_C m c ⟨n + 1, hn⟩ (by show ¬ (n + 1) % 4 = 0; omega) (by show (n + 1) % 4 = 3; omega)
      rw [b] at e
      exact e.trans a.symm
    · have e := left_dgw_B m c ⟨n + 1, hn⟩ (by show ¬ (n + 1) % 4 = 0; omega) (by show ¬ (n + 1) % 4 = 3; omega)
      rw [b] at e
      exact e.trans a.symm

/-- What point `n` leaves in its sum. -/
theorem left_gbV (n : ℕ) : ∀ hn : n < cfg0.N, (outsAt0 m c n hn).2.2.2.2.2.2.2.2.1 = gbV m c (n + 1) := by
  induction n with
  | zero => exact fun hn => (left_dgb_A m c ⟨0, hn⟩ rfl (by show ¬ 0 % 4 = 3; decide)).trans (gbV_step m c ⟨0, hn⟩).symm
  | succ n ih =>
    intro hn
    have h4 : n + 1 < 4 := Nat.lt_of_lt_of_eq hn N_0
    have a := gbV_step m c ⟨n + 1, hn⟩
    have b : (before m c ⟨n + 1, hn⟩).2.2.2.2.2.2.2.2.1 = gbV m c (n + 1) := ih (Nat.lt_of_succ_lt hn)
    by_cases h : n + 1 = 3
    · have e := left_dgb_C m c ⟨n + 1, hn⟩ (by show ¬ (n + 1) % 4 = 0; omega) (by show (n + 1) % 4 = 3; omega)
      rw [b] at e
      exact e.trans a.symm
    · have e := left_dgb_B m c ⟨n + 1, hn⟩ (by show ¬ (n + 1) % 4 = 0; omega) (by show ¬ (n + 1) % 4 = 3; omega)
      rw [b] at e
      exact e.trans a.symm

/-- What point `n` leaves in its sum. -/
theorem left_accV (n : ℕ) : ∀ hn : n < cfg0.N, (outsAt0 m c n hn).2.2.2.2.2.2.2.2.2 = accV m c (n + 1) := by
  induction n with
  | zero => exact fun hn => (left_acc_A m c ⟨0, hn⟩ rfl (by show ¬ 0 % 4 = 3; decide)).trans (accV_step m c ⟨0, hn⟩).symm
  | succ n ih =>
    intro hn
    have h4 : n + 1 < 4 := Nat.lt_of_lt_of_eq hn N_0
    have a := accV_step m c ⟨n + 1, hn⟩
    have b : (before m c ⟨n + 1, hn⟩).2.2.2.2.2.2.2.2.2 = accV m c (n + 1) := ih (Nat.lt_of_succ_lt hn)
    by_cases h : n + 1 = 3
    · have e := left_acc_C m c ⟨n + 1, hn⟩ (by show ¬ (n + 1) % 4 = 0; omega) (by show (n + 1) % 4 = 3; omega)
      rw [b] at e
      exact e.trans a.symm
    · have e := left_acc_B m c ⟨n + 1, hn⟩ (by show ¬ (n + 1) % 4 = 0; omega) (by show ¬ (n + 1) % 4 = 3; omega)
      rw [b] at e
      exact e.trans a.symm

/-- What a point leaves in its block of the gradient of the first mixer's output. -/
theorem left_dya (t : Fin cfg0.N) : (outsAt0 m c t.val t.isLt).1 = dyaB (iblk m c 3 t) (iblk m c 9 t) (dmV m c t) (iblk m c 10 t) := by
  by_cases h0 : t.val % 4 = 0
  · exact left_dya_A m c t h0 (by omega)
  by_cases h1 : t.val % 4 = 3
  · exact left_dya_C m c t h0 h1
  · exact left_dya_B m c t h0 h1

/-- What a point leaves in its block of the gradient of the second mixer's output. -/
theorem left_dyb (t : Fin cfg0.N) : (outsAt0 m c t.val t.isLt).2.1 = dybB (iblk m c 4 t) (iblk m c 9 t) (dyV m c t) := by
  by_cases h0 : t.val % 4 = 0
  · exact left_dyb_A m c t h0 (by omega)
  by_cases h1 : t.val % 4 = 3
  · exact left_dyb_C m c t h0 h1
  · exact left_dyb_B m c t h0 h1

/-- What a point leaves in its block of the gradient of the third mixer's output. -/
theorem left_dyc (t : Fin cfg0.N) : (outsAt0 m c t.val t.isLt).2.2.1 = dycB (iblk m c 5 t) (iblk m c 9 t) (dyV m c t) := by
  by_cases h0 : t.val % 4 = 0
  · exact left_dyc_A m c t h0 (by omega)
  by_cases h1 : t.val % 4 = 3
  · exact left_dyc_C m c t h0 h1
  · exact left_dyc_B m c t h0 h1

/-- What the last point leaves in the weights' gradient. -/
theorem left_dw (t : Fin cfg0.N) (h : t.val % 4 = 3) : (outsAt0 m c t.val t.isLt).2.2.2.2.2.2.1 = k0_pay2 (accV m c 4) := by
  have h4 : t.val < 4 := Nat.lt_of_lt_of_eq t.isLt N_0
  have a := accV_step m c t
  rw [(by omega : t.val + 1 = 4)] at a
  have ih : (before m c t).2.2.2.2.2.2.2.2.2 = accV m c (t.val - 1 + 1) := left_accV m c (t.val - 1) (Nat.lt_of_le_of_lt (Nat.sub_le _ _) t.isLt)
  rw [(by omega : t.val - 1 + 1 = t.val)] at ih
  have e := left_dw_C m c t (by omega) h
  rw [ih, ← a] at e
  exact e

end Cert.OutBwd

end
-- ==== Proof.OutBwdSpec.lean ====
/- The mathematics of the mixers' output gradient, over the extended reals: the gradients of the gate, of the output weights,
   of the gain, of the four mixers' normed rows, and of the last mixer's gated unit. -/
module

public import proofs.«01_k».proof.Proof.MixOutSpec

@[expose] public section

noncomputable section

namespace Cert.OutBwd

open Idealize.ShloMosaic Cert.FfnBwd Cert.FfnFwd Cert.MixOut

/-- The gradient of the product with the output weights, and of the joined rows. -/
def dmS {n : ℕ} (x : Mat n 1024) (ga : Mat 1 1024) : Mat n 1024 := fun i => ga (ix2 0 (i 1)) * x i
def dyS {n : ℕ} (dm : Mat n 1024) (wo : Mat 1024 1024) : Mat n 1024 := fun i => ∑ j : Fin 1024, dm (ix2 (i 0) j) * wo (ix2 (i 1) j)

/-- The gradient of mixer `q`'s normed row `r`. -/
def cotR {n : ℕ} (dy : Mat n 1024) (g : Mat 1 1024) (r : Fin n) (q : Fin 4) : Row := fun p => dy (ix2 r (col q p)) * g (ix2 0 (col q p))

/-- The gradient of a row `y` under its norm, `d` the gradient of the normed row. -/
def gradR (y d : Row) : Row := fun p => rR y * (d p - hatR y p * Ideal.div (∑ l : Fin 256, d l * hatR y l) widE)

/-- The gradient of mixer `q`'s output. -/
def outS {n : ℕ} (f : Fin n → Fin 4 → Row) (dy : Mat n 1024) (g : Mat 1 1024) (q : Fin 4) : Mat n 256 := fun i =>
  gradR (f (i 0) q) (cotR dy g (i 0) q) (i 1)

/-- The gradients of the gate, of the gain and of the output weights. -/
def dgateS {n : ℕ} (m x : Mat n 1024) : Mat 1 1024 := fun i => ∑ r : Fin n, m (ix2 r (i 1)) * x (ix2 r (i 1))
def dgS {n : ℕ} (f : Fin n → Fin 4 → Row) (dy : Mat n 1024) : Mat 1 1024 := fun i =>
  ∑ r : Fin n, dy (ix2 r (i 1)) * hatR (f r (grp (i 1))) (pos (i 1))
def dwS {n : ℕ} (f : Fin n → Fin 4 → Row) (g : Mat 1 1024) (dm : Mat n 1024) : Mat 1024 1024 := fun i =>
  ∑ r : Fin n, joinR (f r) g (i 0) * dm (ix2 r (i 1))

/-- The gradient of what the gate's sigmoid is taken of, `d` the gradient of the last mixer's output. -/
def linR (y : Row) (w : Mat 256 256) (b : Mat 1 256) (d : Row) : Row := fun p =>
  d p * geluS (y p) * gateR y w b p * (1 - gateR y w b p)
def linS {n : ℕ} (y : Mat n 256) (w : Mat 256 256) (b : Mat 1 256) (d : Mat n 256) : Mat n 256 := fun i =>
  linR (rowOf y (i 0)) w b (rowOf d (i 0)) (i 1)

/-- The gradients of the gated unit's weights and bias. -/
def dgwS {n : ℕ} (y l : Mat n 256) : Mat 256 256 := fun i => ∑ r : Fin n, geluS (y (ix2 r (i 0))) * l (ix2 r (i 1))
def dgbS {n : ℕ} (l : Mat n 256) : Mat 1 256 := fun i => ∑ r : Fin n, l (ix2 r (i 1))

end Cert.OutBwd

end
-- ==== Proof.OutBwdPay.lean ====
/- The mixers' output gradient kernel's arithmetic, element by element, over the extended reals. -/
module

public import proofs.«01_k».proof.Proof.OutBwdOut
public import proofs.«01_k».proof.Proof.OutBwdSpec
public import Idealize.ShloMosaic.Lib.Pointwise

@[expose] public section

set_option maxRecDepth 16384

noncomputable section

namespace Cert.OutBwd

open Cert.Kernel8Ideal Cert.Kernel8Ideal.Gen Cert.Whole Cert.FfnBwd Cert.FfnFwd Cert.MixOut
open Idealize.ShloMosaic

/-! ### The last mixer's gated unit -/

theorem ygB_apply (y : Vec Ideal S512x256 .f32) (r : Fin 512) (p : Fin 256) : ygB y (ix2 r p) = geluS (y (ix2 r p)) := by
  unfold ygB k0_pay13 k0_pay12 k0_pay11 k0_pay10; pointwise; rfl

theorem sgB_apply (y : Vec Ideal S512x256 .f32) (w : Vec Ideal S256x256 .f32) (b : Vec Ideal S1x256 .f32) (r : Fin 512) (p : Fin 256) :
    sgB y w b (ix2 r p) = gateR (rowOf y r) w b p := by
  unfold sgB k0_pay14 k0_pay13 k0_pay12 k0_pay11 k0_pay10; pointwise; rfl

theorem ydB_apply (y : Vec Ideal S512x256 .f32) (w : Vec Ideal S256x256 .f32) (b : Vec Ideal S1x256 .f32) (r : Fin 512) (p : Fin 256) :
    ydB y w b (ix2 r p) = ydR (rowOf y r) w b p := by
  unfold ydB k0_pay15 k0_pay14 k0_pay13 k0_pay12 k0_pay11 k0_pay10; pointwise; rfl

/-! ### The gradients of the product and of the joined rows -/

theorem dmB_apply (x : Vec Ideal S512x1024 .f32) (ga : Vec Ideal S1x1024 .f32) (r : Fin 512) (j : Fin 1024) :
    dmB x ga (ix2 r j) = dmS x ga (ix2 r j) := by
  unfold dmB k0_pay9; pointwise; rfl

theorem pay29_apply (dm : Vec Ideal S512x1024 .bf16) (w : Vec Ideal S1024x1024 .bf16) (r : Fin 512) (k : Fin 1024) :
    k0_pay29 dm w (ix2 r k) = dyS (n := 512) dm w (ix2 r k) := by
  unfold k0_pay29; pointwise; rfl

theorem pay8_apply (x m : Vec Ideal S512x1024 .f32) (X : Vec Ideal S1x1024 .f32) (k : Fin 1024) :
    k0_pay8 x X m (ix2 0 k) = X (ix2 0 k) + ∑ r : Fin 512, m (ix2 r k) * x (ix2 r k) := by
  unfold k0_pay8; pointwise

/-! ### The norms -/

theorem hat17 (y : Vec Ideal S512x256 .f32) (r : Fin 512) (p : Fin 256) : k0_pay17 y (ix2 r p) = hatR (rowOf y r) p := by
  unfold k0_pay17 k0_pay16; pointwise; rfl
theorem hat20 (y : Vec Ideal S512x256 .f32) (r : Fin 512) (p : Fin 256) : k0_pay20 y (ix2 r p) = hatR (rowOf y r) p := by
  unfold k0_pay20 k0_pay19; pointwise; rfl
theorem hat25 (y : Vec Ideal S512x256 .f32) (r : Fin 512) (p : Fin 256) : k0_pay25 y (k0_pay22 y) k0_pay23 (ix2 r p) = hatR (rowOf y r) p := by
  unfold k0_pay25 k0_pay24 k0_pay23 k0_pay22; pointwise; rfl
theorem hat27 (y : Vec Ideal S512x256 .f32) (r : Fin 512) (p : Fin 256) : k0_pay27 (F := Ideal) y (ix2 r p) = hatR (rowOf y r) p := by
  unfold k0_pay27 k0_pay26; pointwise; rfl
theorem root16 (y : Vec Ideal S512x256 .f32) (r : Fin 512) : k0_pay16 y (ix2 r 0) = rR (rowOf y r) := by
  unfold k0_pay16; pointwise; rfl
theorem root19 (y : Vec Ideal S512x256 .f32) (r : Fin 512) : k0_pay19 y (ix2 r 0) = rR (rowOf y r) := by
  unfold k0_pay19; pointwise; rfl
theorem root24 (y : Vec Ideal S512x256 .f32) (r : Fin 512) : k0_pay24 (k0_pay22 y) k0_pay23 (ix2 r 0) = rR (rowOf y r) := by
  unfold k0_pay24 k0_pay23 k0_pay22; pointwise; rfl
theorem root26 (y : Vec Ideal S512x256 .f32) (r : Fin 512) : k0_pay26 (F := Ideal) y (ix2 r 0) = rR (rowOf y r) := by
  unfold k0_pay26; pointwise; rfl

theorem col0 (p : Fin 256) (h : p.val < 1024) : (⟨p.val, h⟩ : Fin 1024) = col 0 p := Fin.ext (by show p.val = 0 * 256 + p.val; omega)

/-- The gradient of a block of the first mixer's output. -/
theorem dyaB_apply (a : Vec Ideal S512x256 .f32) (g : Vec Ideal S1x1024 .f32) (dm : Vec Ideal S512x1024 .bf16) (w : Vec Ideal S1024x1024 .bf16)
    (r : Fin 512) (p : Fin 256) : dyaB a g dm w (ix2 r p) = gradR (rowOf a r) (cotR (n := 512) (k0_pay29 dm w) g r 0) p := by
  have e : ∀ l : Fin 256, k0_pay17 a (ix2 r l) = hatR (rowOf a r) l := hat17 a r
  have e' := root16 a r
  unfold dyaB k0_pay34 k0_pay33 k0_pay32 k0_pay30
  generalize k0_pay17 a = h at e ⊢
  generalize k0_pay16 a = q at e' ⊢
  generalize k0_pay29 dm w = d
  pointwise
  simp only [e, e', col0]
  rfl

/-- The gradients of a block of the second and third mixers' outputs. -/
theorem dybB_apply (a : Vec Ideal S512x256 .f32) (g : Vec Ideal S1x1024 .f32) (d : Vec Ideal S512x1024 .f32)
    (r : Fin 512) (p : Fin 256) : dybB a g d (ix2 r p) = gradR (rowOf a r) (cotR (n := 512) d g r 1) p := by
  have e : ∀ l : Fin 256, k0_pay20 a (ix2 r l) = hatR (rowOf a r) l := hat20 a r
  have e' := root19 a r
  unfold dybB k0_pay37 k0_pay35
  generalize k0_pay20 a = h at e ⊢
  generalize k0_pay19 a = q at e' ⊢
  pointwise
  simp only [e, e']
  rfl

theorem dycB_apply (a : Vec Ideal S512x256 .f32) (g : Vec Ideal S1x1024 .f32) (d : Vec Ideal S512x1024 .f32)
    (r : Fin 512) (p : Fin 256) : dycB a g d (ix2 r p) = gradR (rowOf a r) (cotR (n := 512) d g r 2) p := by
  have e : ∀ l : Fin 256, k0_pay25 a (k0_pay22 a) k0_pay23 (ix2 r l) = hatR (rowOf a r) l := hat25 a r
  have e' := root24 a r
  unfold dycB k0_pay40 k0_pay38
  generalize k0_pay25 a (k0_pay22 a) k0_pay23 = h at e ⊢
  generalize k0_pay24 (k0_pay22 a) k0_pay23 = q at e' ⊢
  pointwise
  simp only [e, e']
  rfl

/-- The gradient of what the gate's sigmoid is taken of, in a block. -/
def linB (y : Vec Ideal S512x256 .f32) (w : Vec Ideal S256x256 .f32) (b : Vec Ideal S1x256 .f32) (g : Vec Ideal S1x1024 .f32) (d : Vec Ideal S512x1024 .f32) :
    Vec Ideal S512x256 .f32 :=
  k0_pay47 (ygB y) (sgB y w b) (k0_pay26 (ydB y w b)) (k0_pay43 g d) (k0_pay44 g (k0_pay27 (ydB y w b)) d)

theorem linB_apply (y : Vec Ideal S512x256 .f32) (w : Vec Ideal S256x256 .f32) (b : Vec Ideal S1x256 .f32) (g : Vec Ideal S1x1024 .f32)
    (d : Vec Ideal S512x1024 .f32) (r : Fin 512) (p : Fin 256) :
    linB y w b g d (ix2 r p) = linR (rowOf y r) w b (gradR (ydR (rowOf y r) w b) (cotR (n := 512) d g r 3)) p := by
  have ey : rowOf (n := 512) (ydB y w b) r = ydR (rowOf y r) w b := funext fun l => ydB_apply y w b r l
  have e : ∀ l : Fin 256, k0_pay27 (ydB y w b) (ix2 r l) = hatR (ydR (rowOf y r) w b) l := fun l => (hat27 _ r l).trans (by rw [ey])
  have e' : k0_pay26 (ydB y w b) (ix2 r 0) = rR (ydR (rowOf y r) w b) := (root26 _ r).trans (by rw [ey])
  have e1 := ygB_apply y r p
  have e2 := sgB_apply y w b r p
  unfold linB k0_pay47 k0_pay45 k0_pay44 k0_pay43 k0_pay41
  generalize k0_pay27 (ydB y w b) = h at e ⊢
  generalize k0_pay26 (ydB y w b) = q at e' ⊢
  generalize ygB y = u at e1 ⊢
  generalize sgB y w b = v at e2 ⊢
  pointwise
  simp only [e, e', e1, e2]
  rfl

theorem dgwB_apply (y : Vec Ideal S512x256 .f32) (w : Vec Ideal S256x256 .f32) (b : Vec Ideal S1x256 .f32) (g : Vec Ideal S1x1024 .f32)
    (d : Vec Ideal S512x1024 .f32) (X : Vec Ideal S256x256 .f32) (l p : Fin 256) :
    dgwB y w b g d X (ix2 l p) = X (ix2 l p) + ∑ r : Fin 512, geluS (y (ix2 r l)) * linB y w b g d (ix2 r p) := by
  have e : ∀ r : Fin 512, ygB y (ix2 r l) = geluS (y (ix2 r l)) := fun r => ygB_apply y r l
  simp only [← e]
  unfold dgwB k0_pay48 linB
  generalize k0_pay47 (ygB y) (sgB y w b) (k0_pay26 (ydB y w b)) (k0_pay43 g d) (k0_pay44 g (k0_pay27 (ydB y w b)) d) = z
  generalize ygB y = u
  pointwise

theorem dgbB_apply (y : Vec Ideal S512x256 .f32) (w : Vec Ideal S256x256 .f32) (b : Vec Ideal S1x256 .f32) (g : Vec Ideal S1x1024 .f32)
    (d : Vec Ideal S512x1024 .f32) (X : Vec Ideal S1x256 .f32) (p : Fin 256) :
    dgbB y w b g d X (ix2 0 p) = X (ix2 0 p) + ∑ r : Fin 512, linB y w b g d (ix2 r p) := by
  unfold dgbB k0_pay49 linB
  generalize k0_pay47 (ygB y) (sgB y w b) (k0_pay26 (ydB y w b)) (k0_pay43 g d) (k0_pay44 g (k0_pay27 (ydB y w b)) d) = z
  pointwise

/-! ### The joined rows -/

/-- A row of 1024 columns made of four of 256, at a column of part `q`. -/
theorem part {n : ℕ} (v : Fin 4 → Fin 256 → EReal) (z : Mat n 1024) (r : Fin n) (q : Fin 4) (p : Fin 256)
    (h : z (ix2 r (col q p)) = if h0 : (col q p).val < 256 then v 0 ⟨(col q p).val, h0⟩
      else if h1 : (col q p).val - 256 < 256 then v 1 ⟨(col q p).val - 256, h1⟩
      else if h2 : (col q p).val - 256 - 256 < 256 then v 2 ⟨(col q p).val - 256 - 256, h2⟩
      else v 3 ⟨(col q p).val - 256 - 256 - 256, by omega⟩) : z (ix2 r (col q p)) = v q p := by
  refine h.trans ?_
  have hp := p.isLt
  match q with
  | 0 =>
    rw [dif_pos (show (col 0 p).val < 256 by show 0 * 256 + p.val < 256; omega)]
    exact congrArg (v 0) (Fin.ext (by show 0 * 256 + p.val = p.val; omega))
  | 1 =>
    rw [dif_neg (show ¬ (col 1 p).val < 256 by show ¬ 1 * 256 + p.val < 256; omega), dif_pos (show (col 1 p).val - 256 < 256 by show 1 * 256 + p.val - 256 < 256; omega)]
    exact congrArg (v 1) (Fin.ext (by show 1 * 256 + p.val - 256 = p.val; omega))
  | 2 =>
    rw [dif_neg (show ¬ (col 2 p).val < 256 by show ¬ 2 * 256 + p.val < 256; omega), dif_neg (show ¬ (col 2 p).val - 256 < 256 by show ¬ 2 * 256 + p.val - 256 < 256; omega),
      dif_pos (show (col 2 p).val - 256 - 256 < 256 by show 2 * 256 + p.val - 256 - 256 < 256; omega)]
    exact congrArg (v 2) (Fin.ext (by show 2 * 256 + p.val - 256 - 256 = p.val; omega))
  | 3 =>
    rw [dif_neg (show ¬ (col 3 p).val < 256 by show ¬ 3 * 256 + p.val < 256; omega), dif_neg (show ¬ (col 3 p).val - 256 < 256 by show ¬ 3 * 256 + p.val - 256 < 256; omega),
      dif_neg (show ¬ (col 3 p).val - 256 - 256 < 256 by show ¬ 3 * 256 + p.val - 256 - 256 < 256; omega)]
    exact congrArg (v 3) (Fin.ext (by show 3 * 256 + p.val - 256 - 256 - 256 = p.val; omega))

theorem pay46_apply (a b c d : Vec Ideal S1x256 .f32) (X : Vec Ideal S1x1024 .f32) (q : Fin 4) (p : Fin 256) :
    k0_pay46 a b c d X (ix2 0 (col q p)) = X (ix2 0 (col q p)) + (match q with | 0 => a | 1 => b | 2 => c | 3 => d) (ix2 0 p) := by
  unfold k0_pay46
  pointwise
  congr 1
  exact part (n := 1) (fun q l => (match q with | 0 => a | 1 => b | 2 => c | 3 => d) (ix2 0 l))
    (fun _ => _) 0 q p rfl

/-- The gradient of the gain from a block of rows, added to what it held. -/
theorem dgB_apply (a b d y : Vec Ideal S512x256 .f32) (w : Vec Ideal S256x256 .f32) (e : Vec Ideal S1x256 .f32) (dm : Vec Ideal S512x1024 .bf16)
    (wo : Vec Ideal S1024x1024 .bf16) (X : Vec Ideal S1x1024 .f32) (k : Fin 1024) :
    dgB a b d y w e dm wo X (ix2 0 k) = X (ix2 0 k)
      + ∑ r : Fin 512, k0_pay29 dm wo (ix2 r k) * hatR (rows4 (n := 512) a b d y w e r (grp k)) (pos k) := by
  obtain ⟨q, p, rfl⟩ : ∃ q p, col q p = k := ⟨_, _, col_grp_pos k⟩
  rw [grp_col, pos_col]
  unfold dgB
  rw [pay46_apply]
  congr 1
  match q with
  | 0 =>
    have h : ∀ r : Fin 512, k0_pay17 a (ix2 r p) = hatR (rowOf a r) p := fun r => hat17 a r p
    show k0_pay31 dm (k0_pay17 a) wo (ix2 0 p) = ∑ r : Fin 512, k0_pay29 dm wo (ix2 r (col 0 p)) * hatR (rowOf a r) p
    unfold k0_pay31 k0_pay30
    generalize k0_pay29 dm wo = z
    generalize k0_pay17 a = u at h ⊢
    pointwise
    simp only [h, col0]
  | 1 =>
    have h : ∀ r : Fin 512, k0_pay20 b (ix2 r p) = hatR (rowOf b r) p := fun r => hat20 b r p
    show k0_pay36 (k0_pay20 b) (k0_pay29 dm wo) (ix2 0 p) = ∑ r : Fin 512, k0_pay29 dm wo (ix2 r (col 1 p)) * hatR (rowOf b r) p
    unfold k0_pay36 k0_pay35
    generalize k0_pay29 dm wo = z
    generalize k0_pay20 b = u at h ⊢
    pointwise
    simp only [h]
    rfl
  | 2 =>
    have h : ∀ r : Fin 512, k0_pay25 d (k0_pay22 d) k0_pay23 (ix2 r p) = hatR (rowOf d r) p := fun r => hat25 d r p
    show k0_pay39 (k0_pay25 d (k0_pay22 d) k0_pay23) (k0_pay29 dm wo) (ix2 0 p) = ∑ r : Fin 512, k0_pay29 dm wo (ix2 r (col 2 p)) * hatR (rowOf d r) p
    unfold k0_pay39 k0_pay38
    generalize k0_pay29 dm wo = z
    generalize k0_pay25 d (k0_pay22 d) k0_pay23 = u at h ⊢
    pointwise
    simp only [h]
    rfl
  | 3 =>
    have h : ∀ r : Fin 512, k0_pay27 (ydB y w e) (ix2 r p) = hatR (ydR (rowOf y r) w e) p := fun r => (hat27 _ r p).trans
      (by rw [show rowOf (n := 512) (ydB y w e) r = ydR (rowOf y r) w e from funext fun l => ydB_apply y w e r l])
    show k0_pay42 (k0_pay27 (ydB y w e)) (k0_pay29 dm wo) (ix2 0 p) = ∑ r : Fin 512, k0_pay29 dm wo (ix2 r (col 3 p)) * hatR (ydR (rowOf y r) w e) p
    unfold k0_pay42 k0_pay41
    generalize k0_pay29 dm wo = z
    generalize k0_pay27 (ydB y w e) = u at h ⊢
    pointwise
    simp only [h]
    rfl

/-- The gradient of the output weights from a block of rows, added to the running sum. -/
theorem accB_apply (a b d y : Vec Ideal S512x256 .f32) (w : Vec Ideal S256x256 .f32) (e : Vec Ideal S1x256 .f32) (g : Vec Ideal S1x1024 .f32)
    (dm : Vec Ideal S512x1024 .bf16) (X : Vec Ideal S1024x1024 .f32) (k j : Fin 1024) :
    accB a b d y w e g dm X (ix2 k j) = X (ix2 k j) + ∑ r : Fin 512, joinR (rows4 (n := 512) a b d y w e r) g k * dm (ix2 r j) := by
  have h0 : ∀ (r : Fin 512) (p : Fin 256), k0_pay18 g a (ix2 r p) = hatR (rowOf a r) p * g (ix2 0 (col 0 p)) := fun r p => by
    have h := hat17 a r p
    unfold k0_pay18
    generalize k0_pay17 a = u at h ⊢
    pointwise
    simp only [h, col0]
  have h1 : ∀ (r : Fin 512) (p : Fin 256), k0_pay21 g b (ix2 r p) = hatR (rowOf b r) p * g (ix2 0 (col 1 p)) := fun r p => by
    have h := hat20 b r p
    unfold k0_pay21
    generalize k0_pay20 b = u at h ⊢
    pointwise
    simp only [h]
    rfl
  have h2 : ∀ (r : Fin 512) (p : Fin 256), k0_pay25 d (k0_pay22 d) k0_pay23 (ix2 r p) = hatR (rowOf d r) p := fun r p => hat25 d r p
  have h3 : ∀ (r : Fin 512) (p : Fin 256), k0_pay27 (ydB y w e) (ix2 r p) = hatR (ydR (rowOf y r) w e) p := fun r p => (hat27 _ r p).trans
    (by rw [show rowOf (n := 512) (ydB y w e) r = ydR (rowOf y r) w e from funext fun l => ydB_apply y w e r l])
  unfold accB k0_pay28
  generalize k0_pay18 g a = u0 at h0 ⊢
  generalize k0_pay21 g b = u1 at h1 ⊢
  generalize k0_pay25 d (k0_pay22 d) k0_pay23 = u2 at h2 ⊢
  generalize k0_pay27 (ydB y w e) = u3 at h3 ⊢
  pointwise
  congr 1
  refine Finset.sum_congr rfl fun r _ => congrArg (· * _) ?_
  obtain ⟨q, p, rfl⟩ : ∃ q p, col q p = k := ⟨_, _, col_grp_pos k⟩
  rw [joinR_col]
  have hp := p.isLt
  match q with
  | 0 =>
    rw [dif_pos (show (col 0 p).val < 256 by show 0 * 256 + p.val < 256; omega)]
    refine (h0 r _).trans ?_
    rw [show (⟨(col 0 p).val, by show 0 * 256 + p.val < 256; omega⟩ : Fin 256) = p from Fin.ext (by show 0 * 256 + p.val = p.val; omega)]
    rfl
  | 1 =>
    rw [dif_neg (show ¬ (col 1 p).val < 256 by show ¬ 1 * 256 + p.val < 256; omega), dif_pos (show (col 1 p).val - 256 < 256 by show 1 * 256 + p.val - 256 < 256; omega)]
    refine (h1 r _).trans ?_
    rw [show (⟨(col 1 p).val - 256, by show 1 * 256 + p.val - 256 < 256; omega⟩ : Fin 256) = p from Fin.ext (by show 1 * 256 + p.val - 256 = p.val; omega)]
    rfl
  | 2 =>
    rw [dif_neg (show ¬ (col 2 p).val < 256 by show ¬ 2 * 256 + p.val < 256; omega), dif_neg (show ¬ (col 2 p).val - 256 < 256 by show ¬ 2 * 256 + p.val - 256 < 256; omega),
      dif_pos (show (col 2 p).val - 256 - 256 < 256 by show 2 * 256 + p.val - 256 - 256 < 256; omega)]
    exact congrArg₂ (· * ·) ((h2 r _).trans (congrArg (hatR (rowOf d r)) (Fin.ext (by show 2 * 256 + p.val - 256 - 256 = p.val; omega))))
      (congrArg (fun k => g (ix2 0 k)) (Fin.ext (by show 512 + (2 * 256 + p.val - 256 - 256) = 2 * 256 + p.val; omega)))
  | 3 =>
    rw [dif_neg (show ¬ (col 3 p).val < 256 by show ¬ 3 * 256 + p.val < 256; omega), dif_neg (show ¬ (col 3 p).val - 256 < 256 by show ¬ 3 * 256 + p.val - 256 < 256; omega),
      dif_neg (show ¬ (col 3 p).val - 256 - 256 < 256 by show ¬ 3 * 256 + p.val - 256 - 256 < 256; omega)]
    exact congrArg₂ (· * ·) ((h3 r _).trans (congrArg (hatR (ydR (rowOf y r) w e)) (Fin.ext (by show 3 * 256 + p.val - 256 - 256 - 256 = p.val; omega))))
      (congrArg (fun k => g (ix2 0 k)) (Fin.ext (by show 768 + (3 * 256 + p.val - 256 - 256 - 256) = 3 * 256 + p.val; omega)))

/-! ### The zeros of the first point, and the rounding of the last -/

theorem pay2_apply (v : Vec Ideal S1024x1024 .f32) (k j : Fin 1024) : k0_pay2 v (ix2 k j) = v (ix2 k j) := by
  unfold k0_pay2; pointwise
theorem pay3_apply (k : Fin 1024) : (k0_pay3 (F := Ideal)) (ix2 0 k) = 0 := by
  unfold k0_pay3; pointwise
theorem pay4_apply (k : Fin 1024) : (k0_pay4 (F := Ideal)) (ix2 0 k) = 0 := by
  unfold k0_pay4; pointwise
theorem pay5_apply (l p : Fin 256) : (k0_pay5 (F := Ideal)) (ix2 l p) = 0 := by
  unfold k0_pay5; pointwise
theorem pay6_apply (p : Fin 256) : (k0_pay6 (F := Ideal)) (ix2 0 p) = 0 := by
  unfold k0_pay6; pointwise
theorem pay7_apply (k j : Fin 1024) : (k0_pay7 (F := Ideal)) (ix2 k j) = 0 := by
  unfold k0_pay7; pointwise

end Cert.OutBwd

end
-- ==== Proof.OutBwdHost.lean ====
/- The arrays as the host code prepares them for the mixers' output gradient kernel: the product of the joined rows with the
   weights, and the weights. The host code takes the product by the same lines as the reference of the forward kernel. -/
module

public import proofs.«01_k».proof.Proof.Gen.Kernel8Ideal.Frame
public import proofs.«01_k».proof.Proof.OutFwdRef
public import Idealize.ShloMosaic.Lib.Claim

@[expose] public section

set_option maxRecDepth 16384

noncomputable section

namespace Cert.OutBwd

open Cert.Kernel8Ideal Cert.Kernel8Ideal.Gen Cert.FfnBwd Cert.FfnFwd Cert.MixOut
open Idealize.ShloMosaic Idealize.ShloMosaic.TcCoe Idealize.ShloMosaic.StableHlo
open Idealize.SL.Sem

section
variable {F : FTy → Type} [FloatOps F] (m : (ℓ : Loc nD τ sig) → Buf (Elt F) ℓ) (c : Dev nD)

theorem V_v39 : V m c main_v39 = truncf .bf16 (m ((c : Thread nD τ).loc main_arg9)) bitsLt_bf16_f32 := by
  simp only [V, hostOps0, List.flatten_cons, List.flatten_nil, List.append_nil, List.cons_append, List.nil_append,
    TRef.binary, TRef.nullary, TRef.unary, TRef.toBuf, TRef.ofBuf, cast_eq]
  after_results_simp <;> rfl

theorem V_v38 : V m c main_v38 = Cert.Reference7Ideal.Read.val_main_v38 (F := F) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) := by
  simp only [V, hostOps0, List.flatten_cons, List.flatten_nil, List.append_nil, List.cons_append, List.nil_append,
    TRef.binary, TRef.nullary, TRef.unary, TRef.toBuf, TRef.ofBuf, cast_eq]
  after_results_simp <;> rfl
end

variable (m : (ℓ : Loc nD τ sig) → Buf (Elt Ideal) ℓ) (c : Dev nD)

/-- The ten arguments of a device. -/
abbrev x0 : Mat 2048 1024 := m ((c.tc : Thread nD τ).loc main_arg0)
abbrev x1 : Mat 1 1024 := m ((c.tc : Thread nD τ).loc main_arg1)
abbrev x2 : Mat 2048 256 := m ((c.tc : Thread nD τ).loc main_arg2)
abbrev x3 : Mat 2048 256 := m ((c.tc : Thread nD τ).loc main_arg3)
abbrev x4 : Mat 2048 256 := m ((c.tc : Thread nD τ).loc main_arg4)
abbrev x5 : Mat 2048 256 := m ((c.tc : Thread nD τ).loc main_arg5)
abbrev x6 : Mat 256 256 := m ((c.tc : Thread nD τ).loc main_arg6)
abbrev x7 : Mat 1 256 := m ((c.tc : Thread nD τ).loc main_arg7)
abbrev x8 : Mat 1 1024 := m ((c.tc : Thread nD τ).loc main_arg8)
abbrev x9 : Mat 1024 1024 := m ((c.tc : Thread nD τ).loc main_arg9)

theorem V_m : V m c main_v38 = mS (x2 m c) (x3 m c) (x4 m c) (x5 m c) (x6 m c) (x7 m c) (x8 m c) (x9 m c) :=
  (V_v38 m c).trans (Cert.OutFwd.Ref.m (x2 m c) (x3 m c) (x4 m c) (x5 m c) (x6 m c) (x7 m c) (x8 m c) (x9 m c))

theorem V_w : V m c main_v39 = x9 m c := by
  rw [V_v39]
  rfl

end Cert.OutBwd

end
-- ==== Proof.OutBwdArrays.lean ====
/- The eight result arrays of the mixers' output gradient kernel after its run, as functions of its arguments: each block
   written back is the block of that function, and the blocks cover the array. -/
module

public import proofs.«01_k».proof.Proof.OutBwdLeft
public import proofs.«01_k».proof.Proof.OutBwdPay
public import proofs.«01_k».proof.Proof.OutBwdHost
public import proofs.«01_k».proof.Proof.InSpec

@[expose] public section

set_option maxRecDepth 16384

noncomputable section

namespace Cert.OutBwd

open Cert.Kernel8Ideal Cert.Kernel8Ideal.Gen Cert.Whole Cert.FfnBwd Cert.FfnFwd Cert.MixOut
open Idealize.ShloMosaic Idealize.ShloMosaic.TcCoe
open Idealize.SL.Sem

variable (m : (ℓ : Loc nD τ sig) → Buf (Elt Ideal) ℓ) (c : Dev nD)

/-! ### Where an element of a block lies in its array -/

/-- Row `r` of the block of rows of point `t`. -/
def row (t : Fin cfg0.N) (r : Fin 512) : Fin 2048 :=
  ⟨t.val * 512 + r.val, by have : t.val < 4 := Nat.lt_of_lt_of_eq t.isLt N_0; have := r.isLt; omega⟩

theorem row_surj (n : Fin 2048) : ∃ t r, row t r = n :=
  ⟨⟨n.val / 512, by have := n.isLt; have : cfg0.N = 4 := N_0; omega⟩, ⟨n.val % 512, Nat.mod_lt _ (by decide)⟩,
    Fin.ext (by show n.val / 512 * 512 + n.val % 512 = n.val; omega)⟩

theorem row_0 (r : Fin 512) : row (pt 0) r = ⟨r.val, by omega⟩ := Fin.ext (by show 0 * 512 + r.val = r.val; omega)
theorem row_1 (r : Fin 512) : row (pt 1) r = ⟨512 + r.val, by omega⟩ := Fin.ext (by show 1 * 512 + r.val = 512 + r.val; omega)
theorem row_2 (r : Fin 512) : row (pt 2) r = ⟨1024 + r.val, by omega⟩ := Fin.ext (by show 2 * 512 + r.val = 1024 + r.val; omega)
theorem row_3 (r : Fin 512) : row (pt 3) r = ⟨1536 + r.val, by omega⟩ := Fin.ext (by show 3 * 512 + r.val = 1536 + r.val; omega)

/-- A sum over the rows, taken block by block. -/
theorem four_blocks (v : ℕ → EReal) (f : Fin 2048 → EReal) (h0 : v 0 = 0) (h : ∀ n, v (n + 1) = v n + ∑ r : Fin 512, f (row (pt n) r)) :
    v 4 = ∑ r : Fin 2048, f r := by
  have e1 : v 1 = _ := h 0
  have e2 : v 2 = _ := h 1
  have e3 : v 3 = _ := h 2
  have e4 : v 4 = _ := h 3
  simp only [row_0] at e1
  simp only [row_1] at e2
  simp only [row_2] at e3
  simp only [row_3] at e4
  rw [e4, e3, e2, e1, h0, zero_add]
  exact (Cert.FfnIn.sum_blocks f).symm

theorem emb_0 (t : Fin cfg0.N) (p : Fin 512) (q : Fin 1024) : ((cfg0.win 0).blk t).view.emb (ix2 p q) = (ix2 (row t p) q : S2048x1024.Idx) := by
  funext a; apply Fin.ext
  match a with
  | ⟨0, _⟩ =>
    refine (win0_0.rect_emb_val t (ix2 p q) 0).trans ?_
    rw [(by decide +kernel : ∀ t : Fin grid0.N, win0_0.index t 0 * win0_0.size 0 = t.val * 512) t]; rfl
  | ⟨1, _⟩ => exact win0_0.rect_emb_val_of_index_zero t 1 ((by decide +kernel : ∀ t : Fin grid0.N, win0_0.index t 1 = 0) t) (ix2 p q)

theorem emb_1 (t : Fin cfg0.N) (p : Fin 512) (q : Fin 1024) : ((cfg0.win 1).blk t).view.emb (ix2 p q) = (ix2 (row t p) q : S2048x1024.Idx) := by
  funext a; apply Fin.ext
  match a with
  | ⟨0, _⟩ =>
    refine (win0_1.rect_emb_val t (ix2 p q) 0).trans ?_
    rw [(by decide +kernel : ∀ t : Fin grid0.N, win0_1.index t 0 * win0_1.size 0 = t.val * 512) t]; rfl
  | ⟨1, _⟩ => exact win0_1.rect_emb_val_of_index_zero t 1 ((by decide +kernel : ∀ t : Fin grid0.N, win0_1.index t 1 = 0) t) (ix2 p q)

theorem emb_3 (t : Fin cfg0.N) (p : Fin 512) (q : Fin 256) : ((cfg0.win 3).blk t).view.emb (ix2 p q) = (ix2 (row t p) q : S2048x256.Idx) := by
  funext a; apply Fin.ext
  match a with
  | ⟨0, _⟩ =>
    refine (win0_3.rect_emb_val t (ix2 p q) 0).trans ?_
    rw [(by decide +kernel : ∀ t : Fin grid0.N, win0_3.index t 0 * win0_3.size 0 = t.val * 512) t]; rfl
  | ⟨1, _⟩ => exact win0_3.rect_emb_val_of_index_zero t 1 ((by decide +kernel : ∀ t : Fin grid0.N, win0_3.index t 1 = 0) t) (ix2 p q)

theorem emb_4 (t : Fin cfg0.N) (p : Fin 512) (q : Fin 256) : ((cfg0.win 4).blk t).view.emb (ix2 p q) = (ix2 (row t p) q : S2048x256.Idx) := by
  funext a; apply Fin.ext
  match a with
  | ⟨0, _⟩ =>
    refine (win0_4.rect_emb_val t (ix2 p q) 0).trans ?_
    rw [(by decide +kernel : ∀ t : Fin grid0.N, win0_4.index t 0 * win0_4.size 0 = t.val * 512) t]; rfl
  | ⟨1, _⟩ => exact win0_4.rect_emb_val_of_index_zero t 1 ((by decide +kernel : ∀ t : Fin grid0.N, win0_4.index t 1 = 0) t) (ix2 p q)

theorem emb_5 (t : Fin cfg0.N) (p : Fin 512) (q : Fin 256) : ((cfg0.win 5).blk t).view.emb (ix2 p q) = (ix2 (row t p) q : S2048x256.Idx) := by
  funext a; apply Fin.ext
  match a with
  | ⟨0, _⟩ =>
    refine (win0_5.rect_emb_val t (ix2 p q) 0).trans ?_
    rw [(by decide +kernel : ∀ t : Fin grid0.N, win0_5.index t 0 * win0_5.size 0 = t.val * 512) t]; rfl
  | ⟨1, _⟩ => exact win0_5.rect_emb_val_of_index_zero t 1 ((by decide +kernel : ∀ t : Fin grid0.N, win0_5.index t 1 = 0) t) (ix2 p q)

theorem emb_6 (t : Fin cfg0.N) (p : Fin 512) (q : Fin 256) : ((cfg0.win 6).blk t).view.emb (ix2 p q) = (ix2 (row t p) q : S2048x256.Idx) := by
  funext a; apply Fin.ext
  match a with
  | ⟨0, _⟩ =>
    refine (win0_6.rect_emb_val t (ix2 p q) 0).trans ?_
    rw [(by decide +kernel : ∀ t : Fin grid0.N, win0_6.index t 0 * win0_6.size 0 = t.val * 512) t]; rfl
  | ⟨1, _⟩ => exact win0_6.rect_emb_val_of_index_zero t 1 ((by decide +kernel : ∀ t : Fin grid0.N, win0_6.index t 1 = 0) t) (ix2 p q)

theorem emb_11 (t : Fin cfg0.N) (p : Fin 512) (q : Fin 256) : ((cfg0.win 11).blk t).view.emb (ix2 p q) = (ix2 (row t p) q : S2048x256.Idx) := by
  funext a; apply Fin.ext
  match a with
  | ⟨0, _⟩ =>
    refine (win0_11.rect_emb_val t (ix2 p q) 0).trans ?_
    rw [(by decide +kernel : ∀ t : Fin grid0.N, win0_11.index t 0 * win0_11.size 0 = t.val * 512) t]; rfl
  | ⟨1, _⟩ => exact win0_11.rect_emb_val_of_index_zero t 1 ((by decide +kernel : ∀ t : Fin grid0.N, win0_11.index t 1 = 0) t) (ix2 p q)

theorem emb_12 (t : Fin cfg0.N) (p : Fin 512) (q : Fin 256) : ((cfg0.win 12).blk t).view.emb (ix2 p q) = (ix2 (row t p) q : S2048x256.Idx) := by
  funext a; apply Fin.ext
  match a with
  | ⟨0, _⟩ =>
    refine (win0_12.rect_emb_val t (ix2 p q) 0).trans ?_
    rw [(by decide +kernel : ∀ t : Fin grid0.N, win0_12.index t 0 * win0_12.size 0 = t.val * 512) t]; rfl
  | ⟨1, _⟩ => exact win0_12.rect_emb_val_of_index_zero t 1 ((by decide +kernel : ∀ t : Fin grid0.N, win0_12.index t 1 = 0) t) (ix2 p q)

theorem emb_13 (t : Fin cfg0.N) (p : Fin 512) (q : Fin 256) : ((cfg0.win 13).blk t).view.emb (ix2 p q) = (ix2 (row t p) q : S2048x256.Idx) := by
  funext a; apply Fin.ext
  match a with
  | ⟨0, _⟩ =>
    refine (win0_13.rect_emb_val t (ix2 p q) 0).trans ?_
    rw [(by decide +kernel : ∀ t : Fin grid0.N, win0_13.index t 0 * win0_13.size 0 = t.val * 512) t]; rfl
  | ⟨1, _⟩ => exact win0_13.rect_emb_val_of_index_zero t 1 ((by decide +kernel : ∀ t : Fin grid0.N, win0_13.index t 1 = 0) t) (ix2 p q)

theorem emb_2 (t : Fin cfg0.N) (p : Fin 1) (q : Fin 1024) : ((cfg0.win 2).blk t).view.emb (ix2 p q) = (ix2 p q : S1x1024.Idx) := by
  funext a; apply Fin.ext
  match a with
  | ⟨0, _⟩ => exact win0_2.rect_emb_val_of_index_zero t 0 ((by decide +kernel : ∀ t : Fin grid0.N, win0_2.index t 0 = 0) t) (ix2 p q)
  | ⟨1, _⟩ => exact win0_2.rect_emb_val_of_index_zero t 1 ((by decide +kernel : ∀ t : Fin grid0.N, win0_2.index t 1 = 0) t) (ix2 p q)

theorem emb_7 (t : Fin cfg0.N) (p : Fin 256) (q : Fin 256) : ((cfg0.win 7).blk t).view.emb (ix2 p q) = (ix2 p q : S256x256.Idx) := by
  funext a; apply Fin.ext
  match a with
  | ⟨0, _⟩ => exact win0_7.rect_emb_val_of_index_zero t 0 ((by decide +kernel : ∀ t : Fin grid0.N, win0_7.index t 0 = 0) t) (ix2 p q)
  | ⟨1, _⟩ => exact win0_7.rect_emb_val_of_index_zero t 1 ((by decide +kernel : ∀ t : Fin grid0.N, win0_7.index t 1 = 0) t) (ix2 p q)

theorem emb_8 (t : Fin cfg0.N) (p : Fin 1) (q : Fin 256) : ((cfg0.win 8).blk t).view.emb (ix2 p q) = (ix2 p q : S1x256.Idx) := by
  funext a; apply Fin.ext
  match a with
  | ⟨0, _⟩ => exact win0_8.rect_emb_val_of_index_zero t 0 ((by decide +kernel : ∀ t : Fin grid0.N, win0_8.index t 0 = 0) t) (ix2 p q)
  | ⟨1, _⟩ => exact win0_8.rect_emb_val_of_index_zero t 1 ((by decide +kernel : ∀ t : Fin grid0.N, win0_8.index t 1 = 0) t) (ix2 p q)

theorem emb_9 (t : Fin cfg0.N) (p : Fin 1) (q : Fin 1024) : ((cfg0.win 9).blk t).view.emb (ix2 p q) = (ix2 p q : S1x1024.Idx) := by
  funext a; apply Fin.ext
  match a with
  | ⟨0, _⟩ => exact win0_9.rect_emb_val_of_index_zero t 0 ((by decide +kernel : ∀ t : Fin grid0.N, win0_9.index t 0 = 0) t) (ix2 p q)
  | ⟨1, _⟩ => exact win0_9.rect_emb_val_of_index_zero t 1 ((by decide +kernel : ∀ t : Fin grid0.N, win0_9.index t 1 = 0) t) (ix2 p q)

theorem emb_10 (t : Fin cfg0.N) (p : Fin 1024) (q : Fin 1024) : ((cfg0.win 10).blk t).view.emb (ix2 p q) = (ix2 p q : S1024x1024.Idx) := by
  funext a; apply Fin.ext
  match a with
  | ⟨0, _⟩ => exact win0_10.rect_emb_val_of_index_zero t 0 ((by decide +kernel : ∀ t : Fin grid0.N, win0_10.index t 0 = 0) t) (ix2 p q)
  | ⟨1, _⟩ => exact win0_10.rect_emb_val_of_index_zero t 1 ((by decide +kernel : ∀ t : Fin grid0.N, win0_10.index t 1 = 0) t) (ix2 p q)

theorem emb_15 (t : Fin cfg0.N) (p : Fin 1) (q : Fin 1024) : ((cfg0.win 15).blk t).view.emb (ix2 p q) = (ix2 p q : S1x1024.Idx) := by
  funext a; apply Fin.ext
  match a with
  | ⟨0, _⟩ => exact win0_15.rect_emb_val_of_index_zero t 0 ((by decide +kernel : ∀ t : Fin grid0.N, win0_15.index t 0 = 0) t) (ix2 p q)
  | ⟨1, _⟩ => exact win0_15.rect_emb_val_of_index_zero t 1 ((by decide +kernel : ∀ t : Fin grid0.N, win0_15.index t 1 = 0) t) (ix2 p q)

theorem emb_16 (t : Fin cfg0.N) (p : Fin 1) (q : Fin 1024) : ((cfg0.win 16).blk t).view.emb (ix2 p q) = (ix2 p q : S1x1024.Idx) := by
  funext a; apply Fin.ext
  match a with
  | ⟨0, _⟩ => exact win0_16.rect_emb_val_of_index_zero t 0 ((by decide +kernel : ∀ t : Fin grid0.N, win0_16.index t 0 = 0) t) (ix2 p q)
  | ⟨1, _⟩ => exact win0_16.rect_emb_val_of_index_zero t 1 ((by decide +kernel : ∀ t : Fin grid0.N, win0_16.index t 1 = 0) t) (ix2 p q)

theorem emb_17 (t : Fin cfg0.N) (p : Fin 1024) (q : Fin 1024) : ((cfg0.win 17).blk t).view.emb (ix2 p q) = (ix2 p q : S1024x1024.Idx) := by
  funext a; apply Fin.ext
  match a with
  | ⟨0, _⟩ => exact win0_17.rect_emb_val_of_index_zero t 0 ((by decide +kernel : ∀ t : Fin grid0.N, win0_17.index t 0 = 0) t) (ix2 p q)
  | ⟨1, _⟩ => exact win0_17.rect_emb_val_of_index_zero t 1 ((by decide +kernel : ∀ t : Fin grid0.N, win0_17.index t 1 = 0) t) (ix2 p q)

theorem emb_18 (t : Fin cfg0.N) (p : Fin 256) (q : Fin 256) : ((cfg0.win 18).blk t).view.emb (ix2 p q) = (ix2 p q : S256x256.Idx) := by
  funext a; apply Fin.ext
  match a with
  | ⟨0, _⟩ => exact win0_18.rect_emb_val_of_index_zero t 0 ((by decide +kernel : ∀ t : Fin grid0.N, win0_18.index t 0 = 0) t) (ix2 p q)
  | ⟨1, _⟩ => exact win0_18.rect_emb_val_of_index_zero t 1 ((by decide +kernel : ∀ t : Fin grid0.N, win0_18.index t 1 = 0) t) (ix2 p q)

theorem emb_19 (t : Fin cfg0.N) (p : Fin 1) (q : Fin 256) : ((cfg0.win 19).blk t).view.emb (ix2 p q) = (ix2 p q : S1x256.Idx) := by
  funext a; apply Fin.ext
  match a with
  | ⟨0, _⟩ => exact win0_19.rect_emb_val_of_index_zero t 0 ((by decide +kernel : ∀ t : Fin grid0.N, win0_19.index t 0 = 0) t) (ix2 p q)
  | ⟨1, _⟩ => exact win0_19.rect_emb_val_of_index_zero t 1 ((by decide +kernel : ∀ t : Fin grid0.N, win0_19.index t 1 = 0) t) (ix2 p q)

/-! ### The input blocks -/

theorem iblk_0 (t : Fin cfg0.N) (r : Fin 512) (k : Fin 1024) : iblk m c 0 t (ix2 r k) = x0 m c (ix2 (row t r) k) := by
  show V m c main_arg0 (((cfg0.win 0).blk t).view.emb (ix2 r k)) = _
  rw [emb_0, V_main_arg0]

theorem iblk_1 (t : Fin cfg0.N) (r : Fin 512) (k : Fin 1024) : iblk m c 1 t (ix2 r k) = mS (x2 m c) (x3 m c) (x4 m c) (x5 m c) (x6 m c) (x7 m c) (x8 m c) (x9 m c) (ix2 (row t r) k) := by
  show V m c main_v38 (((cfg0.win 1).blk t).view.emb (ix2 r k)) = _
  rw [emb_1, V_m]

theorem iblk_3 (t : Fin cfg0.N) (r : Fin 512) (k : Fin 256) : iblk m c 3 t (ix2 r k) = x2 m c (ix2 (row t r) k) := by
  show V m c main_arg2 (((cfg0.win 3).blk t).view.emb (ix2 r k)) = _
  rw [emb_3, V_main_arg2]

theorem iblk_4 (t : Fin cfg0.N) (r : Fin 512) (k : Fin 256) : iblk m c 4 t (ix2 r k) = x3 m c (ix2 (row t r) k) := by
  show V m c main_arg3 (((cfg0.win 4).blk t).view.emb (ix2 r k)) = _
  rw [emb_4, V_main_arg3]

theorem iblk_5 (t : Fin cfg0.N) (r : Fin 512) (k : Fin 256) : iblk m c 5 t (ix2 r k) = x4 m c (ix2 (row t r) k) := by
  show V m c main_arg4 (((cfg0.win 5).blk t).view.emb (ix2 r k)) = _
  rw [emb_5, V_main_arg4]

theorem iblk_6 (t : Fin cfg0.N) (r : Fin 512) (k : Fin 256) : iblk m c 6 t (ix2 r k) = x5 m c (ix2 (row t r) k) := by
  show V m c main_arg5 (((cfg0.win 6).blk t).view.emb (ix2 r k)) = _
  rw [emb_6, V_main_arg5]

theorem iblk_2 (t : Fin cfg0.N) : iblk m c 2 t = x1 m c := by
  funext (y : S1x1024.Idx)
  obtain ⟨p, q, rfl⟩ : ∃ (p : Fin 1) (q : Fin 1024), y = ix2 p q := ⟨y 0, y 1, eq_ix2 y⟩
  show V m c main_arg1 (((cfg0.win 2).blk t).view.emb (ix2 p q)) = _
  rw [emb_2, V_main_arg1]

theorem iblk_7 (t : Fin cfg0.N) : iblk m c 7 t = x6 m c := by
  funext (y : S256x256.Idx)
  obtain ⟨p, q, rfl⟩ : ∃ (p : Fin 256) (q : Fin 256), y = ix2 p q := ⟨y 0, y 1, eq_ix2 y⟩
  show V m c main_arg6 (((cfg0.win 7).blk t).view.emb (ix2 p q)) = _
  rw [emb_7, V_main_arg6]

theorem iblk_8 (t : Fin cfg0.N) : iblk m c 8 t = x7 m c := by
  funext (y : S1x256.Idx)
  obtain ⟨p, q, rfl⟩ : ∃ (p : Fin 1) (q : Fin 256), y = ix2 p q := ⟨y 0, y 1, eq_ix2 y⟩
  show V m c main_arg7 (((cfg0.win 8).blk t).view.emb (ix2 p q)) = _
  rw [emb_8, V_main_arg7]

theorem iblk_9 (t : Fin cfg0.N) : iblk m c 9 t = x8 m c := by
  funext (y : S1x1024.Idx)
  obtain ⟨p, q, rfl⟩ : ∃ (p : Fin 1) (q : Fin 1024), y = ix2 p q := ⟨y 0, y 1, eq_ix2 y⟩
  show V m c main_arg8 (((cfg0.win 9).blk t).view.emb (ix2 p q)) = _
  rw [emb_9, V_main_arg8]

theorem iblk_10 (t : Fin cfg0.N) : iblk m c 10 t = x9 m c := by
  funext (y : S1024x1024.Idx)
  obtain ⟨p, q, rfl⟩ : ∃ (p : Fin 1024) (q : Fin 1024), y = ix2 p q := ⟨y 0, y 1, eq_ix2 y⟩
  show V m c main_v39 (((cfg0.win 10).blk t).view.emb (ix2 p q)) = _
  rw [emb_10, V_w]

/-! ### The functions that the result arrays hold -/

/-- The four mixers' rows. -/
def fG : Fin 2048 → Fin 4 → Row := rows4 (x2 m c) (x3 m c) (x4 m c) (x5 m c) (x6 m c) (x7 m c)
def mG : Mat 2048 1024 := mS (x2 m c) (x3 m c) (x4 m c) (x5 m c) (x6 m c) (x7 m c) (x8 m c) (x9 m c)
def dmG : Mat 2048 1024 := dmS (x0 m c) (x1 m c)
def dyG : Mat 2048 1024 := dyS (dmG m c) (x9 m c)
def outG (q : Fin 4) : Mat 2048 256 := outS (fG m c) (dyG m c) (x8 m c) q
def gateG : Mat 1 1024 := dgateS (mG m c) (x0 m c)
def gainG : Mat 1 1024 := dgS (fG m c) (dyG m c)
def dwG : Mat 1024 1024 := dwS (fG m c) (x8 m c) (dmG m c)
def linG : Mat 2048 256 := linS (x5 m c) (x6 m c) (x7 m c) (outG m c 3)
def gwG : Mat 256 256 := dgwS (x5 m c) (linG m c)
def gbG : Mat 1 256 := dgbS (linG m c)

/-! ### One block -/

theorem row_first (t : Fin cfg0.N) (r : Fin 512) : rowOf (n := 512) (iblk m c 3 t) r = rowOf (x2 m c) (row t r) := funext fun l => iblk_3 m c t r l
theorem row_second (t : Fin cfg0.N) (r : Fin 512) : rowOf (n := 512) (iblk m c 4 t) r = rowOf (x3 m c) (row t r) := funext fun l => iblk_4 m c t r l
theorem row_third (t : Fin cfg0.N) (r : Fin 512) : rowOf (n := 512) (iblk m c 5 t) r = rowOf (x4 m c) (row t r) := funext fun l => iblk_5 m c t r l
theorem row_last (t : Fin cfg0.N) (r : Fin 512) : rowOf (n := 512) (iblk m c 6 t) r = rowOf (x5 m c) (row t r) := funext fun l => iblk_6 m c t r l

/-- The four mixers' rows of a block. -/
theorem f_row (t : Fin cfg0.N) (r : Fin 512) :
    rows4 (n := 512) (iblk m c 3 t) (iblk m c 4 t) (iblk m c 5 t) (iblk m c 6 t) (iblk m c 7 t) (iblk m c 8 t) r = fG m c (row t r) := by
  unfold fG rows4
  rw [row_first, row_second, row_third, row_last, iblk_7, iblk_8]

theorem dm_apply (t : Fin cfg0.N) (r : Fin 512) (j : Fin 1024) : dmV m c t (ix2 r j) = dmG m c (ix2 (row t r) j) := by
  unfold dmV
  rw [iblk_2]
  exact (dmB_apply _ _ r j).trans (congrArg (x1 m c (ix2 0 j) * ·) (iblk_0 m c t r j))

theorem dy_apply (t : Fin cfg0.N) (r : Fin 512) (k : Fin 1024) : k0_pay29 (dmV m c t) (iblk m c 10 t) (ix2 r k) = dyG m c (ix2 (row t r) k) := by
  rw [iblk_10]
  exact (pay29_apply _ _ r k).trans (Finset.sum_congr rfl fun j _ => congrArg (· * _) (dm_apply m c t r j))

/-- The gradient of a block's normed rows. -/
theorem cot_row (t : Fin cfg0.N) (r : Fin 512) (q : Fin 4) :
    cotR (n := 512) (k0_pay29 (dmV m c t) (iblk m c 10 t)) (iblk m c 9 t) r q = cotR (dyG m c) (x8 m c) (row t r) q := by
  rw [iblk_9]
  exact funext fun p => congrArg (· * _) (dy_apply m c t r (col q p))

theorem dya_apply (t : Fin cfg0.N) (r : Fin 512) (p : Fin 256) : dyaB (iblk m c 3 t) (iblk m c 9 t) (dmV m c t) (iblk m c 10 t) (ix2 r p) = outG m c 0 (ix2 (row t r) p) := by
  refine (dyaB_apply _ _ _ _ r p).trans ?_
  rw [cot_row, row_first]
  rfl
theorem dyb_apply (t : Fin cfg0.N) (r : Fin 512) (p : Fin 256) : dybB (iblk m c 4 t) (iblk m c 9 t) (dyV m c t) (ix2 r p) = outG m c 1 (ix2 (row t r) p) := by
  refine (dybB_apply _ _ _ r p).trans ?_
  show gradR _ (cotR (n := 512) (k0_pay29 (dmV m c t) (iblk m c 10 t)) (iblk m c 9 t) r 1) p = _
  rw [cot_row, row_second]
  rfl
theorem dyc_apply (t : Fin cfg0.N) (r : Fin 512) (p : Fin 256) : dycB (iblk m c 5 t) (iblk m c 9 t) (dyV m c t) (ix2 r p) = outG m c 2 (ix2 (row t r) p) := by
  refine (dycB_apply _ _ _ r p).trans ?_
  show gradR _ (cotR (n := 512) (k0_pay29 (dmV m c t) (iblk m c 10 t)) (iblk m c 9 t) r 2) p = _
  rw [cot_row, row_third]
  rfl

/-- The gradient of what the sigmoid is taken of. -/
theorem lin_apply (t : Fin cfg0.N) (r : Fin 512) (p : Fin 256) :
    linB (iblk m c 6 t) (iblk m c 7 t) (iblk m c 8 t) (iblk m c 9 t) (dyV m c t) (ix2 r p) = linG m c (ix2 (row t r) p) := by
  refine (linB_apply _ _ _ _ _ r p).trans ?_
  show linR _ _ _ (gradR _ (cotR (n := 512) (k0_pay29 (dmV m c t) (iblk m c 10 t)) (iblk m c 9 t) r 3)) p = _
  rw [cot_row, row_last, iblk_7, iblk_8]
  rfl

/-! ### The sums over the blocks -/

theorem gate_apply (k : Fin 1024) : gateV m c 4 (ix2 0 k) = gateG m c (ix2 0 k) :=
  four_blocks (fun n => gateV m c n (ix2 0 k)) (fun r => mG m c (ix2 r k) * x0 m c (ix2 r k)) (pay3_apply k) fun n =>
    (pay8_apply _ _ _ k).trans (congrArg (_ + ·) (Finset.sum_congr rfl fun r _ => congrArg₂ (· * ·) (iblk_1 m c (pt n) r k) (iblk_0 m c (pt n) r k)))

theorem gain_apply (k : Fin 1024) : gainV m c 4 (ix2 0 k) = gainG m c (ix2 0 k) :=
  four_blocks (fun n => gainV m c n (ix2 0 k)) (fun r => dyG m c (ix2 r k) * hatR (fG m c r (grp k)) (pos k)) (pay4_apply k) fun n =>
    (dgB_apply _ _ _ _ _ _ _ _ _ k).trans (congrArg (_ + ·) (Finset.sum_congr rfl fun r _ => by rw [dy_apply, f_row]))

theorem acc_apply (k j : Fin 1024) : accV m c 4 (ix2 k j) = dwG m c (ix2 k j) :=
  four_blocks (fun n => accV m c n (ix2 k j)) (fun r => joinR (fG m c r) (x8 m c) k * dmG m c (ix2 r j)) (pay7_apply k j) fun n =>
    (accB_apply _ _ _ _ _ _ _ _ _ k j).trans (congrArg (_ + ·) (Finset.sum_congr rfl fun r _ => by rw [dm_apply, f_row, iblk_9]))

theorem gw_apply (l p : Fin 256) : gwV m c 4 (ix2 l p) = gwG m c (ix2 l p) :=
  four_blocks (fun n => gwV m c n (ix2 l p)) (fun r => geluS (x5 m c (ix2 r l)) * linG m c (ix2 r p)) (pay5_apply l p) fun n =>
    (dgwB_apply _ _ _ _ _ _ l p).trans (congrArg (_ + ·) (Finset.sum_congr rfl fun r _ =>
      congrArg₂ (· * ·) (congrArg geluS (iblk_6 m c (pt n) r l)) (lin_apply m c (pt n) r p)))

theorem gb_apply (p : Fin 256) : gbV m c 4 (ix2 0 p) = gbG m c (ix2 0 p) :=
  four_blocks (fun n => gbV m c n (ix2 0 p)) (fun r => linG m c (ix2 r p)) (pay6_apply p) fun n =>
    (dgbB_apply _ _ _ _ _ _ p).trans (congrArg (_ + ·) (Finset.sum_congr rfl fun r _ => lin_apply m c (pt n) r p))

/-! ### The arrays -/

theorem flushed_11 (t : Fin cfg0.N) : (dats m 0 c).flushed 11 t = ((cfg0.win 11).blk t).view.read (Elt Ideal) (outG m c 0) := by
  rw [Value.flushed11, left_dya]
  refine funext fun (y : S512x256.Idx) => ?_
  obtain ⟨p, q, rfl⟩ : ∃ (p : Fin 512) (q : Fin 256), y = ix2 p q := ⟨y 0, y 1, eq_ix2 y⟩
  show _ = outG m c 0 (((cfg0.win 11).blk t).view.emb (ix2 p q))
  rw [emb_11]
  exact dya_apply m c t p q

theorem arr_11 : (dats m 0 c).arrAt 11 cfg0.N = outG m c 0 :=
  (dats m 0 c).arrAt_eq_of_cover 11 (outG m c 0) (fun t _ => flushed_11 m c t) fun (i : S2048x256.Idx) => by
    obtain ⟨t, r, h⟩ := row_surj (i 0)
    refine ⟨t, flush0_11 t, ?_⟩
    have e : ((cfg0.win 11).blk t).view.emb (ix2 r (i 1)) = i := (emb_11 t r (i 1)).trans (by rw [h]; exact (eq_ix2 i).symm)
    exact e ▸ View.emb_mem_set _ _

theorem flushed_12 (t : Fin cfg0.N) : (dats m 0 c).flushed 12 t = ((cfg0.win 12).blk t).view.read (Elt Ideal) (outG m c 1) := by
  rw [Value.flushed12, left_dyb]
  refine funext fun (y : S512x256.Idx) => ?_
  obtain ⟨p, q, rfl⟩ : ∃ (p : Fin 512) (q : Fin 256), y = ix2 p q := ⟨y 0, y 1, eq_ix2 y⟩
  show _ = outG m c 1 (((cfg0.win 12).blk t).view.emb (ix2 p q))
  rw [emb_12]
  exact dyb_apply m c t p q

theorem arr_12 : (dats m 0 c).arrAt 12 cfg0.N = outG m c 1 :=
  (dats m 0 c).arrAt_eq_of_cover 12 (outG m c 1) (fun t _ => flushed_12 m c t) fun (i : S2048x256.Idx) => by
    obtain ⟨t, r, h⟩ := row_surj (i 0)
    refine ⟨t, flush0_12 t, ?_⟩
    have e : ((cfg0.win 12).blk t).view.emb (ix2 r (i 1)) = i := (emb_12 t r (i 1)).trans (by rw [h]; exact (eq_ix2 i).symm)
    exact e ▸ View.emb_mem_set _ _

theorem flushed_13 (t : Fin cfg0.N) : (dats m 0 c).flushed 13 t = ((cfg0.win 13).blk t).view.read (Elt Ideal) (outG m c 2) := by
  rw [Value.flushed13, left_dyc]
  refine funext fun (y : S512x256.Idx) => ?_
  obtain ⟨p, q, rfl⟩ : ∃ (p : Fin 512) (q : Fin 256), y = ix2 p q := ⟨y 0, y 1, eq_ix2 y⟩
  show _ = outG m c 2 (((cfg0.win 13).blk t).view.emb (ix2 p q))
  rw [emb_13]
  exact dyc_apply m c t p q

theorem arr_13 : (dats m 0 c).arrAt 13 cfg0.N = outG m c 2 :=
  (dats m 0 c).arrAt_eq_of_cover 13 (outG m c 2) (fun t _ => flushed_13 m c t) fun (i : S2048x256.Idx) => by
    obtain ⟨t, r, h⟩ := row_surj (i 0)
    refine ⟨t, flush0_13 t, ?_⟩
    have e : ((cfg0.win 13).blk t).view.emb (ix2 r (i 1)) = i := (emb_13 t r (i 1)).trans (by rw [h]; exact (eq_ix2 i).symm)
    exact e ▸ View.emb_mem_set _ _

theorem flushed_15 (t : Fin cfg0.N) (h : t.val % 4 = 3) : (dats m 0 c).flushed 15 t = ((cfg0.win 15).blk t).view.read (Elt Ideal) (gateG m c) := by
  have h4 : t.val < 4 := Nat.lt_of_lt_of_eq t.isLt N_0
  rw [Value.flushed15, (left_gateV m c t.val t.isLt), (by omega : t.val + 1 = 4)]
  refine funext fun (y : S1x1024.Idx) => ?_
  obtain ⟨p, q, rfl⟩ : ∃ (p : Fin 1) (q : Fin 1024), y = ix2 p q := ⟨y 0, y 1, eq_ix2 y⟩
  obtain rfl : p = 0 := Subsingleton.elim _ _
  show _ = gateG m c (((cfg0.win 15).blk t).view.emb (ix2 0 q))
  rw [emb_15]
  exact gate_apply m c q

theorem arr_15 : (dats m 0 c).arrAt 15 cfg0.N = gateG m c :=
  (dats m 0 c).arrAt_eq_of_cover 15 (gateG m c) (fun t ht => flushed_15 m c t ((flush0_15 t).mp ht)) fun (i : S1x1024.Idx) => by
    refine ⟨pt 3, (flush0_15 (pt 3)).mpr rfl, ?_⟩
    have e : ((cfg0.win 15).blk (pt 3)).view.emb (ix2 (i 0) (i 1)) = i := (emb_15 (pt 3) (i 0) (i 1)).trans (eq_ix2 i).symm
    exact e ▸ View.emb_mem_set _ _

theorem flushed_16 (t : Fin cfg0.N) (h : t.val % 4 = 3) : (dats m 0 c).flushed 16 t = ((cfg0.win 16).blk t).view.read (Elt Ideal) (gainG m c) := by
  have h4 : t.val < 4 := Nat.lt_of_lt_of_eq t.isLt N_0
  rw [Value.flushed16, (left_gainV m c t.val t.isLt), (by omega : t.val + 1 = 4)]
  refine funext fun (y : S1x1024.Idx) => ?_
  obtain ⟨p, q, rfl⟩ : ∃ (p : Fin 1) (q : Fin 1024), y = ix2 p q := ⟨y 0, y 1, eq_ix2 y⟩
  obtain rfl : p = 0 := Subsingleton.elim _ _
  show _ = gainG m c (((cfg0.win 16).blk t).view.emb (ix2 0 q))
  rw [emb_16]
  exact gain_apply m c q

theorem arr_16 : (dats m 0 c).arrAt 16 cfg0.N = gainG m c :=
  (dats m 0 c).arrAt_eq_of_cover 16 (gainG m c) (fun t ht => flushed_16 m c t ((flush0_16 t).mp ht)) fun (i : S1x1024.Idx) => by
    refine ⟨pt 3, (flush0_16 (pt 3)).mpr rfl, ?_⟩
    have e : ((cfg0.win 16).blk (pt 3)).view.emb (ix2 (i 0) (i 1)) = i := (emb_16 (pt 3) (i 0) (i 1)).trans (eq_ix2 i).symm
    exact e ▸ View.emb_mem_set _ _

theorem flushed_17 (t : Fin cfg0.N) (h : t.val % 4 = 3) : (dats m 0 c).flushed 17 t = ((cfg0.win 17).blk t).view.read (Elt Ideal) (dwG m c) := by
  have h4 : t.val < 4 := Nat.lt_of_lt_of_eq t.isLt N_0
  rw [Value.flushed17, left_dw m c t h]
  refine funext fun (y : S1024x1024.Idx) => ?_
  obtain ⟨p, q, rfl⟩ : ∃ (p : Fin 1024) (q : Fin 1024), y = ix2 p q := ⟨y 0, y 1, eq_ix2 y⟩
  show _ = dwG m c (((cfg0.win 17).blk t).view.emb (ix2 p q))
  rw [emb_17]
  exact (pay2_apply _ p q).trans (acc_apply m c p q)

theorem arr_17 : (dats m 0 c).arrAt 17 cfg0.N = dwG m c :=
  (dats m 0 c).arrAt_eq_of_cover 17 (dwG m c) (fun t ht => flushed_17 m c t ((flush0_17 t).mp ht)) fun (i : S1024x1024.Idx) => by
    refine ⟨pt 3, (flush0_17 (pt 3)).mpr rfl, ?_⟩
    have e : ((cfg0.win 17).blk (pt 3)).view.emb (ix2 (i 0) (i 1)) = i := (emb_17 (pt 3) (i 0) (i 1)).trans (eq_ix2 i).symm
    exact e ▸ View.emb_mem_set _ _

theorem flushed_18 (t : Fin cfg0.N) (h : t.val % 4 = 3) : (dats m 0 c).flushed 18 t = ((cfg0.win 18).blk t).view.read (Elt Ideal) (gwG m c) := by
  have h4 : t.val < 4 := Nat.lt_of_lt_of_eq t.isLt N_0
  rw [Value.flushed18, (left_gwV m c t.val t.isLt), (by omega : t.val + 1 = 4)]
  refine funext fun (y : S256x256.Idx) => ?_
  obtain ⟨p, q, rfl⟩ : ∃ (p : Fin 256) (q : Fin 256), y = ix2 p q := ⟨y 0, y 1, eq_ix2 y⟩
  show _ = gwG m c (((cfg0.win 18).blk t).view.emb (ix2 p q))
  rw [emb_18]
  exact gw_apply m c p q

theorem arr_18 : (dats m 0 c).arrAt 18 cfg0.N = gwG m c :=
  (dats m 0 c).arrAt_eq_of_cover 18 (gwG m c) (fun t ht => flushed_18 m c t ((flush0_18 t).mp ht)) fun (i : S256x256.Idx) => by
    refine ⟨pt 3, (flush0_18 (pt 3)).mpr rfl, ?_⟩
    have e : ((cfg0.win 18).blk (pt 3)).view.emb (ix2 (i 0) (i 1)) = i := (emb_18 (pt 3) (i 0) (i 1)).trans (eq_ix2 i).symm
    exact e ▸ View.emb_mem_set _ _

theorem flushed_19 (t : Fin cfg0.N) (h : t.val % 4 = 3) : (dats m 0 c).flushed 19 t = ((cfg0.win 19).blk t).view.read (Elt Ideal) (gbG m c) := by
  have h4 : t.val < 4 := Nat.lt_of_lt_of_eq t.isLt N_0
  rw [Value.flushed19, (left_gbV m c t.val t.isLt), (by omega : t.val + 1 = 4)]
  refine funext fun (y : S1x256.Idx) => ?_
  obtain ⟨p, q, rfl⟩ : ∃ (p : Fin 1) (q : Fin 256), y = ix2 p q := ⟨y 0, y 1, eq_ix2 y⟩
  obtain rfl : p = 0 := Subsingleton.elim _ _
  show _ = gbG m c (((cfg0.win 19).blk t).view.emb (ix2 0 q))
  rw [emb_19]
  exact gb_apply m c q

theorem arr_19 : (dats m 0 c).arrAt 19 cfg0.N = gbG m c :=
  (dats m 0 c).arrAt_eq_of_cover 19 (gbG m c) (fun t ht => flushed_19 m c t ((flush0_19 t).mp ht)) fun (i : S1x256.Idx) => by
    refine ⟨pt 3, (flush0_19 (pt 3)).mpr rfl, ?_⟩
    have e : ((cfg0.win 19).blk (pt 3)).view.emb (ix2 (i 0) (i 1)) = i := (emb_19 (pt 3) (i 0) (i 1)).trans (eq_ix2 i).symm
    exact e ▸ View.emb_mem_set _ _

/-- The run with the eight results read: each array is the mathematics of the arguments. -/
theorem run (ρ : Dev nD → PrngReg) : θ_run defs (onTc (τ := τ) (main (F := Ideal))) ⟨m, fun _ => 0, ρ⟩ fun r => ∀ c : Dev nD,
      r.2.mem ((c.tc : Thread nD τ).loc main_v40_0) = outG m c 0
      ∧ r.2.mem ((c.tc : Thread nD τ).loc main_v40_1) = outG m c 1
      ∧ r.2.mem ((c.tc : Thread nD τ).loc main_v40_2) = outG m c 2
      ∧ r.2.mem ((c.tc : Thread nD τ).loc main_v40_4) = gateG m c
      ∧ r.2.mem ((c.tc : Thread nD τ).loc main_v40_5) = gainG m c
      ∧ r.2.mem ((c.tc : Thread nD τ).loc main_v40_6) = dwG m c
      ∧ r.2.mem ((c.tc : Thread nD τ).loc main_v40_7) = gwG m c
      ∧ r.2.mem ((c.tc : Thread nD τ).loc main_v40_8) = gbG m c :=
  (θ_run defs _ _).mono (fun _ h c => ⟨(h c).1.trans (arr_11 m c), (h c).2.1.trans (arr_12 m c), (h c).2.2.1.trans (arr_13 m c), (h c).2.2.2.2.1.trans (arr_15 m c), (h c).2.2.2.2.2.1.trans (arr_16 m c), (h c).2.2.2.2.2.2.1.trans (arr_17 m c), (h c).2.2.2.2.2.2.2.1.trans (arr_18 m c), (h c).2.2.2.2.2.2.2.2.1.trans (arr_19 m c)⟩) (Value.run_blocks m ρ)

end Cert.OutBwd

end
-- ==== Proof.OutBwdRef.lean ====
/- The eight results of the reference of the mixers' output gradient, element by element: the same mathematics as the kernel's
   arrays. -/
module

public import proofs.«01_k».proof.Proof.Gen.Reference8Ideal.Read
public import proofs.«01_k».proof.Proof.OutBwdSpec
public import proofs.«01_k».proof.Proof.InNorm
public import Idealize.ShloMosaic.Lib.Pointwise

@[expose] public section

set_option maxRecDepth 16384

noncomputable section

namespace Cert.OutBwd.Ref

open Cert.Reference8Ideal Cert.Reference8Ideal.Gen Cert.Reference8Ideal.Read Cert.FfnBwd Cert.FfnFwd Cert.MixOut
open Idealize.ShloMosaic

theorem ix2_at {a b : ℕ} {i : (⟨2, ![a, b]⟩ : Shape).Idx} {p : Fin a} {q : Fin b} (h0 : (i 0).val = p.val) (h1 : (i 1).val = q.val) : i = ix2 p q := by
  funext x; apply Fin.ext
  match x with
  | ⟨0, _⟩ => exact h0
  | ⟨1, _⟩ => exact h1

theorem ix3_at {a b c : ℕ} {i : (⟨3, ![a, b, c]⟩ : Shape).Idx} {p : Fin a} {q : Fin b} {r : Fin c} (h0 : (i 0).val = p.val) (h1 : (i 1).val = q.val)
    (h2 : (i 2).val = r.val) : i = ix3 p q r := by
  funext x; apply Fin.ext
  match x with
  | ⟨0, _⟩ => exact h0
  | ⟨1, _⟩ => exact h1
  | ⟨2, _⟩ => exact h2

variable (x0 : Mat 2048 1024) (x1 : Mat 1 1024) (x2 x3 x4 x5 : Mat 2048 256) (x6 : Mat 256 256) (x7 : Mat 1 256) (x8 : Mat 1 1024) (x9 : Mat 1024 1024)

/-! ### The forward values -/

/-- The GELU, which the reference groups the other way. -/
theorem gelu (r : Fin 2048) (p : Fin 256) : val_main_v12 (F := Ideal) x5 (ix2 r p) = geluS (x5 (ix2 r p)) := by
  unfold val_main_v12 val_main_v11 val_main_v10 val_main_v9 val_main_v8 val_main_v7 val_main_v6 val_main_v5 val_main_v4 val_main_v3 val_main_v2
    val_main_v1 val_main_v0 val_main_cst val_main_cst_0 val_main_cst_1 val_main_cst_2
  pointwise
  unfold geluS tanS
  have cube : ∀ x : EReal, cubE * x * x * x = cubE * (x * x * x) := fun x => by rw [mul_assoc, mul_assoc, mul_assoc]
  rw [cube]
  exact (mul_left_comm _ _ _).trans (mul_assoc _ _ _).symm

/-- The last mixer's gate. -/
theorem gate (r : Fin 2048) (p : Fin 256) : val_main_v21 (F := Ideal) x5 x6 x7 (ix2 r p) = gateR (rowOf x5 r) x6 x7 p := by
  have e : ∀ (l : Fin 256), val_main_v12 (F := Ideal) x5 (ix2 r l) = geluS (x5 (ix2 r l)) := gelu x5 r
  unfold val_main_v21 val_main_v20 val_main_v19 val_main_v18 val_main_v17 val_main_v16 val_main_v15 val_main_v14 val_main_v13
    val_main_cst_3 val_main_cst_4
  generalize val_main_v12 (F := Ideal) x5 = z at e ⊢
  pointwise
  simp only [e]
  rfl

/-- The last mixer's output. -/
theorem yd (r : Fin 2048) (p : Fin 256) : val_main_v25 (F := Ideal) x5 x6 x7 (ix2 r p) = ydR (rowOf x5 r) x6 x7 p := by
  rw [val_main_v25_apply, gelu, gate]
  rfl

/-- The four mixers' rows side by side. -/
theorem side (r : Fin 2048) (q : Fin 4) (p : Fin 256) : val_main_v26 (F := Ideal) x2 x3 x4 x5 x6 x7 (ix2 r (col q p)) = rows4 x2 x3 x4 x5 x6 x7 r q p := by
  have e : ∀ (l : Fin 256), val_main_v25 (F := Ideal) x5 x6 x7 (ix2 r l) = ydR (rowOf x5 r) x6 x7 l := yd x5 x6 x7 r
  unfold val_main_v26
  generalize val_main_v25 (F := Ideal) x5 x6 x7 = z at e ⊢
  pointwise
  match q with
  | 0 =>
    rw [dif_pos (show (col 0 p).val < 256 by show 0 * 256 + p.val < 256; omega)]
    exact congrArg (fun k => x2 (ix2 r k)) (Fin.ext (by show 0 * 256 + p.val = p.val; omega))
  | 1 =>
    rw [dif_neg (show ¬ (col 1 p).val < 256 by show ¬ 1 * 256 + p.val < 256; omega), dif_pos (show (col 1 p).val - 256 < 256 by show 1 * 256 + p.val - 256 < 256; omega)]
    exact congrArg (fun k => x3 (ix2 r k)) (Fin.ext (by show 1 * 256 + p.val - 256 = p.val; omega))
  | 2 =>
    rw [dif_neg (show ¬ (col 2 p).val < 256 by show ¬ 2 * 256 + p.val < 256; omega), dif_neg (show ¬ (col 2 p).val - 256 < 256 by show ¬ 2 * 256 + p.val - 256 < 256; omega),
      dif_pos (show (col 2 p).val - 256 - 256 < 256 by show 2 * 256 + p.val - 256 - 256 < 256; omega)]
    exact congrArg (fun k => x4 (ix2 r k)) (Fin.ext (by show 2 * 256 + p.val - 256 - 256 = p.val; omega))
  | 3 =>
    rw [dif_neg (show ¬ (col 3 p).val < 256 by show ¬ 3 * 256 + p.val < 256; omega), dif_neg (show ¬ (col 3 p).val - 256 < 256 by show ¬ 3 * 256 + p.val - 256 < 256; omega),
      dif_neg (show ¬ (col 3 p).val - 256 - 256 < 256 by show ¬ 3 * 256 + p.val - 256 - 256 < 256; omega)]
    exact (congrArg (fun k => z (ix2 r k)) (Fin.ext (by show 3 * 256 + p.val - 256 - 256 - 256 = p.val; omega))).trans (e p)

theorem split (r : Fin 2048) (q : Fin 4) (p : Fin 256) : val_main_v27 (F := Ideal) x2 x3 x4 x5 x6 x7 (ix3 r q p) = rows4 x2 x3 x4 x5 x6 x7 r q p := by
  rw [val_main_v27_apply, ← side]
  have hq := q.isLt; have hp := p.isLt
  exact congrArg _ (ix2_at (by show ((r.val * 4 + q.val) * 256 + p.val) / 1024 = r.val; omega) (by show ((r.val * 4 + q.val) * 256 + p.val) % 1024 = q.val * 256 + p.val; omega))

/-- The normed rows. -/
theorem hat (r : Fin 2048) (q : Fin 4) (p : Fin 256) : val_main_v40 (F := Ideal) x2 x3 x4 x5 x6 x7 (ix3 r q p) = hatR (rows4 x2 x3 x4 x5 x6 x7 r q) p := by
  have e : ∀ (l : Fin 256), val_main_v27 (F := Ideal) x2 x3 x4 x5 x6 x7 (ix3 r q l) = rows4 x2 x3 x4 x5 x6 x7 r q l := split x2 x3 x4 x5 x6 x7 r q
  unfold val_main_v40 val_main_v39 val_main_v35 val_main_v34 val_main_v33 val_main_v32 val_main_v31 val_main_v30 val_main_v29 val_main_v28
    val_main_cst_6 val_main_cst_7 val_main_cst_8
  generalize val_main_v27 (F := Ideal) x2 x3 x4 x5 x6 x7 = z at e ⊢
  pointwise
  simp only [e]
  rfl

/-- The joined row. -/
theorem join (r : Fin 2048) (k : Fin 1024) : val_main_v43 (F := Ideal) x2 x3 x4 x5 x6 x7 x8 (ix2 r k) = joinR (rows4 x2 x3 x4 x5 x6 x7 r) x8 k := by
  obtain ⟨q, p, rfl⟩ : ∃ q p, col q p = k := ⟨_, _, col_grp_pos k⟩
  have hq := q.isLt; have hp := p.isLt; have hr := r.isLt
  rw [joinR_col, val_main_v43_apply, val_main_v41_apply, val_main_v42_apply, ← hat]
  refine congrArg₂ (· * ·) (congrArg _ (ix3_at ?_ ?_ ?_)) (congrArg x8 (ix2_at rfl rfl))
  · show (r.val * 1024 + (q.val * 256 + p.val)) / 1024 = r.val; omega
  · show (r.val * 1024 + (q.val * 256 + p.val)) / 256 % 4 = q.val; omega
  · show (r.val * 1024 + (q.val * 256 + p.val)) % 256 = p.val; omega

/-- The product with the weights. -/
theorem m : val_main_v44 (F := Ideal) x2 x3 x4 x5 x6 x7 x8 x9 = mS x2 x3 x4 x5 x6 x7 x8 x9 := by
  funext i
  rw [val_main_v44_apply]
  refine Finset.sum_congr rfl fun k _ => congrArg₂ (· * ·) ?_ (congrArg x9 (ix2_at rfl rfl))
  exact (congrArg _ (ix2_at rfl rfl)).trans (join x2 x3 x4 x5 x6 x7 x8 (i 0) k)

/-! ### The gradients of the gate, of the product and of the joined rows -/

theorem dm (r : Fin 2048) (j : Fin 1024) : val_main_v48 (F := Ideal) x0 x1 (ix2 r j) = dmS x0 x1 (ix2 r j) := by
  unfold val_main_v48 val_main_v47; pointwise; rfl

theorem dy (r : Fin 2048) (k : Fin 1024) : val_main_v54 (F := Ideal) x0 x1 x9 (ix2 r k) = dyS (dmS x0 x1) x9 (ix2 r k) := by
  rw [val_main_v54_apply]
  refine Finset.sum_congr rfl fun j _ => congrArg₂ (· * ·) ?_ (congrArg x9 (ix2_at rfl rfl))
  exact (congrArg _ (ix2_at rfl rfl)).trans (dm x0 x1 r j)

/-- The gate's gradient. -/
theorem dgate : val_main_v51 (F := Ideal) x0 x2 x3 x4 x5 x6 x7 x8 x9 = dgateS (mS x2 x3 x4 x5 x6 x7 x8 x9) x0 := by
  funext i
  obtain ⟨u, k, rfl⟩ : ∃ (u : Fin 1) (k : Fin 1024), i = ix2 u k := ⟨i 0, i 1, eq_ix2 i⟩
  unfold val_main_v51 val_main_v50 val_main_v49 val_main_cst_10
  rw [m]
  generalize mS x2 x3 x4 x5 x6 x7 x8 x9 = z
  pointwise
  show _ = ∑ r : Fin 2048, z (ix2 r k) * x0 (ix2 r k)
  exact Finset.sum_congr rfl fun r _ => mul_comm _ _

/-- The gradient of the weights. -/
theorem dw : val_main_v86 (F := Ideal) x0 x1 x2 x3 x4 x5 x6 x7 x8 = dwS (rows4 x2 x3 x4 x5 x6 x7) x8 (dmS x0 x1) := by
  funext i
  obtain ⟨k, j, rfl⟩ : ∃ (k j : Fin 1024), i = ix2 k j := ⟨i 0, i 1, eq_ix2 i⟩
  have e1 : ∀ r : Fin 2048, val_main_v48 (F := Ideal) x0 x1 (ix2 r j) = dmS x0 x1 (ix2 r j) := fun r => dm x0 x1 r j
  have e2 : ∀ r : Fin 2048, val_main_v43 (F := Ideal) x2 x3 x4 x5 x6 x7 x8 (ix2 r k) = joinR (rows4 x2 x3 x4 x5 x6 x7 r) x8 k := fun r => join x2 x3 x4 x5 x6 x7 x8 r k
  unfold val_main_v86 val_main_v53 val_main_v52
  generalize val_main_v48 (F := Ideal) x0 x1 = u at e1 ⊢
  generalize val_main_v43 (F := Ideal) x2 x3 x4 x5 x6 x7 x8 = v at e2 ⊢
  pointwise
  simp only [e1, e2]
  show _ = ∑ r : Fin 2048, joinR (rows4 x2 x3 x4 x5 x6 x7 r) x8 k * dmS x0 x1 (ix2 r j)
  exact Finset.sum_congr rfl fun r _ => mul_comm _ _

/-- The normed rows, joined again. -/
theorem hats (r : Fin 2048) (k : Fin 1024) : val_main_v41 (F := Ideal) x2 x3 x4 x5 x6 x7 (ix2 r k) = hatR (rows4 x2 x3 x4 x5 x6 x7 r (grp k)) (pos k) := by
  obtain ⟨q, p, rfl⟩ : ∃ q p, col q p = k := ⟨_, _, col_grp_pos k⟩
  have hq := q.isLt; have hp := p.isLt; have hr := r.isLt
  rw [grp_col, pos_col, val_main_v41_apply, ← hat]
  refine congrArg _ (ix3_at ?_ ?_ ?_)
  · show (r.val * 1024 + (q.val * 256 + p.val)) / 1024 = r.val; omega
  · show (r.val * 1024 + (q.val * 256 + p.val)) / 256 % 4 = q.val; omega
  · show (r.val * 1024 + (q.val * 256 + p.val)) % 256 = p.val; omega

/-- The gradient of the gain. -/
theorem dg : val_main_v57 (F := Ideal) x0 x1 x2 x3 x4 x5 x6 x7 x9 = dgS (rows4 x2 x3 x4 x5 x6 x7) (dyS (dmS x0 x1) x9) := by
  funext i
  obtain ⟨u, k, rfl⟩ : ∃ (u : Fin 1) (k : Fin 1024), i = ix2 u k := ⟨i 0, i 1, eq_ix2 i⟩
  have e1 : ∀ r : Fin 2048, val_main_v54 (F := Ideal) x0 x1 x9 (ix2 r k) = dyS (dmS x0 x1) x9 (ix2 r k) := fun r => dy x0 x1 x9 r k
  have e2 : ∀ r : Fin 2048, val_main_v41 (F := Ideal) x2 x3 x4 x5 x6 x7 (ix2 r k) = hatR (rows4 x2 x3 x4 x5 x6 x7 r (grp k)) (pos k) := fun r => hats x2 x3 x4 x5 x6 x7 r k
  unfold val_main_v57 val_main_v56 val_main_v55 val_main_cst_11
  generalize val_main_v54 (F := Ideal) x0 x1 x9 = a at e1 ⊢
  generalize val_main_v41 (F := Ideal) x2 x3 x4 x5 x6 x7 = b at e2 ⊢
  pointwise
  simp only [e1, e2]
  show _ = ∑ r : Fin 2048, dyS (dmS x0 x1) x9 (ix2 r k) * hatR (rows4 x2 x3 x4 x5 x6 x7 r (grp k)) (pos k)
  exact Finset.sum_congr rfl fun r _ => mul_comm _ _

/-! ### The gradients of the mixers' outputs -/

/-- The gradients of the normed rows. -/
theorem cot (r : Fin 2048) (q : Fin 4) (p : Fin 256) : val_main_v60 (F := Ideal) x0 x1 x8 x9 (ix3 r q p) = cotR (dyS (dmS x0 x1) x9) x8 r q p := by
  have hq := q.isLt; have hp := p.isLt; have hr := r.isLt
  have e : val_main_v59 (F := Ideal) x0 x1 x8 x9 (ix2 r (col q p)) = cotR (dyS (dmS x0 x1) x9) x8 r q p := by
    rw [val_main_v59_apply, val_main_v58_apply, dy]
    exact congrArg (_ * ·) (congrArg x8 (ix2_at rfl rfl))
  rw [val_main_v60_apply, ← e]
  exact congrArg _ (ix2_at (by show ((r.val * 4 + q.val) * 256 + p.val) / 1024 = r.val; omega) (by show ((r.val * 4 + q.val) * 256 + p.val) % 1024 = q.val * 256 + p.val; omega))

theorem wid_lit : widE = ((256 : ℝ) : EReal) := by
  simp [widE, Ideal.ofBits, Ideal.ieee, -EReal.coe_mul]; norm_num

/-- The gradient of a row under its norm, as the reference takes it term by term. -/
theorem grad_terms (y d : Row) (p : Fin 256) :
    gradR y d p = d p * rR y + y p * Ideal.div ((∑ l : Fin 256, y l * d l) * (Cert.FfnIn.negHalfE * Ideal.div (rR y) (Ideal.div (∑ l : Fin 256, y l * y l) widE + epsE))) widE
      + Ideal.div ((∑ l : Fin 256, y l * d l) * (Cert.FfnIn.negHalfE * Ideal.div (rR y) (Ideal.div (∑ l : Fin 256, y l * y l) widE + epsE))) widE * y p := by
  have h := Cert.FfnIn.norm_grad_of (n := 256) (by norm_num) wid_lit y d p 0
  rw [add_zero, zero_add] at h
  exact h

theorem back (r : Fin 2048) (q : Fin 4) (p : Fin 256) : val_main_v74 (F := Ideal) x0 x1 x2 x3 x4 x5 x6 x7 x8 x9 (ix3 r q p)
    = gradR (rows4 x2 x3 x4 x5 x6 x7 r q) (cotR (dyS (dmS x0 x1) x9) x8 r q) p := by
  have e : ∀ (l : Fin 256), val_main_v27 (F := Ideal) x2 x3 x4 x5 x6 x7 (ix3 r q l) = rows4 x2 x3 x4 x5 x6 x7 r q l := split x2 x3 x4 x5 x6 x7 r q
  have e' : ∀ (l : Fin 256), val_main_v60 (F := Ideal) x0 x1 x8 x9 (ix3 r q l) = cotR (dyS (dmS x0 x1) x9) x8 r q l := cot x0 x1 x8 x9 r q
  rw [grad_terms]
  unfold val_main_v74 val_main_v73 val_main_v72 val_main_v71 val_main_v70 val_main_v69 val_main_v68 val_main_v67 val_main_v66 val_main_v65 val_main_v64
    val_main_v63 val_main_v62 val_main_v61 val_main_v38 val_main_v37 val_main_v36 val_main_v35 val_main_v34 val_main_v33 val_main_v32 val_main_v31
    val_main_v30 val_main_v29 val_main_v28 val_main_cst_6 val_main_cst_7 val_main_cst_8 val_main_cst_9 val_main_cst_12 val_main_cst_13 val_main_cst_14
  generalize val_main_v27 (F := Ideal) x2 x3 x4 x5 x6 x7 = z at e ⊢
  generalize val_main_v60 (F := Ideal) x0 x1 x8 x9 = d at e' ⊢
  pointwise
  simp only [e, e', Finset.univ_unique, Finset.sum_singleton]
  rfl

/-- Column `p` of mixer `q` in the gradient of the mixers side by side. -/
theorem back_col (r : Fin 2048) (q : Fin 4) (p : Fin 256) : val_main_v75 (F := Ideal) x0 x1 x2 x3 x4 x5 x6 x7 x8 x9 (ix2 r (col q p))
    = gradR (rows4 x2 x3 x4 x5 x6 x7 r q) (cotR (dyS (dmS x0 x1) x9) x8 r q) p := by
  have hq := q.isLt; have hp := p.isLt; have hr := r.isLt
  rw [val_main_v75_apply, ← back]
  refine congrArg _ (ix3_at ?_ ?_ ?_)
  · show (r.val * 1024 + (q.val * 256 + p.val)) / 1024 = r.val; omega
  · show (r.val * 1024 + (q.val * 256 + p.val)) / 256 % 4 = q.val; omega
  · show (r.val * 1024 + (q.val * 256 + p.val)) % 256 = p.val; omega

/-- The gradient of the first mixer's output. -/
theorem out0 : val_main_v76 (F := Ideal) x0 x1 x2 x3 x4 x5 x6 x7 x8 x9 = outS (rows4 x2 x3 x4 x5 x6 x7) (dyS (dmS x0 x1) x9) x8 0 := by
  funext i
  obtain ⟨r, p, rfl⟩ : ∃ (r : Fin 2048) (p : Fin 256), i = ix2 r p := ⟨i 0, i 1, eq_ix2 i⟩
  rw [val_main_v76_apply]
  refine Eq.trans (congrArg _ (ix2_at (p := r) (q := col 0 p) ?_ ?_)) (back_col x0 x1 x2 x3 x4 x5 x6 x7 x8 x9 r 0 p)
  · rfl
  · show p.val = 0 * 256 + p.val; omega

/-- The gradient of the second mixer's output. -/
theorem out1 : val_main_v77 (F := Ideal) x0 x1 x2 x3 x4 x5 x6 x7 x8 x9 = outS (rows4 x2 x3 x4 x5 x6 x7) (dyS (dmS x0 x1) x9) x8 1 := by
  funext i
  obtain ⟨r, p, rfl⟩ : ∃ (r : Fin 2048) (p : Fin 256), i = ix2 r p := ⟨i 0, i 1, eq_ix2 i⟩
  rw [val_main_v77_apply]
  refine Eq.trans (congrArg _ (ix2_at (p := r) (q := col 1 p) ?_ ?_)) (back_col x0 x1 x2 x3 x4 x5 x6 x7 x8 x9 r 1 p)
  · rfl
  · show 256 + p.val = 1 * 256 + p.val; omega

/-- The gradient of the third mixer's output. -/
theorem out2 : val_main_v78 (F := Ideal) x0 x1 x2 x3 x4 x5 x6 x7 x8 x9 = outS (rows4 x2 x3 x4 x5 x6 x7) (dyS (dmS x0 x1) x9) x8 2 := by
  funext i
  obtain ⟨r, p, rfl⟩ : ∃ (r : Fin 2048) (p : Fin 256), i = ix2 r p := ⟨i 0, i 1, eq_ix2 i⟩
  rw [val_main_v78_apply]
  refine Eq.trans (congrArg _ (ix2_at (p := r) (q := col 2 p) ?_ ?_)) (back_col x0 x1 x2 x3 x4 x5 x6 x7 x8 x9 r 2 p)
  · rfl
  · show 512 + p.val = 2 * 256 + p.val; omega

/-- The gradient of the last mixer's output. -/
theorem out3 : val_main_v79 (F := Ideal) x0 x1 x2 x3 x4 x5 x6 x7 x8 x9 = outS (rows4 x2 x3 x4 x5 x6 x7) (dyS (dmS x0 x1) x9) x8 3 := by
  funext i
  obtain ⟨r, p, rfl⟩ : ∃ (r : Fin 2048) (p : Fin 256), i = ix2 r p := ⟨i 0, i 1, eq_ix2 i⟩
  rw [val_main_v79_apply]
  refine Eq.trans (congrArg _ (ix2_at (p := r) (q := col 3 p) ?_ ?_)) (back_col x0 x1 x2 x3 x4 x5 x6 x7 x8 x9 r 3 p)
  · rfl
  · show 768 + p.val = 3 * 256 + p.val; omega

/-! ### The gradients of the gated unit's weights and bias -/

theorem lin (r : Fin 2048) (p : Fin 256) : val_main_v81 (F := Ideal) x0 x1 x2 x3 x4 x5 x6 x7 x8 x9 (ix2 r p)
    = linS x5 x6 x7 (outS (rows4 x2 x3 x4 x5 x6 x7) (dyS (dmS x0 x1) x9) x8 3) (ix2 r p) := by
  rw [val_main_v81_apply, val_main_v80_apply, val_main_v24_apply, val_main_v23_apply, out3, gelu, gate]
  generalize outS (rows4 x2 x3 x4 x5 x6 x7) (dyS (dmS x0 x1) x9) x8 3 = d
  unfold val_main_v22 val_main_cst_5
  pointwise
  show geluS (x5 (ix2 r p)) * d (ix2 r p) * (gateR (rowOf x5 r) x6 x7 p * (1 - gateR (rowOf x5 r) x6 x7 p))
    = d (ix2 r p) * geluS (x5 (ix2 r p)) * gateR (rowOf x5 r) x6 x7 p * (1 - gateR (rowOf x5 r) x6 x7 p)
  rw [mul_comm (geluS _) (d _), mul_assoc (d (ix2 r p) * geluS (x5 (ix2 r p)))]

/-- The gradient of the bias. -/
theorem dgb : val_main_v83 (F := Ideal) x0 x1 x2 x3 x4 x5 x6 x7 x8 x9
    = dgbS (linS x5 x6 x7 (outS (rows4 x2 x3 x4 x5 x6 x7) (dyS (dmS x0 x1) x9) x8 3)) := by
  funext i
  obtain ⟨u, p, rfl⟩ : ∃ (u : Fin 1) (p : Fin 256), i = ix2 u p := ⟨i 0, i 1, eq_ix2 i⟩
  have e := fun r : Fin 2048 => lin x0 x1 x2 x3 x4 x5 x6 x7 x8 x9 r p
  unfold val_main_v83 val_main_v82 val_main_cst_15
  generalize val_main_v81 (F := Ideal) x0 x1 x2 x3 x4 x5 x6 x7 x8 x9 = z at e ⊢
  pointwise
  simp only [e]
  rfl

/-- The gradient of the weights of the gate. -/
theorem dgw : val_main_v85 (F := Ideal) x0 x1 x2 x3 x4 x5 x6 x7 x8 x9
    = dgwS x5 (linS x5 x6 x7 (outS (rows4 x2 x3 x4 x5 x6 x7) (dyS (dmS x0 x1) x9) x8 3)) := by
  funext i
  obtain ⟨l, p, rfl⟩ : ∃ (l p : Fin 256), i = ix2 l p := ⟨i 0, i 1, eq_ix2 i⟩
  have e := fun r : Fin 2048 => lin x0 x1 x2 x3 x4 x5 x6 x7 x8 x9 r p
  have e' := fun r : Fin 2048 => gelu x5 r l
  unfold val_main_v85 val_main_v84
  generalize val_main_v81 (F := Ideal) x0 x1 x2 x3 x4 x5 x6 x7 x8 x9 = z at e ⊢
  generalize val_main_v12 (F := Ideal) x5 = y at e' ⊢
  pointwise
  simp only [e, e']
  generalize linS x5 x6 x7 (outS (rows4 x2 x3 x4 x5 x6 x7) (dyS (dmS x0 x1) x9) x8 3) = d
  show _ = ∑ r : Fin 2048, geluS (x5 (ix2 r l)) * d (ix2 r p)
  exact Finset.sum_congr rfl fun r _ => mul_comm _ _

end Cert.OutBwd.Ref

end
-- ==== Proof.OutBwdKernel.lean ====
/- The frame of the mixers' output gradient on words. The run is proved once, over any float values, and the two programs have the same text. -/
module

public import proofs.«01_k».proof.Defs
public import proofs.«01_k».proof.Proof.OutBwdArrays
public import proofs.«01_k».proof.Proof.Gen.Kernel8

@[expose] public section

set_option maxHeartbeats 8000000
set_option maxRecDepth 16384

noncomputable section

namespace Cert.OutBwd

open Idealize.ShloMosaic Idealize.SL.Sem

attribute [local instance] Cert.Kernel8.Gen.facts

theorem body_text : @Cert.Kernel8.cc0_mix_out_bwd Bits _ _ = @Cert.Kernel8Ideal.cc0_mix_out_bwd Bits _ _ := rfl

theorem bodies_text : Cert.Kernel8.defs₀ (F := Bits) = Cert.Kernel8Ideal.defs₀ (F := Bits) := by
  refine congrArg Defs.onTc ?_
  funext l x
  match l, x with
  | ⟨0, _⟩, (t, s) => rfl

theorem defs_text : Cert.Kernel8.defs (F := Bits) = Cert.Kernel8Ideal.defs (F := Bits) := congrArg (Pipeline.defs _) bodies_text

theorem frame_kernel : Cert.quiescent_Kernel8 := by
  intro m ρ _
  rw [defs_text]
  exact (θ_run Cert.Kernel8Ideal.defs _ _).mono (fun _ h => h) (Cert.Kernel8Ideal.Gen.frame (F := Bits) m ρ)

end Cert.OutBwd

end
-- ==== Proof.lean ====
/- The claims: the frames of the eight kernels (feed-forward, the mixers' input and output products, the pooling and convolution mixers) and of their references, and the equality of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.FfnEq
public import proofs.«01_k».proof.Proof.FfnKernel
public import proofs.«01_k».proof.Proof.FfnPre
public import proofs.«01_k».proof.Proof.InArrays
public import proofs.«01_k».proof.Proof.InRef
public import proofs.«01_k».proof.Proof.InKernel
public import proofs.«01_k».proof.Proof.FwdArrays
public import proofs.«01_k».proof.Proof.FwdRef
public import proofs.«01_k».proof.Proof.FwdKernel
public import proofs.«01_k».proof.Proof.MixBwdArrays
public import proofs.«01_k».proof.Proof.MixBwdRef
public import proofs.«01_k».proof.Proof.MixBwdKernel
public import proofs.«01_k».proof.Proof.MixFwd
public import proofs.«01_k».proof.Proof.MixFwdRef
public import proofs.«01_k».proof.Proof.MixFwdKernel
public import proofs.«01_k».proof.Proof.PoolArrays
public import proofs.«01_k».proof.Proof.PoolConvRef
public import proofs.«01_k».proof.Proof.PoolKernel
public import proofs.«01_k».proof.Proof.OutFwd
public import proofs.«01_k».proof.Proof.OutFwdRef
public import proofs.«01_k».proof.Proof.OutFwdKernel
public import proofs.«01_k».proof.Proof.OutBwdArrays
public import proofs.«01_k».proof.Proof.OutBwdRef
public import proofs.«01_k».proof.Proof.OutBwdKernel
public import Idealize.ShloMosaic.Adequacy
public import Idealize.ShloMosaic.Init

@[expose] public section

set_option maxRecDepth 16384

noncomputable section

namespace Cert.Proof

open Idealize.ShloMosaic Idealize.SL.Sem

/-- The reference's frame; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The five results agree. -/
theorem equal_results : Cert.algebraic_KernelIdeal_ReferenceIdeal_pre_finite
    (hKernelIdeal := Cert.KernelIdeal.Gen.facts) (hReferenceIdeal := Cert.ReferenceIdeal.Gen.facts) (hPre_finite := Cert.FfnBwd.preFacts) := by
  intro m ρ m' ρ' hpre hargs
  haveI := Cert.FfnBwd.preFacts
  refine ⟨Cert.FfnBwd.daG m, Cert.FfnBwd.dbG m, Cert.FfnBwd.dwiG m, Cert.FfnBwd.dwoG m, Cert.FfnBwd.dgG m, ?_, ?_⟩
  · refine (θ_run _ _ _).mono (fun r h c => ?_) (θ_run_and (Cert.FfnBwd.run m ρ) (Cert.FfnBwd.frame m ρ))
    obtain ⟨hv, ha, -⟩ := h
    obtain ⟨e0, e1, e2, e3, e4⟩ := hv c
    exact ⟨e0, e1, e2, e3, e4, ha c⟩
  · refine (θ_run _ _ _).mono (fun r h c => ?_) (Cert.ReferenceIdeal.Value.run (F := Ideal) m' ρ')
    obtain ⟨e0, e1, e2, e3, e4, ha⟩ := h c
    obtain ⟨a0, a1, a2, a3, a4⟩ := hargs c
    have hf := congrFun (hpre c) (fun a => a.elim0)
    obtain ⟨h0, h1, h2, h3, h4⟩ := Cert.FfnBwd.finite_args hf
    have r2 := Cert.ReferenceIdeal.Read.val_main_v34_eq m' c
    simp only [a0, a1, a2, a3, a4] at e0 e1 e3 e4 r2
    exact ⟨e0.trans (Cert.FfnBwd.daG_eq m c h0 h1 h2 h3 h4).symm, e1.trans (Cert.FfnBwd.dbG_eq m c).symm,
      (e2.trans r2).trans (Cert.FfnBwd.dwiG_eq m c h0 h1 h2 h3 h4).symm, e3.trans (Cert.FfnBwd.dwoG_eq m c).symm,
      e4.trans (Cert.FfnBwd.dgG_eq m c).symm, ha⟩

/-- The input gradient's reference: its frame, and the two results. -/
theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The two results agree. -/
theorem equal_results2 : Cert.algebraic_Kernel2Ideal_Reference2Ideal (hKernel2Ideal := Cert.Kernel2Ideal.Gen.facts) (hReference2Ideal := Cert.Reference2Ideal.Gen.facts) := by
  intro m ρ m' ρ' _ hargs
  refine ⟨Cert.FfnIn.dxG m, Cert.FfnIn.rowsG m, ?_, ?_⟩
  · refine (θ_run _ _ _).mono (fun r h c => ?_) (θ_run_and (Cert.FfnIn.run m ρ) (Cert.FfnIn.frame m ρ))
    obtain ⟨hv, ha, -⟩ := h
    obtain ⟨e0, e1⟩ := hv c
    exact ⟨e0, e1, ha c⟩
  · refine (θ_run _ _ _).mono (fun r h c => ?_) (Cert.Reference2Ideal.Value.run (F := Ideal) m' ρ')
    obtain ⟨e0, e1, ha⟩ := h c
    obtain ⟨a0, a1, a2, a3, a4, a5, a6⟩ := hargs c
    have r0 := Cert.Reference2Ideal.Read.val_main_v53_eq m' c
    have r1 := e1.trans (Cert.Reference2Ideal.Read.val_main_v55_eq (F := Ideal) _ _ _ _ _ _)
    clear e1
    simp only [a0, a1, a2, a3, a4, a5, a6] at r0 r1
    exact ⟨(e0.trans r0).trans (Cert.FfnIn.Ref.dx _ _ _ _ _ _ _), r1.trans (Cert.FfnIn.Ref.rows _ _ _ _ _ _), ha⟩

/-- The forward reference's frame. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The five results of the forward kernel agree with its reference's. -/
theorem equal_results3 : Cert.algebraic_Kernel3Ideal_Reference3Ideal
    (hKernel3Ideal := Cert.Kernel3Ideal.Gen.facts) (hReference3Ideal := Cert.Reference3Ideal.Gen.facts) := by
  intro m ρ m' ρ' _ hargs
  refine ⟨Cert.FfnFwd.xnG m, Cert.FfnFwd.hG m, Cert.FfnFwd.aG m, Cert.FfnFwd.bG m, Cert.FfnFwd.oG m, ?_, ?_⟩
  · refine (θ_run _ _ _).mono (fun r h c => ?_) (θ_run_and (Cert.FfnFwd.run m ρ) (Cert.FfnFwd.frame m ρ))
    obtain ⟨hv, ha, -⟩ := h
    obtain ⟨e0, e1, e2, e3, e4⟩ := hv c
    exact ⟨e0, e1, e2, e3, e4, ha c⟩
  · refine (θ_run _ _ _).mono (fun r h c => ?_) (Cert.Reference3Ideal.Value.run (F := Ideal) m' ρ')
    obtain ⟨e0, e1, e2, e3, e4, ha⟩ := h c
    obtain ⟨a0, a1, a2, a3, a4⟩ := hargs c
    have r0 := Cert.Reference3Ideal.Read.val_main_v31_eq m' c
    have r4 := Cert.Reference3Ideal.Read.val_main_v35_eq m' c
    simp only [a0, a1, a2, a3, a4] at e1 e2 e3 r0 r4
    exact ⟨(e0.trans r0).trans (Cert.FfnFwd.Ref.xn _ _ _ _ _), e1.trans (Cert.FfnFwd.Ref.h _ _ _), e2.trans (Cert.FfnFwd.Ref.a _ _ _ _),
      e3.trans (Cert.FfnFwd.Ref.b _ _ _ _), (e4.trans r4).trans (Cert.FfnFwd.Ref.o _ _ _ _ _), ha⟩

/-- The frame of the reference of the mixers' input gradient. -/
theorem frame_reference4 : Cert.quiescent_Reference4Ideal (hReference4Ideal := Cert.Reference4Ideal.Gen.facts) := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The three results of the mixers' input gradient agree with its reference's. -/
theorem equal_results4 : Cert.algebraic_Kernel4Ideal_Reference4Ideal
    (hKernel4Ideal := Cert.Kernel4Ideal.Gen.facts) (hReference4Ideal := Cert.Reference4Ideal.Gen.facts) := by
  intro m ρ m' ρ' _ hargs
  refine ⟨Cert.MixBwd.dxG m, Cert.MixBwd.rowsG m, Cert.MixBwd.dwG m, ?_, ?_⟩
  · refine (θ_run _ _ _).mono (fun r h c => ?_) (θ_run_and (Cert.MixBwd.run m ρ) (Cert.Kernel4Ideal.Gen.frame m ρ))
    obtain ⟨hv, ha, -⟩ := h
    obtain ⟨e0, e1, e2⟩ := hv c
    exact ⟨e0, e1, e2, ha c⟩
  · refine (θ_run _ _ _).mono (fun r h c => ?_) (Cert.Reference4Ideal.Value.run (F := Ideal) m' ρ')
    obtain ⟨e0, e1, e2, ha⟩ := h c
    obtain ⟨a0, a1, a2, a3, a4, a5, a6, a7, a8⟩ := hargs c
    have r0 := Cert.Reference4Ideal.Read.val_main_v55_eq m' c
    have r1 := Cert.Reference4Ideal.Read.val_main_v57_eq m' c
    have r2 := e2.trans (Cert.Reference4Ideal.Read.val_main_v59_eq (F := Ideal) _ _ _ _ _ _ _)
    clear e2
    simp only [a0, a1, a2, a3, a4, a5, a6, a7, a8] at r0 r1 r2
    exact ⟨(e0.trans r0).trans (Cert.MixBwd.Ref.dx _ _ _ _ _ _ _ _ _), (e1.trans r1).trans (Cert.MixBwd.Ref.rows _ _ _ _ _ _ _ _),
      r2.trans (Cert.MixBwd.Ref.dw _ _ _ _ _ _ _), ha⟩

/-- The frame of the reference of the mixers' input product. -/
theorem frame_reference5 : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The two results of the mixers' input product agree with its reference's. -/
theorem equal_results5 : Cert.algebraic_Kernel5Ideal_Reference5Ideal
    (hKernel5Ideal := Cert.Kernel5Ideal.Gen.facts) (hReference5Ideal := Cert.Reference5Ideal.Gen.facts) := by
  intro m ρ m' ρ' _ hargs
  refine ⟨Cert.MixFwd.zG m, Cert.MixFwd.hG m, ?_, ?_⟩
  · refine (θ_run _ _ _).mono (fun r h c => ?_) (θ_run_and (Cert.MixFwd.run m ρ) (Cert.Kernel5Ideal.Gen.frame m ρ))
    obtain ⟨hv, ha, -⟩ := h
    obtain ⟨e0, e1⟩ := hv c
    exact ⟨e0, e1, ha c⟩
  · refine (θ_run _ _ _).mono (fun r h c => ?_) (Cert.Reference5Ideal.Value.run (F := Ideal) m' ρ')
    obtain ⟨e0, e1, ha⟩ := h c
    obtain ⟨a0, a1, a2, a3⟩ := hargs c
    have r0 := e0.trans (Cert.Reference5Ideal.Read.val_main_v21_eq (F := Ideal) _ _ _ _)
    have r1 := e1.trans (Cert.Reference5Ideal.Read.val_main_v22_eq (F := Ideal) _ _ _)
    clear e0 e1
    simp only [a0, a1, a2, a3] at r0 r1
    exact ⟨r0.trans (Cert.MixFwd.Ref.z _ _ _ _), r1.trans (Cert.MixFwd.Ref.h _ _ _), ha⟩

/-- The frame of the reference of the pooling and convolution gradient. -/
theorem frame_reference6 : Cert.quiescent_Reference6Ideal (hReference6Ideal := Cert.Reference6Ideal.Gen.facts) := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- The five results of the pooling and convolution gradient agree with its reference's. -/
theorem equal_results6 : Cert.algebraic_Kernel6Ideal_Reference6Ideal
    (hKernel6Ideal := Cert.Kernel6Ideal.Gen.facts) (hReference6Ideal := Cert.Reference6Ideal.Gen.facts) := by
  intro m ρ m' ρ' _ hargs
  refine ⟨Cert.PoolBwd.dzbG m, Cert.PoolBwd.dzcG m, Cert.PoolBwd.dwG m, Cert.PoolBwd.dpsG m, Cert.PoolBwd.dcwG m, ?_, ?_⟩
  · refine (θ_run _ _ _).mono (fun r h c => ?_) (θ_run_and (Cert.PoolBwd.run m ρ) (Cert.Kernel6Ideal.Gen.frame m ρ))
    obtain ⟨hv, ha, -⟩ := h
    obtain ⟨e0, e1, e2, e3, e4⟩ := hv c
    exact ⟨e0, e1, e2, e3, e4, ha c⟩
  · refine (θ_run _ _ _).mono (fun r h c => ?_) (Cert.Reference6Ideal.Value.run (F := Ideal) m' ρ')
    obtain ⟨e0, e1, e2, e3, e4, ha⟩ := h c
    obtain ⟨a0, a1, a2, a3, a4, a5⟩ := hargs c
    have r0 := e0.trans (Cert.Reference6Ideal.Read.val_main_v64_eq (F := Ideal) _ _ _)
    have r1 := e1.trans (Cert.Reference6Ideal.Read.val_main_v132_eq m' c)
    have r2 := e2.trans (Cert.Reference6Ideal.Read.val_main_v141_eq (F := Ideal) _ _ _)
    have r3 := e3.trans (Cert.Reference6Ideal.Read.val_main_v48_eq (F := Ideal) _ _ _)
    have r4 := e4.trans (Cert.Reference6Ideal.Read.val_main_v143_eq (F := Ideal) _ _)
    clear e0 e1 e2 e3 e4
    simp only [a0, a1, a2, a3, a4, a5] at r0 r1 r2 r3 r4
    exact ⟨r0.trans (Cert.PoolBwd.Ref.dzb _ _ _), r1.trans (Cert.PoolBwd.Ref.dzc _ _ _), r2.trans (Cert.PoolBwd.Ref.dw _ _ _),
      r3.trans (Cert.PoolBwd.Ref.dps _ _ _), r4.trans (Cert.PoolBwd.Ref.dcw _ _), ha⟩

/-- The frame of the reference of the mixers' output product. -/
theorem frame_reference7 : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The two results of the mixers' output product agree with its reference's. -/
theorem equal_results7 : Cert.algebraic_Kernel7Ideal_Reference7Ideal
    (hKernel7Ideal := Cert.Kernel7Ideal.Gen.facts) (hReference7Ideal := Cert.Reference7Ideal.Gen.facts) := by
  intro m ρ m' ρ' _ hargs
  refine ⟨Cert.OutFwd.xG m, Cert.OutFwd.mG m, ?_, ?_⟩
  · refine (θ_run _ _ _).mono (fun r h c => ?_) (θ_run_and (Cert.OutFwd.run m ρ) (Cert.Kernel7Ideal.Gen.frame m ρ))
    obtain ⟨hv, ha, -⟩ := h
    obtain ⟨e0, e1⟩ := hv c
    exact ⟨e0, e1, ha c⟩
  · refine (θ_run _ _ _).mono (fun r h c => ?_) (Cert.Reference7Ideal.Value.run (F := Ideal) m' ρ')
    obtain ⟨e0, e1, ha⟩ := h c
    obtain ⟨a0, a1, a2, a3, a4, a5, a6, a7, a8, a9⟩ := hargs c
    have r0 := e0.trans (Cert.Reference7Ideal.Read.val_main_v41_eq m' c)
    have r1 := e1.trans (Cert.Reference7Ideal.Read.val_main_v38_eq m' c)
    clear e0 e1
    simp only [a0, a1, a2, a3, a4, a5, a6, a7, a8, a9] at r0 r1
    exact ⟨r0.trans (Cert.OutFwd.Ref.x _ _ _ _ _ _ _ _ _ _), r1.trans (Cert.OutFwd.Ref.m _ _ _ _ _ _ _ _), ha⟩

theorem frame_reference8 : Cert.quiescent_Reference8Ideal (hReference8Ideal := Cert.Reference8Ideal.Gen.facts) := fun m ρ _ =>
  (θ_run Cert.Reference8Ideal.defs _ _).mono (fun r h => ⟨fun c => (h c).2.2.2.2.2.2.2.2, sem_eq_zero_of_no_sems (by decide) r.2⟩)
    (Cert.Reference8Ideal.Value.run (F := Ideal) m ρ)

/-- The mixers' output gradient kernel and its reference leave the same eight arrays. -/
theorem equal_results8 : Cert.algebraic_Kernel8Ideal_Reference8Ideal
    (hKernel8Ideal := Cert.Kernel8Ideal.Gen.facts) (hReference8Ideal := Cert.Reference8Ideal.Gen.facts) := by
  intro m ρ m' ρ' _ hargs
  refine ⟨fun c => Cert.OutBwd.outG m c 0, fun c => Cert.OutBwd.outG m c 1, fun c => Cert.OutBwd.outG m c 2, Cert.OutBwd.gateG m, Cert.OutBwd.gainG m,
    Cert.OutBwd.dwG m, Cert.OutBwd.gwG m, Cert.OutBwd.gbG m, ?_, ?_⟩
  · refine (θ_run _ _ _).mono (fun r h c => ?_) (θ_run_and (Cert.OutBwd.run m ρ) (Cert.Kernel8Ideal.Gen.frame m ρ))
    obtain ⟨hv, ha, -⟩ := h
    obtain ⟨e0, e1, e2, e3, e4, e5, e6, e7⟩ := hv c
    exact ⟨e0, e1, e2, e3, e4, e5, e6, e7, ha c⟩
  · refine (θ_run _ _ _).mono (fun r h c => ?_) (Cert.Reference8Ideal.Value.run (F := Ideal) m' ρ')
    obtain ⟨e0, e1, e2, e3, e4, e5, e6, e7, ha⟩ := h c
    obtain ⟨a0, a1, a2, a3, a4, a5, a6, a7, a8, a9⟩ := hargs c
    have r0 := e0.trans (Cert.Reference8Ideal.Read.val_main_v76_eq m' c)
    have r1 := e1.trans (Cert.Reference8Ideal.Read.val_main_v77_eq m' c)
    have r2 := e2.trans (Cert.Reference8Ideal.Read.val_main_v78_eq m' c)
    have r3 := e3.trans (Cert.Reference8Ideal.Read.val_main_v51_eq m' c)
    have r4 := e4.trans (Cert.Reference8Ideal.Read.val_main_v57_eq m' c)
    have r5 := e5.trans (Cert.Reference8Ideal.Read.val_main_v86_eq m' c)
    have r6 := e6.trans (Cert.Reference8Ideal.Read.val_main_v85_eq m' c)
    have r7 := e7.trans (Cert.Reference8Ideal.Read.val_main_v83_eq m' c)
    clear e0 e1 e2 e3 e4 e5 e6 e7
    simp only [a0, a1, a2, a3, a4, a5, a6, a7, a8, a9] at r0 r1 r2 r3 r4 r5 r6 r7
    exact ⟨r0.trans (Cert.OutBwd.Ref.out0 _ _ _ _ _ _ _ _ _ _), r1.trans (Cert.OutBwd.Ref.out1 _ _ _ _ _ _ _ _ _ _),
      r2.trans (Cert.OutBwd.Ref.out2 _ _ _ _ _ _ _ _ _ _), r3.trans (Cert.OutBwd.Ref.dgate _ _ _ _ _ _ _ _ _),
      r4.trans (Cert.OutBwd.Ref.dg _ _ _ _ _ _ _ _ _), r5.trans (Cert.OutBwd.Ref.dw _ _ _ _ _ _ _ _ _),
      r6.trans (Cert.OutBwd.Ref.dgw _ _ _ _ _ _ _ _ _ _), r7.trans (Cert.OutBwd.Ref.dgb _ _ _ _ _ _ _ _ _ _), ha⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.FfnBwd.preFacts,
  Cert.FfnBwd.frame_kernel, fun m ρ _ => Cert.FfnBwd.frame m ρ, fun m ρ _ => Cert.FfnBwd.frame m ρ,
  frame_reference, fun m ρ _ => frame_reference m ρ trivial,
  Cert.FfnIn.frame_kernel, fun m ρ _ => Cert.FfnIn.frame m ρ, frame_reference2,
  Cert.FfnFwd.frame_kernel, fun m ρ _ => Cert.FfnFwd.frame m ρ, frame_reference3,
  Cert.MixBwd.frame_kernel, fun m ρ _ => Cert.Kernel4Ideal.Gen.frame m ρ, frame_reference4,
  Cert.MixFwd.frame_kernel, fun m ρ _ => Cert.Kernel5Ideal.Gen.frame m ρ, frame_reference5,
  Cert.PoolBwd.frame_kernel, fun m ρ _ => Cert.Kernel6Ideal.Gen.frame m ρ, frame_reference6,
  Cert.OutFwd.frame_kernel, fun m ρ _ => Cert.Kernel7Ideal.Gen.frame m ρ, frame_reference7,
  Cert.OutBwd.frame_kernel, fun m ρ _ => Cert.Kernel8Ideal.Gen.frame m ρ, frame_reference8,
  trivial, equal_results, trivial, equal_results2, trivial, equal_results3, trivial, equal_results4, trivial, equal_results5,
  trivial, equal_results6, trivial, equal_results7, trivial, equal_results8⟩

end Cert.Proof

end
